-- ==== Defs.lean ====
def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_ScanKernel (m : (ℓ : Loc Cert.ScanKernel.nD Cert.ScanKernel.τ Cert.ScanKernel.sig) → Buf (Elt Bits) ℓ) : Prop :=
  True

def Pre_ScanKernelIdeal (m : (ℓ : Loc Cert.ScanKernelIdeal.nD Cert.ScanKernelIdeal.τ Cert.ScanKernelIdeal.sig) → Buf (Elt Ideal) ℓ) : Prop :=
  True

def Pre_ScanReferenceIdeal (m : (ℓ : Loc Cert.ScanReferenceIdeal.nD Cert.ScanReferenceIdeal.τ Cert.ScanReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_DsaKernel (m : (ℓ : Loc Cert.DsaKernel.nD Cert.DsaKernel.τ Cert.DsaKernel.sig) → Buf (Elt Bits) ℓ) : Prop :=
  True

def Pre_DsaKernelIdeal (m : (ℓ : Loc Cert.DsaKernelIdeal.nD Cert.DsaKernelIdeal.τ Cert.DsaKernelIdeal.sig) → Buf (Elt Ideal) ℓ) : Prop :=
  True

def Pre_DsaReferenceIdeal (m : (ℓ : Loc Cert.DsaReferenceIdeal.nD Cert.DsaReferenceIdeal.τ Cert.DsaReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_ScanKernel [hScanKernel : Cert.ScanKernel.Facts] : Prop :=
  ∀ (m : (ℓ : Loc Cert.ScanKernel.nD Cert.ScanKernel.τ Cert.ScanKernel.sig) → Buf (Elt Bits) ℓ) (g : Dev Cert.ScanKernel.nD → PrngReg), Pre_ScanKernel m →
    θ_run (Cert.ScanKernel.defs (F := Bits)) (onTc (τ := Cert.ScanKernel.τ) (Cert.ScanKernel.main (F := Bits))) ⟨m, fun _ => 0, g⟩ (fun r => (∀ c : Dev Cert.ScanKernel.nD,
      r.2.mem ((c.tc : Thread Cert.ScanKernel.nD Cert.ScanKernel.τ).loc Cert.ScanKernel.main_arg0) = m ((c.tc : Thread Cert.ScanKernel.nD Cert.ScanKernel.τ).loc Cert.ScanKernel.main_arg0)
      ∧ r.2.mem ((c.tc : Thread Cert.ScanKernel.nD Cert.ScanKernel.τ).loc Cert.ScanKernel.main_arg1) = m ((c.tc : Thread Cert.ScanKernel.nD Cert.ScanKernel.τ).loc Cert.ScanKernel.main_arg1)
      ∧ r.2.mem ((c.tc : Thread Cert.ScanKernel.nD Cert.ScanKernel.τ).loc Cert.ScanKernel.main_arg2) = m ((c.tc : Thread Cert.ScanKernel.nD Cert.ScanKernel.τ).loc Cert.ScanKernel.main_arg2)
      ∧ r.2.mem ((c.tc : Thread Cert.ScanKernel.nD Cert.ScanKernel.τ).loc Cert.ScanKernel.main_arg3) = m ((c.tc : Thread Cert.ScanKernel.nD Cert.ScanKernel.τ).loc Cert.ScanKernel.main_arg3)
      ∧ r.2.mem ((c.tc : Thread Cert.ScanKernel.nD Cert.ScanKernel.τ).loc Cert.ScanKernel.main_arg4) = m ((c.tc : Thread Cert.ScanKernel.nD Cert.ScanKernel.τ).loc Cert.ScanKernel.main_arg4)
      ∧ r.2.mem ((c.tc : Thread Cert.ScanKernel.nD Cert.ScanKernel.τ).loc Cert.ScanKernel.main_arg5) = m ((c.tc : Thread Cert.ScanKernel.nD Cert.ScanKernel.τ).loc Cert.ScanKernel.main_arg5)
      ∧ r.2.mem ((c.tc : Thread Cert.ScanKernel.nD Cert.ScanKernel.τ).loc Cert.ScanKernel.main_arg6) = m ((c.tc : Thread Cert.ScanKernel.nD Cert.ScanKernel.τ).loc Cert.ScanKernel.main_arg6)
      ∧ r.2.mem ((c.tc : Thread Cert.ScanKernel.nD Cert.ScanKernel.τ).loc Cert.ScanKernel.main_arg7) = m ((c.tc : Thread Cert.ScanKernel.nD Cert.ScanKernel.τ).loc Cert.ScanKernel.main_arg7)
      ∧ r.2.mem ((c.tc : Thread Cert.ScanKernel.nD Cert.ScanKernel.τ).loc Cert.ScanKernel.main_arg8) = m ((c.tc : Thread Cert.ScanKernel.nD Cert.ScanKernel.τ).loc Cert.ScanKernel.main_arg8)
      ∧ r.2.mem ((c.tc : Thread Cert.ScanKernel.nD Cert.ScanKernel.τ).loc Cert.ScanKernel.main_arg9) = m ((c.tc : Thread Cert.ScanKernel.nD Cert.ScanKernel.τ).loc Cert.ScanKernel.main_arg9))
      ∧ r.2.sem = fun _ => 0)

def quiescent_ScanKernelIdeal [hScanKernelIdeal : Cert.ScanKernelIdeal.Facts] : Prop :=
  ∀ (m : (ℓ : Loc Cert.ScanKernelIdeal.nD Cert.ScanKernelIdeal.τ Cert.ScanKernelIdeal.sig) → Buf (Elt Ideal) ℓ) (g : Dev Cert.ScanKernelIdeal.nD → PrngReg), Pre_ScanKernelIdeal m →
    θ_run (Cert.ScanKernelIdeal.defs (F := Ideal)) (onTc (τ := Cert.ScanKernelIdeal.τ) (Cert.ScanKernelIdeal.main (F := Ideal))) ⟨m, fun _ => 0, g⟩ (fun r => (∀ c : Dev Cert.ScanKernelIdeal.nD,
      r.2.mem ((c.tc : Thread Cert.ScanKernelIdeal.nD Cert.ScanKernelIdeal.τ).loc Cert.ScanKernelIdeal.main_arg0) = m ((c.tc : Thread Cert.ScanKernelIdeal.nD Cert.ScanKernelIdeal.τ).loc Cert.ScanKernelIdeal.main_arg0)
      ∧ r.2.mem ((c.tc : Thread Cert.ScanKernelIdeal.nD Cert.ScanKernelIdeal.τ).loc Cert.ScanKernelIdeal.main_arg1) = m ((c.tc : Thread Cert.ScanKernelIdeal.nD Cert.ScanKernelIdeal.τ).loc Cert.ScanKernelIdeal.main_arg1)
      ∧ r.2.mem ((c.tc : Thread Cert.ScanKernelIdeal.nD Cert.ScanKernelIdeal.τ).loc Cert.ScanKernelIdeal.main_arg2) = m ((c.tc : Thread Cert.ScanKernelIdeal.nD Cert.ScanKernelIdeal.τ).loc Cert.ScanKernelIdeal.main_arg2)
      ∧ r.2.mem ((c.tc : Thread Cert.ScanKernelIdeal.nD Cert.ScanKernelIdeal.τ).loc Cert.ScanKernelIdeal.main_arg3) = m ((c.tc : Thread Cert.ScanKernelIdeal.nD Cert.ScanKernelIdeal.τ).loc Cert.ScanKernelIdeal.main_arg3)
      ∧ r.2.mem ((c.tc : Thread Cert.ScanKernelIdeal.nD Cert.ScanKernelIdeal.τ).loc Cert.ScanKernelIdeal.main_arg4) = m ((c.tc : Thread Cert.ScanKernelIdeal.nD Cert.ScanKernelIdeal.τ).loc Cert.ScanKernelIdeal.main_arg4)
      ∧ r.2.mem ((c.tc : Thread Cert.ScanKernelIdeal.nD Cert.ScanKernelIdeal.τ).loc Cert.ScanKernelIdeal.main_arg5) = m ((c.tc : Thread Cert.ScanKernelIdeal.nD Cert.ScanKernelIdeal.τ).loc Cert.ScanKernelIdeal.main_arg5)
      ∧ r.2.mem ((c.tc : Thread Cert.ScanKernelIdeal.nD Cert.ScanKernelIdeal.τ).loc Cert.ScanKernelIdeal.main_arg6) = m ((c.tc : Thread Cert.ScanKernelIdeal.nD Cert.ScanKernelIdeal.τ).loc Cert.ScanKernelIdeal.main_arg6)
      ∧ r.2.mem ((c.tc : Thread Cert.ScanKernelIdeal.nD Cert.ScanKernelIdeal.τ).loc Cert.ScanKernelIdeal.main_arg7) = m ((c.tc : Thread Cert.ScanKernelIdeal.nD Cert.ScanKernelIdeal.τ).loc Cert.ScanKernelIdeal.main_arg7)
      ∧ r.2.mem ((c.tc : Thread Cert.ScanKernelIdeal.nD Cert.ScanKernelIdeal.τ).loc Cert.ScanKernelIdeal.main_arg8) = m ((c.tc : Thread Cert.ScanKernelIdeal.nD Cert.ScanKernelIdeal.τ).loc Cert.ScanKernelIdeal.main_arg8)
      ∧ r.2.mem ((c.tc : Thread Cert.ScanKernelIdeal.nD Cert.ScanKernelIdeal.τ).loc Cert.ScanKernelIdeal.main_arg9) = m ((c.tc : Thread Cert.ScanKernelIdeal.nD Cert.ScanKernelIdeal.τ).loc Cert.ScanKernelIdeal.main_arg9))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8)
      ∧ r.2.mem ((c.tc : Thread Cert.ScanReferenceIdeal.nD Cert.ScanReferenceIdeal.τ).loc Cert.ScanReferenceIdeal.main_arg9) = m ((c.tc : Thread Cert.ScanReferenceIdeal.nD Cert.ScanReferenceIdeal.τ).loc Cert.ScanReferenceIdeal.main_arg9))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_DsaKernel [hDsaKernel : Cert.DsaKernel.Facts] : Prop :=
  ∀ (m : (ℓ : Loc Cert.DsaKernel.nD Cert.DsaKernel.τ Cert.DsaKernel.sig) → Buf (Elt Bits) ℓ) (g : Dev Cert.DsaKernel.nD → PrngReg), Pre_DsaKernel m →
    θ_run (Cert.DsaKernel.defs (F := Bits)) (onTc (τ := Cert.DsaKernel.τ) (Cert.DsaKernel.main (F := Bits))) ⟨m, fun _ => 0, g⟩ (fun r => (∀ c : Dev Cert.DsaKernel.nD,
      r.2.mem ((c.tc : Thread Cert.DsaKernel.nD Cert.DsaKernel.τ).loc Cert.DsaKernel.main_arg0) = m ((c.tc : Thread Cert.DsaKernel.nD Cert.DsaKernel.τ).loc Cert.DsaKernel.main_arg0)
      ∧ r.2.mem ((c.tc : Thread Cert.DsaKernel.nD Cert.DsaKernel.τ).loc Cert.DsaKernel.main_arg1) = m ((c.tc : Thread Cert.DsaKernel.nD Cert.DsaKernel.τ).loc Cert.DsaKernel.main_arg1)
      ∧ r.2.mem ((c.tc : Thread Cert.DsaKernel.nD Cert.DsaKernel.τ).loc Cert.DsaKernel.main_arg2) = m ((c.tc : Thread Cert.DsaKernel.nD Cert.DsaKernel.τ).loc Cert.DsaKernel.main_arg2)
      ∧ r.2.mem ((c.tc : Thread Cert.DsaKernel.nD Cert.DsaKernel.τ).loc Cert.DsaKernel.main_arg3) = m ((c.tc : Thread Cert.DsaKernel.nD Cert.DsaKernel.τ).loc Cert.DsaKernel.main_arg3)
      ∧ r.2.mem ((c.tc : Thread Cert.DsaKernel.nD Cert.DsaKernel.τ).loc Cert.DsaKernel.main_arg4) = m ((c.tc : Thread Cert.DsaKernel.nD Cert.DsaKernel.τ).loc Cert.DsaKernel.main_arg4)
      ∧ r.2.mem ((c.tc : Thread Cert.DsaKernel.nD Cert.DsaKernel.τ).loc Cert.DsaKernel.main_arg5) = m ((c.tc : Thread Cert.DsaKernel.nD Cert.DsaKernel.τ).loc Cert.DsaKernel.main_arg5))
      ∧ r.2.sem = fun _ => 0)

def quiescent_DsaKernelIdeal [hDsaKernelIdeal : Cert.DsaKernelIdeal.Facts] : Prop :=
  ∀ (m : (ℓ : Loc Cert.DsaKernelIdeal.nD Cert.DsaKernelIdeal.τ Cert.DsaKernelIdeal.sig) → Buf (Elt Ideal) ℓ) (g : Dev Cert.DsaKernelIdeal.nD → PrngReg), Pre_DsaKernelIdeal m →
    θ_run (Cert.DsaKernelIdeal.defs (F := Ideal)) (onTc (τ := Cert.DsaKernelIdeal.τ) (Cert.DsaKernelIdeal.main (F := Ideal))) ⟨m, fun _ => 0, g⟩ (fun r => (∀ c : Dev Cert.DsaKernelIdeal.nD,
      r.2.mem ((c.tc : Thread Cert.DsaKernelIdeal.nD Cert.DsaKernelIdeal.τ).loc Cert.DsaKernelIdeal.main_arg0) = m ((c.tc : Thread Cert.DsaKernelIdeal.nD Cert.DsaKernelIdeal.τ).loc Cert.DsaKernelIdeal.main_arg0)
      ∧ r.2.mem ((c.tc : Thread Cert.DsaKernelIdeal.nD Cert.DsaKernelIdeal.τ).loc Cert.DsaKernelIdeal.main_arg1) = m ((c.tc : Thread Cert.DsaKernelIdeal.nD Cert.DsaKernelIdeal.τ).loc Cert.DsaKernelIdeal.main_arg1)
      ∧ r.2.mem ((c.tc : Thread Cert.DsaKernelIdeal.nD Cert.DsaKernelIdeal.τ).loc Cert.DsaKernelIdeal.main_arg2) = m ((c.tc : Thread Cert.DsaKernelIdeal.nD Cert.DsaKernelIdeal.τ).loc Cert.DsaKernelIdeal.main_arg2)
      ∧ r.2.mem ((c.tc : Thread Cert.DsaKernelIdeal.nD Cert.DsaKernelIdeal.τ).loc Cert.DsaKernelIdeal.main_arg3) = m ((c.tc : Thread Cert.DsaKernelIdeal.nD Cert.DsaKernelIdeal.τ).loc Cert.DsaKernelIdeal.main_arg3)
      ∧ r.2.mem ((c.tc : Thread Cert.DsaKernelIdeal.nD Cert.DsaKernelIdeal.τ).loc Cert.DsaKernelIdeal.main_arg4) = m ((c.tc : Thread Cert.DsaKernelIdeal.nD Cert.DsaKernelIdeal.τ).loc Cert.DsaKernelIdeal.main_arg4)
      ∧ r.2.mem ((c.tc : Thread Cert.DsaKernelIdeal.nD Cert.DsaKernelIdeal.τ).loc Cert.DsaKernelIdeal.main_arg5) = m ((c.tc : Thread Cert.DsaKernelIdeal.nD Cert.DsaKernelIdeal.τ).loc Cert.DsaKernelIdeal.main_arg5))
      ∧ r.2.sem = fun _ => 0)

def quiescent_DsaReferenceIdeal [hDsaReferenceIdeal : Cert.DsaReferenceIdeal.Facts] : Prop :=
  ∀ (m : (ℓ : Loc Cert.DsaReferenceIdeal.nD Cert.DsaReferenceIdeal.τ Cert.DsaReferenceIdeal.sig) → Buf (Elt Ideal) ℓ) (g : Dev Cert.DsaReferenceIdeal.nD → PrngReg), Pre_DsaReferenceIdeal m →
    θ_run (Cert.DsaReferenceIdeal.defs (F := Ideal)) (onTc (τ := Cert.DsaReferenceIdeal.τ) (Cert.DsaReferenceIdeal.main (F := Ideal))) ⟨m, fun _ => 0, g⟩ (fun r => (∀ c : Dev Cert.DsaReferenceIdeal.nD,
      r.2.mem ((c.tc : Thread Cert.DsaReferenceIdeal.nD Cert.DsaReferenceIdeal.τ).loc Cert.DsaReferenceIdeal.main_arg0) = m ((c.tc : Thread Cert.DsaReferenceIdeal.nD Cert.DsaReferenceIdeal.τ).loc Cert.DsaReferenceIdeal.main_arg0)
      ∧ r.2.mem ((c.tc : Thread Cert.DsaReferenceIdeal.nD Cert.DsaReferenceIdeal.τ).loc Cert.DsaReferenceIdeal.main_arg1) = m ((c.tc : Thread Cert.DsaReferenceIdeal.nD Cert.DsaReferenceIdeal.τ).loc Cert.DsaReferenceIdeal.main_arg1)
      ∧ r.2.mem ((c.tc : Thread Cert.DsaReferenceIdeal.nD Cert.DsaReferenceIdeal.τ).loc Cert.DsaReferenceIdeal.main_arg2) = m ((c.tc : Thread Cert.DsaReferenceIdeal.nD Cert.DsaReferenceIdeal.τ).loc Cert.DsaReferenceIdeal.main_arg2)
      ∧ r.2.mem ((c.tc : Thread Cert.DsaReferenceIdeal.nD Cert.DsaReferenceIdeal.τ).loc Cert.DsaReferenceIdeal.main_arg3) = m ((c.tc : Thread Cert.DsaReferenceIdeal.nD Cert.DsaReferenceIdeal.τ).loc Cert.DsaReferenceIdeal.main_arg3)
      ∧ r.2.mem ((c.tc : Thread Cert.DsaReferenceIdeal.nD Cert.DsaReferenceIdeal.τ).loc Cert.DsaReferenceIdeal.main_arg4) = m ((c.tc : Thread Cert.DsaReferenceIdeal.nD Cert.DsaReferenceIdeal.τ).loc Cert.DsaReferenceIdeal.main_arg4)
      ∧ r.2.mem ((c.tc : Thread Cert.DsaReferenceIdeal.nD Cert.DsaReferenceIdeal.τ).loc Cert.DsaReferenceIdeal.main_arg5) = m ((c.tc : Thread Cert.DsaReferenceIdeal.nD Cert.DsaReferenceIdeal.τ).loc Cert.DsaReferenceIdeal.main_arg5))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3)
      ∧ r.2.mem ((c.tc : Thread Cert.PoolKernel.nD Cert.PoolKernel.τ).loc Cert.PoolKernel.main_arg4) = m ((c.tc : Thread Cert.PoolKernel.nD Cert.PoolKernel.τ).loc Cert.PoolKernel.main_arg4))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v6) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v24) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_ScanKernel_ScanKernelIdeal : Prop :=
  True

def algebraic_ScanKernelIdeal_ScanReferenceIdeal [hScanKernelIdeal : Cert.ScanKernelIdeal.Facts] [hScanReferenceIdeal : Cert.ScanReferenceIdeal.Facts] : Prop :=
  ∀ (m : (ℓ : Loc Cert.ScanKernelIdeal.nD Cert.ScanKernelIdeal.τ Cert.ScanKernelIdeal.sig) → Buf (Elt Ideal) ℓ) (g : Dev Cert.ScanKernelIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanKernelIdeal m →
    (∀ c : Dev Cert.ScanKernelIdeal.nD,
      m' ((c.tc : Thread Cert.ScanReferenceIdeal.nD Cert.ScanReferenceIdeal.τ).loc Cert.ScanReferenceIdeal.main_arg0) = m ((c.tc : Thread Cert.ScanKernelIdeal.nD Cert.ScanKernelIdeal.τ).loc Cert.ScanKernelIdeal.main_arg0)
      ∧ m' ((c.tc : Thread Cert.ScanReferenceIdeal.nD Cert.ScanReferenceIdeal.τ).loc Cert.ScanReferenceIdeal.main_arg1) = m ((c.tc : Thread Cert.ScanKernelIdeal.nD Cert.ScanKernelIdeal.τ).loc Cert.ScanKernelIdeal.main_arg1)
      ∧ m' ((c.tc : Thread Cert.ScanReferenceIdeal.nD Cert.ScanReferenceIdeal.τ).loc Cert.ScanReferenceIdeal.main_arg2) = m ((c.tc : Thread Cert.ScanKernelIdeal.nD Cert.ScanKernelIdeal.τ).loc Cert.ScanKernelIdeal.main_arg2)
      ∧ m' ((c.tc : Thread Cert.ScanReferenceIdeal.nD Cert.ScanReferenceIdeal.τ).loc Cert.ScanReferenceIdeal.main_arg3) = m ((c.tc : Thread Cert.ScanKernelIdeal.nD Cert.ScanKernelIdeal.τ).loc Cert.ScanKernelIdeal.main_arg3)
      ∧ m' ((c.tc : Thread Cert.ScanReferenceIdeal.nD Cert.ScanReferenceIdeal.τ).loc Cert.ScanReferenceIdeal.main_arg4) = m ((c.tc : Thread Cert.ScanKernelIdeal.nD Cert.ScanKernelIdeal.τ).loc Cert.ScanKernelIdeal.main_arg4)
      ∧ m' ((c.tc : Thread Cert.ScanReferenceIdeal.nD Cert.ScanReferenceIdeal.τ).loc Cert.ScanReferenceIdeal.main_arg5) = m ((c.tc : Thread Cert.ScanKernelIdeal.nD Cert.ScanKernelIdeal.τ).loc Cert.ScanKernelIdeal.main_arg5)
      ∧ m' ((c.tc : Thread Cert.ScanReferenceIdeal.nD Cert.ScanReferenceIdeal.τ).loc Cert.ScanReferenceIdeal.main_arg6) = m ((c.tc : Thread Cert.ScanKernelIdeal.nD Cert.ScanKernelIdeal.τ).loc Cert.ScanKernelIdeal.main_arg6)
      ∧ m' ((c.tc : Thread Cert.ScanReferenceIdeal.nD Cert.ScanReferenceIdeal.τ).loc Cert.ScanReferenceIdeal.main_arg7) = m ((c.tc : Thread Cert.ScanKernelIdeal.nD Cert.ScanKernelIdeal.τ).loc Cert.ScanKernelIdeal.main_arg7)
      ∧ m' ((c.tc : Thread Cert.ScanReferenceIdeal.nD Cert.ScanReferenceIdeal.τ).loc Cert.ScanReferenceIdeal.main_arg8) = m ((c.tc : Thread Cert.ScanKernelIdeal.nD Cert.ScanKernelIdeal.τ).loc Cert.ScanKernelIdeal.main_arg8)
      ∧ m' ((c.tc : Thread Cert.ScanReferenceIdeal.nD Cert.ScanReferenceIdeal.τ).loc Cert.ScanReferenceIdeal.main_arg9) = m ((c.tc : Thread Cert.ScanKernelIdeal.nD Cert.ScanKernelIdeal.τ).loc Cert.ScanKernelIdeal.main_arg9)) →
    ∃ (v0 : (c : Dev Cert.ScanKernelIdeal.nD) → Buf (Elt Ideal) ((c.tc : Thread Cert.ScanKernelIdeal.nD Cert.ScanKernelIdeal.τ).loc Cert.ScanKernelIdeal.main_v8)),
      θ_run (Cert.ScanKernelIdeal.defs (F := Ideal)) (onTc (τ := Cert.ScanKernelIdeal.τ) (Cert.ScanKernelIdeal.main (F := Ideal))) ⟨m, fun _ => 0, g⟩ (fun r => ∀ c : Dev Cert.ScanKernelIdeal.nD,
          r.2.mem ((c.tc : Thread Cert.ScanKernelIdeal.nD Cert.ScanKernelIdeal.τ).loc Cert.ScanKernelIdeal.main_v8) = v0 c
          ∧ r.2.mem ((c.tc : Thread Cert.ScanKernelIdeal.nD Cert.ScanKernelIdeal.τ).loc Cert.ScanKernelIdeal.main_arg0) = m ((c.tc : Thread Cert.ScanKernelIdeal.nD Cert.ScanKernelIdeal.τ).loc Cert.ScanKernelIdeal.main_arg0)
          ∧ r.2.mem ((c.tc : Thread Cert.ScanKernelIdeal.nD Cert.ScanKernelIdeal.τ).loc Cert.ScanKernelIdeal.main_arg1) = m ((c.tc : Thread Cert.ScanKernelIdeal.nD Cert.ScanKernelIdeal.τ).loc Cert.ScanKernelIdeal.main_arg1)
          ∧ r.2.mem ((c.tc : Thread Cert.ScanKernelIdeal.nD Cert.ScanKernelIdeal.τ).loc Cert.ScanKernelIdeal.main_arg2) = m ((c.tc : Thread Cert.ScanKernelIdeal.nD Cert.ScanKernelIdeal.τ).loc Cert.ScanKernelIdeal.main_arg2)
          ∧ r.2.mem ((c.tc : Thread Cert.ScanKernelIdeal.nD Cert.ScanKernelIdeal.τ).loc Cert.ScanKernelIdeal.main_arg3) = m ((c.tc : Thread Cert.ScanKernelIdeal.nD Cert.ScanKernelIdeal.τ).loc Cert.ScanKernelIdeal.main_arg3)
          ∧ r.2.mem ((c.tc : Thread Cert.ScanKernelIdeal.nD Cert.ScanKernelIdeal.τ).loc Cert.ScanKernelIdeal.main_arg4) = m ((c.tc : Thread Cert.ScanKernelIdeal.nD Cert.ScanKernelIdeal.τ).loc Cert.ScanKernelIdeal.main_arg4)
          ∧ r.2.mem ((c.tc : Thread Cert.ScanKernelIdeal.nD Cert.ScanKernelIdeal.τ).loc Cert.ScanKernelIdeal.main_arg5) = m ((c.tc : Thread Cert.ScanKernelIdeal.nD Cert.ScanKernelIdeal.τ).loc Cert.ScanKernelIdeal.main_arg5)
          ∧ r.2.mem ((c.tc : Thread Cert.ScanKernelIdeal.nD Cert.ScanKernelIdeal.τ).loc Cert.ScanKernelIdeal.main_arg6) = m ((c.tc : Thread Cert.ScanKernelIdeal.nD Cert.ScanKernelIdeal.τ).loc Cert.ScanKernelIdeal.main_arg6)
          ∧ r.2.mem ((c.tc : Thread Cert.ScanKernelIdeal.nD Cert.ScanKernelIdeal.τ).loc Cert.ScanKernelIdeal.main_arg7) = m ((c.tc : Thread Cert.ScanKernelIdeal.nD Cert.ScanKernelIdeal.τ).loc Cert.ScanKernelIdeal.main_arg7)
          ∧ r.2.mem ((c.tc : Thread Cert.ScanKernelIdeal.nD Cert.ScanKernelIdeal.τ).loc Cert.ScanKernelIdeal.main_arg8) = m ((c.tc : Thread Cert.ScanKernelIdeal.nD Cert.ScanKernelIdeal.τ).loc Cert.ScanKernelIdeal.main_arg8)
          ∧ r.2.mem ((c.tc : Thread Cert.ScanKernelIdeal.nD Cert.ScanKernelIdeal.τ).loc Cert.ScanKernelIdeal.main_arg9) = m ((c.tc : Thread Cert.ScanKernelIdeal.nD Cert.ScanKernelIdeal.τ).loc Cert.ScanKernelIdeal.main_arg9))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v103) = v0 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7)
          ∧ r.2.mem ((c.tc : Thread Cert.ScanReferenceIdeal.nD Cert.ScanReferenceIdeal.τ).loc Cert.ScanReferenceIdeal.main_arg8) = m' ((c.tc : Thread Cert.ScanReferenceIdeal.nD Cert.ScanReferenceIdeal.τ).loc Cert.ScanReferenceIdeal.main_arg8)
          ∧ r.2.mem ((c.tc : Thread Cert.ScanReferenceIdeal.nD Cert.ScanReferenceIdeal.τ).loc Cert.ScanReferenceIdeal.main_arg9) = m' ((c.tc : Thread Cert.ScanReferenceIdeal.nD Cert.ScanReferenceIdeal.τ).loc Cert.ScanReferenceIdeal.main_arg9))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)) →
    ∃ (v0 : (c : Dev Cert.ResKernelIdeal.nD) → Buf (Elt Ideal) ((c.tc : Thread Cert.ResKernelIdeal.nD Cert.ResKernelIdeal.τ).loc Cert.ResKernelIdeal.main_v1)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v1) = v0 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v2) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_DsaKernel_DsaKernelIdeal : Prop :=
  True

def algebraic_DsaKernelIdeal_DsaReferenceIdeal [hDsaKernelIdeal : Cert.DsaKernelIdeal.Facts] [hDsaReferenceIdeal : Cert.DsaReferenceIdeal.Facts] : Prop :=
  ∀ (m : (ℓ : Loc Cert.DsaKernelIdeal.nD Cert.DsaKernelIdeal.τ Cert.DsaKernelIdeal.sig) → Buf (Elt Ideal) ℓ) (g : Dev Cert.DsaKernelIdeal.nD → PrngReg)
    (m' : (ℓ : Loc Cert.DsaReferenceIdeal.nD Cert.DsaReferenceIdeal.τ Cert.DsaReferenceIdeal.sig) → Buf (Elt Ideal) ℓ) (g' : Dev Cert.DsaReferenceIdeal.nD → PrngReg), Pre_DsaKernelIdeal m →
    (∀ c : Dev Cert.DsaKernelIdeal.nD,
      m' ((c.tc : Thread Cert.DsaReferenceIdeal.nD Cert.DsaReferenceIdeal.τ).loc Cert.DsaReferenceIdeal.main_arg0) = m ((c.tc : Thread Cert.DsaKernelIdeal.nD Cert.DsaKernelIdeal.τ).loc Cert.DsaKernelIdeal.main_arg0)
      ∧ m' ((c.tc : Thread Cert.DsaReferenceIdeal.nD Cert.DsaReferenceIdeal.τ).loc Cert.DsaReferenceIdeal.main_arg1) = m ((c.tc : Thread Cert.DsaKernelIdeal.nD Cert.DsaKernelIdeal.τ).loc Cert.DsaKernelIdeal.main_arg1)
      ∧ m' ((c.tc : Thread Cert.DsaReferenceIdeal.nD Cert.DsaReferenceIdeal.τ).loc Cert.DsaReferenceIdeal.main_arg2) = m ((c.tc : Thread Cert.DsaKernelIdeal.nD Cert.DsaKernelIdeal.τ).loc Cert.DsaKernelIdeal.main_arg2)
      ∧ m' ((c.tc : Thread Cert.DsaReferenceIdeal.nD Cert.DsaReferenceIdeal.τ).loc Cert.DsaReferenceIdeal.main_arg3) = m ((c.tc : Thread Cert.DsaKernelIdeal.nD Cert.DsaKernelIdeal.τ).loc Cert.DsaKernelIdeal.main_arg3)
      ∧ m' ((c.tc : Thread Cert.DsaReferenceIdeal.nD Cert.DsaReferenceIdeal.τ).loc Cert.DsaReferenceIdeal.main_arg4) = m ((c.tc : Thread Cert.DsaKernelIdeal.nD Cert.DsaKernelIdeal.τ).loc Cert.DsaKernelIdeal.main_arg4)
      ∧ m' ((c.tc : Thread Cert.DsaReferenceIdeal.nD Cert.DsaReferenceIdeal.τ).loc Cert.DsaReferenceIdeal.main_arg5) = m ((c.tc : Thread Cert.DsaKernelIdeal.nD Cert.DsaKernelIdeal.τ).loc Cert.DsaKernelIdeal.main_arg5)) →
    ∃ (v0 : (c : Dev Cert.DsaKernelIdeal.nD) → Buf (Elt Ideal) ((c.tc : Thread Cert.DsaKernelIdeal.nD Cert.DsaKernelIdeal.τ).loc Cert.DsaKernelIdeal.main_v60_0)) (v1 : (c : Dev Cert.DsaKernelIdeal.nD) → Buf (Elt Ideal) ((c.tc : Thread Cert.DsaKernelIdeal.nD Cert.DsaKernelIdeal.τ).loc Cert.DsaKernelIdeal.main_v60_1)) (v2 : (c : Dev Cert.DsaKernelIdeal.nD) → Buf (Elt Ideal) ((c.tc : Thread Cert.DsaKernelIdeal.nD Cert.DsaKernelIdeal.τ).loc Cert.DsaKernelIdeal.main_v60_2)),
      θ_run (Cert.DsaKernelIdeal.defs (F := Ideal)) (onTc (τ := Cert.DsaKernelIdeal.τ) (Cert.DsaKernelIdeal.main (F := Ideal))) ⟨m, fun _ => 0, g⟩ (fun r => ∀ c : Dev Cert.DsaKernelIdeal.nD,
          r.2.mem ((c.tc : Thread Cert.DsaKernelIdeal.nD Cert.DsaKernelIdeal.τ).loc Cert.DsaKernelIdeal.main_v60_0) = v0 c
          ∧ r.2.mem ((c.tc : Thread Cert.DsaKernelIdeal.nD Cert.DsaKernelIdeal.τ).loc Cert.DsaKernelIdeal.main_v60_1) = v1 c
          ∧ r.2.mem ((c.tc : Thread Cert.DsaKernelIdeal.nD Cert.DsaKernelIdeal.τ).loc Cert.DsaKernelIdeal.main_v60_2) = v2 c
          ∧ r.2.mem ((c.tc : Thread Cert.DsaKernelIdeal.nD Cert.DsaKernelIdeal.τ).loc Cert.DsaKernelIdeal.main_arg0) = m ((c.tc : Thread Cert.DsaKernelIdeal.nD Cert.DsaKernelIdeal.τ).loc Cert.DsaKernelIdeal.main_arg0)
          ∧ r.2.mem ((c.tc : Thread Cert.DsaKernelIdeal.nD Cert.DsaKernelIdeal.τ).loc Cert.DsaKernelIdeal.main_arg1) = m ((c.tc : Thread Cert.DsaKernelIdeal.nD Cert.DsaKernelIdeal.τ).loc Cert.DsaKernelIdeal.main_arg1)
          ∧ r.2.mem ((c.tc : Thread Cert.DsaKernelIdeal.nD Cert.DsaKernelIdeal.τ).loc Cert.DsaKernelIdeal.main_arg2) = m ((c.tc : Thread Cert.DsaKernelIdeal.nD Cert.DsaKernelIdeal.τ).loc Cert.DsaKernelIdeal.main_arg2)
          ∧ r.2.mem ((c.tc : Thread Cert.DsaKernelIdeal.nD Cert.DsaKernelIdeal.τ).loc Cert.DsaKernelIdeal.main_arg3) = m ((c.tc : Thread Cert.DsaKernelIdeal.nD Cert.DsaKernelIdeal.τ).loc Cert.DsaKernelIdeal.main_arg3)
          ∧ r.2.mem ((c.tc : Thread Cert.DsaKernelIdeal.nD Cert.DsaKernelIdeal.τ).loc Cert.DsaKernelIdeal.main_arg4) = m ((c.tc : Thread Cert.DsaKernelIdeal.nD Cert.DsaKernelIdeal.τ).loc Cert.DsaKernelIdeal.main_arg4)
          ∧ r.2.mem ((c.tc : Thread Cert.DsaKernelIdeal.nD Cert.DsaKernelIdeal.τ).loc Cert.DsaKernelIdeal.main_arg5) = m ((c.tc : Thread Cert.DsaKernelIdeal.nD Cert.DsaKernelIdeal.τ).loc Cert.DsaKernelIdeal.main_arg5))
      ∧ θ_run (Cert.DsaReferenceIdeal.defs (F := Ideal)) (onTc (τ := Cert.DsaReferenceIdeal.τ) (Cert.DsaReferenceIdeal.main (F := Ideal))) ⟨m', fun _ => 0, g'⟩ (fun r => ∀ c : Dev Cert.DsaReferenceIdeal.nD,
          r.2.mem ((c.tc : Thread Cert.DsaReferenceIdeal.nD Cert.DsaReferenceIdeal.τ).loc Cert.DsaReferenceIdeal.main_v166) = v0 c
          ∧ r.2.mem ((c.tc : Thread Cert.DsaReferenceIdeal.nD Cert.DsaReferenceIdeal.τ).loc Cert.DsaReferenceIdeal.main_v167) = v1 c
          ∧ r.2.mem ((c.tc : Thread Cert.DsaReferenceIdeal.nD Cert.DsaReferenceIdeal.τ).loc Cert.DsaReferenceIdeal.main_v169) = v2 c
          ∧ r.2.mem ((c.tc : Thread Cert.DsaReferenceIdeal.nD Cert.DsaReferenceIdeal.τ).loc Cert.DsaReferenceIdeal.main_arg0) = m' ((c.tc : Thread Cert.DsaReferenceIdeal.nD Cert.DsaReferenceIdeal.τ).loc Cert.DsaReferenceIdeal.main_arg0)
          ∧ r.2.mem ((c.tc : Thread Cert.DsaReferenceIdeal.nD Cert.DsaReferenceIdeal.τ).loc Cert.DsaReferenceIdeal.main_arg1) = m' ((c.tc : Thread Cert.DsaReferenceIdeal.nD Cert.DsaReferenceIdeal.τ).loc Cert.DsaReferenceIdeal.main_arg1)
          ∧ r.2.mem ((c.tc : Thread Cert.DsaReferenceIdeal.nD Cert.DsaReferenceIdeal.τ).loc Cert.DsaReferenceIdeal.main_arg2) = m' ((c.tc : Thread Cert.DsaReferenceIdeal.nD Cert.DsaReferenceIdeal.τ).loc Cert.DsaReferenceIdeal.main_arg2)
          ∧ r.2.mem ((c.tc : Thread Cert.DsaReferenceIdeal.nD Cert.DsaReferenceIdeal.τ).loc Cert.DsaReferenceIdeal.main_arg3) = m' ((c.tc : Thread Cert.DsaReferenceIdeal.nD Cert.DsaReferenceIdeal.τ).loc Cert.DsaReferenceIdeal.main_arg3)
          ∧ r.2.mem ((c.tc : Thread Cert.DsaReferenceIdeal.nD Cert.DsaReferenceIdeal.τ).loc Cert.DsaReferenceIdeal.main_arg4) = m' ((c.tc : Thread Cert.DsaReferenceIdeal.nD Cert.DsaReferenceIdeal.τ).loc Cert.DsaReferenceIdeal.main_arg4)
          ∧ r.2.mem ((c.tc : Thread Cert.DsaReferenceIdeal.nD Cert.DsaReferenceIdeal.τ).loc Cert.DsaReferenceIdeal.main_arg5) = m' ((c.tc : Thread Cert.DsaReferenceIdeal.nD Cert.DsaReferenceIdeal.τ).loc Cert.DsaReferenceIdeal.main_arg5))

def preserves_PoolKernel_PoolKernelIdeal : Prop :=
  True

def algebraic_PoolKernelIdeal_PoolReferenceIdeal [hPoolKernelIdeal : Cert.PoolKernelIdeal.Facts] [hPoolReferenceIdeal : Cert.PoolReferenceIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)
      ∧ m' ((c.tc : Thread Cert.PoolReferenceIdeal.nD Cert.PoolReferenceIdeal.τ).loc Cert.PoolReferenceIdeal.main_arg4) = m ((c.tc : Thread Cert.PoolKernelIdeal.nD Cert.PoolKernelIdeal.τ).loc Cert.PoolKernelIdeal.main_arg4)) →
    ∃ (v0 : (c : Dev Cert.PoolKernelIdeal.nD) → Buf (Elt Ideal) ((c.tc : Thread Cert.PoolKernelIdeal.nD Cert.PoolKernelIdeal.τ).loc Cert.PoolKernelIdeal.main_v7)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v7) = v0 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
          ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v88) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4))

def Claim : Prop :=
  ∃ (hMlpKernel : Cert.MlpKernel.Facts) (hMlpKernelIdeal : Cert.MlpKernelIdeal.Facts) (hMlpReferenceIdeal : Cert.MlpReferenceIdeal.Facts) (hScanKernel : Cert.ScanKernel.Facts) (hScanKernelIdeal : Cert.ScanKernelIdeal.Facts) (hScanReferenceIdeal : Cert.ScanReferenceIdeal.Facts) (hResKernel : Cert.ResKernel.Facts) (hResKernelIdeal : Cert.ResKernelIdeal.Facts) (hResReferenceIdeal : Cert.ResReferenceIdeal.Facts) (hDsaKernel : Cert.DsaKernel.Facts) (hDsaKernelIdeal : Cert.DsaKernelIdeal.Facts) (hDsaReferenceIdeal : Cert.DsaReferenceIdeal.Facts) (hPoolKernel : Cert.PoolKernel.Facts) (hPoolKernelIdeal : Cert.PoolKernelIdeal.Facts) (hPoolReferenceIdeal : Cert.PoolReferenceIdeal.Facts),
    quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_ScanKernel (hScanKernel := hScanKernel)
    ∧ quiescent_ScanKernelIdeal (hScanKernelIdeal := hScanKernelIdeal)
    ∧ quiescent_ScanReferenceIdeal (hScanReferenceIdeal := hScanReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_DsaKernel (hDsaKernel := hDsaKernel)
    ∧ quiescent_DsaKernelIdeal (hDsaKernelIdeal := hDsaKernelIdeal)
    ∧ quiescent_DsaReferenceIdeal (hDsaReferenceIdeal := hDsaReferenceIdeal)
    ∧ quiescent_PoolKernel (hPoolKernel := hPoolKernel)
    ∧ quiescent_PoolKernelIdeal (hPoolKernelIdeal := hPoolKernelIdeal)
    ∧ quiescent_PoolReferenceIdeal (hPoolReferenceIdeal := hPoolReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_ScanKernel_ScanKernelIdeal
    ∧ algebraic_ScanKernelIdeal_ScanReferenceIdeal (hScanKernelIdeal := hScanKernelIdeal) (hScanReferenceIdeal := hScanReferenceIdeal)
    ∧ preserves_ResKernel_ResKernelIdeal
    ∧ algebraic_ResKernelIdeal_ResReferenceIdeal (hResKernelIdeal := hResKernelIdeal) (hResReferenceIdeal := hResReferenceIdeal)
    ∧ preserves_DsaKernel_DsaKernelIdeal
    ∧ algebraic_DsaKernelIdeal_DsaReferenceIdeal (hDsaKernelIdeal := hDsaKernelIdeal) (hDsaReferenceIdeal := hDsaReferenceIdeal)
    ∧ preserves_PoolKernel_PoolKernelIdeal
    ∧ algebraic_PoolKernelIdeal_PoolReferenceIdeal (hPoolKernelIdeal := hPoolKernelIdeal) (hPoolReferenceIdeal := hPoolReferenceIdeal)
-- ==== MlpKernel.lean ====
abbrev S1x8192x2048 : Shape := ⟨3, ![1, 8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 11
  | .vmem => 11
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S1x8192x2048 : Shape := ⟨3, ![1, 8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩

abbrev nBuf : Space → Nat
  | .hbm => 34
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ScanKernel.lean ====
abbrev S8192x2048 : Shape := ⟨2, ![8192, 2048]⟩
abbrev S2048 : Shape := ⟨1, ![2048]⟩
abbrev S2048x4096 : Shape := ⟨2, ![2048, 4096]⟩
abbrev S4x2048 : Shape := ⟨2, ![4, 2048]⟩
abbrev S8x256x256 : Shape := ⟨3, ![8, 256, 256]⟩
abbrev S1x2048 : Shape := ⟨2, ![1, 2048]⟩
abbrev S1024x2048 : Shape := ⟨2, ![1024, 2048]⟩
abbrev S2048x256 : Shape := ⟨2, ![2048, 256]⟩
abbrev S4x256 : Shape := ⟨2, ![4, 256]⟩
abbrev S1x256 : Shape := ⟨2, ![1, 256]⟩
abbrev S1x256x256 : Shape := ⟨3, ![1, 256, 256]⟩
abbrev S1024x256 : Shape := ⟨2, ![1024, 256]⟩
abbrev S2x2x1024x256 : Shape := ⟨4, ![2, 2, 1024, 256]⟩
abbrev S8x1x256 : Shape := ⟨3, ![8, 1, 256]⟩
abbrev S8x8x256 : Shape := ⟨3, ![8, 8, 256]⟩
abbrev S1024 : Shape := ⟨1, ![1024]⟩
abbrev S1024x1 : Shape := ⟨2, ![1024, 1]⟩
abbrev S1x1x1024x256 : Shape := ⟨4, ![1, 1, 1024, 256]⟩
abbrev S1x8x256 : Shape := ⟨3, ![1, 8, 256]⟩
abbrev S8x256 : Shape := ⟨2, ![8, 256]⟩
abbrev S1032x256 : Shape := ⟨2, ![1032, 256]⟩
abbrev S256x256 : Shape := ⟨2, ![256, 256]⟩
abbrev S128x8x256 : Shape := ⟨3, ![128, 8, 256]⟩
abbrev S1x1x256 : Shape := ⟨3, ![1, 1, 256]⟩

abbrev nBuf : Space → Nat
  | .hbm => 19
  | .vmem => 27
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S2048, .f32⟩
  | .hbm, ⟨7, _⟩ => ⟨S8x256x256, .f32⟩
  | .hbm, ⟨8, _⟩ => ⟨S2048, .f32⟩
  | .hbm, ⟨9, _⟩ => ⟨S2048, .f32⟩
  | .hbm, ⟨10, _⟩ => ⟨S2048x4096, .bf16⟩
  | .hbm, ⟨11, _⟩ => ⟨S8x256x256, .bf16⟩
  | .hbm, ⟨12, _⟩ => ⟨S8x256x256, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S4x256, .f32⟩
  | .local _ .vmem, ⟨8, _⟩ => ⟨S4x256, .f32⟩
  | .local _ .vmem, ⟨9, _⟩ => ⟨S1x256, .f32⟩
  | .local _ .vmem, ⟨10, _⟩ => ⟨S1x256, .f32⟩
  | .local _ .vmem, ⟨11, _⟩ => ⟨S1x256x256, .bf16⟩
  | .local _ .vmem, ⟨12, _⟩ => ⟨S1x256x256, .bf16⟩
  | .local _ .vmem, ⟨13, _⟩ => ⟨S1x256, .f32⟩
  | .local _ .vmem, ⟨14, _⟩ => ⟨S1x256, .f32⟩
  | .local _ .vmem, ⟨15, _⟩ => ⟨S1x256x256, .bf16⟩
  | .local _ .vmem, ⟨16, _⟩ => ⟨S1x256x256, .bf16⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1024x256, .bf16⟩
  | .local _ .vmem, ⟨22, _⟩ => ⟨S1024x256, .bf16⟩
  | .local _ .vmem, ⟨23, _⟩ => ⟨S1024x2048, .bf16⟩
  | .local _ .vmem, ⟨24, _⟩ => ⟨S2x2x1024x256, .f32⟩
  | .local _ .vmem, ⟨25, _⟩ => ⟨S8x1x256, .f32⟩
  | .local _ .vmem, ⟨26, _⟩ => ⟨S8x8x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_13 : BitVec 32 := 0#32
  let v27 : BitVec 1 := Scalar.cmpi .eq arg0 c0_i32_13
  let v28 : BitVec 32 := Scalar.extui v27
  let c0_i32_14 : BitVec 32 := 0#32
  let v29 : BitVec 1 := Scalar.cmpi .ne v28 c0_i32_14
  v29

def k0_off1 (i : grid0.Coords) : Fin 4 → Nat :=
  let arg0 : BitVec 32 := BitVec.ofNat 32 (i 0).val
  let c2_i32 : BitVec 32 := 2#32
  let c0_i32_28 : BitVec 32 := 0#32
  let v45 : BitVec 1 := Scalar.cmpi .eq c2_i32 c0_i32_28
  let c1_i32_29 : BitVec 32 := 1#32
  let v46 : BitVec 32 := Scalar.select v45 c1_i32_29 c2_i32
  let v47 : BitVec 32 := Scalar.remsi arg0 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let v55 : Index := Scalar.indexCast v54
  let c0_33 : Index := 0#32
  let c0_34 : Index := 0#32
  let c0_35 : Index := 0#32
  ![v55.toNat, 0, 0, 0]
def k0_off2 (i : grid0.Coords) : Fin 4 → Nat :=
  let arg0 : BitVec 32 := BitVec.ofNat 32 (i 0).val
  let c2_i32_41 : BitVec 32 := 2#32
  let c0_i32_42 : BitVec 32 := 0#32
  let v63 : BitVec 1 := Scalar.cmpi .eq c2_i32_41 c0_i32_42
  let c1_i32_43 : BitVec 32 := 1#32
  let v64 : BitVec 32 := Scalar.select v63 c1_i32_43 c2_i32_41
  let v65 : BitVec 32 := Scalar.remsi arg0 v64
  let c0_i32_45 : BitVec 32 := 0#32
  let v67 : BitVec 1 := Scalar.cmpi .slt v65 c0_i32_45
  let c0_i32_46 : BitVec 32 := 0#32
  let v68 : BitVec 1 := Scalar.cmpi .slt v64 c0_i32_46
  let v69 : BitVec 1 := Scalar.xori v67 v68
  let c0_i32_44 : BitVec 32 := 0#32
  let v66 : BitVec 1 := Scalar.cmpi .ne v65 c0_i32_44
  let v70 : BitVec 1 := Scalar.andi v69 v66
  let v71 : BitVec 32 := Scalar.addi v65 v64
  let v72 : BitVec 32 := Scalar.select v70 v71 v65
  let v73 : Index := Scalar.indexCast v72
  let c1 : Index := 1#32
  let c0_47 : Index := 0#32
  let c0_48 : Index := 0#32
  ![v73.toNat, 1, 0, 0]
def k0_cond3 (i : grid0.Coords) : BitVec 1 :=
  let arg0 : BitVec 32 := BitVec.ofNat 32 (i 0).val
  let c1_i32_15 : BitVec 32 := 1#32
  let v30 : BitVec 1 := Scalar.cmpi .sge arg0 c1_i32_15
  let v31 : BitVec 32 := Scalar.extui v30
  let c0_i32_16 : BitVec 32 := 0#32
  let v32 : BitVec 1 := Scalar.cmpi .ne v31 c0_i32_16
  v32

def k0_off3 (i : grid0.Coords) : Fin 4 → Nat :=
  let arg0 : BitVec 32 := BitVec.ofNat 32 (i 0).val
  let c1_i32_17 : BitVec 32 := 1#32
  let v33 : BitVec 32 := Scalar.addi arg0 c1_i32_17
  let c2_i32 : BitVec 32 := 2#32
  let c0_i32_18 : BitVec 32 := 0#32
  let v34 : BitVec 1 := Scalar.cmpi .eq c2_i32 c0_i32_18
  let c1_i32_19 : BitVec 32 := 1#32
  let v35 : BitVec 32 := Scalar.select v34 c1_i32_19 c2_i32
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let v44 : Index := Scalar.indexCast v43
  let c0 : Index := 0#32
  let c0_23 : Index := 0#32
  let c0_24 : Index := 0#32
  ![v44.toNat, 0, 0, 0]
def k0_off4 (i : grid0.Coords) : Fin 4 → Nat :=
  let arg0 : BitVec 32 := BitVec.ofNat 32 (i 0).val
  let c1_i32_25 : BitVec 32 := 1#32
  let v47 : BitVec 32 := Scalar.addi arg0 c1_i32_25
  let c2_i32_26 : BitVec 32 := 2#32
  let c0_i32_27 : BitVec 32 := 0#32
  let v48 : BitVec 1 := Scalar.cmpi .eq c2_i32_26 c0_i32_27
  let c1_i32_28 : BitVec 32 := 1#32
  let v49 : BitVec 32 := Scalar.select v48 c1_i32_28 c2_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let v58 : Index := Scalar.indexCast v57
  let c1 : Index := 1#32
  let c0_32 : Index := 0#32
  let c0_33 : Index := 0#32
  ![v58.toNat, 1, 0, 0]
def k0_off5 (i : grid0.Coords) : Fin 3 → Nat :=
  let arg0 : BitVec 32 := BitVec.ofNat 32 (i 0).val
  let c8_i32 : BitVec 32 := 8#32
  let v0 : BitVec 32 := Scalar.addi arg0 c8_i32
  let c1_i32 : BitVec 32 := 1#32
  let v1 : BitVec 32 := Scalar.subi v0 c1_i32
  let c8_i32_0 : BitVec 32 := 8#32
  let c0_i32 : BitVec 32 := 0#32
  let v2 : BitVec 1 := Scalar.cmpi .eq c8_i32_0 c0_i32
  let c1_i32_1 : BitVec 32 := 1#32
  let v3 : BitVec 32 := Scalar.select v2 c1_i32_1 c8_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v61 : Index := Scalar.indexCast v11
  let c0_34 : Index := 0#32
  let c0_35 : Index := 0#32
  ![v61.toNat, 0, 0]
def k0_off6 (i : grid0.Coords) : Fin 4 → Nat :=
  let arg0 : BitVec 32 := BitVec.ofNat 32 (i 0).val
  let c2_i32_60 : BitVec 32 := 2#32
  let c0_i32_61 : BitVec 32 := 0#32
  let v117 : BitVec 1 := Scalar.cmpi .eq c2_i32_60 c0_i32_61
  let c1_i32_62 : BitVec 32 := 1#32
  let v118 : BitVec 32 := Scalar.select v117 c1_i32_62 c2_i32_60
  let v119 : BitVec 32 := Scalar.remsi arg0 v118
  let c0_i32_64 : BitVec 32 := 0#32
  let v121 : BitVec 1 := Scalar.cmpi .slt v119 c0_i32_64
  let c0_i32_65 : BitVec 32 := 0#32
  let v122 : BitVec 1 := Scalar.cmpi .slt v118 c0_i32_65
  let v123 : BitVec 1 := Scalar.xori v121 v122
  let c0_i32_63 : BitVec 32 := 0#32
  let v120 : BitVec 1 := Scalar.cmpi .ne v119 c0_i32_63
  let v124 : BitVec 1 := Scalar.andi v123 v120
  let v125 : BitVec 32 := Scalar.addi v119 v118
  let v126 : BitVec 32 := Scalar.select v124 v125 v119
  let v127 : Index := Scalar.indexCast v126
  let c0_66 : Index := 0#32
  let c0_67 : Index := 0#32
  let c0_68 : Index := 0#32
  ![v127.toNat, 0, 0, 0]
def k0_off7 (i : grid0.Coords) : Fin 4 → Nat :=
  let arg0 : BitVec 32 := BitVec.ofNat 32 (i 0).val
  let c2_i32_74 : BitVec 32 := 2#32
  let c0_i32_75 : BitVec 32 := 0#32
  let v135 : BitVec 1 := Scalar.cmpi .eq c2_i32_74 c0_i32_75
  let c1_i32_76 : BitVec 32 := 1#32
  let v136 : BitVec 32 := Scalar.select v135 c1_i32_76 c2_i32_74
  let v137 : BitVec 32 := Scalar.remsi arg0 v136
  let c0_i32_78 : BitVec 32 := 0#32
  let v139 : BitVec 1 := Scalar.cmpi .slt v137 c0_i32_78
  let c0_i32_79 : BitVec 32 := 0#32
  let v140 : BitVec 1 := Scalar.cmpi .slt v136 c0_i32_79
  let v141 : BitVec 1 := Scalar.xori v139 v140
  let c0_i32_77 : BitVec 32 := 0#32
  let v138 : BitVec 1 := Scalar.cmpi .ne v137 c0_i32_77
  let v142 : BitVec 1 := Scalar.andi v141 v138
  let v143 : BitVec 32 := Scalar.addi v137 v136
  let v144 : BitVec 32 := Scalar.select v142 v143 v137
  let v145 : Index := Scalar.indexCast v144
  let c1_80 : Index := 1#32
  let c0_81 : Index := 0#32
  let c0_82 : Index := 0#32
  ![v145.toNat, 1, 0, 0]
def k0_off8 (i : grid0.Coords) : Fin 3 → Nat :=
  let arg0 : BitVec 32 := BitVec.ofNat 32 (i 0).val
  let c8_i32 : BitVec 32 := 8#32
  let v0 : BitVec 32 := Scalar.addi arg0 c8_i32
  let c1_i32 : BitVec 32 := 1#32
  let v1 : BitVec 32 := Scalar.subi v0 c1_i32
  let c8_i32_0 : BitVec 32 := 8#32
  let c0_i32 : BitVec 32 := 0#32
  let v2 : BitVec 1 := Scalar.cmpi .eq c8_i32_0 c0_i32
  let c1_i32_1 : BitVec 32 := 1#32
  let v3 : BitVec 32 := Scalar.select v2 c1_i32_1 c8_i32_0
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v216 : Index := Scalar.indexCast v11
  let c0_108 : Index := 0#32
  let c0_109 : Index := 0#32
  ![v216.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.addi c8_i32_3 v10
  let c0_i32_4 : BitVec 32 := 0#32
  let c0_i32_5 : BitVec 32 := 0#32
  ![c0_i32_4.toNat, v11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, c0_i32_6.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, c0_i32_6.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ScanReferenceIdeal.lean ====
abbrev S8192x2048 : Shape := ⟨2, ![8192, 2048]⟩
abbrev S2048 : Shape := ⟨1, ![2048]⟩
abbrev S2048x4096 : Shape := ⟨2, ![2048, 4096]⟩
abbrev S4x2048 : Shape := ⟨2, ![4, 2048]⟩
abbrev S8x256x256 : Shape := ⟨3, ![8, 256, 256]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩
abbrev S8195x2048 : Shape := ⟨2, ![8195, 2048]⟩
abbrev S8192x8x256 : Shape := ⟨3, ![8192, 8, 256]⟩
abbrev S8x256x8192 : Shape := ⟨3, ![8, 256, 8192]⟩

abbrev nBuf : Space → Nat
  | .hbm => 169
  | .vmem => 0
  | .smem => 0
  | _ => 0

abbrev hbmTy0_0 (i : Nat) : BufTy := match i % 128 with
  | 0 => ⟨S8192x2048, .f32⟩
  | 1 => ⟨S2048, .f32⟩
  | 2 => ⟨S2048x4096, .f32⟩
  | 3 => ⟨S4x2048, .f32⟩
  | 4 => ⟨S2048, .f32⟩
  | 5 => ⟨S8x256x256, .f32⟩
  | 6 => ⟨S2048, .f32⟩
  | 7 => ⟨S8x256x256, .f32⟩
  | 8 => ⟨S2048, .f32⟩
  | 9 => ⟨S2048, .f32⟩
  | 10 => ⟨S8192x2048, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x2048, .f32⟩
  | 22 => ⟨S8192x2048, .f32⟩
  | 23 => ⟨S1x2048, .f32⟩
  | 24 => ⟨S8192x2048, .f32⟩
  | 25 => ⟨S8192x2048, .f32⟩
  | 26 => ⟨S8192x4096, .f32⟩
  | 27 => ⟨S8192x2048, .f32⟩
  | 28 => ⟨S8192x2048, .f32⟩
  | 29 => ⟨S_, .i32⟩
  | 30 => ⟨S_, .f32⟩
  | 31 => ⟨S8195x2048, .f32⟩
  | 32 => ⟨S8192x2048, .f32⟩
  | 33 => ⟨S1x2048, .f32⟩
  | 34 => ⟨S2048, .f32⟩
  | 35 => ⟨S1x2048, .f32⟩
  | 36 => ⟨S8192x2048, .f32⟩
  | 37 => ⟨S8192x2048, .f32⟩
  | 38 => ⟨S1x2048, .f32⟩
  | 39 => ⟨S8192x2048, .f32⟩
  | 40 => ⟨S8192x2048, .f32⟩
  | 41 => ⟨S8192x2048, .f32⟩
  | 42 => ⟨S1x2048, .f32⟩
  | 43 => ⟨S2048, .f32⟩
  | 44 => ⟨S1x2048, .f32⟩
  | 45 => ⟨S8192x2048, .f32⟩
  | 46 => ⟨S8192x2048, .f32⟩
  | 47 => ⟨S8192x2048, .f32⟩
  | 48 => ⟨S8192x2048, .f32⟩
  | 49 => ⟨S1x2048, .f32⟩
  | 50 => ⟨S2048, .f32⟩
  | 51 => ⟨S1x2048, .f32⟩
  | 52 => ⟨S8192x2048, .f32⟩
  | 53 => ⟨S8192x2048, .f32⟩
  | 54 => ⟨S8192x2048, .f32⟩
  | 55 => ⟨S8192x2048, .f32⟩
  | 56 => ⟨S1x2048, .f32⟩
  | 57 => ⟨S2048, .f32⟩
  | 58 => ⟨S1x2048, .f32⟩
  | 59 => ⟨S8192x2048, .f32⟩
  | 60 => ⟨S8192x2048, .f32⟩
  | 61 => ⟨S8192x2048, .f32⟩
  | 62 => ⟨S8192x8x256, .f32⟩
  | 63 => ⟨S8x256x8192, .f32⟩
  | 64 => ⟨S8192x8x256, .f32⟩
  | 65 => ⟨S8192x2048, .f32⟩
  | 66 => ⟨S1x2048, .f32⟩
  | 67 => ⟨S8192x2048, .f32⟩
  | 68 => ⟨S8192x2048, .f32⟩
  | 69 => ⟨S8192x2048, .f32⟩
  | 70 => ⟨S8192x2048, .f32⟩
  | 71 => ⟨S_, .f32⟩
  | 72 => ⟨S8192x2048, .f32⟩
  | 73 => ⟨S8192x2048, .f32⟩
  | 74 => ⟨S_, .f32⟩
  | 75 => ⟨S8192x2048, .f32⟩
  | 76 => ⟨S8192x2048, .f32⟩
  | 77 => ⟨S8x256x8192, .f32⟩
  | 78 => ⟨S8192x8x256, .f32⟩
  | 79 => ⟨S8192x2048, .f32⟩
  | 80 => ⟨S1x2048, .f32⟩
  | 81 => ⟨S8192x2048, .f32⟩
  | 82 => ⟨S8192x2048, .f32⟩
  | 83 => ⟨S8192x2048, .f32⟩
  | 84 => ⟨S8192x2048, .f32⟩
  | 85 => ⟨S_, .f32⟩
  | 86 => ⟨S8192x2048, .f32⟩
  | 87 => ⟨S8192x2048, .f32⟩
  | 88 => ⟨S_, .f32⟩
  | 89 => ⟨S8192x2048, .f32⟩
  | 90 => ⟨S8192x2048, .f32⟩
  | 91 => ⟨S_, .f32⟩
  | 92 => ⟨S8192x2048, .f32⟩
  | 93 => ⟨S8192x2048, .f32⟩
  | 94 => ⟨S2048, .f32⟩
  | 95 => ⟨S_, .f32⟩
  | 96 => ⟨S2048, .f32⟩
  | 97 => ⟨S2048, .f32⟩
  | 98 => ⟨S2048, .f32⟩
  | 99 => ⟨S2048, .f32⟩
  | 100 => ⟨S2048, .i1⟩
  | 101 => ⟨S2048, .f32⟩
  | 102 => ⟨S2048, .f32⟩
  | 103 => ⟨S2048, .f32⟩
  | 104 => ⟨S2048, .f32⟩
  | 105 => ⟨S2048, .f32⟩
  | 106 => ⟨S2048, .f32⟩
  | 107 => ⟨S2048, .f32⟩
  | 108 => ⟨S2048, .f32⟩
  | 109 => ⟨S1x2048, .f32⟩
  | 110 => ⟨S8192x2048, .f32⟩
  | 111 => ⟨S8192x2048, .f32⟩
  | 112 => ⟨S8192x2048, .f32⟩
  | 113 => ⟨S_, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S8192x2048, .f32⟩
  | 120 => ⟨S8192x2048, .f32⟩
  | 121 => ⟨S_, .f32⟩
  | 122 => ⟨S2048, .f32⟩
  | 123 => ⟨S8192x2048, .f32⟩
  | 124 => ⟨S8192x2048, .f32⟩
  | 125 => ⟨S_, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S_, .f32⟩
  | 2 => ⟨S8192x2048, .f32⟩
  | 3 => ⟨S8192x2048, .f32⟩
  | 4 => ⟨S8192x2048, .f32⟩
  | 5 => ⟨S_, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S8192x2048, .f32⟩
  | 12 => ⟨S_, .f32⟩
  | 13 => ⟨S8192x2048, .f32⟩
  | 14 => ⟨S_, .i32⟩
  | 15 => ⟨S8192x2048, .f32⟩
  | 16 => ⟨S8192x2048, .f32⟩
  | 17 => ⟨S8192x2048, .f32⟩
  | 18 => ⟨S_, .i32⟩
  | 19 => ⟨S2048, .f32⟩
  | 20 => ⟨S8192x2048, .f32⟩
  | 21 => ⟨S_, .i32⟩
  | 22 => ⟨S_, .i1⟩
  | 23 => ⟨S_, .i32⟩
  | 24 => ⟨S1x2048, .f32⟩
  | 25 => ⟨S2048, .f32⟩
  | 26 => ⟨S_, .i32⟩
  | 27 => ⟨S1x2048, .f32⟩
  | 28 => ⟨S2048, .f32⟩
  | 29 => ⟨S_, .i32⟩
  | 30 => ⟨S1x2048, .f32⟩
  | 31 => ⟨S2048, .f32⟩
  | 32 => ⟨S2048, .f32⟩
  | 33 => ⟨S2048, .f32⟩
  | 34 => ⟨S2048, .f32⟩
  | 35 => ⟨S1x2048, .f32⟩
  | 36 => ⟨S_, .i32⟩
  | 37 => ⟨S8192x2048, .f32⟩
  | 38 => ⟨S_, .i32⟩
  | 39 => ⟨S_, .i32⟩
  | 40 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_2 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_4 : Ref sig .tc := ⟨.hbm, 85, rfl⟩
abbrev main_v68 : Ref sig .tc := ⟨.hbm, 86, rfl⟩
abbrev main_v69 : Ref sig .tc := ⟨.hbm, 87, rfl⟩
abbrev main_cst_5 : Ref sig .tc := ⟨.hbm, 88, rfl⟩
abbrev main_v70 : Ref sig .tc := ⟨.hbm, 89, rfl⟩
abbrev main_v71 : Ref sig .tc := ⟨.hbm, 90, rfl⟩
abbrev main_cst_6 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_7 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_8 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_9 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_10 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_11 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_13 : Ref sig .tc := ⟨.hbm, 140, rfl⟩
abbrev main_v101 : Ref sig .tc := ⟨.hbm, 141, rfl⟩
abbrev main_c_14 : Ref sig .tc := ⟨.hbm, 142, rfl⟩
abbrev main_v102_0 : Ref sig .tc := ⟨.hbm, 143, rfl⟩
abbrev main_v102_1 : Ref sig .tc := ⟨.hbm, 144, rfl⟩
abbrev main_v102_2 : Ref sig .tc := ⟨.hbm, 145, rfl⟩
abbrev main_v102_3 : Ref sig .tc := ⟨.hbm, 146, rfl⟩
abbrev main_v102_4 : Ref sig .tc := ⟨.hbm, 147, rfl⟩
abbrev main_v102_5 : Ref sig .tc := ⟨.hbm, 148, rfl⟩
abbrev main_while0c_c_20 : Ref sig .tc := ⟨.hbm, 149, rfl⟩
abbrev main_while0c_v104 : Ref sig .tc := ⟨.hbm, 150, rfl⟩
abbrev main_while0b_call2_c : Ref sig .tc := ⟨.hbm, 151, rfl⟩
abbrev main_while0b_call2_v0 : Ref sig .tc := ⟨.hbm, 152, rfl⟩
abbrev main_while0b_v104 : Ref sig .tc := ⟨.hbm, 153, rfl⟩
abbrev main_while0b_call3_c : Ref sig .tc := ⟨.hbm, 154, rfl⟩
abbrev main_while0b_call3_v0 : Ref sig .tc := ⟨.hbm, 155, rfl⟩
abbrev main_while0b_v105 : Ref sig .tc := ⟨.hbm, 156, rfl⟩
abbrev main_while0b_call4_c : Ref sig .tc := ⟨.hbm, 157, rfl⟩
abbrev main_while0b_call4_v0 : Ref sig .tc := ⟨.hbm, 158, rfl⟩
abbrev main_while0b_v106 : Ref sig .tc := ⟨.hbm, 159, rfl⟩
abbrev main_while0b_v107 : Ref sig .tc := ⟨.hbm, 160, rfl⟩
abbrev main_while0b_v108 : Ref sig .tc := ⟨.hbm, 161, rfl⟩
abbrev main_while0b_v109 : Ref sig .tc := ⟨.hbm, 162, rfl⟩
abbrev main_while0b_call5_v0 : Ref sig .tc := ⟨.hbm, 163, rfl⟩
abbrev main_while0b_call5_c : Ref sig .tc := ⟨.hbm, 164, rfl⟩
abbrev main_while0b_v110 : Ref sig .tc := ⟨.hbm, 165, rfl⟩
abbrev main_while0b_c_20 : Ref sig .tc := ⟨.hbm, 166, rfl⟩
abbrev main_while0b_v111 : Ref sig .tc := ⟨.hbm, 167, rfl⟩
abbrev main_v103 : Ref sig .tc := ⟨.hbm, 168, rfl⟩

abbrev nD : Nat := 1
abbrev τ : Topo := Topo.v7x

variable {F : FTy → Type} [FloatOps F]

abbrev main_while0_count : Scf.Loop 32 := ⟨0#32, 8192#32, 1#32⟩
-- ==== ResKernel.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ResReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DsaKernel.lean ====
abbrev S8192x2048 : Shape := ⟨2, ![8192, 2048]⟩
abbrev S1x8192 : Shape := ⟨2, ![1, 8192]⟩
abbrev S2x2048 : Shape := ⟨2, ![2, 2048]⟩
abbrev S2x2048x5264 : Shape := ⟨3, ![2, 2048, 5264]⟩
abbrev S2x128 : Shape := ⟨2, ![2, 128]⟩
abbrev S1x2048 : Shape := ⟨2, ![1, 2048]⟩
abbrev S2048 : Shape := ⟨1, ![2048]⟩
abbrev S2x5264x2048 : Shape := ⟨3, ![2, 5264, 2048]⟩
abbrev S1x128 : Shape := ⟨2, ![1, 128]⟩
abbrev S128 : Shape := ⟨1, ![128]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S32 : Shape := ⟨1, ![32]⟩
abbrev S1x32 : Shape := ⟨2, ![1, 32]⟩
abbrev S8192x32 : Shape := ⟨2, ![8192, 32]⟩
abbrev S8192x5632 : Shape := ⟨2, ![8192, 5632]⟩
abbrev S512x8192 : Shape := ⟨2, ![512, 8192]⟩
abbrev S1024x2048 : Shape := ⟨2, ![1024, 2048]⟩
abbrev S1x512x2048 : Shape := ⟨3, ![1, 512, 2048]⟩
abbrev S1024x128 : Shape := ⟨2, ![1024, 128]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S512x2048 : Shape := ⟨2, ![512, 2048]⟩
abbrev S1024x384 : Shape := ⟨2, ![1024, 384]⟩

abbrev nBuf : Space → Nat
  | .hbm => 83
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S1x8192, .i32⟩
  | .hbm, ⟨2, _⟩ => ⟨S2x2048, .f32⟩
  | .hbm, ⟨3, _⟩ => ⟨S2x2048x5264, .f32⟩
  | .hbm, ⟨4, _⟩ => ⟨S2x128, .f32⟩
  | .hbm, ⟨5, _⟩ => ⟨S2x128, .f32⟩
  | .hbm, ⟨6, _⟩ => ⟨S1x2048, .f32⟩
  | .hbm, ⟨7, _⟩ => ⟨S2048, .f32⟩
  | .hbm, ⟨8, _⟩ => ⟨S2x5264x2048, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S8192, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S8192, .f32⟩
  | .hbm, ⟨31, _⟩ => ⟨S8192x1, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x128, .f32⟩
  | .hbm, ⟨39, _⟩ => ⟨S8192x64, .f32⟩
  | .hbm, ⟨40, _⟩ => ⟨S8192x128, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S8192, .f32⟩
  | .hbm, ⟨58, _⟩ => ⟨S8192x1, .f32⟩
  | .hbm, ⟨59, _⟩ => ⟨S1x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S_, .f32⟩
  | .hbm, ⟨66, _⟩ => ⟨S8192x32, .f32⟩
  | .hbm, ⟨67, _⟩ => ⟨S_, .f32⟩
  | .hbm, ⟨68, _⟩ => ⟨S8192x64, .f32⟩
  | .hbm, ⟨69, _⟩ => ⟨S8192x128, .f32⟩
  | .hbm, ⟨70, _⟩ => ⟨S8192x32, .f32⟩
  | .hbm, ⟨71, _⟩ => ⟨S_, .f32⟩
  | .hbm, ⟨72, _⟩ => ⟨S8192x64, .f32⟩
  | .hbm, ⟨73, _⟩ => ⟨S8192x128, .f32⟩
  | .hbm, ⟨74, _⟩ => ⟨S_, .f32⟩
  | .hbm, ⟨75, _⟩ => ⟨S8192x64, .f32⟩
  | .hbm, ⟨76, _⟩ => ⟨S8192x128, .f32⟩
  | .hbm, ⟨77, _⟩ => ⟨S1x2048, .f32⟩
  | .hbm, ⟨78, _⟩ => ⟨S1x128, .f32⟩
  | .hbm, ⟨79, _⟩ => ⟨S1x128, .f32⟩
  | .hbm, ⟨80, _⟩ => ⟨S8192x5632, .bf16⟩
  | .hbm, ⟨81, _⟩ => ⟨S8192x128, .f32⟩
  | .hbm, ⟨82, _⟩ => ⟨S512x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x512, .bf16⟩
  | .local _ .vmem, ⟨18, _⟩ => ⟨S1024x512, .bf16⟩
  | .local _ .vmem, ⟨19, _⟩ => ⟨S1024x128, .f32⟩
  | .local _ .vmem, ⟨20, _⟩ => ⟨S1024x128, .f32⟩
  | .local _ .vmem, ⟨21, _⟩ => ⟨S512x1024, .bf16⟩
  | .local _ .vmem, ⟨22, _⟩ => ⟨S512x1024, .bf16⟩
  | .local _ .vmem, ⟨23, _⟩ => ⟨S1024x2048, .bf16⟩
  | .local _ .vmem, ⟨24, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60_0 : Ref sig .tc := ⟨.hbm, 80, rfl⟩
abbrev main_v60_1 : Ref sig .tc := ⟨.hbm, 81, rfl⟩
abbrev main_v60_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 12], ![false, false]⟩

def k0_cond3 (i : grid0.Coords) : BitVec 1 :=
  let arg1 : BitVec 32 := BitVec.ofNat 32 (i 1).val
  let c1_i32 : BitVec 32 := 1#32
  let v0 : BitVec 32 := Scalar.subi arg1 c1_i32
  let c0_i32_3 : BitVec 32 := 0#32
  let v7 : BitVec 1 := Scalar.cmpi .sge v0 c0_i32_3
  let c4_i32 : BitVec 32 := 4#32
  let v8 : BitVec 1 := Scalar.cmpi .slt v0 c4_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond4 (i : grid0.Coords) : BitVec 1 :=
  let arg1 : BitVec 32 := BitVec.ofNat 32 (i 1).val
  let c1_i32 : BitVec 32 := 1#32
  let v0 : BitVec 32 := Scalar.subi arg1 c1_i32
  let c4_i32_5 : BitVec 32 := 4#32
  let v12 : BitVec 1 := Scalar.cmpi .sge v0 c4_i32_5
  let c5_i32 : BitVec 32 := 5#32
  let v13 : BitVec 1 := Scalar.cmpi .slt v0 c5_i32
  let v14 : BitVec 1 := Scalar.andi v12 v13
  let v15 : BitVec 32 := Scalar.extui v14
  let c0_i32_6 : BitVec 32 := 0#32
  let v16 : BitVec 1 := Scalar.cmpi .ne v15 c0_i32_6
  v16

def k0_cond5 (i : grid0.Coords) : BitVec 1 :=
  let arg1 : BitVec 32 := BitVec.ofNat 32 (i 1).val
  let c1_i32 : BitVec 32 := 1#32
  let v0 : BitVec 32 := Scalar.subi arg1 c1_i32
  let c5_i32_7 : BitVec 32 := 5#32
  let v17 : BitVec 1 := Scalar.cmpi .sge v0 c5_i32_7
  let c6_i32 : BitVec 32 := 6#32
  let v18 : BitVec 1 := Scalar.cmpi .slt v0 c6_i32
  let v19 : BitVec 1 := Scalar.andi v17 v18
  let v20 : BitVec 32 := Scalar.extui v19
  let c0_i32_8 : BitVec 32 := 0#32
  let v21 : BitVec 1 := Scalar.cmpi .ne v20 c0_i32_8
  v21

def k0_cond6 (i : grid0.Coords) : BitVec 1 :=
  let arg1 : BitVec 32 := BitVec.ofNat 32 (i 1).val
  let c1_i32 : BitVec 32 := 1#32
  let v0 : BitVec 32 := Scalar.subi arg1 c1_i32
  let c6_i32_9 : BitVec 32 := 6#32
  let v22 : BitVec 1 := Scalar.cmpi .sge v0 c6_i32_9
  let c10_i32 : BitVec 32 := 10#32
  let v23 : BitVec 1 := Scalar.cmpi .slt v0 c10_i32
  let v24 : BitVec 1 := Scalar.andi v22 v23
  let v25 : BitVec 32 := Scalar.extui v24
  let c0_i32_10 : BitVec 32 := 0#32
  let v26 : BitVec 1 := Scalar.cmpi .ne v25 c0_i32_10
  v26

def k0_cond7 (i : grid0.Coords) : BitVec 1 :=
  let arg1 : BitVec 32 := BitVec.ofNat 32 (i 1).val
  let c1_i32 : BitVec 32 := 1#32
  let v0 : BitVec 32 := Scalar.subi arg1 c1_i32
  let c10_i32_11 : BitVec 32 := 10#32
  let v27 : BitVec 1 := Scalar.cmpi .eq v0 c10_i32_11
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 1 := Scalar.cmpi .slt v1 c4_i32
  let c6_i32 : BitVec 32 := 6#32
  let v3 : BitVec 1 := Scalar.cmpi .slt v1 c6_i32
  let c4_i32_0 : BitVec 32 := 4#32
  let v4 : BitVec 32 := Scalar.addi v1 c4_i32_0
  let c10_i32 : BitVec 32 := 10#32
  let v5 : BitVec 1 := Scalar.cmpi .slt v1 c10_i32
  let c2_i32 : BitVec 32 := 2#32
  let v6 : BitVec 32 := Scalar.subi v1 c2_i32
  let c10_i32_1 : BitVec 32 := 10#32
  let v7 : BitVec 32 := Scalar.select v5 v6 c10_i32_1
  let v8 : BitVec 32 := Scalar.select v3 v4 v7
  let v9 : BitVec 32 := Scalar.select v2 v1 v8
  let c0_i32_2 : BitVec 32 := 0#32
  ![arg0.toNat, v9.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c5_i32 : BitVec 32 := 5#32
  let v1 : BitVec 32 := Scalar.subi v0 c5_i32
  let c0_i32 : BitVec 32 := 0#32
  let c0_i32_0 : BitVec 32 := 0#32
  let v2 : BitVec 32 := Scalar.maxsi c0_i32 v1
  let v3 : BitVec 32 := Scalar.minsi c0_i32_0 v2
  let c0_i32_1 : BitVec 32 := 0#32
  ![v3.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== DsaReferenceIdeal.lean ====
abbrev S8192x2048 : Shape := ⟨2, ![8192, 2048]⟩
abbrev S1x8192 : Shape := ⟨2, ![1, 8192]⟩
abbrev S2x2048 : Shape := ⟨2, ![2, 2048]⟩
abbrev S2x2048x5264 : Shape := ⟨3, ![2, 2048, 5264]⟩
abbrev S2x128 : Shape := ⟨2, ![2, 128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5264 : Shape := ⟨3, ![1, 2048, 5264]⟩
abbrev S2048x5264 : Shape := ⟨2, ![2048, 5264]⟩
abbrev S8192x5264 : Shape := ⟨2, ![8192, 5264]⟩
abbrev S8192x512 : Shape := ⟨2, ![8192, 512]⟩
abbrev S8192x128 : Shape := ⟨2, ![8192, 128]⟩
abbrev S8192x16 : Shape := ⟨2, ![8192, 16]⟩
abbrev S8192x16x128 : Shape := ⟨3, ![8192, 16, 128]⟩
abbrev S1x128 : Shape := ⟨2, ![1, 128]⟩
abbrev S128 : Shape := ⟨1, ![128]⟩
abbrev S8192x16x1 : Shape := ⟨3, ![8192, 16, 1]⟩
abbrev S1x1x128 : Shape := ⟨3, ![1, 1, 128]⟩
abbrev S8192x4x128 : Shape := ⟨3, ![8192, 4, 128]⟩
abbrev S8192x4 : Shape := ⟨2, ![8192, 4]⟩
abbrev S8192x4x1 : Shape := ⟨3, ![8192, 4, 1]⟩
abbrev S64 : Shape := ⟨1, ![64]⟩
abbrev S1x64 : Shape := ⟨2, ![1, 64]⟩
abbrev S8192x64 : Shape := ⟨2, ![8192, 64]⟩
abbrev S8192x1x64 : Shape := ⟨3, ![8192, 1, 64]⟩
abbrev S8192x16x64 : Shape := ⟨3, ![8192, 16, 64]⟩
abbrev S8192x4x64 : Shape := ⟨3, ![8192, 4, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S8192x1x128 : Shape := ⟨3, ![8192, 1, 128]⟩
abbrev S8192x384 : Shape := ⟨2, ![8192, 384]⟩
abbrev S8192x5632 : Shape := ⟨2, ![8192, 5632]⟩
abbrev S512x8192 : Shape := ⟨2, ![512, 8192]⟩

abbrev nBuf : Space → Nat
  | .hbm => 200
  | .vmem => 0
  | .smem => 0
  | _ => 0

abbrev hbmTy0_0 (i : Nat) : BufTy := match i % 128 with
  | 0 => ⟨S8192x2048, .f32⟩
  | 1 => ⟨S1x8192, .i32⟩
  | 2 => ⟨S2x2048, .f32⟩
  | 3 => ⟨S2x2048x5264, .f32⟩
  | 4 => ⟨S2x128, .f32⟩
  | 5 => ⟨S2x128, .f32⟩
  | 6 => ⟨S1x2048, .f32⟩
  | 7 => ⟨S2048, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x2048, .f32⟩
  | 20 => ⟨S8192x2048, .f32⟩
  | 21 => ⟨S1x2048, .f32⟩
  | 22 => ⟨S8192x2048, .f32⟩
  | 23 => ⟨S8192x2048, .f32⟩
  | 24 => ⟨S1x2048x5264, .f32⟩
  | 25 => ⟨S2048x5264, .f32⟩
  | 26 => ⟨S8192x5264, .f32⟩
  | 27 => ⟨S8192x2048, .f32⟩
  | 28 => ⟨S8192x512, .f32⟩
  | 29 => ⟨S8192x512, .f32⟩
  | 30 => ⟨S8192x2048, .f32⟩
  | 31 => ⟨S8192x128, .f32⟩
  | 32 => ⟨S8192x16, .f32⟩
  | 33 => ⟨S8192x16x128, .f32⟩
  | 34 => ⟨S1x128, .f32⟩
  | 35 => ⟨S128, .f32⟩
  | 36 => ⟨S8192x16x128, .f32⟩
  | 37 => ⟨S_, .f32⟩
  | 38 => ⟨S8192x16, .f32⟩
  | 39 => ⟨S8192x16x1, .f32⟩
  | 40 => ⟨S_, .f32⟩
  | 41 => ⟨S8192x16x1, .f32⟩
  | 42 => ⟨S8192x16x1, .f32⟩
  | 43 => ⟨S_, .f32⟩
  | 44 => ⟨S8192x16x1, .f32⟩
  | 45 => ⟨S8192x16x1, .f32⟩
  | 46 => ⟨S8192x16x1, .f32⟩
  | 47 => ⟨S8192x16x128, .f32⟩
  | 48 => ⟨S8192x16x128, .f32⟩
  | 49 => ⟨S1x1x128, .f32⟩
  | 50 => ⟨S8192x16x128, .f32⟩
  | 51 => ⟨S8192x16x128, .f32⟩
  | 52 => ⟨S8192x4x128, .f32⟩
  | 53 => ⟨S1x128, .f32⟩
  | 54 => ⟨S128, .f32⟩
  | 55 => ⟨S8192x4x128, .f32⟩
  | 56 => ⟨S_, .f32⟩
  | 57 => ⟨S8192x4, .f32⟩
  | 58 => ⟨S8192x4x1, .f32⟩
  | 59 => ⟨S_, .f32⟩
  | 60 => ⟨S8192x4x1, .f32⟩
  | 61 => ⟨S8192x4x1, .f32⟩
  | 62 => ⟨S_, .f32⟩
  | 63 => ⟨S8192x4x1, .f32⟩
  | 64 => ⟨S8192x4x1, .f32⟩
  | 65 => ⟨S8192x4x1, .f32⟩
  | 66 => ⟨S8192x4x128, .f32⟩
  | 67 => ⟨S8192x4x128, .f32⟩
  | 68 => ⟨S1x1x128, .f32⟩
  | 69 => ⟨S8192x4x128, .f32⟩
  | 70 => ⟨S8192x4x128, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S8192, .i32⟩
  | 88 => ⟨S8192, .f32⟩
  | 89 => ⟨S8192x1, .f32⟩
  | 90 => ⟨S1x64, .f32⟩
  | 91 => ⟨S8192x64, .f32⟩
  | 92 => ⟨S8192x64, .f32⟩
  | 93 => ⟨S8192x64, .f32⟩
  | 94 => ⟨S8192x64, .f32⟩
  | 95 => ⟨S8192x1x64, .f32⟩
  | 96 => ⟨S8192x64, .f32⟩
  | 97 => ⟨S8192x1x64, .f32⟩
  | 98 => ⟨S8192x16x64, .f32⟩
  | 99 => ⟨S8192x16x64, .f32⟩
  | 100 => ⟨S8192x16x64, .f32⟩
  | 101 => ⟨S8192x16x64, .f32⟩
  | 102 => ⟨S8192x16x64, .f32⟩
  | 103 => ⟨S8192x16x64, .f32⟩
  | 104 => ⟨S8192x16x64, .f32⟩
  | 105 => ⟨S8192x16x64, .f32⟩
  | 106 => ⟨S8192x16x64, .f32⟩
  | 107 => ⟨S8192x16x64, .f32⟩
  | 108 => ⟨S8192x16x64, .f32⟩
  | 109 => ⟨S8192x16x64, .f32⟩
  | 110 => ⟨S8192x16x128, .f32⟩
  | 111 => ⟨S_, .f32⟩
  | 112 => ⟨S8192x16x128, .f32⟩
  | 113 => ⟨S8192x16x128, .f32⟩
  | 114 => ⟨S8192x4x64, .f32⟩
  | 115 => ⟨S8192x4x64, .f32⟩
  | 116 => ⟨S8192x4x64, .f32⟩
  | 117 => ⟨S8192x4x64, .f32⟩
  | 118 => ⟨S8192x4x64, .f32⟩
  | 119 => ⟨S8192x4x64, .f32⟩
  | 120 => ⟨S8192x4x64, .f32⟩
  | 121 => ⟨S8192x4x64, .f32⟩
  | 122 => ⟨S8192x4x64, .f32⟩
  | 123 => ⟨S8192x4x64, .f32⟩
  | 124 => ⟨S8192x4x64, .f32⟩
  | 125 => ⟨S8192x4x64, .f32⟩
  | 126 => ⟨S8192x4x128, .f32⟩
  | 127 => ⟨S32, .f32⟩
  | _ => ⟨S8192x2048, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S8192, .i32⟩
  | 16 => ⟨S8192, .f32⟩
  | 17 => ⟨S8192x1, .f32⟩
  | 18 => ⟨S1x32, .f32⟩
  | 19 => ⟨S8192x32, .f32⟩
  | 20 => ⟨S8192x32, .f32⟩
  | 21 => ⟨S8192x32, .f32⟩
  | 22 => ⟨S8192x32, .f32⟩
  | 23 => ⟨S8192x1x32, .f32⟩
  | 24 => ⟨S8192x32, .f32⟩
  | 25 => ⟨S8192x1x32, .f32⟩
  | 26 => ⟨S8192x16x128, .f32⟩
  | 27 => ⟨S8192x16x64, .f32⟩
  | 28 => ⟨S8192x16x32, .f32⟩
  | 29 => ⟨S8192x16x32, .f32⟩
  | 30 => ⟨S8192x16x32, .f32⟩
  | 31 => ⟨S8192x16x32, .f32⟩
  | 32 => ⟨S8192x16x32, .f32⟩
  | 33 => ⟨S8192x16x32, .f32⟩
  | 34 => ⟨S8192x16x32, .f32⟩
  | 35 => ⟨S8192x16x32, .f32⟩
  | 36 => ⟨S8192x16x32, .f32⟩
  | 37 => ⟨S8192x16x32, .f32⟩
  | 38 => ⟨S8192x16x32, .f32⟩
  | 39 => ⟨S8192x16x32, .f32⟩
  | 40 => ⟨S8192x16x64, .f32⟩
  | 41 => ⟨S8192x16x64, .f32⟩
  | 42 => ⟨S8192x16x128, .f32⟩
  | 43 => ⟨S8192x1x128, .f32⟩
  | 44 => ⟨S8192x1x64, .f32⟩
  | 45 => ⟨S8192x1x32, .f32⟩
  | 46 => ⟨S8192x1x32, .f32⟩
  | 47 => ⟨S8192x1x32, .f32⟩
  | 48 => ⟨S8192x1x32, .f32⟩
  | 49 => ⟨S8192x1x32, .f32⟩
  | 50 => ⟨S8192x1x32, .f32⟩
  | 51 => ⟨S8192x1x32, .f32⟩
  | 52 => ⟨S8192x1x32, .f32⟩
  | 53 => ⟨S8192x1x64, .f32⟩
  | 54 => ⟨S8192x1x64, .f32⟩
  | 55 => ⟨S8192x1x128, .f32⟩
  | 56 => ⟨S_, .f32⟩
  | 57 => ⟨S8192x16, .f32⟩
  | 58 => ⟨S8192x16, .f32⟩
  | 59 => ⟨S8192x2048, .f32⟩
  | 60 => ⟨S8192x2048, .f32⟩
  | 61 => ⟨S8192x512, .f32⟩
  | 62 => ⟨S8192x128, .f32⟩
  | 63 => ⟨S_, .f32⟩
  | 64 => ⟨S8192x384, .f32⟩
  | 65 => ⟨S8192x5632, .f32⟩
  | 66 => ⟨S8192x5632, .bf16⟩
  | 67 => ⟨S_, .i32⟩
  | 68 => ⟨S_, .f32⟩
  | 69 => ⟨S8192x128, .f32⟩
  | 70 => ⟨S512x8192, .f32⟩
  | 71 => ⟨S512x8192, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_13 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_14 : Ref sig .tc := ⟨.hbm, 128, rfl⟩
abbrev main_v107 : Ref sig .tc := ⟨.hbm, 129, rfl⟩
abbrev main_v108 : Ref sig .tc := ⟨.hbm, 130, rfl⟩
abbrev main_cst_15 : Ref sig .tc := ⟨.hbm, 131, rfl⟩
abbrev main_v109 : Ref sig .tc := ⟨.hbm, 132, rfl⟩
abbrev main_v110 : Ref sig .tc := ⟨.hbm, 133, rfl⟩
abbrev main_cst_16 : Ref sig .tc := ⟨.hbm, 134, rfl⟩
abbrev main_v111 : Ref sig .tc := ⟨.hbm, 135, rfl⟩
abbrev main_v112 : Ref sig .tc := ⟨.hbm, 136, rfl⟩
abbrev main_cst_17 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_19 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_20 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_c : Ref sig .tc := ⟨.hbm, 195, rfl⟩
abbrev main_call0_v0 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩

abbrev nD : Nat := 1
abbrev τ : Topo := Topo.v7x

variable {F : FTy → Type} [FloatOps F]
-- ==== PoolKernel.lean ====
abbrev S8192x2048 : Shape := ⟨2, ![8192, 2048]⟩
abbrev S1x2048 : Shape := ⟨2, ![1, 2048]⟩
abbrev S1x4x512x512 : Shape := ⟨4, ![1, 4, 512, 512]⟩
abbrev S1x4x512 : Shape := ⟨3, ![1, 4, 512]⟩
abbrev S2048 : Shape := ⟨1, ![2048]⟩
abbrev S4x512x512 : Shape := ⟨3, ![4, 512, 512]⟩
abbrev S4x512 : Shape := ⟨2, ![4, 512]⟩
abbrev S256x2048 : Shape := ⟨2, ![256, 2048]⟩
abbrev S16x2048 : Shape := ⟨2, ![16, 2048]⟩
abbrev S256 : Shape := ⟨1, ![256]⟩
abbrev S256x1 : Shape := ⟨2, ![256, 1]⟩
abbrev S272x2048 : Shape := ⟨2, ![272, 2048]⟩
abbrev S256x512 : Shape := ⟨2, ![256, 512]⟩
abbrev S272x512 : Shape := ⟨2, ![272, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x4x512x512, .f32⟩
  | .hbm, ⟨3, _⟩ => ⟨S1x4x512, .f32⟩
  | .hbm, ⟨4, _⟩ => ⟨S1x2048, .f32⟩
  | .hbm, ⟨5, _⟩ => ⟨S2048, .f32⟩
  | .hbm, ⟨6, _⟩ => ⟨S4x512x512, .f32⟩
  | .hbm, ⟨7, _⟩ => ⟨S4x512, .f32⟩
  | .hbm, ⟨8, _⟩ => ⟨S2048, .f32⟩
  | .hbm, ⟨9, _⟩ => ⟨S1x2048, .f32⟩
  | .hbm, ⟨10, _⟩ => ⟨S4x512x512, .bf16⟩
  | .hbm, ⟨11, _⟩ => ⟨S1x2048, .f32⟩
  | .hbm, ⟨12, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S4x512x512, .bf16⟩
  | .local _ .vmem, ⟨4, _⟩ => ⟨S4x512, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S16x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolReferenceIdeal.lean ====
abbrev S8192x2048 : Shape := ⟨2, ![8192, 2048]⟩
abbrev S1x2048 : Shape := ⟨2, ![1, 2048]⟩
abbrev S1x4x512x512 : Shape := ⟨4, ![1, 4, 512, 512]⟩
abbrev S1x4x512 : Shape := ⟨3, ![1, 4, 512]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x512 : Shape := ⟨2, ![8192, 512]⟩
abbrev S1x1x512x512 : Shape := ⟨4, ![1, 1, 512, 512]⟩
abbrev S512x512 : Shape := ⟨2, ![512, 512]⟩
abbrev S1x1x512 : Shape := ⟨3, ![1, 1, 512]⟩
abbrev S512 : Shape := ⟨1, ![512]⟩
abbrev S1x512 : Shape := ⟨2, ![1, 512]⟩

abbrev nBuf : Space → Nat
  | .hbm => 106
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x4x512x512, .f32⟩
  | .hbm, ⟨3, _⟩ => ⟨S1x4x512, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .f32⟩
  | .hbm, ⟨27, _⟩ => ⟨S8192x1, .f32⟩
  | .hbm, ⟨28, _⟩ => ⟨S8192x512, .f32⟩
  | .hbm, ⟨29, _⟩ => ⟨S_, .f32⟩
  | .hbm, ⟨30, _⟩ => ⟨S_, .f32⟩
  | .hbm, ⟨31, _⟩ => ⟨S8192x512, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S1x1x512x512, .f32⟩
  | .hbm, ⟨39, _⟩ => ⟨S512x512, .f32⟩
  | .hbm, ⟨40, _⟩ => ⟨S8192x512, .f32⟩
  | .hbm, ⟨41, _⟩ => ⟨S1x1x512, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S_, .f32⟩
  | .hbm, ⟨49, _⟩ => ⟨S8192x512, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S1x1x512x512, .f32⟩
  | .hbm, ⟨57, _⟩ => ⟨S512x512, .f32⟩
  | .hbm, ⟨58, _⟩ => ⟨S8192x512, .f32⟩
  | .hbm, ⟨59, _⟩ => ⟨S1x1x512, .f32⟩
  | .hbm, ⟨60, _⟩ => ⟨S512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S_, .f32⟩
  | .hbm, ⟨67, _⟩ => ⟨S8192x512, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S1x1x512x512, .f32⟩
  | .hbm, ⟨75, _⟩ => ⟨S512x512, .f32⟩
  | .hbm, ⟨76, _⟩ => ⟨S8192x512, .f32⟩
  | .hbm, ⟨77, _⟩ => ⟨S1x1x512, .f32⟩
  | .hbm, ⟨78, _⟩ => ⟨S512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S_, .f32⟩
  | .hbm, ⟨85, _⟩ => ⟨S8192x512, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S1x1x512x512, .f32⟩
  | .hbm, ⟨93, _⟩ => ⟨S512x512, .f32⟩
  | .hbm, ⟨94, _⟩ => ⟨S8192x512, .f32⟩
  | .hbm, ⟨95, _⟩ => ⟨S1x1x512, .f32⟩
  | .hbm, ⟨96, _⟩ => ⟨S512, .f32⟩
  | .hbm, ⟨97, _⟩ => ⟨S1x512, .f32⟩
  | .hbm, ⟨98, _⟩ => ⟨S8192x512, .f32⟩
  | .hbm, ⟨99, _⟩ => ⟨S8192x512, .f32⟩
  | .hbm, ⟨100, _⟩ => ⟨S8192x2048, .f32⟩
  | .hbm, ⟨101, _⟩ => ⟨S2048, .f32⟩
  | .hbm, ⟨102, _⟩ => ⟨S1x2048, .f32⟩
  | .hbm, ⟨103, _⟩ => ⟨S8192x2048, .f32⟩
  | .hbm, ⟨104, _⟩ => ⟨S8192x2048, .f32⟩
  | .hbm, ⟨105, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩

abbrev nD : Nat := 1
abbrev τ : Topo := Topo.v7x

variable {F : FTy → Type} [FloatOps F]
-- ==== Proof.Mlp.Cases.lean ====
/- The MLP kernel's body, case by case: what a grid point leaves in the normalised-row scratch, in the accumulator and in
   the output block, as the payloads of its stores. Stated for any float values. -/
module

public import proofs.«01_k».proof.Proof.Gen.MlpKernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.MlpKernelIdeal.Cases

open Cert.MlpKernelIdeal Cert.MlpKernelIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S1x2048x1024 .bf16) (h4 : a4.IsWhole)
  (a5 : Memref sig .tc .vmem S1x1024x2048 .bf16) (h5 : a5.IsWhole) (a6 : Memref sig .tc .vmem S512x2048 .f32) (h6 : a6.IsWhole)
  (a7 : Memref sig .tc .vmem S512x2048 .bf16) (h7 : a7.IsWhole) (a8 : Memref sig .tc .vmem S512x2048 .f32) (h8 : a8.IsWhole)
  (x0 : Vec F S512x2048 .f32) (x1 : Vec F S1x2048 .f32) (x2 : Vec F S1x2048x1024 .bf16) (x3 : Vec F S1x1024x2048 .bf16)
  (xs0 : Vec F S512x2048 .bf16) (xs1 : Vec F S512x2048 .f32)

/-- At the first feature block the scratch gets the rows' normalisation. -/
theorem rows_A (hc0 : cond0_0 i) (hc1 : ¬cond0_1 i) :
    sout0_A_0 c i a2 h2 a3 h3 a4 h4 a5 h5 a6 h6 a7 h7 a8 h8 hc0 hc1 x0 x1 x2 x3 = k0_pay1 x0 x1 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_unit_zero z2]
  simp only [View.readAt_eq_ld, h2.read_unread, h3.read_unread, View.ld_unit_zero (S := S512x2048) z2, View.ld_unit_zero (S := S1x2048) z2]

/-- At the first feature block the accumulator gets that block's product, added to the zero array. -/
theorem acc_A (hc0 : cond0_0 i) (hc1 : ¬cond0_1 i) :
    sout0_A_1 c i a2 h2 a3 h3 a4 h4 a5 h5 a6 h6 a7 h7 a8 h8 hc0 hc1 x0 x1 x2 x3
      = k0_pay3 (k0_pay1 x0 x1) x2 k0_pay2 x3 := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S512x2048) z2]
  simp only [View.readCov_unit_zero (S := S512x2048) _ z2, View.readAt_eq_ld, h2.read_unread, h3.read_unread, h4.read_unread, h5.read_unread,
    View.ld_unit_zero (S := S512x2048) z2, View.ld_unit_zero (S := S1x2048) z2,
    View.ld_unit_zero (S := S1x2048x1024) z3, View.ld_unit_zero (S := S1x1024x2048) z3]

/-- At a middle feature block the accumulator gets that block's product added. -/
theorem acc_B (hc0 : ¬cond0_0 i) (hc1 : ¬cond0_1 i) :
    sout0_B_1 c i a2 h2 a3 h3 a4 h4 a5 h5 a6 h6 a7 h7 a8 h8 hc0 hc1 x0 x1 x2 x3 xs0 xs1 = k0_pay3 xs0 x2 xs1 x3 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  sl_unfold_words
  rw [View.canon_unit_zero z2]
  simp only [View.readAt_eq_ld, h4.read_unread, h5.read_unread, h7.read_unread, h8.read_unread,
    View.ld_unit_zero (S := S512x2048) z2, View.ld_unit_zero (S := S1x2048x1024) z3, View.ld_unit_zero (S := S1x1024x2048) z3]

/-- At the last feature block the accumulator gets that block's product added. -/
theorem acc_C (hc0 : ¬cond0_0 i) (hc1 : cond0_1 i) :
    sout0_C_1 c i a2 h2 a3 h3 a4 h4 a5 h5 a6 h6 a7 h7 a8 h8 hc0 hc1 x0 x1 x2 x3 xs0 xs1 = k0_pay3 xs0 x2 xs1 x3 := by
  unfold sout0_C_1
  rw [View.read_writes_eq_canon _ _ _ (scover0_C_1 c i a2 h2 a3 h3 a4 h4 a5 h5 a6 h6 a7 h7 a8 h8 hc0 hc1 x0 x1 x2 x3 xs0 xs1)]
  unfold kernelRun0_C
  dsimp only
  sl_unfold_words
  rw [View.canon_unit_zero z2]
  simp only [View.readAt_eq_ld, h4.read_unread, h5.read_unread, h7.read_unread, h8.read_unread,
    View.ld_unit_zero (S := S512x2048) z2, View.ld_unit_zero (S := S1x2048x1024) z3, View.ld_unit_zero (S := S1x1024x2048) z3]

/-- At the last feature block the output gets the input rows plus the finished accumulator. -/
theorem out_C (hc0 : ¬cond0_0 i) (hc1 : cond0_1 i) :
    out0_C_4 c i a2 h2 a3 h3 a4 h4 a5 h5 a6 h6 a7 h7 a8 h8 hc0 hc1 x0 x1 x2 x3 xs0 xs1
      = k0_pay4 x0 (k0_pay3 xs0 x2 xs1 x3) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero z2]
  simp only [View.readCov_unit_zero (S := S512x2048) _ z2, View.readAt_eq_ld, h2.read_unread, h4.read_unread, h5.read_unread, h7.read_unread, h8.read_unread,
    View.ld_unit_zero (S := S512x2048) z2, View.ld_unit_zero (S := S1x2048x1024) z3, View.ld_unit_zero (S := S1x1024x2048) z3]

end Cert.MlpKernelIdeal.Cases

end
-- ==== Proof.Mlp.Blocks.lean ====
/- What the MLP kernel's windows hold at a grid point: the call's operands as the host code leaves them, and each window's
   block of its operand, read at an element from the arguments. -/
module

public import proofs.«01_k».proof.Proof.Gen.MlpKernelIdeal.Value
public import Idealize.ShloMosaic.Lib.Pipeline.Value
public import Idealize.ShloMosaic.Lib.Pointwise

@[expose] public section

set_option maxRecDepth 16384

noncomputable section

open Idealize.ShloMosaic Idealize.ShloMosaic.Pointwise Idealize.ShloMosaic.TcCoe Idealize.SL.Sem
open Cert.MlpKernelIdeal Cert.MlpKernelIdeal.Gen

namespace Cert.Mlp

variable (m : (ℓ : Loc nD τ sig) → Buf (Elt Ideal) ℓ) (c : Dev nD)

/-- A reshape that drops a leading unit axis. -/
theorem dropUnit (x : Vec Ideal S1x8192x2048 .f32) (r : Fin 8192) (k : Fin 2048) :
    shapeCast S8192x2048 x shapeCasts_S1x8192x2048_S8192x2048 (ix2 r k) = x (ix3 0 r k) := by
  pointwise

/-- The call's first operand is the input with its unit axis dropped. -/
theorem V_rows (r : Fin 8192) (k : Fin 2048) :
    V m c main_v2 (ix2 r k) = m ((c : Thread nD τ).loc main_arg0) (ix3 0 r k) := by
  have e : V m c main_v2 = shapeCast S8192x2048 (m ((c : Thread nD τ).loc main_arg0)) shapeCasts_S1x8192x2048_S8192x2048 := by
    show StableHlo.after hostOps0 _ _ = _
    after_results <;> rfl
  rw [e]
  exact dropUnit _ r k

/-- The second is row 3 of the normalisation weights. -/
theorem V_gain (k : Fin 2048) :
    V m c main_v5 (ix2 0 k) = m ((c : Thread nD τ).loc main_arg1) (ix2 3 k) := by
  have e : V m c main_v5 = shapeCast S1x2048 (shapeCast S2048 (extractStridedSlice S1x2048 ![3, 0] (m ((c : Thread nD τ).loc main_arg1)) slices_S4x2048_S1x2048_3_0) shapeCasts_S1x2048_S2048) shapeCasts_S2048_S1x2048 := by
    show StableHlo.after hostOps0 _ _ = _
    after_results <;> rfl
  rw [e]
  pointwise

/-- The third is the up weights. -/
theorem V_up (l : Fin 4) (k : Fin 2048) (f : Fin 8192) :
    V m c main_v0 (ix3 l k f) = m ((c : Thread nD τ).loc main_arg2) (ix3 l k f) := by
  have e : V m c main_v0 = (truncf .bf16 (m ((c : Thread nD τ).loc main_arg2) : FVec Ideal S4x2048x8192 .f32) bitsLt_bf16_f32 : FVec Ideal S4x2048x8192 .bf16) := by
    show StableHlo.after hostOps0 _ _ = _
    after_results <;> rfl
  rw [e]
  pointwise

/-- The fourth is the down weights. -/
theorem V_down (l : Fin 4) (f : Fin 8192) (d : Fin 2048) :
    V m c main_v1 (ix3 l f d) = m ((c : Thread nD τ).loc main_arg3) (ix3 l f d) := by
  have e : V m c main_v1 = (truncf .bf16 (m ((c : Thread nD τ).loc main_arg3) : FVec Ideal S4x8192x2048 .f32) bitsLt_bf16_f32 : FVec Ideal S4x8192x2048 .bf16) := by
    show StableHlo.after hostOps0 _ _ = _
    after_results <;> rfl
  rw [e]
  pointwise

theorem win_rows : ∀ t : Fin grid0.N, win0_0.index t 0 = t.val / 8 ∧ win0_0.index t 1 = 0 := by decide +kernel
theorem win_gain : ∀ t : Fin grid0.N, win0_1.index t 0 = 0 ∧ win0_1.index t 1 = 0 := by decide +kernel
theorem win_up : ∀ t : Fin grid0.N, win0_2.index t 0 = 3 ∧ win0_2.index t 1 = 0
    ∧ win0_2.index t 2 = t.val % 8 := by decide +kernel
theorem win_down : ∀ t : Fin grid0.N, win0_3.index t 0 = 3 ∧ win0_3.index t 1 = t.val % 8
    ∧ win0_3.index t 2 = 0 := by decide +kernel

variable (t : Fin cfg0.N)

theorem iblk_rows (r : Fin 512) (k : Fin 2048) (R : Fin 8192) (hR : R.val = t.val / 8 * 512 + r.val) :
    (iblk m c 0 t : Vec Ideal S512x2048 .f32) (ix2 r k) = m ((c : Thread nD τ).loc main_arg0) (ix3 0 R k) := by
  rw [← V_rows m c R k]
  unfold iblk
  rw [View.read_apply]
  show V m c main_v2 _ = _
  congr 1
  funext a
  apply Fin.ext
  match a with
  | ⟨0, _⟩ => show win0_0.index t 0 * 512 + 1 * r.val = R.val; rw [(win_rows t).1]; omega
  | ⟨1, _⟩ => show win0_0.index t 1 * 2048 + 1 * k.val = k.val; rw [(win_rows t).2]; omega

theorem iblk_gain (k : Fin 2048) :
    (iblk m c 1 t : Vec Ideal S1x2048 .f32) (ix2 0 k) = m ((c : Thread nD τ).loc main_arg1) (ix2 3 k) := by
  rw [← V_gain m c k]
  unfold iblk
  rw [View.read_apply]
  show V m c main_v5 _ = _
  congr 1
  funext a
  apply Fin.ext
  match a with
  | ⟨0, _⟩ => show win0_1.index t 0 * 1 + 1 * 0 = 0; rw [(win_gain t).1]
  | ⟨1, _⟩ => show win0_1.index t 1 * 2048 + 1 * k.val = k.val; rw [(win_gain t).2]; omega

theorem iblk_up (k : Fin 2048) (f : Fin 1024) (f' : Fin 8192) (hf : f'.val = t.val % 8 * 1024 + f.val) :
    (iblk m c 2 t : Vec Ideal S1x2048x1024 .bf16) (ix3 0 k f) = m ((c : Thread nD τ).loc main_arg2) (ix3 3 k f') := by
  rw [← V_up m c 3 k f']
  unfold iblk
  rw [View.read_apply]
  show V m c main_v0 _ = _
  congr 1
  funext a
  apply Fin.ext
  match a with
  | ⟨0, _⟩ => show win0_2.index t 0 * 1 + 1 * 0 = 3; rw [(win_up t).1]
  | ⟨1, _⟩ => show win0_2.index t 1 * 2048 + 1 * k.val = k.val; rw [(win_up t).2.1]; omega
  | ⟨2, _⟩ => show win0_2.index t 2 * 1024 + 1 * f.val = f'.val; rw [(win_up t).2.2]; omega

theorem iblk_down (f : Fin 1024) (d : Fin 2048) (f' : Fin 8192) (hf : f'.val = t.val % 8 * 1024 + f.val) :
    (iblk m c 3 t : Vec Ideal S1x1024x2048 .bf16) (ix3 0 f d) = m ((c : Thread nD τ).loc main_arg3) (ix3 3 f' d) := by
  rw [← V_down m c 3 f' d]
  unfold iblk
  rw [View.read_apply]
  show V m c main_v1 _ = _
  congr 1
  funext a
  apply Fin.ext
  match a with
  | ⟨0, _⟩ => show win0_3.index t 0 * 1 + 1 * 0 = 3; rw [(win_down t).1]
  | ⟨1, _⟩ => show win0_3.index t 1 * 1024 + 1 * f.val = f'.val; rw [(win_down t).2.1]; omega
  | ⟨2, _⟩ => show win0_3.index t 2 * 2048 + 1 * d.val = d.val; rw [(win_down t).2.2]; omega

end Cert.Mlp
end
-- ==== Proof.Mlp.Pay.lean ====
/- The MLP kernel's payloads and the reference, read at an element, as sums over the extended reals. -/
module

public import proofs.«01_k».proof.Proof.Gen.MlpKernelIdeal.Skeleton
public import proofs.«01_k».proof.Proof.Gen.MlpReferenceIdeal.Read
public import Idealize.ShloMosaic.Lib.Pointwise

@[expose] public section

set_option maxRecDepth 16384

noncomputable section

open Idealize.ShloMosaic Idealize.ShloMosaic.Pointwise

namespace Cert.Mlp

/-- The mean square of a row of length 2048, with the small constant added. -/
def meanSq (x : Fin 2048 → EReal) : EReal :=
  Ideal.div (∑ k, x k * x k) (Ideal.ofBits .f32 0x45000000#32) + Ideal.ofBits .f32 0x358637BD#32

/-- One entry of a row after the normalisation with weights `g`. -/
def nrm (x g : Fin 2048 → EReal) (d : Fin 2048) : EReal := x d * Ideal.rsqrt (meanSq x) * g d

/-- The squared rectifier. -/
def sqRelu (z : EReal) : EReal := max z 0 * max z 0

theorem pay1_apply (x : Vec Ideal Cert.MlpKernelIdeal.S512x2048 .f32) (g : Vec Ideal Cert.MlpKernelIdeal.S1x2048 .f32) (r : Fin 512) (d : Fin 2048) :
    Cert.MlpKernelIdeal.Gen.k0_pay1 x g (ix2 r d) = nrm (fun k => x (ix2 r k)) (fun k => g (ix2 0 k)) d := by
  pointwise [Cert.MlpKernelIdeal.Gen.k0_pay1]
  rfl

theorem pay3_apply (h : Vec Ideal Cert.MlpKernelIdeal.S512x2048 .bf16) (wu : Vec Ideal Cert.MlpKernelIdeal.S1x2048x1024 .bf16)
    (acc : Vec Ideal Cert.MlpKernelIdeal.S512x2048 .f32) (wd : Vec Ideal Cert.MlpKernelIdeal.S1x1024x2048 .bf16) (r : Fin 512) (d : Fin 2048) :
    Cert.MlpKernelIdeal.Gen.k0_pay3 h wu acc wd (ix2 r d)
      = acc (ix2 r d) + ∑ f : Fin 1024, sqRelu (∑ k : Fin 2048, h (ix2 r k) * wu (ix3 0 k f)) * wd (ix3 0 f d) := by
  pointwise [Cert.MlpKernelIdeal.Gen.k0_pay3]
  rfl

theorem pay2_apply (r : Fin 512) (d : Fin 2048) :
    Cert.MlpKernelIdeal.Gen.k0_pay2 (F := Ideal) (ix2 r d) = (0 : EReal) := by
  pointwise [Cert.MlpKernelIdeal.Gen.k0_pay2]

theorem pay4_apply (x acc : Vec Ideal Cert.MlpKernelIdeal.S512x2048 .f32) (r : Fin 512) (d : Fin 2048) :
    Cert.MlpKernelIdeal.Gen.k0_pay4 x acc (ix2 r d) = (x (ix2 r d) + acc (ix2 r d) : EReal) := by
  pointwise [Cert.MlpKernelIdeal.Gen.k0_pay4]

end Cert.Mlp
end
-- ==== Proof.Mlp.Ref.lean ====
/- The MLP reference, read at an element. -/
module

public import proofs.«01_k».proof.Proof.Mlp.Pay

@[expose] public section

set_option maxRecDepth 16384

noncomputable section

open Idealize.ShloMosaic Idealize.ShloMosaic.Pointwise
open Cert.MlpReferenceIdeal

namespace Cert.Mlp

/-- The layer at row `r`, column `d`: the row plus the product of the squared-rectified features with the down weights. -/
def layer (x : Vec Ideal S1x8192x2048 .f32) (g : Vec Ideal S4x2048 .f32) (wu : Vec Ideal S4x2048x8192 .f32)
    (wd : Vec Ideal S4x8192x2048 .f32) (r : Fin 8192) (d : Fin 2048) : EReal :=
  x (ix3 0 r d) + ∑ f : Fin 8192,
    sqRelu (∑ k : Fin 2048, nrm (fun k => x (ix3 0 r k)) (fun k => g (ix2 3 k)) k * wu (ix3 3 k f)) * wd (ix3 3 f d)

theorem ref_apply (x : Vec Ideal S1x8192x2048 .f32) (g : Vec Ideal S4x2048 .f32) (wu : Vec Ideal S4x2048x8192 .f32)
    (wd : Vec Ideal S4x8192x2048 .f32) (r : Fin 8192) (d : Fin 2048) :
    Read.val_main_v24 x g wu wd (ix2 r d) = layer x g wu wd r d := by
  pointwise [Read.val_main_v0, Read.val_main_v1, Read.val_main_cst, Read.val_main_v2, Read.val_main_v3, Read.val_main_cst_0, Read.val_main_v4, Read.val_main_v5, Read.val_main_cst_1, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_call0_cst, Read.val_main_call0_v0, Read.val_main_v19, Read.val_main_v20, Read.val_main_v21, Read.val_main_v22, Read.val_main_v23, Read.val_main_v24]
  rfl

end Cert.Mlp
end
-- ==== Proof.Mlp.Fold.lean ====
/- The MLP kernel over one row block's eight feature blocks: the scratch holds the normalised rows throughout, the
   accumulator the sum of the feature blocks met so far, and the last point writes the layer's rows. -/
module

public import proofs.«01_k».proof.Proof.Mlp.Cases
public import proofs.«01_k».proof.Proof.Mlp.Blocks
public import proofs.«01_k».proof.Proof.Mlp.Ref

@[expose] public section

set_option maxRecDepth 16384

noncomputable section

open Idealize.ShloMosaic Idealize.ShloMosaic.Pointwise Idealize.ShloMosaic.TcCoe Idealize.SL.Sem
open Cert.MlpKernelIdeal Cert.MlpKernelIdeal.Gen

namespace Cert.Mlp

/-- Feature `f`'s contribution to the layer at row `r`, column `d`; nothing past the last feature. -/
def term (x : Vec Ideal S1x8192x2048 .f32) (g : Vec Ideal S4x2048 .f32) (wu : Vec Ideal S4x2048x8192 .f32)
    (wd : Vec Ideal S4x8192x2048 .f32) (r : Fin 8192) (d : Fin 2048) (f : ℕ) : EReal :=
  if h : f < 8192 then
    sqRelu (∑ k : Fin 2048, nrm (fun k => x (ix3 0 r k)) (fun k => g (ix2 3 k)) k * wu (ix3 3 k ⟨f, h⟩)) * wd (ix3 3 ⟨f, h⟩ d)
  else 0

/-- The sum over the features, in eight blocks of 1024. -/
theorem layer_eq (x : Vec Ideal S1x8192x2048 .f32) (g : Vec Ideal S4x2048 .f32) (wu : Vec Ideal S4x2048x8192 .f32)
    (wd : Vec Ideal S4x8192x2048 .f32) (r : Fin 8192) (d : Fin 2048) :
    layer x g wu wd r d = x (ix3 0 r d) + ∑ j ∈ Finset.range 8, ∑ f : Fin 1024, term x g wu wd r d (j * 1024 + f.val) := by
  unfold layer
  congr 1
  rw [Fin.sum_univ_tiles 8 1024 (by decide), Finset.sum_range]
  refine Finset.sum_congr rfl fun j _ => Finset.sum_congr rfl fun f _ => ?_
  unfold term
  rw [dif_pos (by have := j.isLt; have := f.isLt; omega)]

variable (m : (ℓ : Loc nD τ sig) → Buf (Elt Ideal) ℓ) (c : Dev nD)

abbrev X := m ((c : Thread nD τ).loc main_arg0)
abbrev G := m ((c : Thread nD τ).loc main_arg1)
abbrev WU := m ((c : Thread nD τ).loc main_arg2)
abbrev WD := m ((c : Thread nD τ).loc main_arg3)

/-- One feature block's step, on a scratch that holds the normalised rows. -/
theorem step_apply (t : Fin cfg0.N) (h : Vec Ideal S512x2048 .bf16) (acc : Vec Ideal S512x2048 .f32) (r : Fin 512) (d : Fin 2048)
    (R : Fin 8192)
    (hh : ∀ k : Fin 2048, h (ix2 r k) = nrm (fun k => X m c (ix3 0 R k)) (fun k => G m c (ix2 3 k)) k) :
    k0_pay3 h (iblk m c 2 t) acc (iblk m c 3 t) (ix2 r d)
      = acc (ix2 r d) + ∑ f : Fin 1024, term (X m c) (G m c) (WU m c) (WD m c) R d (t.val % 8 * 1024 + f.val) := by
  rw [pay3_apply]
  congr 1
  refine Finset.sum_congr rfl fun f _ => ?_
  have hb : t.val % 8 * 1024 + f.val < 8192 := by have := f.isLt; omega
  unfold term
  rw [dif_pos hb, iblk_down m c t f d ⟨_, hb⟩ rfl]
  congr 2
  refine Finset.sum_congr rfl fun k _ => ?_
  rw [hh k, iblk_up m c t k f ⟨_, hb⟩ rfl]

/-- What the scratch and the accumulator hold after point `n`. -/
def Inv (n : ℕ) (S : Vec Ideal S512x2048 .bf16 × Vec Ideal S512x2048 .f32) : Prop :=
  ∀ (r : Fin 512) (R : Fin 8192), R.val = n / 8 * 512 + r.val →
    (∀ k : Fin 2048, S.1 (ix2 r k) = nrm (fun k => X m c (ix3 0 R k)) (fun k => G m c (ix2 3 k)) k)
    ∧ ∀ d : Fin 2048, S.2 (ix2 r d) = ∑ j ∈ Finset.range (n % 8 + 1), ∑ f : Fin 1024, term (X m c) (G m c) (WU m c) (WD m c) R d (j * 1024 + f.val)

theorem rows_block (t : Fin cfg0.N) (r : Fin 512) (R : Fin 8192) (hR : R.val = t.val / 8 * 512 + r.val) (k : Fin 2048) :
    k0_pay1 (iblk m c 0 t) (iblk m c 1 t) (ix2 r k) = nrm (fun k => X m c (ix3 0 R k)) (fun k => G m c (ix2 3 k)) k := by
  rw [pay1_apply]
  unfold nrm meanSq
  simp only [iblk_rows m c t r _ R hR, iblk_gain m c t]

theorem inv_first (t : Fin cfg0.N) (h0 : t.val % 8 = 0) : Inv m c t.val (outsAt0 m c t.val t.isLt).2 := by
  have h1 : ¬t.val % 8 = 7 := by omega
  intro r R hR
  rw [outsAt0_A m c t h0 h1]
  dsimp only
  rw [Cases.rows_A, Cases.acc_A]
  refine ⟨fun k => rows_block m c t r R hR k, fun d => ?_⟩
  rw [step_apply m c t _ _ r d R (fun k => rows_block m c t r R hR k), pay2_apply, zero_add, h0]
  rw [Finset.sum_range_one]

theorem inv_step (t : Fin cfg0.N) (h0 : ¬t.val % 8 = 0)
    (ih : Inv m c (t.val - 1) (outsAt0 m c (t.val - 1) (Nat.lt_of_le_of_lt (Nat.sub_le _ _) t.isLt)).2) :
    Inv m c t.val (outsAt0 m c t.val t.isLt).2 := by
  intro r R hR
  have e1 : (t.val - 1) / 8 = t.val / 8 := by omega
  have e2 : (t.val - 1) % 8 + 1 = t.val % 8 := by omega
  obtain ⟨ih1, ih2⟩ := ih r R (by rw [e1]; exact hR)
  have key : ∀ d : Fin 2048, k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) (ix2 r d)
      = ∑ j ∈ Finset.range (t.val % 8 + 1), ∑ f : Fin 1024, term (X m c) (G m c) (WU m c) (WD m c) R d (j * 1024 + f.val) := by
    intro d
    rw [step_apply m c t _ _ r d R ih1, ih2 d, e2, Finset.sum_range_succ]
  by_cases h1 : t.val % 8 = 7
  · rw [outsAt0_C m c t h0 h1]
    dsimp only
    exact ⟨ih1, fun d => (congrFun (Cases.acc_C ..) _).trans (key d)⟩
  · rw [outsAt0_B m c t h0 h1]
    dsimp only
    exact ⟨ih1, fun d => (congrFun (Cases.acc_B ..) _).trans (key d)⟩

theorem inv_all : ∀ (n : ℕ) (h : n < cfg0.N), Inv m c n (outsAt0 m c n h).2
  | 0, h => inv_first m c ⟨0, h⟩ rfl
  | n + 1, h => by
    by_cases h0 : (n + 1) % 8 = 0
    · exact inv_first m c ⟨n + 1, h⟩ h0
    · exact inv_step m c ⟨n + 1, h⟩ h0 (inv_all n (Nat.lt_of_succ_lt h))

/-- The last point of a row block writes the layer's rows. -/
theorem out_last (t : Fin cfg0.N) (h1 : t.val % 8 = 7) (r : Fin 512) (d : Fin 2048) (R : Fin 8192)
    (hR : R.val = t.val / 8 * 512 + r.val) :
    (outsAt0 m c t.val t.isLt).1 (ix2 r d) = layer (X m c) (G m c) (WU m c) (WD m c) R d := by
  have h0 : ¬t.val % 8 = 0 := by omega
  have e1 : (t.val - 1) / 8 = t.val / 8 := by omega
  have e2 : (t.val - 1) % 8 + 1 = 7 := by omega
  obtain ⟨ih1, ih2⟩ := inv_all m c (t.val - 1) (Nat.lt_of_le_of_lt (Nat.sub_le _ _) t.isLt) r R (by rw [e1]; exact hR)
  rw [outsAt0_C m c t h0 h1]
  dsimp only
  rw [Cases.out_C, pay4_apply, step_apply m c t _ _ r d R ih1, ih2 d, e2, iblk_rows m c t r d R hR, layer_eq, h1,
    Finset.sum_range_succ _ 7]

/-- The result array after the run. -/
theorem G4_apply (R : Fin 8192) (d : Fin 2048) :
    Cert.MlpKernelIdeal.Value.G4 m c (ix2 R d) = layer (X m c) (G m c) (WU m c) (WD m c) R d := by
  have hR := R.isLt
  have hd := d.isLt
  have hp : Value.pt4Of (ix2 R d) = 8 * (R.val / 512) + 7 := by
    show 8 * (1 * (R.val / 512 - 0) + 1 * (d.val / 2048 - 0)) + 7 = _
    omega
  have hlt : Value.pt4Of (ix2 R d) < cfg0.N := by
    rw [hp]; show _ < grid0.N; rw [N_0]; omega
  unfold Value.G4
  rw [dif_pos hlt, ← Value.outsAt0_sweep m c _ hlt]
  have hl : Value.loc4Of (ix2 R d) = ix2 (⟨R.val % 512, Nat.mod_lt _ (by decide)⟩ : Fin 512) d := by
    funext a
    apply Fin.ext
    match a with
    | ⟨0, _⟩ => rfl
    | ⟨1, _⟩ => show d.val % 2048 = d.val; omega
  rw [hl]
  exact out_last m c ⟨_, hlt⟩ (by show Value.pt4Of (ix2 R d) % 8 = 7; rw [hp]; omega) _ d R (by
    show R.val = Value.pt4Of (ix2 R d) / 8 * 512 + R.val % 512
    rw [hp]; omega)

/-- The kernel's result array is the reference's. -/
theorem value_eq : Cert.MlpKernelIdeal.Value.G4 m c
    = Cert.MlpReferenceIdeal.Read.val_main_v24 (F := Ideal) (X m c) (G m c) (WU m c) (WD m c) := by
  funext i
  idx_vars i
  exact (G4_apply m c _ _).trans (ref_apply _ _ _ _ _ _).symm

end Cert.Mlp
end
-- ==== Proof.Scan.Cond.lean ====
/- The branches of the recurrence kernel and the places it addresses, in closed form over the grid points. -/
module

public import proofs.«01_k».proof.Proof.Gen.ScanKernelIdeal.Frame
public import proofs.«01_k».proof.Proof.Gen.ScanKernelIdeal.Skeleton

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body: the normalised rows are made at the first column block of each row block. -/
abbrev cond0 (i : grid0.Coords) : Prop := (Scalar.cmpi .ne (Scalar.extui (Scalar.andi (Scalar.cmpi .slt (BitVec.ofNat 32 (i 0).val) 64#32) (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32))) 0#32) = 1#1

theorem hcond0 : ∀ t : Fin grid0.N, cond0 (grid0.coords t) ↔ (t.val % 8 = 0 ∧ t.val < 64) := by decide +kernel
theorem hcond1 : ∀ t : Fin grid0.N, k0_cond2 (grid0.coords t) = 1#1 ↔ t.val = 0 := by decide +kernel
theorem hcond2 : ∀ t : Fin grid0.N, k0_cond3 (grid0.coords t) = 1#1 ↔ 1 ≤ t.val := by decide +kernel

theorem off1 : ∀ t : Fin grid0.N, ∀ a, k0_off1 (grid0.coords t) a = ![t.val % 2, 0, 0, 0] a := by decide +kernel
theorem off2 : ∀ t : Fin grid0.N, ∀ a, k0_off2 (grid0.coords t) a = ![t.val % 2, 1, 0, 0] a := by decide +kernel
theorem off3 : ∀ t : Fin grid0.N, ∀ a, k0_off3 (grid0.coords t) a = ![(t.val + 1) % 2, 0, 0, 0] a := by decide +kernel
theorem off4 : ∀ t : Fin grid0.N, ∀ a, k0_off4 (grid0.coords t) a = ![(t.val + 1) % 2, 1, 0, 0] a := by decide +kernel
theorem off5 : ∀ t : Fin grid0.N, ∀ a, k0_off5 (grid0.coords t) a = ![(t.val + 7) % 8, 0, 0] a := by decide +kernel
theorem off6 : ∀ t : Fin grid0.N, ∀ a, k0_off6 (grid0.coords t) a = ![t.val % 2, 0, 0, 0] a := by decide +kernel
theorem off7 : ∀ t : Fin grid0.N, ∀ a, k0_off7 (grid0.coords t) a = ![t.val % 2, 1, 0, 0] a := by decide +kernel
theorem off8 : ∀ t : Fin grid0.N, ∀ a, k0_off8 (grid0.coords t) a = ![(t.val + 7) % 8, 0, 0] a := by decide +kernel

theorem idle0 : ∀ t : Fin grid0.N, t.val = 0 → (cfg0.idle 11 (grid0.coords t) = true ∧ (cfg0.win 11).flush t = false) := by decide +kernel
theorem live0 : ∀ t : Fin grid0.N, 1 ≤ t.val → cfg0.idle 11 (grid0.coords t) = false := by decide +kernel

end Cert.Scan

end
-- ==== Proof.Scan.RunA.lean ====
/- One case of the recurrence kernel's body, run. -/
module

public import proofs.«01_k».proof.Proof.Scan.Cond

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first step. -/
noncomputable def run_A (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : k0_cond2 i = 1#1) (hc2 : ¬k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs1 : Vec F S2x2x1024x256 .f32)  :
    Σ' (LS0 : List (View.Piece (Elt F) S1024x2048 .bf16)), Σ' (LS1 : List (View.Piece (Elt F) S2x2x1024x256 .f32)), Σ' (LS2 : List (View.Piece (Elt F) S8x1x256 .f32)), { LS3 : List (View.Piece (Elt F) S8x8x256 .f32) //
      ∀ (xi : Vec F S1024x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi ∗ (∃ f, (arg13.view.loc (c : Thread nD τ) ↦[arg13.view.set]{fullShare} arg13.view.writes (Elt F) f LS0)) ∗ (arg14.view.loc (c : Thread nD τ) ↦[arg14.view.set]{fullShare} arg14.view.writes (Elt F) (harg14.unread xs1) LS1) ∗ (∃ f, (arg15.view.loc (c : Thread nD τ) ↦[arg15.view.set]{fullShare} arg15.view.writes (Elt F) f LS2)) ∗ (∃ f, (arg16.view.loc (c : Thread nD τ) ↦[arg16.view.set]{fullShare} arg16.view.writes (Elt F) f LS3))) -∗ K ⟨⟩))
          ⊢ wp frame (wpE (defs₀ (F := F)) Variants.none c none) E (cc0_rglru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xi E K => ?run⟩
  case run =>
    simp only [cc0_rglru_scan_eq_skeleton]; unfold cc0_rglru_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, %hfs0, HS0⟩, ⟨%fs1, %hfs1, HS1⟩, ⟨%ds2, %fs2, %hfs2, HS2⟩, ⟨%ds3, %fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg13.eq_unread hfs0; obtain rfl := harg14.eq_unread hfs1; obtain rfl := harg15.eq_unread hfs2; obtain rfl := harg16.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexists _; iexact HS0
    isplitl [HS1]
    · iexact HS1
    isplitl [HS2]
    · iexists _; iexact HS2
    iexists _; iexact HS3

end Cert.Scan

end
-- ==== Proof.Scan.StepA.lean ====
/- What the first step leaves. -/
module

public import proofs.«01_k».proof.Proof.Scan.RunA
public import Idealize.ShloMosaic.Lib.VecWindow
public import Idealize.ShloMosaic.Lib.WritesUnit

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runA_hn (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : k0_cond2 i = 1#1) (hc2 : ¬k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs1 : Vec F S2x2x1024x256 .f32)  (f) : arg13.view.read (Elt F) (arg13.view.writes (Elt F) f (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs1).1) = k0_pay1 x0 x1 := by
  unfold run_A
  refine (View.read_writes_full _ _ _ _ _).trans ?_
  simp (proj := false) only [View.readAt_full, Memref.IsWhole.read_unread]

theorem runA_s (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : k0_cond2 i = 1#1) (hc2 : ¬k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs1 : Vec F S2x2x1024x256 .f32)  (s1 s2 : Fin 4 → ℕ) (o1 : k0_off1 i = s1) (o2 : k0_off2 i = s2) : arg14.view.read (Elt F) (arg14.view.writes (Elt F) (harg14.unread xs1) (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs1).2.1) = VecWindow.put (VecWindow.put xs1 s1 S1x1x1024x256.size (k0_pay6 (k0_pay1 x0 x1) x2)) s2 S1x1x1024x256.size (k0_pay2 (k0_pay7 (k0_pay1 x0 x1) x3)) := by
  unfold run_A
  rw [View.read_writes_cons_put _ _ _ _ _ o2, View.read_writes_cons_put _ _ _ _ _ o1, View.writes_nil, harg14.read_unread]
  simp (proj := false) only [run_A.sl.r, run_A.sl.v41, run_A.sl.HS0_1, View.readCov_full, View.readAt_full, Memref.IsWhole.read_unread]

theorem runA_c (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : k0_cond2 i = 1#1) (hc2 : ¬k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs1 : Vec F S2x2x1024x256 .f32)  (f) : arg15.view.read (Elt F) (arg15.view.writes (Elt F) f (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs1).2.2.1) = k0_pay4 := by
  unfold run_A
  exact View.read_writes_full _ _ _ _ _

theorem runA_p (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : k0_cond2 i = 1#1) (hc2 : ¬k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs1 : Vec F S2x2x1024x256 .f32)  (f) : arg16.view.read (Elt F) (arg16.view.writes (Elt F) f (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs1).2.2.2.1) = k0_pay5 := by
  unfold run_A
  exact View.read_writes_full _ _ _ _ _

end Cert.Scan

end
-- ==== Proof.Scan.Chain.lean ====
/- The chain of 128 groups that carries the state through one tile of the recurrence. -/
module

public import proofs.«01_k».proof.Proof.Scan.Cond

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Group `k` of eight rows of a tile of 128 groups. -/
def row (B : FVec F S128x8x256 .f32) (k : Fin 128) : FVec F S8x256 .f32 :=
  shapeCast S8x256 (extractStridedSlice S1x8x256 ![k.val, 0, 0] B (by
    refine ⟨rfl, fun a => ?_⟩
    have hk := k.isLt
    match a with
    | ⟨0, _⟩ => show k.val + 1 ≤ 128; omega
    | ⟨1, _⟩ => show 0 + 8 ≤ 8; omega
    | ⟨2, _⟩ => show 0 + 256 ≤ 256; omega) : FVec F S1x8x256 .f32) shapeCasts_S1x8x256_S8x256

/-- The last row of a group. -/
def last (h : FVec F S8x256 .f32) : FVec F S1x256 .f32 := extractStridedSlice S1x256 ![7, 0] h slices_S8x256_o7_0_S1x256

/-- A group's states from the state before it: the in-group states plus the in-group products times the state carried in. -/
def grp (A B : FVec F S128x8x256 .f32) (k : Fin 128) (p : FVec F S1x256 .f32) : FVec F S8x256 .f32 :=
  addf (row B k) (mulf (row A k) (broadcastTo S8x256 p broadcasts_S1x256_S8x256))

/-- The state carried into group `k`. -/
def car (A B : FVec F S128x8x256 .f32) (c : Vec F S1x1x256 .f32) : ℕ → FVec F S1x256 .f32
  | 0 => shapeCast S1x256 c shapeCasts_S1x1x256_S1x256
  | k + 1 => last (grp A B (Fin.ofNat 128 k) (car A B c k))

/-- The states of group `k`. -/
def blk (A B : FVec F S128x8x256 .f32) (c : Vec F S1x1x256 .f32) (k : ℕ) : FVec F S8x256 .f32 := grp A B (Fin.ofNat 128 k) (car A B c k)

theorem p32 (A B : FVec F S128x8x256 .f32) (c : Vec F S1x1x256 .f32) : k0_pay32 (car A B c 1) (row B 1) (row A 1) = (blk A B c 1) := by simp only [k0_pay32]; rfl

theorem p33 (A B : FVec F S128x8x256 .f32) (c : Vec F S1x1x256 .f32) : k0_pay33 B A (car A B c 1) (row B 1) (row A 1) = (blk A B c 2) := by simp only [k0_pay33, p32]; rfl

theorem p34 (A B : FVec F S128x8x256 .f32) (c : Vec F S1x1x256 .f32) : k0_pay34 B A (car A B c 1) (row B 1) (row A 1) = (blk A B c 3) := by simp only [k0_pay34, p33]; rfl

theorem p35 (A B : FVec F S128x8x256 .f32) (c : Vec F S1x1x256 .f32) : k0_pay35 B A (car A B c 1) (row B 1) (row A 1) = (blk A B c 4) := by simp only [k0_pay35, p34]; rfl

theorem p36 (A B : FVec F S128x8x256 .f32) (c : Vec F S1x1x256 .f32) : k0_pay36 B A (car A B c 1) (row B 1) (row A 1) = (blk A B c 5) := by simp only [k0_pay36, p35]; rfl

theorem p37 (A B : FVec F S128x8x256 .f32) (c : Vec F S1x1x256 .f32) : k0_pay37 B A (car A B c 1) (row B 1) (row A 1) = (blk A B c 6) := by simp only [k0_pay37, p36]; rfl

theorem p38 (A B : FVec F S128x8x256 .f32) (c : Vec F S1x1x256 .f32) : k0_pay38 B A (car A B c 1) (row B 1) (row A 1) = (blk A B c 7) := by simp only [k0_pay38, p37]; rfl

theorem p39 (A B : FVec F S128x8x256 .f32) (c : Vec F S1x1x256 .f32) : k0_pay39 B A (car A B c 1) (row B 1) (row A 1) = (blk A B c 8) := by simp only [k0_pay39, p38]; rfl

theorem p40 (A B : FVec F S128x8x256 .f32) (c : Vec F S1x1x256 .f32) : k0_pay40 B A (car A B c 1) (row B 1) (row A 1) = (car A B c 9) := by simp only [k0_pay40, p39]; rfl

theorem p41 (A B : FVec F S128x8x256 .f32) (c : Vec F S1x1x256 .f32) : k0_pay41 B A (car A B c 9) = (blk A B c 9) := by simp only [k0_pay41]; rfl

theorem p42 (A B : FVec F S128x8x256 .f32) (c : Vec F S1x1x256 .f32) : k0_pay42 B A (car A B c 9) = (blk A B c 10) := by simp only [k0_pay42, p41]; rfl

theorem p43 (A B : FVec F S128x8x256 .f32) (c : Vec F S1x1x256 .f32) : k0_pay43 B A (car A B c 9) = (blk A B c 11) := by simp only [k0_pay43, p42]; rfl

theorem p44 (A B : FVec F S128x8x256 .f32) (c : Vec F S1x1x256 .f32) : k0_pay44 B A (car A B c 9) = (blk A B c 12) := by simp only [k0_pay44, p43]; rfl

theorem p45 (A B : FVec F S128x8x256 .f32) (c : Vec F S1x1x256 .f32) : k0_pay45 B A (car A B c 9) = (blk A B c 13) := by simp only [k0_pay45, p44]; rfl

theorem p46 (A B : FVec F S128x8x256 .f32) (c : Vec F S1x1x256 .f32) : k0_pay46 B A (car A B c 9) = (blk A B c 14) := by simp only [k0_pay46, p45]; rfl

theorem p47 (A B : FVec F S128x8x256 .f32) (c : Vec F S1x1x256 .f32) : k0_pay47 B A (car A B c 9) = (blk A B c 15) := by simp only [k0_pay47, p46]; rfl

theorem p48 (A B : FVec F S128x8x256 .f32) (c : Vec F S1x1x256 .f32) : k0_pay48 B A (car A B c 9) = (car A B c 16) := by simp only [k0_pay48, p47]; rfl

theorem p49 (B : FVec F S128x8x256 .f32) : k0_pay49 B = (row B 16) := by simp only [k0_pay49]; rfl

theorem p50 (A : FVec F S128x8x256 .f32) : k0_pay50 A = (row A 16) := by simp only [k0_pay50]; rfl

theorem p51 (A B : FVec F S128x8x256 .f32) (c : Vec F S1x1x256 .f32) : k0_pay51 (car A B c 16) (row B 16) (row A 16) = (blk A B c 16) := by simp only [k0_pay51]; rfl

theorem p52 (A B : FVec F S128x8x256 .f32) (c : Vec F S1x1x256 .f32) : k0_pay52 B A (car A B c 16) (row B 16) (row A 16) = (blk A B c 17) := by simp only [k0_pay52, p51]; rfl

theorem p53 (A B : FVec F S128x8x256 .f32) (c : Vec F S1x1x256 .f32) : k0_pay53 B A (car A B c 16) (row B 16) (row A 16) = (blk A B c 18) := by simp only [k0_pay53, p52]; rfl

theorem p54 (A B : FVec F S128x8x256 .f32) (c : Vec F S1x1x256 .f32) : k0_pay54 B A (car A B c 16) (row B 16) (row A 16) = (blk A B c 19) := by simp only [k0_pay54, p53]; rfl

theorem p55 (A B : FVec F S128x8x256 .f32) (c : Vec F S1x1x256 .f32) : k0_pay55 B A (car A B c 16) (row B 16) (row A 16) = (blk A B c 20) := by simp only [k0_pay55, p54]; rfl

theorem p56 (A B : FVec F S128x8x256 .f32) (c : Vec F S1x1x256 .f32) : k0_pay56 B A (car A B c 16) (row B 16) (row A 16) = (blk A B c 21) := by simp only [k0_pay56, p55]; rfl

theorem p57 (A B : FVec F S128x8x256 .f32) (c : Vec F S1x1x256 .f32) : k0_pay57 B A (car A B c 16) (row B 16) (row A 16) = (blk A B c 22) := by simp only [k0_pay57, p56]; rfl

theorem p58 (A B : FVec F S128x8x256 .f32) (c : Vec F S1x1x256 .f32) : k0_pay58 B A (car A B c 16) (row B 16) (row A 16) = (blk A B c 23) := by simp only [k0_pay58, p57]; rfl

theorem p59 (A B : FVec F S128x8x256 .f32) (c : Vec F S1x1x256 .f32) : k0_pay59 B A (car A B c 16) (row B 16) (row A 16) = (car A B c 24) := by simp only [k0_pay59, p58]; rfl

theorem p60 (A B : FVec F S128x8x256 .f32) (c : Vec F S1x1x256 .f32) : k0_pay60 B A (car A B c 24) = (blk A B c 24) := by simp only [k0_pay60]; rfl

theorem p61 (A B : FVec F S128x8x256 .f32) (c : Vec F S1x1x256 .f32) : k0_pay61 B A (car A B c 24) = (blk A B c 25) := by simp only [k0_pay61, p60]; rfl

theorem p62 (A B : FVec F S128x8x256 .f32) (c : Vec F S1x1x256 .f32) : k0_pay62 B A (car A B c 24) = (blk A B c 26) := by simp only [k0_pay62, p61]; rfl

theorem p63 (A B : FVec F S128x8x256 .f32) (c : Vec F S1x1x256 .f32) : k0_pay63 B A (car A B c 24) = (blk A B c 27) := by simp only [k0_pay63, p62]; rfl

theorem p64 (A B : FVec F S128x8x256 .f32) (c : Vec F S1x1x256 .f32) : k0_pay64 B A (car A B c 24) = (blk A B c 28) := by simp only [k0_pay64, p63]; rfl

theorem p65 (A B : FVec F S128x8x256 .f32) (c : Vec F S1x1x256 .f32) : k0_pay65 B A (car A B c 24) = (blk A B c 29) := by simp only [k0_pay65, p64]; rfl

theorem p66 (A B : FVec F S128x8x256 .f32) (c : Vec F S1x1x256 .f32) : k0_pay66 B A (car A B c 24) = (blk A B c 30) := by simp only [k0_pay66, p65]; rfl

theorem p67 (A B : FVec F S128x8x256 .f32) (c : Vec F S1x1x256 .f32) : k0_pay67 B A (car A B c 24) = (car A B c 31) := by simp only [k0_pay67, p66]; rfl

theorem p68 (B : FVec F S128x8x256 .f32) : k0_pay68 B = (row B 31) := by simp only [k0_pay68]; rfl

theorem p69 (A : FVec F S128x8x256 .f32) : k0_pay69 A = (row A 31) := by simp only [k0_pay69]; rfl

theorem p70 (A B : FVec F S128x8x256 .f32) (c : Vec F S1x1x256 .f32) : k0_pay70 (car A B c 31) (row B 31) (row A 31) = (blk A B c 31) := by simp only [k0_pay70]; rfl

theorem p71 (A B : FVec F S128x8x256 .f32) (c : Vec F S1x1x256 .f32) : k0_pay71 B A (car A B c 31) (row B 31) (row A 31) = (blk A B c 32) := by simp only [k0_pay71, p70]; rfl

theorem p72 (A B : FVec F S128x8x256 .f32) (c : Vec F S1x1x256 .f32) : k0_pay72 B A (car A B c 31) (row B 31) (row A 31) = (blk A B c 33) := by simp only [k0_pay72, p71]; rfl

theorem p73 (A B : FVec F S128x8x256 .f32) (c : Vec F S1x1x256 .f32) : k0_pay73 B A (car A B c 31) (row B 31) (row A 31) = (blk A B c 34) := by simp only [k0_pay73, p72]; rfl

theorem p74 (A B : FVec F S128x8x256 .f32) (c : Vec F S1x1x256 .f32) : k0_pay74 B A (car A B c 31) (row B 31) (row A 31) = (blk A B c 35) := by simp only [k0_pay74, p73]; rfl

theorem p75 (A B : FVec F S128x8x256 .f32) (c : Vec F S1x1x256 .f32) : k0_pay75 B A (car A B c 31) (row B 31) (row A 31) = (blk A B c 36) := by simp only [k0_pay75, p74]; rfl

theorem p76 (A B : FVec F S128x8x256 .f32) (c : Vec F S1x1x256 .f32) : k0_pay76 B A (car A B c 31) (row B 31) (row A 31) = (blk A B c 37) := by simp only [k0_pay76, p75]; rfl

theorem p77 (A B : FVec F S128x8x256 .f32) (c : Vec F S1x1x256 .f32) : k0_pay77 B A (car A B c 31) (row B 31) (row A 31) = (blk A B c 38) := by simp only [k0_pay77, p76]; rfl

theorem p78 (A B : FVec F S128x8x256 .f32) (c : Vec F S1x1x256 .f32) : k0_pay78 B A (car A B c 31) (row B 31) (row A 31) = (car A B c 39) := by simp only [k0_pay78, p77]; rfl

theorem p79 (A B : FVec F S128x8x256 .f32) (c : Vec F S1x1x256 .f32) : k0_pay79 B A (car A B c 39) = (blk A B c 39) := by simp only [k0_pay79]; rfl

theorem p80 (A B : FVec F S128x8x256 .f32) (c : Vec F S1x1x256 .f32) : k0_pay80 B A (car A B c 39) = (blk A B c 40) := by simp only [k0_pay80, p79]; rfl

theorem p81 (A B : FVec F S128x8x256 .f32) (c : Vec F S1x1x256 .f32) : k0_pay81 B A (car A B c 39) = (blk A B c 41) := by simp only [k0_pay81, p80]; rfl

theorem p82 (A B : FVec F S128x8x256 .f32) (c : Vec F S1x1x256 .f32) : k0_pay82 B A (car A B c 39) = (blk A B c 42) := by simp only [k0_pay82, p81]; rfl

theorem p83 (A B : FVec F S128x8x256 .f32) (c : Vec F S1x1x256 .f32) : k0_pay83 B A (car A B c 39) = (blk A B c 43) := by simp only [k0_pay83, p82]; rfl

theorem p84 (A B : FVec F S128x8x256 .f32) (c : Vec F S1x1x256 .f32) : k0_pay84 B A (car A B c 39) = (blk A B c 44) := by simp only [k0_pay84, p83]; rfl

theorem p85 (A B : FVec F S128x8x256 .f32) (c : Vec F S1x1x256 .f32) : k0_pay85 B A (car A B c 39) = (blk A B c 45) := by simp only [k0_pay85, p84]; rfl

theorem p86 (A B : FVec F S128x8x256 .f32) (c : Vec F S1x1x256 .f32) : k0_pay86 B A (car A B c 39) = (car A B c 46) := by simp only [k0_pay86, p85]; rfl

theorem p87 (B : FVec F S128x8x256 .f32) : k0_pay87 B = (row B 46) := by simp only [k0_pay87]; rfl

theorem p88 (A : FVec F S128x8x256 .f32) : k0_pay88 A = (row A 46) := by simp only [k0_pay88]; rfl

theorem p89 (A B : FVec F S128x8x256 .f32) (c : Vec F S1x1x256 .f32) : k0_pay89 (car A B c 46) (row B 46) (row A 46) = (blk A B c 46) := by simp only [k0_pay89]; rfl

theorem p90 (A B : FVec F S128x8x256 .f32) (c : Vec F S1x1x256 .f32) : k0_pay90 B A (car A B c 46) (row B 46) (row A 46) = (blk A B c 47) := by simp only [k0_pay90, p89]; rfl

theorem p91 (A B : FVec F S128x8x256 .f32) (c : Vec F S1x1x256 .f32) : k0_pay91 B A (car A B c 46) (row B 46) (row A 46) = (blk A B c 48) := by simp only [k0_pay91, p90]; rfl

theorem p92 (A B : FVec F S128x8x256 .f32) (c : Vec F S1x1x256 .f32) : k0_pay92 B A (car A B c 46) (row B 46) (row A 46) = (blk A B c 49) := by simp only [k0_pay92, p91]; rfl

theorem p93 (A B : FVec F S128x8x256 .f32) (c : Vec F S1x1x256 .f32) : k0_pay93 B A (car A B c 46) (row B 46) (row A 46) = (blk A B c 50) := by simp only [k0_pay93, p92]; rfl

theorem p94 (A B : FVec F S128x8x256 .f32) (c : Vec F S1x1x256 .f32) : k0_pay94 B A (car A B c 46) (row B 46) (row A 46) = (blk A B c 51) := by simp only [k0_pay94, p93]; rfl

theorem p95 (A B : FVec F S128x8x256 .f32) (c : Vec F S1x1x256 .f32) : k0_pay95 B A (car A B c 46) (row B 46) (row A 46) = (blk A B c 52) := by simp only [k0_pay95, p94]; rfl

theorem p96 (A B : FVec F S128x8x256 .f32) (c : Vec F S1x1x256 .f32) : k0_pay96 B A (car A B c 46) (row B 46) (row A 46) = (blk A B c 53) := by simp only [k0_pay96, p95]; rfl

theorem p97 (A B : FVec F S128x8x256 .f32) (c : Vec F S1x1x256 .f32) : k0_pay97 B A (car A B c 46) (row B 46) (row A 46) = (car A B c 54) := by simp only [k0_pay97, p96]; rfl

theorem p98 (A B : FVec F S128x8x256 .f32) (c : Vec F S1x1x256 .f32) : k0_pay98 B A (car A B c 54) = (blk A B c 54) := by simp only [k0_pay98]; rfl

theorem p99 (A B : FVec F S128x8x256 .f32) (c : Vec F S1x1x256 .f32) : k0_pay99 B A (car A B c 54) = (blk A B c 55) := by simp only [k0_pay99, p98]; rfl

theorem p100 (A B : FVec F S128x8x256 .f32) (c : Vec F S1x1x256 .f32) : k0_pay100 B A (car A B c 54) = (blk A B c 56) := by simp only [k0_pay100, p99]; rfl

theorem p101 (A B : FVec F S128x8x256 .f32) (c : Vec F S1x1x256 .f32) : k0_pay101 B A (car A B c 54) = (blk A B c 57) := by simp only [k0_pay101, p100]; rfl

theorem p102 (A B : FVec F S128x8x256 .f32) (c : Vec F S1x1x256 .f32) : k0_pay102 B A (car A B c 54) = (blk A B c 58) := by simp only [k0_pay102, p101]; rfl

theorem p103 (A B : FVec F S128x8x256 .f32) (c : Vec F S1x1x256 .f32) : k0_pay103 B A (car A B c 54) = (blk A B c 59) := by simp only [k0_pay103, p102]; rfl

theorem p104 (A B : FVec F S128x8x256 .f32) (c : Vec F S1x1x256 .f32) : k0_pay104 B A (car A B c 54) = (blk A B c 60) := by simp only [k0_pay104, p103]; rfl

theorem p105 (A B : FVec F S128x8x256 .f32) (c : Vec F S1x1x256 .f32) : k0_pay105 B A (car A B c 54) = (car A B c 61) := by simp only [k0_pay105, p104]; rfl

theorem p106 (B : FVec F S128x8x256 .f32) : k0_pay106 B = (row B 61) := by simp only [k0_pay106]; rfl

theorem p107 (A : FVec F S128x8x256 .f32) : k0_pay107 A = (row A 61) := by simp only [k0_pay107]; rfl

theorem p108 (A B : FVec F S128x8x256 .f32) (c : Vec F S1x1x256 .f32) : k0_pay108 (car A B c 61) (row B 61) (row A 61) = (blk A B c 61) := by simp only [k0_pay108]; rfl

theorem p109 (A B : FVec F S128x8x256 .f32) (c : Vec F S1x1x256 .f32) : k0_pay109 B A (car A B c 61) (row B 61) (row A 61) = (blk A B c 62) := by simp only [k0_pay109, p108]; rfl

theorem p110 (A B : FVec F S128x8x256 .f32) (c : Vec F S1x1x256 .f32) : k0_pay110 B A (car A B c 61) (row B 61) (row A 61) = (blk A B c 63) := by simp only [k0_pay110, p109]; rfl

theorem p111 (A B : FVec F S128x8x256 .f32) (c : Vec F S1x1x256 .f32) : k0_pay111 B A (car A B c 61) (row B 61) (row A 61) = (blk A B c 64) := by simp only [k0_pay111, p110]; rfl

theorem p112 (A B : FVec F S128x8x256 .f32) (c : Vec F S1x1x256 .f32) : k0_pay112 B A (car A B c 61) (row B 61) (row A 61) = (blk A B c 65) := by simp only [k0_pay112, p111]; rfl

theorem p113 (A B : FVec F S128x8x256 .f32) (c : Vec F S1x1x256 .f32) : k0_pay113 B A (car A B c 61) (row B 61) (row A 61) = (blk A B c 66) := by simp only [k0_pay113, p112]; rfl

theorem p114 (A B : FVec F S128x8x256 .f32) (c : Vec F S1x1x256 .f32) : k0_pay114 B A (car A B c 61) (row B 61) (row A 61) = (blk A B c 67) := by simp only [k0_pay114, p113]; rfl

theorem p115 (A B : FVec F S128x8x256 .f32) (c : Vec F S1x1x256 .f32) : k0_pay115 B A (car A B c 61) (row B 61) (row A 61) = (blk A B c 68) := by simp only [k0_pay115, p114]; rfl

theorem p116 (A B : FVec F S128x8x256 .f32) (c : Vec F S1x1x256 .f32) : k0_pay116 B A (car A B c 61) (row B 61) (row A 61) = (car A B c 69) := by simp only [k0_pay116, p115]; rfl

theorem p117 (A B : FVec F S128x8x256 .f32) (c : Vec F S1x1x256 .f32) : k0_pay117 B A (car A B c 69) = (blk A B c 69) := by simp only [k0_pay117]; rfl

theorem p118 (A B : FVec F S128x8x256 .f32) (c : Vec F S1x1x256 .f32) : k0_pay118 B A (car A B c 69) = (blk A B c 70) := by simp only [k0_pay118, p117]; rfl

theorem p119 (A B : FVec F S128x8x256 .f32) (c : Vec F S1x1x256 .f32) : k0_pay119 B A (car A B c 69) = (blk A B c 71) := by simp only [k0_pay119, p118]; rfl

theorem p120 (A B : FVec F S128x8x256 .f32) (c : Vec F S1x1x256 .f32) : k0_pay120 B A (car A B c 69) = (blk A B c 72) := by simp only [k0_pay120, p119]; rfl

theorem p121 (A B : FVec F S128x8x256 .f32) (c : Vec F S1x1x256 .f32) : k0_pay121 B A (car A B c 69) = (blk A B c 73) := by simp only [k0_pay121, p120]; rfl

theorem p122 (A B : FVec F S128x8x256 .f32) (c : Vec F S1x1x256 .f32) : k0_pay122 B A (car A B c 69) = (blk A B c 74) := by simp only [k0_pay122, p121]; rfl

theorem p123 (A B : FVec F S128x8x256 .f32) (c : Vec F S1x1x256 .f32) : k0_pay123 B A (car A B c 69) = (blk A B c 75) := by simp only [k0_pay123, p122]; rfl

theorem p124 (A B : FVec F S128x8x256 .f32) (c : Vec F S1x1x256 .f32) : k0_pay124 B A (car A B c 69) = (car A B c 76) := by simp only [k0_pay124, p123]; rfl

theorem p125 (B : FVec F S128x8x256 .f32) : k0_pay125 B = (row B 76) := by simp only [k0_pay125]; rfl

theorem p126 (A : FVec F S128x8x256 .f32) : k0_pay126 A = (row A 76) := by simp only [k0_pay126]; rfl

theorem p127 (A B : FVec F S128x8x256 .f32) (c : Vec F S1x1x256 .f32) : k0_pay127 (car A B c 76) (row B 76) (row A 76) = (blk A B c 76) := by simp only [k0_pay127]; rfl

theorem p128 (A B : FVec F S128x8x256 .f32) (c : Vec F S1x1x256 .f32) : k0_pay128 B A (car A B c 76) (row B 76) (row A 76) = (blk A B c 77) := by simp only [k0_pay128, p127]; rfl

theorem p129 (A B : FVec F S128x8x256 .f32) (c : Vec F S1x1x256 .f32) : k0_pay129 B A (car A B c 76) (row B 76) (row A 76) = (blk A B c 78) := by simp only [k0_pay129, p128]; rfl

theorem p130 (A B : FVec F S128x8x256 .f32) (c : Vec F S1x1x256 .f32) : k0_pay130 B A (car A B c 76) (row B 76) (row A 76) = (blk A B c 79) := by simp only [k0_pay130, p129]; rfl

theorem p131 (A B : FVec F S128x8x256 .f32) (c : Vec F S1x1x256 .f32) : k0_pay131 B A (car A B c 76) (row B 76) (row A 76) = (blk A B c 80) := by simp only [k0_pay131, p130]; rfl

theorem p132 (A B : FVec F S128x8x256 .f32) (c : Vec F S1x1x256 .f32) : k0_pay132 B A (car A B c 76) (row B 76) (row A 76) = (blk A B c 81) := by simp only [k0_pay132, p131]; rfl

theorem p133 (A B : FVec F S128x8x256 .f32) (c : Vec F S1x1x256 .f32) : k0_pay133 B A (car A B c 76) (row B 76) (row A 76) = (blk A B c 82) := by simp only [k0_pay133, p132]; rfl

theorem p134 (A B : FVec F S128x8x256 .f32) (c : Vec F S1x1x256 .f32) : k0_pay134 B A (car A B c 76) (row B 76) (row A 76) = (blk A B c 83) := by simp only [k0_pay134, p133]; rfl

theorem p135 (A B : FVec F S128x8x256 .f32) (c : Vec F S1x1x256 .f32) : k0_pay135 B A (car A B c 76) (row B 76) (row A 76) = (car A B c 84) := by simp only [k0_pay135, p134]; rfl

theorem p136 (A B : FVec F S128x8x256 .f32) (c : Vec F S1x1x256 .f32) : k0_pay136 B A (car A B c 84) = (blk A B c 84) := by simp only [k0_pay136]; rfl

theorem p137 (A B : FVec F S128x8x256 .f32) (c : Vec F S1x1x256 .f32) : k0_pay137 B A (car A B c 84) = (blk A B c 85) := by simp only [k0_pay137, p136]; rfl

theorem p138 (A B : FVec F S128x8x256 .f32) (c : Vec F S1x1x256 .f32) : k0_pay138 B A (car A B c 84) = (blk A B c 86) := by simp only [k0_pay138, p137]; rfl

theorem p139 (A B : FVec F S128x8x256 .f32) (c : Vec F S1x1x256 .f32) : k0_pay139 B A (car A B c 84) = (blk A B c 87) := by simp only [k0_pay139, p138]; rfl

theorem p140 (A B : FVec F S128x8x256 .f32) (c : Vec F S1x1x256 .f32) : k0_pay140 B A (car A B c 84) = (blk A B c 88) := by simp only [k0_pay140, p139]; rfl

theorem p141 (A B : FVec F S128x8x256 .f32) (c : Vec F S1x1x256 .f32) : k0_pay141 B A (car A B c 84) = (blk A B c 89) := by simp only [k0_pay141, p140]; rfl

theorem p142 (A B : FVec F S128x8x256 .f32) (c : Vec F S1x1x256 .f32) : k0_pay142 B A (car A B c 84) = (blk A B c 90) := by simp only [k0_pay142, p141]; rfl

theorem p143 (A B : FVec F S128x8x256 .f32) (c : Vec F S1x1x256 .f32) : k0_pay143 B A (car A B c 84) = (car A B c 91) := by simp only [k0_pay143, p142]; rfl

theorem p144 (B : FVec F S128x8x256 .f32) : k0_pay144 B = (row B 91) := by simp only [k0_pay144]; rfl

theorem p145 (A : FVec F S128x8x256 .f32) : k0_pay145 A = (row A 91) := by simp only [k0_pay145]; rfl

theorem p146 (A B : FVec F S128x8x256 .f32) (c : Vec F S1x1x256 .f32) : k0_pay146 (car A B c 91) (row B 91) (row A 91) = (blk A B c 91) := by simp only [k0_pay146]; rfl

theorem p147 (A B : FVec F S128x8x256 .f32) (c : Vec F S1x1x256 .f32) : k0_pay147 B A (car A B c 91) (row B 91) (row A 91) = (blk A B c 92) := by simp only [k0_pay147, p146]; rfl

theorem p148 (A B : FVec F S128x8x256 .f32) (c : Vec F S1x1x256 .f32) : k0_pay148 B A (car A B c 91) (row B 91) (row A 91) = (blk A B c 93) := by simp only [k0_pay148, p147]; rfl

theorem p149 (A B : FVec F S128x8x256 .f32) (c : Vec F S1x1x256 .f32) : k0_pay149 B A (car A B c 91) (row B 91) (row A 91) = (blk A B c 94) := by simp only [k0_pay149, p148]; rfl

theorem p150 (A B : FVec F S128x8x256 .f32) (c : Vec F S1x1x256 .f32) : k0_pay150 B A (car A B c 91) (row B 91) (row A 91) = (blk A B c 95) := by simp only [k0_pay150, p149]; rfl

theorem p151 (A B : FVec F S128x8x256 .f32) (c : Vec F S1x1x256 .f32) : k0_pay151 B A (car A B c 91) (row B 91) (row A 91) = (blk A B c 96) := by simp only [k0_pay151, p150]; rfl

theorem p152 (A B : FVec F S128x8x256 .f32) (c : Vec F S1x1x256 .f32) : k0_pay152 B A (car A B c 91) (row B 91) (row A 91) = (blk A B c 97) := by simp only [k0_pay152, p151]; rfl

theorem p153 (A B : FVec F S128x8x256 .f32) (c : Vec F S1x1x256 .f32) : k0_pay153 B A (car A B c 91) (row B 91) (row A 91) = (blk A B c 98) := by simp only [k0_pay153, p152]; rfl

theorem p154 (A B : FVec F S128x8x256 .f32) (c : Vec F S1x1x256 .f32) : k0_pay154 B A (car A B c 91) (row B 91) (row A 91) = (car A B c 99) := by simp only [k0_pay154, p153]; rfl

theorem p155 (A B : FVec F S128x8x256 .f32) (c : Vec F S1x1x256 .f32) : k0_pay155 B A (car A B c 99) = (blk A B c 99) := by simp only [k0_pay155]; rfl

theorem p156 (A B : FVec F S128x8x256 .f32) (c : Vec F S1x1x256 .f32) : k0_pay156 B A (car A B c 99) = (blk A B c 100) := by simp only [k0_pay156, p155]; rfl

theorem p157 (A B : FVec F S128x8x256 .f32) (c : Vec F S1x1x256 .f32) : k0_pay157 B A (car A B c 99) = (blk A B c 101) := by simp only [k0_pay157, p156]; rfl

theorem p158 (A B : FVec F S128x8x256 .f32) (c : Vec F S1x1x256 .f32) : k0_pay158 B A (car A B c 99) = (blk A B c 102) := by simp only [k0_pay158, p157]; rfl

theorem p159 (A B : FVec F S128x8x256 .f32) (c : Vec F S1x1x256 .f32) : k0_pay159 B A (car A B c 99) = (blk A B c 103) := by simp only [k0_pay159, p158]; rfl

theorem p160 (A B : FVec F S128x8x256 .f32) (c : Vec F S1x1x256 .f32) : k0_pay160 B A (car A B c 99) = (blk A B c 104) := by simp only [k0_pay160, p159]; rfl

theorem p161 (A B : FVec F S128x8x256 .f32) (c : Vec F S1x1x256 .f32) : k0_pay161 B A (car A B c 99) = (blk A B c 105) := by simp only [k0_pay161, p160]; rfl

theorem p162 (A B : FVec F S128x8x256 .f32) (c : Vec F S1x1x256 .f32) : k0_pay162 B A (car A B c 99) = (car A B c 106) := by simp only [k0_pay162, p161]; rfl

theorem p163 (B : FVec F S128x8x256 .f32) : k0_pay163 B = (row B 106) := by simp only [k0_pay163]; rfl

theorem p164 (A : FVec F S128x8x256 .f32) : k0_pay164 A = (row A 106) := by simp only [k0_pay164]; rfl

theorem p165 (A B : FVec F S128x8x256 .f32) (c : Vec F S1x1x256 .f32) : k0_pay165 (car A B c 106) (row B 106) (row A 106) = (blk A B c 106) := by simp only [k0_pay165]; rfl

theorem p166 (A B : FVec F S128x8x256 .f32) (c : Vec F S1x1x256 .f32) : k0_pay166 B A (car A B c 106) (row B 106) (row A 106) = (blk A B c 107) := by simp only [k0_pay166, p165]; rfl

theorem p167 (A B : FVec F S128x8x256 .f32) (c : Vec F S1x1x256 .f32) : k0_pay167 B A (car A B c 106) (row B 106) (row A 106) = (blk A B c 108) := by simp only [k0_pay167, p166]; rfl

theorem p168 (A B : FVec F S128x8x256 .f32) (c : Vec F S1x1x256 .f32) : k0_pay168 B A (car A B c 106) (row B 106) (row A 106) = (blk A B c 109) := by simp only [k0_pay168, p167]; rfl

theorem p169 (A B : FVec F S128x8x256 .f32) (c : Vec F S1x1x256 .f32) : k0_pay169 B A (car A B c 106) (row B 106) (row A 106) = (blk A B c 110) := by simp only [k0_pay169, p168]; rfl

theorem p170 (A B : FVec F S128x8x256 .f32) (c : Vec F S1x1x256 .f32) : k0_pay170 B A (car A B c 106) (row B 106) (row A 106) = (blk A B c 111) := by simp only [k0_pay170, p169]; rfl

theorem p171 (A B : FVec F S128x8x256 .f32) (c : Vec F S1x1x256 .f32) : k0_pay171 B A (car A B c 106) (row B 106) (row A 106) = (blk A B c 112) := by simp only [k0_pay171, p170]; rfl

theorem p172 (A B : FVec F S128x8x256 .f32) (c : Vec F S1x1x256 .f32) : k0_pay172 B A (car A B c 106) (row B 106) (row A 106) = (blk A B c 113) := by simp only [k0_pay172, p171]; rfl

theorem p173 (A B : FVec F S128x8x256 .f32) (c : Vec F S1x1x256 .f32) : k0_pay173 B A (car A B c 106) (row B 106) (row A 106) = (car A B c 114) := by simp only [k0_pay173, p172]; rfl

theorem p174 (A B : FVec F S128x8x256 .f32) (c : Vec F S1x1x256 .f32) : k0_pay174 B A (car A B c 114) = (blk A B c 114) := by simp only [k0_pay174]; rfl

theorem p175 (A B : FVec F S128x8x256 .f32) (c : Vec F S1x1x256 .f32) : k0_pay175 B A (car A B c 114) = (blk A B c 115) := by simp only [k0_pay175, p174]; rfl

theorem p176 (A B : FVec F S128x8x256 .f32) (c : Vec F S1x1x256 .f32) : k0_pay176 B A (car A B c 114) = (blk A B c 116) := by simp only [k0_pay176, p175]; rfl

theorem p177 (A B : FVec F S128x8x256 .f32) (c : Vec F S1x1x256 .f32) : k0_pay177 B A (car A B c 114) = (blk A B c 117) := by simp only [k0_pay177, p176]; rfl

theorem p178 (A B : FVec F S128x8x256 .f32) (c : Vec F S1x1x256 .f32) : k0_pay178 B A (car A B c 114) = (blk A B c 118) := by simp only [k0_pay178, p177]; rfl

theorem p179 (A B : FVec F S128x8x256 .f32) (c : Vec F S1x1x256 .f32) : k0_pay179 B A (car A B c 114) = (blk A B c 119) := by simp only [k0_pay179, p178]; rfl

theorem p180 (A B : FVec F S128x8x256 .f32) (c : Vec F S1x1x256 .f32) : k0_pay180 B A (car A B c 114) = (blk A B c 120) := by simp only [k0_pay180, p179]; rfl

theorem p181 (A B : FVec F S128x8x256 .f32) (c : Vec F S1x1x256 .f32) : k0_pay181 B A (car A B c 114) = (car A B c 121) := by simp only [k0_pay181, p180]; rfl

theorem p182 (B : FVec F S128x8x256 .f32) : k0_pay182 B = (row B 121) := by simp only [k0_pay182]; rfl

theorem p183 (A : FVec F S128x8x256 .f32) : k0_pay183 A = (row A 121) := by simp only [k0_pay183]; rfl

theorem p184 (A B : FVec F S128x8x256 .f32) (c : Vec F S1x1x256 .f32) : k0_pay184 (car A B c 121) (row B 121) (row A 121) = (blk A B c 121) := by simp only [k0_pay184]; rfl

theorem p185 (A B : FVec F S128x8x256 .f32) (c : Vec F S1x1x256 .f32) : k0_pay185 B A (car A B c 121) (row B 121) (row A 121) = (blk A B c 122) := by simp only [k0_pay185, p184]; rfl

theorem p186 (A B : FVec F S128x8x256 .f32) (c : Vec F S1x1x256 .f32) : k0_pay186 B A (car A B c 121) (row B 121) (row A 121) = (blk A B c 123) := by simp only [k0_pay186, p185]; rfl

theorem p187 (A B : FVec F S128x8x256 .f32) (c : Vec F S1x1x256 .f32) : k0_pay187 B A (car A B c 121) (row B 121) (row A 121) = (blk A B c 124) := by simp only [k0_pay187, p186]; rfl

theorem p188 (A B : FVec F S128x8x256 .f32) (c : Vec F S1x1x256 .f32) : k0_pay188 B A (car A B c 121) (row B 121) (row A 121) = (blk A B c 125) := by simp only [k0_pay188, p187]; rfl

theorem p189 (A B : FVec F S128x8x256 .f32) (c : Vec F S1x1x256 .f32) : k0_pay189 B A (car A B c 121) (row B 121) (row A 121) = (blk A B c 126) := by simp only [k0_pay189, p188]; rfl

theorem p190 (A B : FVec F S128x8x256 .f32) (c : Vec F S1x1x256 .f32) : k0_pay190 B A (car A B c 121) (row B 121) (row A 121) = (blk A B c 127) := by simp only [k0_pay190, p189]; rfl

/-- The states of a tile of 1024 rows. -/
def scanOut (A B : FVec F S128x8x256 .f32) (c : Vec F S1x1x256 .f32) : FVec F S1024x256 .f32 := k0_pay192 B A (blk A B c 0) (blk A B c 1) (blk A B c 2) (blk A B c 3) (blk A B c 4) (blk A B c 5) (blk A B c 6) (blk A B c 7) (blk A B c 8) (blk A B c 9) (blk A B c 10) (blk A B c 11) (blk A B c 12) (blk A B c 13) (blk A B c 14) (blk A B c 15) (blk A B c 16) (blk A B c 17) (blk A B c 18) (blk A B c 19) (blk A B c 20) (blk A B c 21) (blk A B c 22) (blk A B c 23) (blk A B c 24) (blk A B c 25) (blk A B c 26) (blk A B c 27) (blk A B c 28) (blk A B c 29) (blk A B c 30) (blk A B c 31) (blk A B c 32) (blk A B c 33) (blk A B c 34) (blk A B c 35) (blk A B c 36) (blk A B c 37) (blk A B c 38) (blk A B c 39) (blk A B c 40) (blk A B c 41) (blk A B c 42) (blk A B c 43) (blk A B c 44) (blk A B c 45) (blk A B c 46) (blk A B c 47) (blk A B c 48) (blk A B c 49) (blk A B c 50) (blk A B c 51) (blk A B c 52) (blk A B c 53) (blk A B c 54) (blk A B c 55) (blk A B c 56) (blk A B c 57) (blk A B c 58) (blk A B c 59) (blk A B c 60) (blk A B c 61) (blk A B c 62) (blk A B c 63) (blk A B c 64) (blk A B c 65) (blk A B c 66) (blk A B c 67) (blk A B c 68) (blk A B c 69) (blk A B c 70) (blk A B c 71) (blk A B c 72) (blk A B c 73) (blk A B c 74) (blk A B c 75) (blk A B c 76) (blk A B c 77) (blk A B c 78) (blk A B c 79) (blk A B c 80) (blk A B c 81) (blk A B c 82) (blk A B c 83) (blk A B c 84) (blk A B c 85) (blk A B c 86) (blk A B c 87) (blk A B c 88) (blk A B c 89) (blk A B c 90) (blk A B c 91) (blk A B c 92) (blk A B c 93) (blk A B c 94) (blk A B c 95) (blk A B c 96) (blk A B c 97) (blk A B c 98) (blk A B c 99) (blk A B c 100) (blk A B c 101) (blk A B c 102) (blk A B c 103) (blk A B c 104) (blk A B c 105) (blk A B c 106) (blk A B c 107) (blk A B c 108) (blk A B c 109) (blk A B c 110) (blk A B c 111) (blk A B c 112) (blk A B c 113) (blk A B c 114) (blk A B c 115) (blk A B c 116) (blk A B c 117) (blk A B c 118) (blk A B c 119) (blk A B c 120) (car A B c 121) (row B 121) (row A 121)

/-- The state carried out of a tile. -/
def scanCar (A B : FVec F S128x8x256 .f32) (c : Vec F S1x1x256 .f32) : FVec F S1x1x256 .f32 := shapeCast S1x1x256 (car A B c 128) shapeCasts_S1x256_S1x1x256

theorem p191 (A B : FVec F S128x8x256 .f32) (c : Vec F S1x1x256 .f32) : k0_pay191 B A (car A B c 121) (row B 121) (row A 121) = scanCar A B c := by simp only [k0_pay191, p190]; rfl

/-- The in-group products of a tile of decays. -/
def aProd (a : FVec F S128x8x256 .f32) : FVec F S128x8x256 .f32 := k0_pay27 a (iota .tc S128x8x256 32 [1] iota_S128x8x256_d1_w32) k0_pay23 1#32

/-- The in-group states of a tile of decays and inputs already combined with their upper neighbours. -/
def bScan (a b : FVec F S128x8x256 .f32) : FVec F S128x8x256 .f32 := k0_pay26 a (iota .tc S128x8x256 32 [1] iota_S128x8x256_d1_w32) b k0_pay23 1#32

theorem p28 (a b : FVec F S128x8x256 .f32) (io : IVec S128x8x256 32) (s : IVec S128x8x256 1) (n : BitVec 32) (c : Vec F S1x1x256 .f32) :
    k0_pay28 a io b s n c = blk (k0_pay27 a io s n) (k0_pay26 a io b s n) c 0 := rfl

theorem p29 (a b : FVec F S128x8x256 .f32) (io : IVec S128x8x256 32) (s : IVec S128x8x256 1) (n : BitVec 32) (c : Vec F S1x1x256 .f32) :
    k0_pay29 a io b s n c = car (k0_pay27 a io s n) (k0_pay26 a io b s n) c 1 := rfl

theorem p30 (a b : FVec F S128x8x256 .f32) (io : IVec S128x8x256 32) (s : IVec S128x8x256 1) (n : BitVec 32) :
    k0_pay30 a io b s n = row (k0_pay26 a io b s n) 1 := rfl

theorem p31 (a : FVec F S128x8x256 .f32) (io : IVec S128x8x256 32) (s : IVec S128x8x256 1) (n : BitVec 32) :
    k0_pay31 a io s n = row (k0_pay27 a io s n) 1 := rfl

end Cert.Scan

end
-- ==== Proof.Scan.Tile.lean ====
/- One tile of the recurrence as a function of what it reads. -/
module

public import proofs.«01_k».proof.Proof.Scan.Chain
public import Idealize.ShloMosaic.Lib.VecWindow
public import Idealize.ShloMosaic.Lib.WritesUnit

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one tile's step reads besides the row blocks: the convolution, the two gates and the decay parameter of a block of columns. -/
structure Par (F : FTy → Type) where
  cw : Vec F S4x256 .f32
  cb : Vec F S1x256 .f32
  wa : Vec F S1x256x256 .bf16
  ba : Vec F S1x256 .f32
  wx : Vec F S1x256x256 .bf16
  bx : Vec F S1x256 .f32
  lam : Vec F S1x256 .f32

/-- The decays of a tile, from its projected rows and the eight rows above it. -/
def dec (P : Par F) (x : Vec F S1x1x1024x256 .f32) (h : Vec F S1x8x256 .f32) : FVec F S128x8x256 .f32 :=
  k0_pay21 (k0_pay14 (k0_pay9 x) (k0_pay10 x h) P.cw P.cb P.wa P.ba) P.lam

/-- The inputs of a tile, each already combined with the row above it in its group. -/
def inp (P : Par F) (x : Vec F S1x1x1024x256 .f32) (h : Vec F S1x8x256 .f32) : FVec F S128x8x256 .f32 :=
  k0_pay22 (k0_pay11 (k0_pay9 x) (k0_pay10 x h) P.cw P.cb) (k0_pay14 (k0_pay9 x) (k0_pay10 x h) P.cw P.cb P.wa P.ba)
    (k0_pay16 (k0_pay15 (k0_pay9 x) (k0_pay10 x h) P.cw P.cb P.wx) P.bx) P.lam

/-- The result tile. -/
def yT (P : Par F) (g x : Vec F S1x1x1024x256 .f32) (h : Vec F S1x8x256 .f32) (c : Vec F S1x1x256 .f32) : FVec F S1024x256 .bf16 :=
  k0_pay3 (k0_pay8 g) (scanOut (aProd (dec P x h)) (bScan (dec P x h) (inp P x h)) c)

/-- The state the tile leaves. -/
def cT (P : Par F) (x : Vec F S1x1x1024x256 .f32) (h : Vec F S1x8x256 .f32) (c : Vec F S1x1x256 .f32) : FVec F S1x1x256 .f32 :=
  scanCar (aProd (dec P x h)) (bScan (dec P x h) (inp P x h)) c

/-- The eight last projected rows, for the tile below. -/
def pT (x : Vec F S1x1x1024x256 .f32) : FVec F S1x8x256 .f32 := k0_pay12 (k0_pay9 x)

end Cert.Scan

end
-- ==== Proof.Scan.RunB.lean ====
/- One case of the recurrence kernel's body, run. -/
module

public import proofs.«01_k».proof.Proof.Scan.Cond

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A step past the first that begins a new row block. -/
noncomputable def run_B (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) :
    Σ' (L11 : List (View.Piece (Elt F) S1024x256 .bf16)), Σ' (LS0 : List (View.Piece (Elt F) S1024x2048 .bf16)), Σ' (LS1 : List (View.Piece (Elt F) S2x2x1024x256 .f32)), Σ' (LS2 : List (View.Piece (Elt F) S8x1x256 .f32)), { LS3 : List (View.Piece (Elt F) S8x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, (arg12.view.loc (c : Thread nD τ) ↦[arg12.view.set]{fullShare} arg12.view.writes (Elt F) f L11)) ∗ (∃ f, (arg13.view.loc (c : Thread nD τ) ↦[arg13.view.set]{fullShare} arg13.view.writes (Elt F) f LS0)) ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3)) -∗ K ⟨⟩))
          ⊢ wp frame (wpE (defs₀ (F := F)) Variants.none c none) E (cc0_rglru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_rglru_scan_eq_skeleton]; unfold cc0_rglru_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg13.eq_unread hfs0; obtain rfl := harg14.eq_unread hfs1; obtain rfl := harg15.eq_unread hfs2; obtain rfl := harg16.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [HS0]
    · iexists _; iexact HS0
    isplitl [HS1]
    · iexact HS1
    isplitl [HS2]
    · iexact HS2
    iexact HS3

end Cert.Scan

end
-- ==== Proof.Scan.StepB.lean ====
/- What a step that begins a row block leaves. -/
module

public import proofs.«01_k».proof.Proof.Scan.Tile
public import proofs.«01_k».proof.Proof.Scan.RunB
public import Idealize.ShloMosaic.Lib.VecWindow
public import Idealize.ShloMosaic.Lib.WritesUnit

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem B_v46 (c : Dev nD) (i : grid0.Coords) (arg14 : Memref sig .tc .vmem S2x2x1024x256 .f32) (harg14 : arg14.IsWhole) (arg16 : Memref sig .tc .vmem S8x8x256 .f32) (harg16 : arg16.IsWhole) (hc2 : k0_cond3 i = 1#1) (xs1 : Vec F S2x2x1024x256 .f32) (xs3 : Vec F S8x8x256 .f32) (s3 s4 : Fin 4 → ℕ) (q5 : Fin 3 → ℕ) (o3 : k0_off3 i = s3) (b3 : ∀ a, s3 a + S1x1x1024x256.size a ≤ S2x2x1024x256.size a) : run_B.sl.v46 c i arg14 harg14 hc2 xs1 = k0_pay8 (VecWindow.window xs1 s3 S1x1x1024x256.size b3) := by
  refine (show _ = k0_pay8 (View.readAt (Elt F) arg14.view (Rect.unit (s := S2x2x1024x256) (k0_off3 i) S1x1x1024x256.size _).toLoadRect (harg14.unread xs1)) from rfl).trans ?_
  rw [View.readAt_unit (s := S2x2x1024x256) _ _ _ o3 b3, harg14.read_unread]

theorem B_v60 (c : Dev nD) (i : grid0.Coords) (arg14 : Memref sig .tc .vmem S2x2x1024x256 .f32) (harg14 : arg14.IsWhole) (arg16 : Memref sig .tc .vmem S8x8x256 .f32) (harg16 : arg16.IsWhole) (hc2 : k0_cond3 i = 1#1) (xs1 : Vec F S2x2x1024x256 .f32) (xs3 : Vec F S8x8x256 .f32) (s3 s4 : Fin 4 → ℕ) (q5 : Fin 3 → ℕ) (o4 : k0_off4 i = s4) (b4 : ∀ a, s4 a + S1x1x1024x256.size a ≤ S2x2x1024x256.size a) : run_B.sl.v60 c i arg14 harg14 hc2 xs1 = k0_pay9 (VecWindow.window xs1 s4 S1x1x1024x256.size b4) := by
  refine (show _ = k0_pay9 (View.readAt (Elt F) arg14.view (Rect.unit (s := S2x2x1024x256) (k0_off4 i) S1x1x1024x256.size _).toLoadRect (harg14.unread xs1)) from rfl).trans ?_
  rw [View.readAt_unit (s := S2x2x1024x256) _ _ _ o4 b4, harg14.read_unread]

theorem B_v64 (c : Dev nD) (i : grid0.Coords) (arg14 : Memref sig .tc .vmem S2x2x1024x256 .f32) (harg14 : arg14.IsWhole) (arg16 : Memref sig .tc .vmem S8x8x256 .f32) (harg16 : arg16.IsWhole) (hc2 : k0_cond3 i = 1#1) (xs1 : Vec F S2x2x1024x256 .f32) (xs3 : Vec F S8x8x256 .f32) (s3 s4 : Fin 4 → ℕ) (q5 : Fin 3 → ℕ) (o4 : k0_off4 i = s4) (b4 : ∀ a, s4 a + S1x1x1024x256.size a ≤ S2x2x1024x256.size a) (o5 : k0_off5 i = q5) (b5 : ∀ a, q5 a + S1x8x256.size a ≤ S8x8x256.size a) : run_B.sl.v64 c i arg14 harg14 arg16 harg16 hc2 xs1 xs3 = k0_pay10 (VecWindow.window xs1 s4 S1x1x1024x256.size b4) (VecWindow.window xs3 q5 S1x8x256.size b5) := by
  refine (show _ = k0_pay10 (View.readAt (Elt F) arg14.view (Rect.unit (s := S2x2x1024x256) (k0_off4 i) S1x1x1024x256.size _).toLoadRect (harg14.unread xs1)) (View.readAt (Elt F) arg16.view (Rect.unit (s := S8x8x256) (k0_off5 i) S1x8x256.size _).toLoadRect (harg16.unread xs3)) from rfl).trans ?_
  rw [View.readAt_unit (s := S2x2x1024x256) _ _ _ o4 b4, View.readAt_unit (s := S8x8x256) _ _ _ o5 b5, harg14.read_unread, harg16.read_unread]

theorem runB_hn (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (f) : arg13.view.read (Elt F) (arg13.view.writes (Elt F) f (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.1) = (k0_pay1 x0 x1) := by
  unfold run_B
  refine (View.read_writes_full _ _ _ _ _).trans ?_
  simp (proj := false) only [View.readAt_full, Memref.IsWhole.read_unread]

theorem runB_y (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s3 s4 : Fin 4 → ℕ) (q5 q8 : Fin 3 → ℕ) (o3 : k0_off3 i = s3) (o4 : k0_off4 i = s4) (o5 : k0_off5 i = q5) (o8 : k0_off8 i = q8) (b3 : ∀ a, s3 a + S1x1x1024x256.size a ≤ S2x2x1024x256.size a) (b4 : ∀ a, s4 a + S1x1x1024x256.size a ≤ S2x2x1024x256.size a) (b5 : ∀ a, q5 a + S1x8x256.size a ≤ S8x8x256.size a) (b8 : ∀ a, q8 a + S1x1x256.size a ≤ S8x1x256.size a) (f) : arg12.view.read (Elt F) (arg12.view.writes (Elt F) f (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).1) = yT (⟨x4, x5, x6, x7, x8, x9, x10⟩ : Par F) (VecWindow.window xs1 s3 S1x1x1024x256.size b3) (VecWindow.window xs1 s4 S1x1x1024x256.size b4) (VecWindow.window xs3 q5 S1x8x256.size b5) (VecWindow.window xs2 q8 S1x1x256.size b8) := by
  unfold run_B
  rw [View.read_writes_full]
  simp (proj := false) only [run_B.sl.v40, run_B.sl.r_167, run_B.sl.r_73, run_B.sl.r_64, run_B.sl.r_133, run_B.sl.r_79, run_B.sl.r_26, run_B.sl.r_124, run_B.sl.r_9, run_B.sl.r_152, run_B.sl.r_141, run_B.sl.r_110, run_B.sl.v176, run_B.sl.r_54, run_B.sl.r_55, run_B.sl.r_153, run_B.sl.r_10, run_B.sl.r_53, run_B.sl.v1, run_B.sl.r_67, run_B.sl.r_84, run_B.sl.r_37, run_B.sl.v4, run_B.sl.r_58, run_B.sl.r_159, run_B.sl.r_139, run_B.sl.r_11, run_B.sl.r_44, run_B.sl.r_7, run_B.sl.r_118, run_B.sl.r_75, run_B.sl.v44, run_B.sl.r_57, run_B.sl.v21, run_B.sl.r_33, run_B.sl.r_157, run_B.sl.r_164, run_B.sl.r_98, run_B.sl.r_161, run_B.sl.v42, run_B.sl.r_18, run_B.sl.r_116, run_B.sl.r_100, run_B.sl.r_138, run_B.sl.r_114, run_B.sl.r_166, run_B.sl.r_150, run_B.sl.r_51, run_B.sl.v8, run_B.sl.r_72, run_B.sl.r_119, run_B.sl.r_77, run_B.sl.v43, run_B.sl.r_88, run_B.sl.r_20, run_B.sl.r, run_B.sl.r_165, run_B.sl.r_1, run_B.sl.r_104, run_B.sl.v11, run_B.sl.r_146, run_B.sl.r_61, run_B.sl.r_85, run_B.sl.r_16, run_B.sl.v19, run_B.sl.r_109, run_B.sl.r_126, run_B.sl.r_27, run_B.sl.r_38, run_B.sl.r_22, run_B.sl.r_17, run_B.sl.r_105, run_B.sl.r_78, run_B.sl.r_95, run_B.sl.r_103, run_B.sl.r_23, run_B.sl.r_129, run_B.sl.v37, run_B.sl.r_142, run_B.sl.v137, run_B.sl.r_45, run_B.sl.r_158, run_B.sl.r_120, run_B.sl.r_127, run_B.sl.r_97, run_B.sl.r_108, run_B.sl.r_117, run_B.sl.r_31, run_B.sl.r_136, run_B.sl.r_125, run_B.sl.r_74, run_B.sl.v41, run_B.sl.r_144, run_B.sl.r_60, run_B.sl.r_56, run_B.sl.r_86, run_B.sl.r_6, run_B.sl.v24, run_B.sl.r_115, run_B.sl.r_50, run_B.sl.v139, run_B.sl.r_46, run_B.sl.r_134, run_B.sl.r_123, run_B.sl.r_156, run_B.sl.r_130, run_B.sl.r_68, run_B.sl.r_151, run_B.sl.r_82, run_B.sl.v0, run_B.sl.v142, run_B.sl.r_111, run_B.sl.r_36, run_B.sl.r_140, run_B.sl.r_70, run_B.sl.r_154, run_B.sl.r_155, run_B.sl.r_91, run_B.sl.r_34, run_B.sl.r_59, run_B.sl.r_92, run_B.sl.v26, run_B.sl.r_81, run_B.sl.r_148, run_B.sl.r_25, run_B.sl.v36, run_B.sl.v23, run_B.sl.r_93, run_B.sl.v22, run_B.sl.r_121, run_B.sl.r_87, run_B.sl.r_168, run_B.sl.r_21, run_B.sl.r_89, run_B.sl.r_39, run_B.sl.r_4, run_B.sl.r_96, run_B.sl.r_62, run_B.sl.r_132, run_B.sl.v33, run_B.sl.r_135, run_B.sl.r_66, run_B.sl.r_14, run_B.sl.r_90, run_B.sl.v16, run_B.sl.r_12, run_B.sl.r_101, run_B.sl.r_2, run_B.sl.r_131, run_B.sl.v61, run_B.sl.r_35, run_B.sl.r_19, run_B.sl.r_24, run_B.sl.r_13, run_B.sl.r_71, run_B.sl.v20, run_B.sl.r_52, run_B.sl.r_107, run_B.sl.r_83, run_B.sl.v25, run_B.sl.r_76, run_B.sl.r_5, run_B.sl.v5, run_B.sl.r_113, run_B.sl.r_65, run_B.sl.r_29, run_B.sl.r_32, run_B.sl.r_8, run_B.sl.v38, run_B.sl.r_145, run_B.sl.v138, run_B.sl.v12, run_B.sl.r_47, run_B.sl.r_147, run_B.sl.r_49, run_B.sl.r_28, run_B.sl.r_41, run_B.sl.r_122, run_B.sl.v9, run_B.sl.r_40, run_B.sl.v6, run_B.sl.r_149, run_B.sl.v17, run_B.sl.r_30, run_B.sl.r_162, run_B.sl.r_63, run_B.sl.r_42, run_B.sl.r_128, run_B.sl.r_102, run_B.sl.r_94, run_B.sl.r_106, run_B.sl.r_163, run_B.sl.r_80, run_B.sl.r_160, run_B.sl.r_99, run_B.sl.r_137, run_B.sl.r_143, run_B.sl.r_15, run_B.sl.v141, run_B.sl.r_3, run_B.sl.r_69, run_B.sl.v15, run_B.sl.r_112, run_B.sl.v10, run_B.sl.r_43, run_B.sl.r_48]
  simp (proj := false) only [run_B.sl.v113, run_B.sl.HS0_1, View.readCov_full, View.readAt_full, View.readAt_unit (s := S2x2x1024x256) _ _ _ o3 b3, View.readAt_unit (s := S2x2x1024x256) _ _ _ o4 b4, View.readAt_unit (s := S8x8x256) _ _ _ o5 b5, View.readAt_unit (s := S8x1x256) _ _ _ o8 b8, Memref.IsWhole.read_unread, B_v46 c i arg14 harg14 arg16 harg16 hc2 xs1 xs3 s3 s4 q5 o3 b3, B_v60 c i arg14 harg14 arg16 harg16 hc2 xs1 xs3 s3 s4 q5 o4 b4, B_v64 c i arg14 harg14 arg16 harg16 hc2 xs1 xs3 s3 s4 q5 o4 b4 o5 b5]
  simp (proj := false) only [p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191]
  simp only [yT, cT, scanOut, aProd, bScan, dec, inp]

theorem runB_c (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s3 s4 : Fin 4 → ℕ) (q5 q8 : Fin 3 → ℕ) (o3 : k0_off3 i = s3) (o4 : k0_off4 i = s4) (o5 : k0_off5 i = q5) (o8 : k0_off8 i = q8) (b3 : ∀ a, s3 a + S1x1x1024x256.size a ≤ S2x2x1024x256.size a) (b4 : ∀ a, s4 a + S1x1x1024x256.size a ≤ S2x2x1024x256.size a) (b5 : ∀ a, q5 a + S1x8x256.size a ≤ S8x8x256.size a) (b8 : ∀ a, q8 a + S1x1x256.size a ≤ S8x1x256.size a) : arg15.view.read (Elt F) (arg15.view.writes (Elt F) (harg15.unread xs2) (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.2.2.1) = VecWindow.put xs2 q8 S1x1x256.size (cT (⟨x4, x5, x6, x7, x8, x9, x10⟩ : Par F) (VecWindow.window xs1 s4 S1x1x1024x256.size b4) (VecWindow.window xs3 q5 S1x8x256.size b5) (VecWindow.window xs2 q8 S1x1x256.size b8)) := by
  unfold run_B
  rw [View.read_writes_cons_put _ _ _ _ _ o8, View.writes_nil, harg15.read_unread]
  refine congrArg (VecWindow.put xs2 q8 S1x1x256.size) ?_
  simp (proj := false) only [run_B.sl.v40, run_B.sl.r_167, run_B.sl.r_73, run_B.sl.r_64, run_B.sl.r_133, run_B.sl.r_79, run_B.sl.r_26, run_B.sl.r_124, run_B.sl.r_9, run_B.sl.r_152, run_B.sl.r_141, run_B.sl.r_110, run_B.sl.v176, run_B.sl.r_54, run_B.sl.r_55, run_B.sl.r_153, run_B.sl.r_10, run_B.sl.r_53, run_B.sl.v1, run_B.sl.r_67, run_B.sl.r_84, run_B.sl.r_37, run_B.sl.v4, run_B.sl.r_58, run_B.sl.r_159, run_B.sl.r_139, run_B.sl.r_11, run_B.sl.r_44, run_B.sl.r_7, run_B.sl.r_118, run_B.sl.r_75, run_B.sl.v44, run_B.sl.r_57, run_B.sl.v21, run_B.sl.r_33, run_B.sl.r_157, run_B.sl.r_164, run_B.sl.r_98, run_B.sl.r_161, run_B.sl.v42, run_B.sl.r_18, run_B.sl.r_116, run_B.sl.r_100, run_B.sl.r_138, run_B.sl.r_114, run_B.sl.r_166, run_B.sl.r_150, run_B.sl.r_51, run_B.sl.v8, run_B.sl.r_72, run_B.sl.r_119, run_B.sl.r_77, run_B.sl.v43, run_B.sl.r_88, run_B.sl.r_20, run_B.sl.r, run_B.sl.r_165, run_B.sl.r_1, run_B.sl.r_104, run_B.sl.v11, run_B.sl.r_146, run_B.sl.r_61, run_B.sl.r_85, run_B.sl.r_16, run_B.sl.v19, run_B.sl.r_109, run_B.sl.r_126, run_B.sl.r_27, run_B.sl.r_38, run_B.sl.r_22, run_B.sl.r_17, run_B.sl.r_105, run_B.sl.r_78, run_B.sl.r_95, run_B.sl.r_103, run_B.sl.r_23, run_B.sl.r_129, run_B.sl.v37, run_B.sl.r_142, run_B.sl.v137, run_B.sl.r_45, run_B.sl.r_158, run_B.sl.r_120, run_B.sl.r_127, run_B.sl.r_97, run_B.sl.r_108, run_B.sl.r_117, run_B.sl.r_31, run_B.sl.r_136, run_B.sl.r_125, run_B.sl.r_74, run_B.sl.v41, run_B.sl.r_144, run_B.sl.r_60, run_B.sl.r_56, run_B.sl.r_86, run_B.sl.r_6, run_B.sl.v24, run_B.sl.r_115, run_B.sl.r_50, run_B.sl.v139, run_B.sl.r_46, run_B.sl.r_134, run_B.sl.r_123, run_B.sl.r_156, run_B.sl.r_130, run_B.sl.r_68, run_B.sl.r_151, run_B.sl.r_82, run_B.sl.v0, run_B.sl.v142, run_B.sl.r_111, run_B.sl.r_36, run_B.sl.r_140, run_B.sl.r_70, run_B.sl.r_154, run_B.sl.r_155, run_B.sl.r_91, run_B.sl.r_34, run_B.sl.r_59, run_B.sl.r_92, run_B.sl.v26, run_B.sl.r_81, run_B.sl.r_148, run_B.sl.r_25, run_B.sl.v36, run_B.sl.v23, run_B.sl.r_93, run_B.sl.v22, run_B.sl.r_121, run_B.sl.r_87, run_B.sl.r_168, run_B.sl.r_21, run_B.sl.r_89, run_B.sl.r_39, run_B.sl.r_4, run_B.sl.r_96, run_B.sl.r_62, run_B.sl.r_132, run_B.sl.v33, run_B.sl.r_135, run_B.sl.r_66, run_B.sl.r_14, run_B.sl.r_90, run_B.sl.v16, run_B.sl.r_12, run_B.sl.r_101, run_B.sl.r_2, run_B.sl.r_131, run_B.sl.v61, run_B.sl.r_35, run_B.sl.r_19, run_B.sl.r_24, run_B.sl.r_13, run_B.sl.r_71, run_B.sl.v20, run_B.sl.r_52, run_B.sl.r_107, run_B.sl.r_83, run_B.sl.v25, run_B.sl.r_76, run_B.sl.r_5, run_B.sl.v5, run_B.sl.r_113, run_B.sl.r_65, run_B.sl.r_29, run_B.sl.r_32, run_B.sl.r_8, run_B.sl.v38, run_B.sl.r_145, run_B.sl.v138, run_B.sl.v12, run_B.sl.r_47, run_B.sl.r_147, run_B.sl.r_49, run_B.sl.r_28, run_B.sl.r_41, run_B.sl.r_122, run_B.sl.v9, run_B.sl.r_40, run_B.sl.v6, run_B.sl.r_149, run_B.sl.v17, run_B.sl.r_30, run_B.sl.r_162, run_B.sl.r_63, run_B.sl.r_42, run_B.sl.r_128, run_B.sl.r_102, run_B.sl.r_94, run_B.sl.r_106, run_B.sl.r_163, run_B.sl.r_80, run_B.sl.r_160, run_B.sl.r_99, run_B.sl.r_137, run_B.sl.r_143, run_B.sl.r_15, run_B.sl.v141, run_B.sl.r_3, run_B.sl.r_69, run_B.sl.v15, run_B.sl.r_112, run_B.sl.v10, run_B.sl.r_43, run_B.sl.r_48]
  simp (proj := false) only [run_B.sl.v113, run_B.sl.HS0_1, View.readCov_full, View.readAt_full, View.readAt_unit (s := S2x2x1024x256) _ _ _ o3 b3, View.readAt_unit (s := S2x2x1024x256) _ _ _ o4 b4, View.readAt_unit (s := S8x8x256) _ _ _ o5 b5, View.readAt_unit (s := S8x1x256) _ _ _ o8 b8, Memref.IsWhole.read_unread, B_v46 c i arg14 harg14 arg16 harg16 hc2 xs1 xs3 s3 s4 q5 o3 b3, B_v60 c i arg14 harg14 arg16 harg16 hc2 xs1 xs3 s3 s4 q5 o4 b4, B_v64 c i arg14 harg14 arg16 harg16 hc2 xs1 xs3 s3 s4 q5 o4 b4 o5 b5]
  simp (proj := false) only [p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191]
  simp only [yT, cT, scanOut, aProd, bScan, dec, inp]

theorem runB_p (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s3 s4 : Fin 4 → ℕ) (q5 q8 : Fin 3 → ℕ) (o3 : k0_off3 i = s3) (o4 : k0_off4 i = s4) (o5 : k0_off5 i = q5) (o8 : k0_off8 i = q8) (b3 : ∀ a, s3 a + S1x1x1024x256.size a ≤ S2x2x1024x256.size a) (b4 : ∀ a, s4 a + S1x1x1024x256.size a ≤ S2x2x1024x256.size a) (b5 : ∀ a, q5 a + S1x8x256.size a ≤ S8x8x256.size a) (b8 : ∀ a, q8 a + S1x1x256.size a ≤ S8x1x256.size a) : arg16.view.read (Elt F) (arg16.view.writes (Elt F) (harg16.unread xs3) (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.2.2.2.1) = VecWindow.put xs3 q5 S1x8x256.size (pT (VecWindow.window xs1 s4 S1x1x1024x256.size b4)) := by
  unfold run_B
  rw [View.read_writes_cons_put _ _ _ _ _ o5, View.writes_nil, harg16.read_unread]
  refine congrArg (VecWindow.put xs3 q5 S1x8x256.size) ?_
  simp (proj := false) only [run_B.sl.v113, run_B.sl.HS0_1, View.readCov_full, View.readAt_full, View.readAt_unit (s := S2x2x1024x256) _ _ _ o3 b3, View.readAt_unit (s := S2x2x1024x256) _ _ _ o4 b4, View.readAt_unit (s := S8x8x256) _ _ _ o5 b5, View.readAt_unit (s := S8x1x256) _ _ _ o8 b8, Memref.IsWhole.read_unread, B_v46 c i arg14 harg14 arg16 harg16 hc2 xs1 xs3 s3 s4 q5 o3 b3, B_v60 c i arg14 harg14 arg16 harg16 hc2 xs1 xs3 s3 s4 q5 o4 b4, B_v64 c i arg14 harg14 arg16 harg16 hc2 xs1 xs3 s3 s4 q5 o4 b4 o5 b5]
  rfl

theorem runB_s (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s6 s7 : Fin 4 → ℕ) (o6 : k0_off6 i = s6) (o7 : k0_off7 i = s7) : arg14.view.read (Elt F) (arg14.view.writes (Elt F) (harg14.unread xs1) (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.2.1) = VecWindow.put (VecWindow.put xs1 s6 S1x1x1024x256.size (k0_pay17 (k0_pay1 x0 x1) x2)) s7 S1x1x1024x256.size (k0_pay19 (k0_pay18 (k0_pay1 x0 x1) x3)) := by
  unfold run_B
  rw [View.read_writes_cons_put _ _ _ _ _ o7, View.read_writes_cons_put _ _ _ _ _ o6, View.writes_nil, harg14.read_unread]
  simp (proj := false) only [run_B.sl.v113, run_B.sl.HS0_1, View.readCov_full, run_B.sl.r_7, View.readAt_full, Memref.IsWhole.read_unread]

end Cert.Scan

end
-- ==== Proof.Scan.RunC.lean ====
/- One case of the recurrence kernel's body, run. -/
module

public import proofs.«01_k».proof.Proof.Scan.Cond

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A step past the first that does not begin a new row block. -/
noncomputable def run_C (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : ¬cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) :
    Σ' (L11 : List (View.Piece (Elt F) S1024x256 .bf16)), Σ' (LS1 : List (View.Piece (Elt F) S2x2x1024x256 .f32)), Σ' (LS2 : List (View.Piece (Elt F) S8x1x256 .f32)), { LS3 : List (View.Piece (Elt F) S8x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, (arg12.view.loc (c : Thread nD τ) ↦[arg12.view.set]{fullShare} arg12.view.writes (Elt F) f L11)) ∗ owns (c : Thread nD τ) arg13 fullShare xs0 ∗ (arg14.view.loc (c : Thread nD τ) ↦[arg14.view.set]{fullShare} arg14.view.writes (Elt F) (harg14.unread xs1) LS1) ∗ (arg15.view.loc (c : Thread nD τ) ↦[arg15.view.set]{fullShare} arg15.view.writes (Elt F) (harg15.unread xs2) LS2) ∗ (arg16.view.loc (c : Thread nD τ) ↦[arg16.view.set]{fullShare} arg16.view.writes (Elt F) (harg16.unread xs3) LS3)) -∗ K ⟨⟩))
          ⊢ wp frame (wpE (defs₀ (F := F)) Variants.none c none) E (cc0_rglru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_rglru_scan_eq_skeleton]; unfold cc0_rglru_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg13.eq_unread hfs0; obtain rfl := harg14.eq_unread hfs1; obtain rfl := harg15.eq_unread hfs2; obtain rfl := harg16.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [HS0]
    · iexists _; isplitr; · ipureintro; exact harg13.read_unread _
      iexact HS0
    isplitl [HS1]
    · iexact HS1
    isplitl [HS2]
    · iexact HS2
    iexact HS3

end Cert.Scan

end
-- ==== Proof.Scan.StepC.lean ====
/- What a step in the middle of a row block leaves. -/
module

public import proofs.«01_k».proof.Proof.Scan.Tile
public import proofs.«01_k».proof.Proof.Scan.RunC
public import Idealize.ShloMosaic.Lib.VecWindow
public import Idealize.ShloMosaic.Lib.WritesUnit

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem C_v46 (c : Dev nD) (i : grid0.Coords) (arg14 : Memref sig .tc .vmem S2x2x1024x256 .f32) (harg14 : arg14.IsWhole) (arg16 : Memref sig .tc .vmem S8x8x256 .f32) (harg16 : arg16.IsWhole) (hc2 : k0_cond3 i = 1#1) (xs1 : Vec F S2x2x1024x256 .f32) (xs3 : Vec F S8x8x256 .f32) (s3 s4 : Fin 4 → ℕ) (q5 : Fin 3 → ℕ) (o3 : k0_off3 i = s3) (b3 : ∀ a, s3 a + S1x1x1024x256.size a ≤ S2x2x1024x256.size a) : run_C.sl.v46 c i arg14 harg14 hc2 xs1 = k0_pay8 (VecWindow.window xs1 s3 S1x1x1024x256.size b3) := by
  refine (show _ = k0_pay8 (View.readAt (Elt F) arg14.view (Rect.unit (s := S2x2x1024x256) (k0_off3 i) S1x1x1024x256.size _).toLoadRect (harg14.unread xs1)) from rfl).trans ?_
  rw [View.readAt_unit (s := S2x2x1024x256) _ _ _ o3 b3, harg14.read_unread]

theorem C_v60 (c : Dev nD) (i : grid0.Coords) (arg14 : Memref sig .tc .vmem S2x2x1024x256 .f32) (harg14 : arg14.IsWhole) (arg16 : Memref sig .tc .vmem S8x8x256 .f32) (harg16 : arg16.IsWhole) (hc2 : k0_cond3 i = 1#1) (xs1 : Vec F S2x2x1024x256 .f32) (xs3 : Vec F S8x8x256 .f32) (s3 s4 : Fin 4 → ℕ) (q5 : Fin 3 → ℕ) (o4 : k0_off4 i = s4) (b4 : ∀ a, s4 a + S1x1x1024x256.size a ≤ S2x2x1024x256.size a) : run_C.sl.v60 c i arg14 harg14 hc2 xs1 = k0_pay9 (VecWindow.window xs1 s4 S1x1x1024x256.size b4) := by
  refine (show _ = k0_pay9 (View.readAt (Elt F) arg14.view (Rect.unit (s := S2x2x1024x256) (k0_off4 i) S1x1x1024x256.size _).toLoadRect (harg14.unread xs1)) from rfl).trans ?_
  rw [View.readAt_unit (s := S2x2x1024x256) _ _ _ o4 b4, harg14.read_unread]

theorem C_v64 (c : Dev nD) (i : grid0.Coords) (arg14 : Memref sig .tc .vmem S2x2x1024x256 .f32) (harg14 : arg14.IsWhole) (arg16 : Memref sig .tc .vmem S8x8x256 .f32) (harg16 : arg16.IsWhole) (hc2 : k0_cond3 i = 1#1) (xs1 : Vec F S2x2x1024x256 .f32) (xs3 : Vec F S8x8x256 .f32) (s3 s4 : Fin 4 → ℕ) (q5 : Fin 3 → ℕ) (o4 : k0_off4 i = s4) (b4 : ∀ a, s4 a + S1x1x1024x256.size a ≤ S2x2x1024x256.size a) (o5 : k0_off5 i = q5) (b5 : ∀ a, q5 a + S1x8x256.size a ≤ S8x8x256.size a) : run_C.sl.v64 c i arg14 harg14 arg16 harg16 hc2 xs1 xs3 = k0_pay10 (VecWindow.window xs1 s4 S1x1x1024x256.size b4) (VecWindow.window xs3 q5 S1x8x256.size b5) := by
  refine (show _ = k0_pay10 (View.readAt (Elt F) arg14.view (Rect.unit (s := S2x2x1024x256) (k0_off4 i) S1x1x1024x256.size _).toLoadRect (harg14.unread xs1)) (View.readAt (Elt F) arg16.view (Rect.unit (s := S8x8x256) (k0_off5 i) S1x8x256.size _).toLoadRect (harg16.unread xs3)) from rfl).trans ?_
  rw [View.readAt_unit (s := S2x2x1024x256) _ _ _ o4 b4, View.readAt_unit (s := S8x8x256) _ _ _ o5 b5, harg14.read_unread, harg16.read_unread]

theorem runC_y (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : ¬cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s3 s4 : Fin 4 → ℕ) (q5 q8 : Fin 3 → ℕ) (o3 : k0_off3 i = s3) (o4 : k0_off4 i = s4) (o5 : k0_off5 i = q5) (o8 : k0_off8 i = q8) (b3 : ∀ a, s3 a + S1x1x1024x256.size a ≤ S2x2x1024x256.size a) (b4 : ∀ a, s4 a + S1x1x1024x256.size a ≤ S2x2x1024x256.size a) (b5 : ∀ a, q5 a + S1x8x256.size a ≤ S8x8x256.size a) (b8 : ∀ a, q8 a + S1x1x256.size a ≤ S8x1x256.size a) (f) : arg12.view.read (Elt F) (arg12.view.writes (Elt F) f (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).1) = yT (⟨x4, x5, x6, x7, x8, x9, x10⟩ : Par F) (VecWindow.window xs1 s3 S1x1x1024x256.size b3) (VecWindow.window xs1 s4 S1x1x1024x256.size b4) (VecWindow.window xs3 q5 S1x8x256.size b5) (VecWindow.window xs2 q8 S1x1x256.size b8) := by
  unfold run_C
  rw [View.read_writes_full]
  simp (proj := false) only [run_C.sl.r_74, run_C.sl.r_19, run_C.sl.v10, run_C.sl.v15, run_C.sl.r_56, run_C.sl.r_141, run_C.sl.v24, run_C.sl.r_117, run_C.sl.r_30, run_C.sl.r_144, run_C.sl.r_133, run_C.sl.r_76, run_C.sl.r_140, run_C.sl.r_137, run_C.sl.r_46, run_C.sl.v139, run_C.sl.r_142, run_C.sl.r_123, run_C.sl.r_138, run_C.sl.v9, run_C.sl.r_88, run_C.sl.r_129, run_C.sl.r_101, run_C.sl.r_102, run_C.sl.r_103, run_C.sl.v43, run_C.sl.r_147, run_C.sl.r_82, run_C.sl.r_49, run_C.sl.r_44, run_C.sl.r_6, run_C.sl.v142, run_C.sl.r_167, run_C.sl.r_8, run_C.sl.r_1, run_C.sl.r_62, run_C.sl.r_89, run_C.sl.r_112, run_C.sl.r_63, run_C.sl.r_121, run_C.sl.v16, run_C.sl.v38, run_C.sl.r_4, run_C.sl.r_158, run_C.sl.r_91, run_C.sl.r_26, run_C.sl.v22, run_C.sl.r_100, run_C.sl.r_104, run_C.sl.r_22, run_C.sl.r_97, run_C.sl.r_50, run_C.sl.r_61, run_C.sl.r_128, run_C.sl.r_108, run_C.sl.r_29, run_C.sl.r_13, run_C.sl.r_114, run_C.sl.r_90, run_C.sl.r_131, run_C.sl.v61, run_C.sl.v8, run_C.sl.r_2, run_C.sl.r_36, run_C.sl.r_152, run_C.sl.r_27, run_C.sl.r_72, run_C.sl.r_67, run_C.sl.r_66, run_C.sl.r_35, run_C.sl.r_125, run_C.sl.r_95, run_C.sl.r_75, run_C.sl.r_31, run_C.sl.r_84, run_C.sl.r_48, run_C.sl.r_39, run_C.sl.r_70, run_C.sl.r_113, run_C.sl.r_51, run_C.sl.r_16, run_C.sl.r_79, run_C.sl.v11, run_C.sl.r_154, run_C.sl.r_109, run_C.sl.r_18, run_C.sl.r_24, run_C.sl.r_53, run_C.sl.r_28, run_C.sl.r_120, run_C.sl.r_83, run_C.sl.r_11, run_C.sl.r_21, run_C.sl.r_124, run_C.sl.r_10, run_C.sl.r_52, run_C.sl.r_33, run_C.sl.r_166, run_C.sl.r_55, run_C.sl.r_68, run_C.sl.v40, run_C.sl.r_80, run_C.sl.r_136, run_C.sl.r_93, run_C.sl.v25, run_C.sl.r_151, run_C.sl.v26, run_C.sl.r_9, run_C.sl.v41, run_C.sl.r_134, run_C.sl.r_145, run_C.sl.r_122, run_C.sl.r_94, run_C.sl.r_15, run_C.sl.r_38, run_C.sl.v19, run_C.sl.r_43, run_C.sl.r_37, run_C.sl.r_149, run_C.sl.r_71, run_C.sl.r_32, run_C.sl.v42, run_C.sl.r_163, run_C.sl.r_77, run_C.sl.v20, run_C.sl.v4, run_C.sl.r_110, run_C.sl.r_78, run_C.sl.r_69, run_C.sl.r_107, run_C.sl.r_126, run_C.sl.r_47, run_C.sl.r_65, run_C.sl.r_34, run_C.sl.v21, run_C.sl.v138, run_C.sl.r_57, run_C.sl.v44, run_C.sl.r_159, run_C.sl.v17, run_C.sl.r_164, run_C.sl.r_20, run_C.sl.r_86, run_C.sl.r_135, run_C.sl.r_148, run_C.sl.v0, run_C.sl.r_40, run_C.sl.r_5, run_C.sl.v23, run_C.sl.r_156, run_C.sl.r_106, run_C.sl.r_60, run_C.sl.v176, run_C.sl.r_87, run_C.sl.r_45, run_C.sl.r_25, run_C.sl.v12, run_C.sl.r_153, run_C.sl.r_161, run_C.sl.r_127, run_C.sl.v137, run_C.sl.r_132, run_C.sl.r_23, run_C.sl.v6, run_C.sl.r_143, run_C.sl.v36, run_C.sl.r_157, run_C.sl.r_41, run_C.sl.r_165, run_C.sl.r, run_C.sl.r_119, run_C.sl.r_85, run_C.sl.r_162, run_C.sl.v5, run_C.sl.r_160, run_C.sl.r_98, run_C.sl.r_130, run_C.sl.r_7, run_C.sl.r_115, run_C.sl.r_118, run_C.sl.r_99, run_C.sl.r_105, run_C.sl.r_81, run_C.sl.v37, run_C.sl.r_12, run_C.sl.r_139, run_C.sl.r_150, run_C.sl.r_116, run_C.sl.r_64, run_C.sl.r_54, run_C.sl.r_92, run_C.sl.r_168, run_C.sl.r_14, run_C.sl.r_3, run_C.sl.r_155, run_C.sl.r_58, run_C.sl.r_146, run_C.sl.v1, run_C.sl.r_17, run_C.sl.r_59, run_C.sl.v141, run_C.sl.r_96, run_C.sl.r_42, run_C.sl.r_73, run_C.sl.v33, run_C.sl.r_111]
  simp (proj := false) only [View.readAt_full, View.readAt_unit (s := S2x2x1024x256) _ _ _ o3 b3, View.readAt_unit (s := S2x2x1024x256) _ _ _ o4 b4, View.readAt_unit (s := S8x8x256) _ _ _ o5 b5, View.readAt_unit (s := S8x1x256) _ _ _ o8 b8, Memref.IsWhole.read_unread, C_v46 c i arg14 harg14 arg16 harg16 hc2 xs1 xs3 s3 s4 q5 o3 b3, C_v60 c i arg14 harg14 arg16 harg16 hc2 xs1 xs3 s3 s4 q5 o4 b4, C_v64 c i arg14 harg14 arg16 harg16 hc2 xs1 xs3 s3 s4 q5 o4 b4 o5 b5]
  simp (proj := false) only [p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191]
  simp only [yT, cT, scanOut, aProd, bScan, dec, inp]

theorem runC_c (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : ¬cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s3 s4 : Fin 4 → ℕ) (q5 q8 : Fin 3 → ℕ) (o3 : k0_off3 i = s3) (o4 : k0_off4 i = s4) (o5 : k0_off5 i = q5) (o8 : k0_off8 i = q8) (b3 : ∀ a, s3 a + S1x1x1024x256.size a ≤ S2x2x1024x256.size a) (b4 : ∀ a, s4 a + S1x1x1024x256.size a ≤ S2x2x1024x256.size a) (b5 : ∀ a, q5 a + S1x8x256.size a ≤ S8x8x256.size a) (b8 : ∀ a, q8 a + S1x1x256.size a ≤ S8x1x256.size a) : arg15.view.read (Elt F) (arg15.view.writes (Elt F) (harg15.unread xs2) (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.2.1) = VecWindow.put xs2 q8 S1x1x256.size (cT (⟨x4, x5, x6, x7, x8, x9, x10⟩ : Par F) (VecWindow.window xs1 s4 S1x1x1024x256.size b4) (VecWindow.window xs3 q5 S1x8x256.size b5) (VecWindow.window xs2 q8 S1x1x256.size b8)) := by
  unfold run_C
  rw [View.read_writes_cons_put _ _ _ _ _ o8, View.writes_nil, harg15.read_unread]
  refine congrArg (VecWindow.put xs2 q8 S1x1x256.size) ?_
  simp (proj := false) only [run_C.sl.r_74, run_C.sl.r_19, run_C.sl.v10, run_C.sl.v15, run_C.sl.r_56, run_C.sl.r_141, run_C.sl.v24, run_C.sl.r_117, run_C.sl.r_30, run_C.sl.r_144, run_C.sl.r_133, run_C.sl.r_76, run_C.sl.r_140, run_C.sl.r_137, run_C.sl.r_46, run_C.sl.v139, run_C.sl.r_142, run_C.sl.r_123, run_C.sl.r_138, run_C.sl.v9, run_C.sl.r_88, run_C.sl.r_129, run_C.sl.r_101, run_C.sl.r_102, run_C.sl.r_103, run_C.sl.v43, run_C.sl.r_147, run_C.sl.r_82, run_C.sl.r_49, run_C.sl.r_44, run_C.sl.r_6, run_C.sl.v142, run_C.sl.r_167, run_C.sl.r_8, run_C.sl.r_1, run_C.sl.r_62, run_C.sl.r_89, run_C.sl.r_112, run_C.sl.r_63, run_C.sl.r_121, run_C.sl.v16, run_C.sl.v38, run_C.sl.r_4, run_C.sl.r_158, run_C.sl.r_91, run_C.sl.r_26, run_C.sl.v22, run_C.sl.r_100, run_C.sl.r_104, run_C.sl.r_22, run_C.sl.r_97, run_C.sl.r_50, run_C.sl.r_61, run_C.sl.r_128, run_C.sl.r_108, run_C.sl.r_29, run_C.sl.r_13, run_C.sl.r_114, run_C.sl.r_90, run_C.sl.r_131, run_C.sl.v61, run_C.sl.v8, run_C.sl.r_2, run_C.sl.r_36, run_C.sl.r_152, run_C.sl.r_27, run_C.sl.r_72, run_C.sl.r_67, run_C.sl.r_66, run_C.sl.r_35, run_C.sl.r_125, run_C.sl.r_95, run_C.sl.r_75, run_C.sl.r_31, run_C.sl.r_84, run_C.sl.r_48, run_C.sl.r_39, run_C.sl.r_70, run_C.sl.r_113, run_C.sl.r_51, run_C.sl.r_16, run_C.sl.r_79, run_C.sl.v11, run_C.sl.r_154, run_C.sl.r_109, run_C.sl.r_18, run_C.sl.r_24, run_C.sl.r_53, run_C.sl.r_28, run_C.sl.r_120, run_C.sl.r_83, run_C.sl.r_11, run_C.sl.r_21, run_C.sl.r_124, run_C.sl.r_10, run_C.sl.r_52, run_C.sl.r_33, run_C.sl.r_166, run_C.sl.r_55, run_C.sl.r_68, run_C.sl.v40, run_C.sl.r_80, run_C.sl.r_136, run_C.sl.r_93, run_C.sl.v25, run_C.sl.r_151, run_C.sl.v26, run_C.sl.r_9, run_C.sl.v41, run_C.sl.r_134, run_C.sl.r_145, run_C.sl.r_122, run_C.sl.r_94, run_C.sl.r_15, run_C.sl.r_38, run_C.sl.v19, run_C.sl.r_43, run_C.sl.r_37, run_C.sl.r_149, run_C.sl.r_71, run_C.sl.r_32, run_C.sl.v42, run_C.sl.r_163, run_C.sl.r_77, run_C.sl.v20, run_C.sl.v4, run_C.sl.r_110, run_C.sl.r_78, run_C.sl.r_69, run_C.sl.r_107, run_C.sl.r_126, run_C.sl.r_47, run_C.sl.r_65, run_C.sl.r_34, run_C.sl.v21, run_C.sl.v138, run_C.sl.r_57, run_C.sl.v44, run_C.sl.r_159, run_C.sl.v17, run_C.sl.r_164, run_C.sl.r_20, run_C.sl.r_86, run_C.sl.r_135, run_C.sl.r_148, run_C.sl.v0, run_C.sl.r_40, run_C.sl.r_5, run_C.sl.v23, run_C.sl.r_156, run_C.sl.r_106, run_C.sl.r_60, run_C.sl.v176, run_C.sl.r_87, run_C.sl.r_45, run_C.sl.r_25, run_C.sl.v12, run_C.sl.r_153, run_C.sl.r_161, run_C.sl.r_127, run_C.sl.v137, run_C.sl.r_132, run_C.sl.r_23, run_C.sl.v6, run_C.sl.r_143, run_C.sl.v36, run_C.sl.r_157, run_C.sl.r_41, run_C.sl.r_165, run_C.sl.r, run_C.sl.r_119, run_C.sl.r_85, run_C.sl.r_162, run_C.sl.v5, run_C.sl.r_160, run_C.sl.r_98, run_C.sl.r_130, run_C.sl.r_7, run_C.sl.r_115, run_C.sl.r_118, run_C.sl.r_99, run_C.sl.r_105, run_C.sl.r_81, run_C.sl.v37, run_C.sl.r_12, run_C.sl.r_139, run_C.sl.r_150, run_C.sl.r_116, run_C.sl.r_64, run_C.sl.r_54, run_C.sl.r_92, run_C.sl.r_168, run_C.sl.r_14, run_C.sl.r_3, run_C.sl.r_155, run_C.sl.r_58, run_C.sl.r_146, run_C.sl.v1, run_C.sl.r_17, run_C.sl.r_59, run_C.sl.v141, run_C.sl.r_96, run_C.sl.r_42, run_C.sl.r_73, run_C.sl.v33, run_C.sl.r_111]
  simp (proj := false) only [View.readAt_full, View.readAt_unit (s := S2x2x1024x256) _ _ _ o3 b3, View.readAt_unit (s := S2x2x1024x256) _ _ _ o4 b4, View.readAt_unit (s := S8x8x256) _ _ _ o5 b5, View.readAt_unit (s := S8x1x256) _ _ _ o8 b8, Memref.IsWhole.read_unread, C_v46 c i arg14 harg14 arg16 harg16 hc2 xs1 xs3 s3 s4 q5 o3 b3, C_v60 c i arg14 harg14 arg16 harg16 hc2 xs1 xs3 s3 s4 q5 o4 b4, C_v64 c i arg14 harg14 arg16 harg16 hc2 xs1 xs3 s3 s4 q5 o4 b4 o5 b5]
  simp (proj := false) only [p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191]
  simp only [yT, cT, scanOut, aProd, bScan, dec, inp]

theorem runC_p (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : ¬cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s3 s4 : Fin 4 → ℕ) (q5 q8 : Fin 3 → ℕ) (o3 : k0_off3 i = s3) (o4 : k0_off4 i = s4) (o5 : k0_off5 i = q5) (o8 : k0_off8 i = q8) (b3 : ∀ a, s3 a + S1x1x1024x256.size a ≤ S2x2x1024x256.size a) (b4 : ∀ a, s4 a + S1x1x1024x256.size a ≤ S2x2x1024x256.size a) (b5 : ∀ a, q5 a + S1x8x256.size a ≤ S8x8x256.size a) (b8 : ∀ a, q8 a + S1x1x256.size a ≤ S8x1x256.size a) : arg16.view.read (Elt F) (arg16.view.writes (Elt F) (harg16.unread xs3) (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.2.2.1) = VecWindow.put xs3 q5 S1x8x256.size (pT (VecWindow.window xs1 s4 S1x1x1024x256.size b4)) := by
  unfold run_C
  rw [View.read_writes_cons_put _ _ _ _ _ o5, View.writes_nil, harg16.read_unread]
  refine congrArg (VecWindow.put xs3 q5 S1x8x256.size) ?_
  simp (proj := false) only [View.readAt_full, View.readAt_unit (s := S2x2x1024x256) _ _ _ o3 b3, View.readAt_unit (s := S2x2x1024x256) _ _ _ o4 b4, View.readAt_unit (s := S8x8x256) _ _ _ o5 b5, View.readAt_unit (s := S8x1x256) _ _ _ o8 b8, Memref.IsWhole.read_unread, C_v46 c i arg14 harg14 arg16 harg16 hc2 xs1 xs3 s3 s4 q5 o3 b3, C_v60 c i arg14 harg14 arg16 harg16 hc2 xs1 xs3 s3 s4 q5 o4 b4, C_v64 c i arg14 harg14 arg16 harg16 hc2 xs1 xs3 s3 s4 q5 o4 b4 o5 b5]
  rfl

theorem runC_s (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S1024x2048 .bf16) (harg13 : arg13.IsWhole) (arg14 : Memref sig .tc .vmem S2x2x1024x256 .f32) (harg14 : arg14.IsWhole) (arg15 : Memref sig .tc .vmem S8x1x256 .f32) (harg15 : arg15.IsWhole) (arg16 : Memref sig .tc .vmem S8x8x256 .f32) (harg16 : arg16.IsWhole) (hc0 : ¬cond0 i) (hc1 : ¬k0_cond2 i = 1#1) (hc2 : k0_cond3 i = 1#1)
    (x0 : Vec F S1024x2048 .f32) (x1 : Vec F S1x2048 .f32) (x2 : Vec F S2048x256 .bf16) (x3 : Vec F S2048x256 .bf16) (x4 : Vec F S4x256 .f32) (x5 : Vec F S1x256 .f32) (x6 : Vec F S1x256x256 .bf16) (x7 : Vec F S1x256 .f32) (x8 : Vec F S1x256x256 .bf16) (x9 : Vec F S1x256 .f32) (x10 : Vec F S1x256 .f32) (xs0 : Vec F S1024x2048 .bf16) (xs1 : Vec F S2x2x1024x256 .f32) (xs2 : Vec F S8x1x256 .f32) (xs3 : Vec F S8x8x256 .f32) (s6 s7 : Fin 4 → ℕ) (o6 : k0_off6 i = s6) (o7 : k0_off7 i = s7) : arg14.view.read (Elt F) (arg14.view.writes (Elt F) (harg14.unread xs1) (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 xs2 xs3).2.1) = VecWindow.put (VecWindow.put xs1 s6 S1x1x1024x256.size (k0_pay17 xs0 x2)) s7 S1x1x1024x256.size (k0_pay19 (k0_pay18 xs0 x3)) := by
  unfold run_C
  rw [View.read_writes_cons_put _ _ _ _ _ o7, View.read_writes_cons_put _ _ _ _ _ o6, View.writes_nil, harg14.read_unread]
  simp (proj := false) only [run_C.sl.r_7, View.readAt_full, Memref.IsWhole.read_unread]

end Cert.Scan

end
-- ==== Proof.Scan.Frame.lean ====
/- The recurrence kernel's run: what its scratch holds point by point, the body at every point, and the frame. -/
module

public import proofs.«01_k».proof.Proof.Scan.StepA
public import proofs.«01_k».proof.Proof.Scan.StepB
public import proofs.«01_k».proof.Proof.Scan.StepC
public import Idealize.ShloMosaic.Lib.Claim

@[expose] public section

set_option maxRecDepth 16384

noncomputable section

namespace Cert.Scan

open Cert.ScanKernelIdeal Cert.ScanKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which half of the projected rows' buffer. -/
abbrev slot (n k : ℕ) : Fin 4 → ℕ := ![n % 2, k, 0, 0]
/-- Which block of columns. -/
abbrev col (n : ℕ) : Fin 3 → ℕ := ![(n + 7) % 8, 0, 0]

theorem slot_in (n k : ℕ) (hk : k < 2) : ∀ a, slot n k a + S1x1x1024x256.size a ≤ S2x2x1024x256.size a := fun a => by
  match a with
  | ⟨0, _⟩ => show n % 2 + 1 ≤ 2; omega
  | ⟨1, _⟩ => show k + 1 ≤ 2; omega
  | ⟨2, _⟩ => show 0 + 1024 ≤ 1024; omega
  | ⟨3, _⟩ => show 0 + 256 ≤ 256; omega
theorem colp_in (n : ℕ) : ∀ a, col n a + S1x8x256.size a ≤ S8x8x256.size a := fun a => by
  match a with
  | ⟨0, _⟩ => show (n + 7) % 8 + 1 ≤ 8; omega
  | ⟨1, _⟩ => show 0 + 8 ≤ 8; omega
  | ⟨2, _⟩ => show 0 + 256 ≤ 256; omega
theorem colc_in (n : ℕ) : ∀ a, col n a + S1x1x256.size a ≤ S8x1x256.size a := fun a => by
  match a with
  | ⟨0, _⟩ => show (n + 7) % 8 + 1 ≤ 8; omega
  | ⟨1, _⟩ => show 0 + 1 ≤ 1; omega
  | ⟨2, _⟩ => show 0 + 256 ≤ 256; omega

/-- After the two stores of a point the buffer's half holds what was stored, whatever it held before. -/
theorem slots_put (x : Vec F S2x2x1024x256 .f32) (n : ℕ) (g v : Vec F S1x1x1024x256 .f32) :
    VecWindow.window (VecWindow.put (VecWindow.put x (slot n 0) S1x1x1024x256.size g) (slot n 1) S1x1x1024x256.size v) (slot n 0) S1x1x1024x256.size (slot_in n 0 (by omega)) = g
    ∧ VecWindow.window (VecWindow.put (VecWindow.put x (slot n 0) S1x1x1024x256.size g) (slot n 1) S1x1x1024x256.size v) (slot n 1) S1x1x1024x256.size (slot_in n 1 (by omega)) = v := by
  constructor
  · rw [VecWindow.window_put_of_disjoint _ _ _ _ _ _ _ (1 : Fin 4) (Or.inl (show (0 : ℕ) + 1 ≤ 1 by omega))]
    exact VecWindow.window_put_same _ _ _ _ _
  · exact VecWindow.window_put_same _ _ _ _ _

/-- What the scratch holds after a point: the normalised rows, the projected gate and branch rows of the point's column block,
    each column block's running state, and each column block's eight last projected rows. -/
structure St (F : FTy → Type) where
  hn : Vec F S1024x2048 .bf16
  g : Vec F S1x1x1024x256 .f32
  x : Vec F S1x1x1024x256 .f32
  c : Vec F S8x1x256 .f32
  p : Vec F S8x8x256 .f32

/-- The point's parameters. -/
def par (c : Dev nD) (t : Fin cfg0.N) : Par F :=
  ⟨iblk m c 4 t, iblk m c 5 t, iblk m c 6 t, iblk m c 7 t, iblk m c 8 t, iblk m c 9 t, iblk m c 10 t⟩

def first (c : Dev nD) (t : Fin cfg0.N) : St F :=
  ⟨k0_pay1 (iblk m c 0 t) (iblk m c 1 t), k0_pay6 (k0_pay1 (iblk m c 0 t) (iblk m c 1 t)) (iblk m c 2 t),
    k0_pay2 (k0_pay7 (k0_pay1 (iblk m c 0 t) (iblk m c 1 t)) (iblk m c 3 t)), k0_pay4, k0_pay5⟩

/-- The normalised rows a point works with: new ones at the first column block of a row block. -/
def hnOf (c : Dev nD) (t : Fin cfg0.N) (s : St F) : Vec F S1024x2048 .bf16 :=
  if t.val % 8 = 0 ∧ t.val < 64 then k0_pay1 (iblk m c 0 t) (iblk m c 1 t) else s.hn

/-- The rows above the tile and the state entering it. -/
def above (n : ℕ) (s : St F) : Vec F S1x8x256 .f32 := VecWindow.window s.p (col n) S1x8x256.size (colp_in n)
def enter (n : ℕ) (s : St F) : Vec F S1x1x256 .f32 := VecWindow.window s.c (col n) S1x1x256.size (colc_in n)

def step (c : Dev nD) (t : Fin cfg0.N) (s : St F) : St F :=
  ⟨hnOf m c t s, k0_pay17 (hnOf m c t s) (iblk m c 2 t), k0_pay19 (k0_pay18 (hnOf m c t s) (iblk m c 3 t)),
    VecWindow.put s.c (col t.val) S1x1x256.size (cT (par m c t) s.x (above t.val s) (enter t.val s)),
    VecWindow.put s.p (col t.val) S1x8x256.size (pT s.x)⟩

def stAt (c : Dev nD) : (n : ℕ) → n < cfg0.N → St F
  | 0, h => first m c ⟨0, h⟩
  | n + 1, h => step m c ⟨n + 1, h⟩ (stAt c n (Nat.lt_of_succ_lt h))

theorem stAt_first (c : Dev nD) (t : Fin cfg0.N) (hz : t.val = 0) : stAt m c t.val t.isLt = first m c t := by
  obtain ⟨n, h⟩ := t
  obtain rfl : n = 0 := hz
  rfl

theorem stAt_step (c : Dev nD) (t : Fin cfg0.N) (hz : t.val ≠ 0) :
    stAt m c t.val t.isLt = step m c t (stAt m c (t.val - 1) (by omega)) := by
  obtain ⟨n, h⟩ := t
  cases n with
  | zero => exact absurd rfl hz
  | succ n => rfl

/-- The tile a point writes: the point before projected it. -/
def tileOf (c : Dev nD) (t : Fin cfg0.N) (s : St F) : FVec F S1024x256 .bf16 :=
  yT (par m c t) s.g s.x (above t.val s) (enter t.val s)
def tileAt (c : Dev nD) (t : Fin cfg0.N) : FVec F S1024x256 .bf16 := tileOf m c t (stAt m c (t.val - 1) (by omega))

abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x256 .bf16 := win0_2.stage (cfg0.slots t 2)
abbrev ms0_3 (t : Fin cfg0.N) : Memref sig .tc .vmem S2048x256 .bf16 := win0_3.stage (cfg0.slots t 3)
abbrev ms0_4 (t : Fin cfg0.N) : Memref sig .tc .vmem S4x256 .f32 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S1x256x256 .bf16 := win0_6.stage (cfg0.slots t 6)
abbrev ms0_7 (t : Fin cfg0.N) : Memref sig .tc .vmem S1x256 .f32 := win0_7.stage (cfg0.slots t 7)
abbrev ms0_8 (t : Fin cfg0.N) : Memref sig .tc .vmem S1x256x256 .bf16 := win0_8.stage (cfg0.slots t 8)
abbrev ms0_9 (t : Fin cfg0.N) : Memref sig .tc .vmem S1x256 .f32 := win0_9.stage (cfg0.slots t 9)
abbrev ms0_10 (t : Fin cfg0.N) : Memref sig .tc .vmem S1x256 .f32 := win0_10.stage (cfg0.slots t 10)
abbrev ms0_11 (t : Fin cfg0.N) : Memref sig .tc .vmem S1024x256 .bf16 := win0_11.stage (cfg0.slots t 11)
abbrev scM0_0 : Memref sig .tc .vmem S1024x2048 .bf16 := Memref.whole cc0_scratch0
abbrev scM0_1 : Memref sig .tc .vmem S2x2x1024x256 .f32 := Memref.whole cc0_scratch1
abbrev scM0_2 : Memref sig .tc .vmem S8x1x256 .f32 := Memref.whole cc0_scratch2
abbrev scM0_3 : Memref sig .tc .vmem S8x8x256 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the scratch holds after point `n`, the other half of the projected rows' buffer left open. -/
def Held (c : Dev nD) (n : ℕ) (s : St F) : sProp 𝕄 :=
  iprop(∃ b : Vec F S2x2x1024x256 .f32, ⌜VecWindow.window b (slot n 0) S1x1x1024x256.size (slot_in n 0 (by omega)) = s.g
      ∧ VecWindow.window b (slot n 1) S1x1x1024x256.size (slot_in n 1 (by omega)) = s.x⌝
    ∗ owns (c : Thread nD τ) scM0_0 fullShare s.hn ∗ owns (c : Thread nD τ) scM0_1 fullShare b ∗ owns (c : Thread nD τ) scM0_2 fullShare s.c ∗ owns (c : Thread nD τ) scM0_3 fullShare s.p ∗ (∃ r, prngReg c r))

def PhiS (c : Dev nD) : (n : ℕ) → n ≤ cfg0.N → sProp 𝕄
  | 0, _ => Pipeline.ΦA spec0 c
  | n + 1, hn => Held c n (stAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = Held c n (stAt m c n hn) := rfl
theorem PhiS_pos (c : Dev nD) (n : ℕ) (h : n ≤ cfg0.N) (hz : n ≠ 0) :
    PhiS m c n h = Held c (n - 1) (stAt m c (n - 1) (by omega)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = tileAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after0_10]
theorem leaves0_11 (c : Dev nD) (t : Fin cfg0.N) (h : 1 ≤ t.val) : (dats m 0 c).leavesExact 11 t = owns (c : Thread nD τ) (ms0_11 t) fullShare (tileAt m c t) := by
  unfold Dat.leavesExact; rw [live0 t h, after0_11]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
theorem sound_A (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10]
  rw [Dat.leavesExact_idle (dats m 0 c) 11 t (idle0 t hz).1 (idle0 t hz).2]
  rw [PhiS_castSucc m c t, PhiS_zero m c _ _ hz, PhiA0_eq, stAt_first m c t hz]
  unfold Held first
  have o1 := funext (off1 t)
  have o2 := funext (off2 t)
  iintro ⟨⟨⟨HS0, ⟨%b, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run_A c (grid0.coords t) _ _ _ _ _ _ _ _ _ _ _ _ _ _ _ _ _ _ _ _ _ _ _ _ _ _ _ _ _ _ _ _ ((hcond0 t).mpr ⟨by omega, by omega⟩) ((hcond1 t).mpr hz) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) b).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%e0, HS0⟩, HS1, ⟨%e2, HS2⟩, ⟨%e3, HS3⟩⟩
  isplitl [HS0 HS1 HS2 HS3 Hg]
  · iexists _
    isplitr
    · ipureintro; exact slots_put b t.val _ _
    isplitl [HS0]
    · unfold owns; iexists _; isplitr
      swap; · iexact HS0
      ipureintro; exact (runA_hn c (grid0.coords t) _ _ _ _ _ _ _ _ _ _ _ _ _ _ _ _ _ _ _ _ _ _ _ _ _ _ _ _ _ _ _ _ ((hcond0 t).mpr ⟨by omega, by omega⟩) ((hcond1 t).mpr hz) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)
    isplitl [HS1]
    · unfold owns; iexists _; isplitr
      swap; · iexact HS1
      ipureintro; exact (runA_s c (grid0.coords t) _ _ _ _ _ _ _ _ _ _ _ _ _ _ _ _ _ _ _ _ _ _ _ _ _ _ _ _ _ _ _ _ ((hcond0 t).mpr ⟨by omega, by omega⟩) ((hcond1 t).mpr hz) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ o1 o2)
    isplitl [HS2]
    · unfold owns; iexists _; isplitr
      swap; · iexact HS2
      ipureintro; exact (runA_c c (grid0.coords t) _ _ _ _ _ _ _ _ _ _ _ _ _ _ _ _ _ _ _ _ _ _ _ _ _ _ _ _ _ _ _ _ ((hcond0 t).mpr ⟨by omega, by omega⟩) ((hcond1 t).mpr hz) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)
    isplitl [HS3]
    · unfold owns; iexists _; isplitr
      swap; · iexact HS3
      ipureintro; exact (runA_p c (grid0.coords t) _ _ _ _ _ _ _ _ _ _ _ _ _ _ _ _ _ _ _ _ _ _ _ _ _ _ _ _ _ _ _ _ ((hcond0 t).mpr ⟨by omega, by omega⟩) ((hcond1 t).mpr hz) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 4000000 in
theorem sound_B (c : Dev nD) (t : Fin cfg0.N) (hz : t.val ≠ 0) (hb : t.val % 8 = 0 ∧ t.val < 64) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10]
  rw [leaves0_11 m c t (by omega), PhiS_castSucc m c t, PhiS_pos m c _ _ hz, stAt_step m c t hz]
  unfold tileAt
  generalize stAt m c (t.val - 1) (by omega) = s
  unfold Held step tileOf
  rw [show hnOf m c t s = k0_pay1 (iblk m c 0 t) (iblk m c 1 t) from if_pos hb]
  have o3 : k0_off3 (grid0.coords t) = slot (t.val - 1) 0 := (funext (off3 t)).trans (by rw [show (t.val + 1) % 2 = (t.val - 1) % 2 by omega])
  have o4 : k0_off4 (grid0.coords t) = slot (t.val - 1) 1 := (funext (off4 t)).trans (by rw [show (t.val + 1) % 2 = (t.val - 1) % 2 by omega])
  have o5 : k0_off5 (grid0.coords t) = col t.val := funext (off5 t)
  have o6 : k0_off6 (grid0.coords t) = slot t.val 0 := funext (off6 t)
  have o7 : k0_off7 (grid0.coords t) = slot t.val 1 := funext (off7 t)
  have o8 : k0_off8 (grid0.coords t) = col t.val := funext (off8 t)
  iintro ⟨⟨%b, %hb2, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hg, hx⟩ := hb2
  iapply ((run_B c (grid0.coords t) _ _ _ _ _ _ _ _ _ _ _ _ _ _ _ _ _ _ _ _ _ _ _ _ _ _ _ _ _ _ _ _ ((hcond0 t).mpr hb) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) s.hn b s.c s.p).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, ⟨%e0, HS0⟩, HS1, HS2, HS3⟩
  isplitl [HS0 HS1 HS2 HS3 Hg]
  · iexists _
    isplitr
    · ipureintro; exact slots_put b t.val _ _
    isplitl [HS0]
    · unfold owns; iexists _; isplitr
      swap; · iexact HS0
      ipureintro; exact (runB_hn c (grid0.coords t) _ _ _ _ _ _ _ _ _ _ _ _ _ _ _ _ _ _ _ _ _ _ _ _ _ _ _ _ _ _ _ _ ((hcond0 t).mpr hb) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _)
    isplitl [HS1]
    · unfold owns; iexists _; isplitr
      swap; · iexact HS1
      ipureintro; exact (runB_s c (grid0.coords t) _ _ _ _ _ _ _ _ _ _ _ _ _ _ _ _ _ _ _ _ _ _ _ _ _ _ _ _ _ _ _ _ ((hcond0 t).mpr hb) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ o6 o7)
    isplitl [HS2]
    · unfold owns; iexists _; isplitr
      swap; · iexact HS2
      ipureintro; exact (runB_c c (grid0.coords t) _ _ _ _ _ _ _ _ _ _ _ _ _ _ _ _ _ _ _ _ _ _ _ _ _ _ _ _ _ _ _ _ ((hcond0 t).mpr hb) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ _ _ o3 o4 o5 o8 (slot_in (t.val - 1) 0 (by omega)) (slot_in (t.val - 1) 1 (by omega)) (colp_in t.val) (colc_in t.val)).trans (by rw [hx]; rfl)
    isplitl [HS3]
    · unfold owns; iexists _; isplitr
      swap; · iexact HS3
      ipureintro; exact (runB_p c (grid0.coords t) _ _ _ _ _ _ _ _ _ _ _ _ _ _ _ _ _ _ _ _ _ _ _ _ _ _ _ _ _ _ _ _ ((hcond0 t).mpr hb) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ _ _ o3 o4 o5 o8 (slot_in (t.val - 1) 0 (by omega)) (slot_in (t.val - 1) 1 (by omega)) (colp_in t.val) (colc_in t.val)).trans (by rw [hx])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact (runB_y c (grid0.coords t) _ _ _ _ _ _ _ _ _ _ _ _ _ _ _ _ _ _ _ _ _ _ _ _ _ _ _ _ _ _ _ _ ((hcond0 t).mpr hb) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ _ _ o3 o4 o5 o8 (slot_in (t.val - 1) 0 (by omega)) (slot_in (t.val - 1) 1 (by omega)) (colp_in t.val) (colc_in t.val) _).trans (by rw [hg, hx]; rfl)

set_option maxHeartbeats 4000000 in
theorem sound_C (c : Dev nD) (t : Fin cfg0.N) (hz : t.val ≠ 0) (hb : ¬(t.val % 8 = 0 ∧ t.val < 64)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10]
  rw [leaves0_11 m c t (by omega), PhiS_castSucc m c t, PhiS_pos m c _ _ hz, stAt_step m c t hz]
  unfold tileAt
  generalize stAt m c (t.val - 1) (by omega) = s
  unfold Held step tileOf
  rw [show hnOf m c t s = s.hn from if_neg hb]
  have o3 : k0_off3 (grid0.coords t) = slot (t.val - 1) 0 := (funext (off3 t)).trans (by rw [show (t.val + 1) % 2 = (t.val - 1) % 2 by omega])
  have o4 : k0_off4 (grid0.coords t) = slot (t.val - 1) 1 := (funext (off4 t)).trans (by rw [show (t.val + 1) % 2 = (t.val - 1) % 2 by omega])
  have o5 : k0_off5 (grid0.coords t) = col t.val := funext (off5 t)
  have o6 : k0_off6 (grid0.coords t) = slot t.val 0 := funext (off6 t)
  have o7 : k0_off7 (grid0.coords t) = slot t.val 1 := funext (off7 t)
  have o8 : k0_off8 (grid0.coords t) = col t.val := funext (off8 t)
  iintro ⟨⟨%b, %hb2, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hg, hx⟩ := hb2
  iapply ((run_C c (grid0.coords t) _ _ _ _ _ _ _ _ _ _ _ _ _ _ _ _ _ _ _ _ _ _ _ _ _ _ _ _ _ _ _ _ (fun h => hb ((hcond0 t).mp h)) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) s.hn b s.c s.p).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, HS0, HS1, HS2, HS3⟩
  isplitl [HS0 HS1 HS2 HS3 Hg]
  · iexists _
    isplitr
    · ipureintro; exact slots_put b t.val _ _
    isplitl [HS0]; · iexact HS0
    isplitl [HS1]
    · unfold owns; iexists _; isplitr
      swap; · iexact HS1
      ipureintro; exact (runC_s c (grid0.coords t) _ _ _ _ _ _ _ _ _ _ _ _ _ _ _ _ _ _ _ _ _ _ _ _ _ _ _ _ _ _ _ _ (fun h => hb ((hcond0 t).mp h)) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ o6 o7)
    isplitl [HS2]
    · unfold owns; iexists _; isplitr
      swap; · iexact HS2
      ipureintro; exact (runC_c c (grid0.coords t) _ _ _ _ _ _ _ _ _ _ _ _ _ _ _ _ _ _ _ _ _ _ _ _ _ _ _ _ _ _ _ _ (fun h => hb ((hcond0 t).mp h)) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ _ _ o3 o4 o5 o8 (slot_in (t.val - 1) 0 (by omega)) (slot_in (t.val - 1) 1 (by omega)) (colp_in t.val) (colc_in t.val)).trans (by rw [hx]; rfl)
    isplitl [HS3]
    · unfold owns; iexists _; isplitr
      swap; · iexact HS3
      ipureintro; exact (runC_p c (grid0.coords t) _ _ _ _ _ _ _ _ _ _ _ _ _ _ _ _ _ _ _ _ _ _ _ _ _ _ _ _ _ _ _ _ (fun h => hb ((hcond0 t).mp h)) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ _ _ o3 o4 o5 o8 (slot_in (t.val - 1) 0 (by omega)) (slot_in (t.val - 1) 1 (by omega)) (colp_in t.val) (colc_in t.val)).trans (by rw [hx])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact (runC_y c (grid0.coords t) _ _ _ _ _ _ _ _ _ _ _ _ _ _ _ _ _ _ _ _ _ _ _ _ _ _ _ _ _ _ _ _ (fun h => hb ((hcond0 t).mp h)) (fun h => hz ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ b _ _ _ _ _ _ o3 o4 o5 o8 (slot_in (t.val - 1) 0 (by omega)) (slot_in (t.val - 1) 1 (by omega)) (colp_in t.val) (colc_in t.val) _).trans (by rw [hg, hx]; rfl)

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  · by_cases hb : t.val % 8 = 0 ∧ t.val < 64
    · exact sound_B m c t hz hb
    · exact sound_C m c t hz hb

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold Held
  iintro ⟨%b, %hb, HS0, HS1, HS2, HS3, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
/-- Every run of the kernel ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Scan

end
-- ==== Proof.Scan.Bits.lean ====
/- The recurrence kernel's frame at the machine's bits, taken from the run proved once over any
   floats: the module read at the bits and the module read at the ideal have the same text, so
   their bodies, call tables and launches are the same. -/
module

public import proofs.«01_k».proof.Defs
public import proofs.«01_k».proof.Proof.Gen.ScanKernel.Frame
public import proofs.«01_k».proof.Proof.Scan.Frame
public import Idealize.ShloMosaic.Lib.Quiescent

@[expose] public section

noncomputable section

namespace Cert.Scan
open Idealize.ShloMosaic Idealize.SL.Sem

/-- The two bodies at a grid point and its staging buffers are the same program. -/
theorem same_at (t : Fin Cert.ScanKernel.grid0.N) (s : (w : Fin 12) → Fin (Cert.ScanKernel.win0 w).nbuf) : Cert.ScanKernel.defs₀ (F := Bits) .tc 0 (t, s) = Cert.ScanKernelIdeal.defs₀ (F := Bits) .tc 0 (t, s) := rfl

/-- The same at a pair. -/
theorem same_pair (a : Fin Cert.ScanKernel.grid0.N × ((w : Fin 12) → Fin (Cert.ScanKernel.win0 w).nbuf)) : Cert.ScanKernel.defs₀ (F := Bits) .tc (0 : Fin 1) a = Cert.ScanKernelIdeal.defs₀ (F := Bits) .tc (0 : Fin 1) a := by
  cases a with
  | mk t s => exact same_at t s

/-- The same as functions. -/
theorem same_label : Cert.ScanKernel.defs₀ (F := Bits) .tc (0 : Fin 1) = Cert.ScanKernelIdeal.defs₀ (F := Bits) .tc (0 : Fin 1) :=
  funext same_pair

/-- Two functions of the one label agree when they agree at it. -/
theorem eq_of_label {β : Fin 1 → Type 1} (f g : ∀ l, β l) (h : f 0 = g 0) : f = g :=
  funext fun l => by
    obtain rfl : l = 0 := Subsingleton.elim l 0
    exact h

/-- The TensorCore rows agree. -/
theorem same_tc : Cert.ScanKernel.defs₀ (F := Bits) .tc = Cert.ScanKernelIdeal.defs₀ (F := Bits) .tc :=
  eq_of_label (β := fun l => Cert.ScanKernelIdeal.Λ₀.Args l → Prog (TpuEff Cert.ScanKernelIdeal.nD Cert.ScanKernelIdeal.τ Cert.ScanKernelIdeal.sig (Elt Bits) Cert.ScanKernelIdeal.Λ₀ .tc) (Cert.ScanKernelIdeal.Λ₀.Result l)) _ _ same_label

/-- The body tables agree. -/
theorem same_bodies : Cert.ScanKernel.defs₀ (F := Bits) = Cert.ScanKernelIdeal.defs₀ (F := Bits) :=
  congrArg Defs.onTc same_tc

/-- The call tables agree. -/
theorem same_calls : Cert.ScanKernel.defs (F := Bits) = Cert.ScanKernelIdeal.defs (F := Bits) :=
  congrArg (Pipeline.defs Cert.ScanKernelIdeal.pcfgs) same_bodies

/-- The kernel read at the bits keeps its arguments and its flags. -/
theorem quiescent_bits : Cert.quiescent_ScanKernel := fun m ρ _ => by
  show θ_run (Cert.ScanKernel.defs (F := Bits)) _ _ _
  rw [same_calls]
  exact Cert.Scan.frame (F := Bits) m ρ

end Cert.Scan
end
-- ==== Proof.Res.Value.lean ====
/- The projection with its residual: each tile of the result is the input's tile plus the product of a block of rows with a
   block of columns, so the result array is the reference's. -/
module

public import proofs.«01_k».proof.Proof.Gen.ResKernelIdeal.Value
public import proofs.«01_k».proof.Proof.Gen.ResKernelIdeal.Skeleton
public import proofs.«01_k».proof.Proof.Gen.ResReferenceIdeal.Read
public import Idealize.ShloMosaic.Lib.Pointwise

@[expose] public section

set_option maxRecDepth 16384

noncomputable section

open Idealize.ShloMosaic Idealize.ShloMosaic.Pointwise Idealize.ShloMosaic.TcCoe Idealize.SL.Sem
open Cert.ResKernelIdeal Cert.ResKernelIdeal.Gen

namespace Cert.Res

/-- The result at row `r`, column `d`. -/
def proj (a : Vec Ideal S8192x2048 .bf16) (w : Vec Ideal S2048x2048 .f32) (x : Vec Ideal S8192x2048 .f32)
    (r : Fin 8192) (d : Fin 2048) : EReal :=
  x (ix2 r d) + ∑ k : Fin 2048, a (ix2 r k) * w (ix2 k d)

theorem ref_apply (a : Vec Ideal S8192x2048 .bf16) (w : Vec Ideal S2048x2048 .f32) (x : Vec Ideal S8192x2048 .f32)
    (r : Fin 8192) (d : Fin 2048) :
    Cert.ResReferenceIdeal.Read.val_main_v2 (F := Ideal) a w x (ix2 r d) = proj a w x r d := by
  pointwise [Cert.ResReferenceIdeal.Read.val_main_v0, Cert.ResReferenceIdeal.Read.val_main_v1, Cert.ResReferenceIdeal.Read.val_main_v2]
  rfl

/-- A tile of the result. -/
theorem pay_apply (x : Vec Ideal S1024x1024 .f32) (a : Vec Ideal S1024x2048 .bf16) (w : Vec Ideal S2048x1024 .bf16)
    (r d : Fin 1024) : k0_pay1 x a w (ix2 r d) = x (ix2 r d) + ∑ k : Fin 2048, a (ix2 r k) * w (ix2 k d) := by
  pointwise [k0_pay1]
  try rfl

variable (m : (ℓ : Loc nD τ sig) → Buf (Elt Ideal) ℓ) (c : Dev nD)

abbrev A : Vec Ideal S8192x2048 .bf16 := m ((c : Thread nD τ).loc main_arg0)
abbrev W : Vec Ideal S2048x2048 .f32 := m ((c : Thread nD τ).loc main_arg1)
abbrev X : Vec Ideal S8192x2048 .f32 := m ((c : Thread nD τ).loc main_arg2)

theorem V_w (k d : Fin 2048) : V m c main_v0 (ix2 k d) = W m c (ix2 k d) := by
  have e : V m c main_v0 = (truncf .bf16 (m ((c : Thread nD τ).loc main_arg1) : FVec Ideal S2048x2048 .f32) bitsLt_bf16_f32 : FVec Ideal S2048x2048 .bf16) := by
    show StableHlo.after hostOps0 _ _ = _
    after_results <;> rfl
  rw [e]
  pointwise

theorem win_a : ∀ t : Fin grid0.N, win0_0.index t 0 = t.val / 2 ∧ win0_0.index t 1 = 0 := by decide +kernel
theorem win_w : ∀ t : Fin grid0.N, win0_1.index t 0 = 0 ∧ win0_1.index t 1 = t.val % 2 := by decide +kernel
theorem win_x : ∀ t : Fin grid0.N, win0_2.index t 0 = t.val / 2 ∧ win0_2.index t 1 = t.val % 2 := by decide +kernel
theorem win_o : ∀ t : Fin grid0.N, (win0_3.index t 0 = t.val / 2 ∧ win0_3.index t 1 = t.val % 2) ∧ (cfg0.win 3).flush t = true := by decide +kernel

variable (t : Fin cfg0.N)

theorem iblk_a (r : Fin 1024) (k : Fin 2048) (R : Fin 8192) (hR : R.val = t.val / 2 * 1024 + r.val) :
    (iblk m c 0 t : Vec Ideal S1024x2048 .bf16) (ix2 r k) = A m c (ix2 R k) := by
  unfold iblk
  rw [View.read_apply]
  show V m c main_arg0 _ = _
  rw [V_main_arg0]
  congr 1
  funext a
  apply Fin.ext
  match a with
  | ⟨0, _⟩ => show win0_0.index t 0 * 1024 + 1 * r.val = R.val; rw [(win_a t).1]; omega
  | ⟨1, _⟩ => show win0_0.index t 1 * 2048 + 1 * k.val = k.val; rw [(win_a t).2]; omega

theorem iblk_w (k : Fin 2048) (d : Fin 1024) (D : Fin 2048) (hD : D.val = t.val % 2 * 1024 + d.val) :
    (iblk m c 1 t : Vec Ideal S2048x1024 .bf16) (ix2 k d) = W m c (ix2 k D) := by
  rw [← V_w m c k D]
  unfold iblk
  rw [View.read_apply]
  show V m c main_v0 _ = _
  congr 1
  funext a
  apply Fin.ext
  match a with
  | ⟨0, _⟩ => show win0_1.index t 0 * 2048 + 1 * k.val = k.val; rw [(win_w t).1]; omega
  | ⟨1, _⟩ => show win0_1.index t 1 * 1024 + 1 * d.val = D.val; rw [(win_w t).2]; omega

theorem iblk_x (r d : Fin 1024) (R : Fin 8192) (D : Fin 2048) (hR : R.val = t.val / 2 * 1024 + r.val)
    (hD : D.val = t.val % 2 * 1024 + d.val) :
    (iblk m c 2 t : Vec Ideal S1024x1024 .f32) (ix2 r d) = X m c (ix2 R D) := by
  unfold iblk
  rw [View.read_apply]
  show V m c main_arg2 _ = _
  rw [V_main_arg2]
  congr 1
  funext a
  apply Fin.ext
  match a with
  | ⟨0, _⟩ => show win0_2.index t 0 * 1024 + 1 * r.val = R.val; rw [(win_x t).1]; omega
  | ⟨1, _⟩ => show win0_2.index t 1 * 1024 + 1 * d.val = D.val; rw [(win_x t).2]; omega

theorem z2 : (![0, 0] : Fin 2 → Nat) = fun _ => 0 := funext fun a => by fin_cases a <;> rfl

/-- What a point writes back. -/
theorem out_eq (x0 : Vec Ideal S1024x2048 .bf16) (x1 : Vec Ideal S2048x1024 .bf16) (x2 : Vec Ideal S1024x1024 .f32) :
    out0_3 x0 x1 x2 = k0_pay1 x2 x0 x1 := by
  unfold out0_3
  rw [View.canon_unit_zero z2, View.ld_unit_zero (S := S1024x1024) z2, View.ld_unit_zero (S := S1024x2048) z2, View.ld_unit_zero (S := S2048x1024) z2]

/-- The result array after the run, at an index. -/
theorem arr_apply (R : Fin 8192) (D : Fin 2048) :
    (dats m 0 c).arrAt 3 cfg0.N (ix2 R D) = proj (A m c) (W m c) (X m c) R D := by
  have hR := R.isLt
  have hD := D.isLt
  have hN : cfg0.N = 16 := N_0
  let t : Fin cfg0.N := ⟨2 * (R.val / 1024) + D.val / 1024, by omega⟩
  let r : Fin 1024 := ⟨R.val % 1024, by omega⟩
  let d : Fin 1024 := ⟨D.val % 1024, by omega⟩
  have ht : t.val = 2 * (R.val / 1024) + D.val / 1024 := rfl
  have hr : R.val = t.val / 2 * 1024 + r.val := by show R.val = t.val / 2 * 1024 + R.val % 1024; omega
  have hd : D.val = t.val % 2 * 1024 + d.val := by show D.val = t.val % 2 * 1024 + D.val % 1024; omega
  have h := congrFun (Value.blocks3 m c t (win_o t).2) (ix2 r d)
  rw [View.read_apply, Value.flushed3] at h
  refine Eq.trans (congrArg ((dats m 0 c).arrAt 3 cfg0.N) (?_ : _ = _)) (h.trans ?_)
  · funext a
    apply Fin.ext
    match a with
    | ⟨0, _⟩ => show R.val = win0_3.index t 0 * 1024 + 1 * r.val; rw [(win_o t).1.1]; omega
    | ⟨1, _⟩ => show D.val = win0_3.index t 1 * 1024 + 1 * d.val; rw [(win_o t).1.2]; omega
  · show out0_3 (iblk m c 0 t) (iblk m c 1 t) (iblk m c 2 t) (ix2 r d) = _
    rw [out_eq, pay_apply, iblk_x m c t r d R D hr hd]
    unfold proj
    simp only [iblk_a m c t r _ R hr, iblk_w m c t _ d D hd]

/-- The kernel's result array is the reference's. -/
theorem value_eq : (dats m 0 c).arrAt 3 cfg0.N
    = Cert.ResReferenceIdeal.Read.val_main_v2 (F := Ideal) (A m c) (W m c) (X m c) := by
  funext i
  idx_vars i
  exact (arr_apply m c _ _).trans (ref_apply _ _ _ _ _).symm

end Cert.Res
end
-- ==== Proof.Scan.Spec.lean ====
/- The recurrence layer as plain formulas over the extended reals: the projected row, the short convolution above it, the
   two gates, the decay and the input of the recurrence, its states, and the gated result. -/
module

public import Idealize.ShloMosaic.Lib.Pointwise
public import Idealize.ShloMosaic.Lib.IdealHost

@[expose] public section

noncomputable section

open Idealize.ShloMosaic

namespace Cert.Scan

/-- The layer's arguments, entry by entry. -/
structure In where
  x : Fin 8192 → Fin 2048 → EReal
  g : Fin 2048 → EReal
  w : Fin 2048 → Fin 4096 → EReal
  cw : Fin 4 → Fin 2048 → EReal
  cb : Fin 2048 → EReal
  wa : Fin 8 → Fin 256 → Fin 256 → EReal
  ba : Fin 2048 → EReal
  wx : Fin 8 → Fin 256 → Fin 256 → EReal
  bx : Fin 2048 → EReal
  lam : Fin 2048 → EReal

/-- A row scaled by the inverse of its root mean square. -/
def nrmRow (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The tanh form of the Gaussian gate. -/
def gel (z : EReal) : EReal :=
  z * (Ideal.ofBits .f32 0x3F000000#32 * (1 + Ideal.tanh (Ideal.ofBits .f32 0x3F4C422A#32 *
    (z + Ideal.ofBits .f32 0x3D372713#32 * (z * (z * z))))))

/-- `log (1 + exp v)`, without overflow. -/
def sp (v : EReal) : EReal := max v 0 + Ideal.log (1 + Ideal.exp (-(max v (-v))))

/-- The column block of a column. -/
abbrev cblk (d : Fin 2048) : Fin 8 := ⟨d.val / 256, by omega⟩

/-- The column within its block. -/
abbrev coff (d : Fin 2048) : Fin 256 := ⟨d.val % 256, by omega⟩

/-- Column `e` of block `j`. -/
abbrev ccol (j : Fin 8) (e : Fin 256) : Fin 2048 := ⟨j.val * 256 + e.val, by omega⟩

namespace In

variable (I : In)

def proj (t : Fin 8192) (j : Fin 4096) : EReal := ∑ k : Fin 2048, nrmRow (I.x t) I.g k * I.w k j

/-- The recurrence branch. -/
def br (t : Fin 8192) (d : Fin 2048) : EReal := I.proj t ⟨2048 + d.val, by omega⟩

/-- The branch `k` rows above row `t`, zero above the first row. -/
def up (k : ℕ) (t : Fin 8192) (d : Fin 2048) : EReal :=
  if h : k ≤ t.val then I.br ⟨t.val - k, by omega⟩ d else 0

def conv (t : Fin 8192) (d : Fin 2048) : EReal :=
  I.cb d + I.up 3 t d * I.cw 0 d + I.up 2 t d * I.cw 1 d + I.up 1 t d * I.cw 2 d + I.up 0 t d * I.cw 3 d

/-- A gate: a product of the convolved row's block with a weight block, a bias, a sigmoid. -/
def mix (W : Fin 8 → Fin 256 → Fin 256 → EReal) (b : Fin 2048 → EReal) (t : Fin 8192) (d : Fin 2048) : EReal :=
  Ideal.logistic ((∑ e : Fin 256, I.conv t (ccol (cblk d) e) * W (cblk d) e (coff d)) + b d)

/-- The logarithm of the decay. -/
def la (t : Fin 8192) (d : Fin 2048) : EReal :=
  Ideal.ofBits .f32 0xC1000000#32 * I.mix I.wa I.ba t d * sp (-(I.lam d))

def a (t : Fin 8192) (d : Fin 2048) : EReal := Ideal.exp (I.la t d)

def b (t : Fin 8192) (d : Fin 2048) : EReal :=
  I.conv t d * I.mix I.wx I.bx t d * Ideal.sqrt (1 - I.a t d * I.a t d)

/-- The gate on the result. -/
def gate (t : Fin 8192) (d : Fin 2048) : EReal := gel (I.proj t ⟨d.val, by omega⟩)

/-- The state before row `n`. -/
def st (d : Fin 2048) : ℕ → EReal
  | 0 => 0
  | n + 1 => if h : n < 8192 then I.a ⟨n, h⟩ d * st d n + I.b ⟨n, h⟩ d else 0

def out (t : Fin 8192) (d : Fin 2048) : EReal := I.st d (t.val + 1) * I.gate t d

end In

/-- The bit pattern of two. -/
theorem ofBits_two : Ideal.ofBits .f32 0x40000000#32 = ((2 : ℝ) : EReal) := by
  simp [Ideal.ofBits, Ideal.ieee, -EReal.coe_mul]; norm_num

/-- The bit pattern of minus eight. -/
theorem ofBits_neg_eight : Ideal.ofBits .f32 0xC1000000#32 = ((-8 : ℝ) : EReal) := by
  simp [Ideal.ofBits, Ideal.ieee, -EReal.coe_mul, -EReal.coe_neg]; norm_num

/-- One minus the square of a decay, written from the decay's logarithm. -/
theorem neg_exp_two (L : EReal) : -(Ideal.exp (Ideal.ofBits .f32 0x40000000#32 * L) - 1) = 1 - Ideal.exp L * Ideal.exp L := by
  rw [ofBits_two]
  induction L with
  | bot =>
    rw [EReal.coe_mul_bot_of_pos (by norm_num)]
    show -((0 : EReal) - 1) = 1 - 0 * 0
    norm_num
  | top =>
    rw [EReal.coe_mul_top_of_pos (by norm_num)]
    show -((⊤ : EReal) - 1) = 1 - ⊤ * ⊤
    rw [EReal.top_mul_top]
    rfl
  | coe r =>
    rw [← EReal.coe_mul]
    show -(((Real.exp (2 * r) : ℝ) : EReal) - ((1 : ℝ) : EReal)) = ((1 : ℝ) : EReal) - ((Real.exp r : ℝ) : EReal) * ((Real.exp r : ℝ) : EReal)
    rw [← EReal.coe_mul, ← EReal.coe_sub, ← EReal.coe_sub, ← EReal.coe_neg, two_mul, Real.exp_add]
    congr 1
    ring

/-- A multiplier that distributes over every sum: not negative, not infinite. -/
def Good (a : EReal) : Prop := 0 ≤ a ∧ a ≠ ⊤

theorem Good.mul {a b : EReal} (ha : Good a) (hb : Good b) : Good (a * b) := by
  obtain ⟨ha0, ha1⟩ := ha
  obtain ⟨hb0, hb1⟩ := hb
  lift a to ℝ using ⟨ha1, fun h => by rw [h] at ha0; exact absurd ha0 (by decide)⟩
  lift b to ℝ using ⟨hb1, fun h => by rw [h] at hb0; exact absurd hb0 (by decide)⟩
  refine ⟨?_, ?_⟩
  · rw [← EReal.coe_mul]; exact EReal.coe_nonneg.2 (mul_nonneg (EReal.coe_nonneg.1 ha0) (EReal.coe_nonneg.1 hb0))
  · rw [← EReal.coe_mul]; exact EReal.coe_ne_top _

theorem exp_nonneg (x : EReal) : 0 ≤ Ideal.exp x := by
  induction x with
  | bot => exact le_refl _
  | top => exact le_top
  | coe r => exact EReal.coe_nonneg.2 (Real.exp_pos r).le

theorem good_exp {x : EReal} (h : x ≤ 0) : Good (Ideal.exp x) := by
  refine ⟨exp_nonneg x, ?_⟩
  induction x with
  | bot => exact EReal.zero_ne_top
  | top => exact absurd h (by decide)
  | coe r => exact EReal.coe_ne_top _

theorem log_nonneg {x : EReal} (h : 1 ≤ x) : 0 ≤ Ideal.log x := by
  induction x with
  | bot => exact absurd h (by decide)
  | top => exact le_top
  | coe r =>
    have hr : 1 ≤ r := by exact_mod_cast h
    show (0 : EReal) ≤ if r ≤ 0 then ⊥ else (Real.log r : EReal)
    rw [if_neg (by linarith)]
    exact EReal.coe_nonneg.2 (Real.log_nonneg hr)

theorem sp_nonneg (v : EReal) : 0 ≤ sp v :=
  add_nonneg (le_max_right _ _) (log_nonneg (le_add_of_nonneg_right (exp_nonneg _)))

theorem logistic_nonneg (x : EReal) : 0 ≤ Ideal.logistic x := by
  have h : (0 : EReal) < 1 + Ideal.exp (-x) :=
    lt_of_lt_of_le zero_lt_one (le_add_of_nonneg_right (exp_nonneg _))
  unfold Ideal.logistic Ideal.div
  rw [if_neg h.ne']
  rw [one_mul]
  exact EReal.inv_nonneg_of_nonneg h.le

theorem In.good (I : In) (t : Fin 8192) (d : Fin 2048) : Good (I.a t d) := by
  refine good_exp ?_
  unfold In.la
  refine mul_nonpos_of_nonpos_of_nonneg (mul_nonpos_of_nonpos_of_nonneg ?_ (logistic_nonneg _)) (sp_nonneg _)
  rw [ofBits_neg_eight]
  exact_mod_cast (by norm_num : (-8 : ℝ) ≤ 0)

/-- Two steps of the recurrence in one. -/
theorem comb {a : EReal} (h : Good a) (b a' b' p : EReal) : (a * b' + b) + (a * a') * p = b + a * (b' + a' * p) := by
  rw [EReal.left_distrib_of_nonneg_of_ne_top h.1 h.2, mul_assoc, add_comm (a * b') b, add_assoc]

end Cert.Scan
end
-- ==== Proof.Scan.TileScan.lean ====
/- The scan inside one tile: three doubling steps within groups of eight rows, then the groups one after another, give the
   states of the recurrence row by row. -/
module

public import proofs.«01_k».proof.Proof.Scan.Tile
public import proofs.«01_k».proof.Proof.Scan.Spec

@[expose] public section

set_option maxRecDepth 16384

noncomputable section

open Idealize.ShloMosaic Idealize.ShloMosaic.Pointwise
open Cert.ScanKernelIdeal Cert.ScanKernelIdeal.Gen

namespace Cert.Scan

/-- A row at or below the shift reads the shifted row. -/
theorem sge1 : ∀ r : Fin 8, IntOp.cmpi .sge (BitVec.ofNat 32 r.val) 1#32 = if 1 ≤ r.val then 1#1 else 0#1 := by decide
theorem sge2 : ∀ r : Fin 8, IntOp.cmpi .sge (BitVec.ofNat 32 r.val) 2#32 = if 2 ≤ r.val then 1#1 else 0#1 := by decide
theorem sge4 : ∀ r : Fin 8, IntOp.cmpi .sge (BitVec.ofNat 32 r.val) 4#32 = if 4 ≤ r.val then 1#1 else 0#1 := by decide

variable (a b : FVec Ideal S128x8x256 .f32) (k : Fin 128) (d : Fin 256)

/-- The products of decays after one, two and three doubling steps. -/
def A1 : FVec Ideal S128x8x256 .f32 := k0_pay24 a k0_pay23 1#32
def A2 : FVec Ideal S128x8x256 .f32 := k0_pay25 a (iota .tc S128x8x256 32 [1] iota_S128x8x256_d1_w32) k0_pay23 1#32

theorem a1_lt (r : Fin 8) (h : r.val < 1) : A1 a (ix3 k r d) = a (ix3 k r d) := by
  unfold A1
  pointwise [k0_pay24, k0_pay23]
  rw [sge1, if_neg (by omega)]
  exact mul_one _

theorem a1_ge (r s : Fin 8) (h : s.val + 1 = r.val) : A1 a (ix3 k r d) = a (ix3 k r d) * a (ix3 k s d) := by
  unfold A1
  pointwise [k0_pay24, k0_pay23]
  rw [sge1, if_pos (by omega)]
  have e : (⟨(r.val + 8 - 1) % 8, by omega⟩ : Fin 8) = s := Fin.ext (by show (r.val + 8 - 1) % 8 = s.val; omega)
  rw [← e]
  rfl

theorem a2_lt (r : Fin 8) (h : r.val < 2) : A2 a (ix3 k r d) = A1 a (ix3 k r d) := by
  unfold A1 A2
  pointwise [k0_pay25]
  rw [sge2, if_neg (by omega)]
  exact mul_one _

theorem a2_ge (r s : Fin 8) (h : s.val + 2 = r.val) : A2 a (ix3 k r d) = A1 a (ix3 k r d) * A1 a (ix3 k s d) := by
  unfold A1 A2
  pointwise [k0_pay25]
  rw [sge2, if_pos (by omega)]
  have e : (⟨(r.val + 8 - 2) % 8, by omega⟩ : Fin 8) = s := Fin.ext (by show (r.val + 8 - 2) % 8 = s.val; omega)
  rw [← e]
  rfl

theorem a3_lt (r : Fin 8) (h : r.val < 4) : aProd a (ix3 k r d) = A2 a (ix3 k r d) := by
  unfold A2
  pointwise [aProd, k0_pay27]
  rw [sge4, if_neg (by omega)]
  exact mul_one _

theorem a3_ge (r s : Fin 8) (h : s.val + 4 = r.val) : aProd a (ix3 k r d) = A2 a (ix3 k r d) * A2 a (ix3 k s d) := by
  unfold A2
  pointwise [aProd, k0_pay27]
  rw [sge4, if_pos (by omega)]
  have e : (⟨(r.val + 8 - 4) % 8, by omega⟩ : Fin 8) = s := Fin.ext (by show (r.val + 8 - 4) % 8 = s.val; omega)
  rw [← e]
  rfl

/-- The inputs after the second doubling step. -/
def B2 (r : Fin 8) : EReal :=
  Scalar.select (IntOp.cmpi .sge (BitVec.ofNat 32 r.val) 2#32) (A1 a (ix3 k r d) * b (ix3 k ⟨(r.val + 8 - 2) % 8, by omega⟩ d)) 0 + b (ix3 k r d)

theorem b2_lt (r : Fin 8) (h : r.val < 2) : B2 a b k d r = b (ix3 k r d) := by
  unfold B2
  rw [sge2, if_neg (by omega)]
  exact zero_add _

theorem b2_ge (r s : Fin 8) (h : s.val + 2 = r.val) : B2 a b k d r = A1 a (ix3 k r d) * b (ix3 k s d) + b (ix3 k r d) := by
  unfold B2
  rw [sge2, if_pos (by omega)]
  have e : (⟨(r.val + 8 - 2) % 8, by omega⟩ : Fin 8) = s := Fin.ext (by show (r.val + 8 - 2) % 8 = s.val; omega)
  rw [e]
  rfl

theorem b3_eq (r : Fin 8) : bScan a b (ix3 k r d) =
    Scalar.select (IntOp.cmpi .sge (BitVec.ofNat 32 r.val) 4#32) (A2 a (ix3 k r d) * B2 a b k d ⟨(r.val + 8 - 4) % 8, by omega⟩) 0 + B2 a b k d r := by
  unfold B2 A2 A1
  pointwise [bScan, k0_pay26]

theorem b3_lt (r : Fin 8) (h : r.val < 4) : bScan a b (ix3 k r d) = B2 a b k d r := by
  rw [b3_eq, sge4, if_neg (by omega)]
  exact zero_add _

theorem b3_ge (r s : Fin 8) (h : s.val + 4 = r.val) : bScan a b (ix3 k r d) = A2 a (ix3 k r d) * B2 a b k d s + B2 a b k d r := by
  rw [b3_eq, sge4, if_pos (by omega)]
  have e : (⟨(r.val + 8 - 4) % 8, by omega⟩ : Fin 8) = s := Fin.ext (by show (r.val + 8 - 4) % 8 = s.val; omega)
  rw [e]
  rfl

section Steps
variable (hg : ∀ r : Fin 8, Good (a (ix3 k r d)))
include hg

theorem good_a1 (r : Fin 8) : Good (A1 a (ix3 k r d)) := by
  by_cases h : r.val < 1
  · rw [a1_lt a k d r h]; exact hg r
  · rw [a1_ge a k d r ⟨r.val - 1, by omega⟩ (by show r.val - 1 + 1 = r.val; omega)]; exact (hg _).mul (hg _)

theorem good_a2 (r : Fin 8) : Good (A2 a (ix3 k r d)) := by
  by_cases h : r.val < 2
  · rw [a2_lt a k d r h]; exact good_a1 a k d hg r
  · rw [a2_ge a k d r ⟨r.val - 2, by omega⟩ (by show r.val - 2 + 2 = r.val; omega)]; exact (good_a1 a k d hg _).mul (good_a1 a k d hg _)

variable (b0 : Fin 8 → EReal)
  (hb0 : ∀ r : Fin 8, r.val < 1 → b (ix3 k r d) = b0 r)
  (hb1 : ∀ r s : Fin 8, s.val + 1 = r.val → b (ix3 k r d) = a (ix3 k r d) * b0 s + b0 r)
include hb0 hb1

/-- A group of eight rows from the state above it: the state below each row. -/
theorem group_at (σ : ℕ → EReal) (hs : ∀ r : Fin 8, σ (r.val + 1) = b0 r + a (ix3 k r d) * σ r.val) (r : Fin 8) :
    bScan a b (ix3 k r d) + aProd a (ix3 k r d) * σ 0 = σ (r.val + 1) := by
  have s1 : ∀ r : Fin 8, r.val < 1 → ∀ n, n = r.val → b (ix3 k r d) + A1 a (ix3 k r d) * σ n = σ (r.val + 1) := by
    rintro r h n rfl
    rw [hb0 r h, a1_lt a k d r h, hs r]
  have s1' : ∀ r s : Fin 8, s.val + 1 = r.val → ∀ n, n = s.val → b (ix3 k r d) + A1 a (ix3 k r d) * σ n = σ (r.val + 1) := by
    rintro r s h n rfl
    rw [hb1 r s h, a1_ge a k d r s h, comb (hg r), ← hs s, h, hs r]
  have t1 : ∀ r : Fin 8, ∀ n, n = r.val - 1 → b (ix3 k r d) + A1 a (ix3 k r d) * σ n = σ (r.val + 1) := by
    intro r n hn
    by_cases h : r.val < 1
    · exact s1 r h n (by omega)
    · exact s1' r ⟨r.val - 1, by omega⟩ (by show r.val - 1 + 1 = r.val; omega) n hn
  have t2 : ∀ r : Fin 8, ∀ n, n = r.val - 3 → B2 a b k d r + A2 a (ix3 k r d) * σ n = σ (r.val + 1) := by
    intro r n hn
    by_cases h : r.val < 2
    · rw [b2_lt a b k d r h, a2_lt a k d r h]
      exact t1 r n (by omega)
    · have hs : (⟨r.val - 2, by omega⟩ : Fin 8).val + 2 = r.val := by show r.val - 2 + 2 = r.val; omega
      rw [b2_ge a b k d r _ hs, a2_ge a k d r _ hs, comb (good_a1 a k d hg r), t1 ⟨r.val - 2, by omega⟩ n (by show n = r.val - 2 - 1; omega)]
      exact t1 r _ (by show r.val - 2 + 1 = r.val - 1; omega)
  by_cases h : r.val < 4
  · rw [b3_lt a b k d r h, a3_lt a k d r h]
    exact t2 r 0 (by omega)
  · have hs : (⟨r.val - 4, by omega⟩ : Fin 8).val + 4 = r.val := by show r.val - 4 + 4 = r.val; omega
    rw [b3_ge a b k d r _ hs, a3_ge a k d r _ hs, comb (good_a2 a k d hg r), t2 ⟨r.val - 4, by omega⟩ 0 (by show 0 = r.val - 4 - 3; omega)]
    exact t2 r _ (by show r.val - 4 + 1 = r.val - 3; omega)

end Steps

theorem grp_at (A B : FVec Ideal S128x8x256 .f32) (p : FVec Ideal S1x256 .f32) (r : Fin 8) :
    grp A B k p (ix2 r d) = B (ix3 k r d) + A (ix3 k r d) * p (ix2 0 d) := by
  pointwise [grp, row]

theorem last_at (h : FVec Ideal S8x256 .f32) : last h (ix2 0 d) = h (ix2 7 d) := by
  pointwise [last]

section Groups
variable (c : Vec Ideal S1x1x256 .f32) (σ : ℕ → EReal) (h0 : σ 0 = c (ix3 0 0 d))
  (hk : ∀ (k : Fin 128) (r : Fin 8), bScan a b (ix3 k r d) + aProd a (ix3 k r d) * σ (8 * k.val) = σ (8 * k.val + r.val + 1))
include h0 hk

theorem car_at : ∀ n : ℕ, n ≤ 128 → car (aProd a) (bScan a b) c n (ix2 0 d) = σ (8 * n)
  | 0, _ => by
    pointwise [car]
    exact h0.symm
  | n + 1, hn => by
    unfold car
    rw [last_at, grp_at, car_at n (by omega)]
    have e : (Fin.ofNat 128 n).val = n := Nat.mod_eq_of_lt (by omega)
    have := hk (Fin.ofNat 128 n) 7
    rw [e] at this
    exact this

theorem blk_at (n : Fin 128) (r : Fin 8) : blk (aProd a) (bScan a b) c n.val (ix2 r d) = σ (8 * n.val + r.val + 1) := by
  unfold blk
  have e : Fin.ofNat 128 n.val = n := Fin.ext (Nat.mod_eq_of_lt n.isLt)
  rw [grp_at, car_at a b d c σ h0 hk n.val n.isLt.le, e]
  exact hk n r

end Groups

theorem concat_congr {α : Type} {t : Shape} {a : Fin t.rank} {xs ys : List ((s : Shape) × (s.Idx → α))} (e : xs = ys)
    (h : Shape.Concatenates (xs.map (·.1)) t a) : concatenate t a xs h = concatenate t a ys (e ▸ h) := by
  subst e; rfl

def pieces (A B : FVec Ideal S128x8x256 .f32) (c : Vec Ideal S1x1x256 .f32) : List ((s : Shape) × (s.Idx → EReal)) :=
  List.ofFn fun k : Fin 128 => ⟨S8x256, blk A B c k.val⟩

theorem pieces_fst (A B : FVec Ideal S128x8x256 .f32) (c : Vec Ideal S1x1x256 .f32) : (pieces A B c).map (·.1) = List.replicate 128 S8x256 := by
  unfold pieces
  rw [List.map_ofFn]
  exact List.ofFn_const 128 S8x256

theorem pieces_fit (A B : FVec Ideal S128x8x256 .f32) (c : Vec Ideal S1x1x256 .f32) : Shape.Concatenates ((pieces A B c).map (·.1)) S1024x256 0 := by
  rw [pieces_fst]
  exact concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S1024x256_d0

theorem scanOut_eq (A B : FVec Ideal S128x8x256 .f32) (c : Vec Ideal S1x1x256 .f32) :
    scanOut A B c = concatenate S1024x256 0 (pieces A B c) (pieces_fit A B c) := by
  unfold scanOut
  delta k0_pay192
  exact concat_congr (by
    simp only [p184, p185, p186, p187, p188, p189, p190]
    rfl) _

theorem scanOut_at (A B : FVec Ideal S128x8x256 .f32) (c : Vec Ideal S1x1x256 .f32) (n : Fin 1024) (k : Fin 128) (r : Fin 8) (h : n.val = 8 * k.val + r.val) :
    scanOut A B c (ix2 n d) = blk A B c k.val (ix2 r d) := by
  rw [scanOut_eq]
  have hd : n.val / 8 = k.val := by omega
  have hm : r.val = n.val % 8 := by omega
  have key := fun (f : Fin 128 → S8x256.Idx → EReal) (hf) => concatenate_ofFn_apply (t := S1024x256) (s₁ := S8x256) 0 f hf rfl 8 rfl (ix2 n d) k hd (ix2 r d) hm
    (fun b hb => by
      match b with
      | ⟨0, _⟩ => exact absurd rfl hb
      | ⟨1, _⟩ => rfl)
  exact key (fun k : Fin 128 => blk A B c k.val) (pieces_fit A B c)

end Cert.Scan
end
-- ==== Proof.Scan.TileValue.lean ====
/- One tile of the recurrence's kernel, entry by entry: with the projected rows, the rows above, the parameters and the state
   above given by the layer's formulas, the tile's result, its last state and its last rows are the formulas' too. -/
module

public import proofs.«01_k».proof.Proof.Scan.TileScan

@[expose] public section

set_option maxRecDepth 16384

noncomputable section

open Idealize.ShloMosaic Idealize.ShloMosaic.Pointwise
open Cert.ScanKernelIdeal Cert.ScanKernelIdeal.Gen

namespace Cert.Scan

/-- Row `r` of row block `i`. -/
abbrev rrow (i : Fin 8) (r : Fin 1024) : Fin 8192 := ⟨i.val * 1024 + r.val, by omega⟩

/-- The parameters of a block of columns are the layer's. -/
structure Fits (I : In) (P : Par Ideal) (j : Fin 8) : Prop where
  cw : ∀ (k : Fin 4) (d : Fin 256), P.cw (ix2 k d) = I.cw k (ccol j d)
  cb : ∀ d : Fin 256, P.cb (ix2 0 d) = I.cb (ccol j d)
  wa : ∀ e d : Fin 256, P.wa (ix3 0 e d) = I.wa j e d
  ba : ∀ d : Fin 256, P.ba (ix2 0 d) = I.ba (ccol j d)
  wx : ∀ e d : Fin 256, P.wx (ix3 0 e d) = I.wx j e d
  bx : ∀ d : Fin 256, P.bx (ix2 0 d) = I.bx (ccol j d)
  lam : ∀ d : Fin 256, P.lam (ix2 0 d) = I.lam (ccol j d)

theorem rev4 (a b c d e : EReal) : a + b + c + d + e = a + e + d + c + b := by ac_rfl

theorem cblk_ccol (j : Fin 8) (d : Fin 256) : cblk (ccol j d) = j := Fin.ext (by show (j.val * 256 + d.val) / 256 = j.val; omega)
theorem coff_ccol (j : Fin 8) (d : Fin 256) : coff (ccol j d) = d := Fin.ext (by show (j.val * 256 + d.val) % 256 = d.val; omega)

variable (I : In) (P : Par Ideal) (i j : Fin 8) (x : Vec Ideal S1x1x1024x256 .f32) (h : Vec Ideal S1x8x256 .f32) (c : Vec Ideal S1x1x256 .f32)

section
variable (hP : Fits I P j)
  (hx : ∀ (r : Fin 1024) (d : Fin 256), x (ix4 0 0 r d) = I.br (rrow i r) (ccol j d))
  (hh : ∀ (r : Fin 8) (d : Fin 256), h (ix3 0 r d) = I.up (8 - r.val) (rrow i 0) (ccol j d))
include hP hx hh

theorem taps (s : ℕ) (hs : s ≤ 3) (r : Fin 1024) (d : Fin 256) (n : Fin 1032) (hn : n.val + s = r.val + 8) :
    k0_pay10 x h (ix2 n d) = I.up s (rrow i r) (ccol j d) := by
  pointwise [k0_pay10, k0_pay9]
  by_cases hlt : n.val < 8
  · rw [dif_pos hlt, hh]
    unfold In.up
    by_cases h0 : i.val = 0
    · rw [dif_neg (by show ¬ 8 - n.val ≤ i.val * 1024 + 0; omega), dif_neg (by show ¬ s ≤ i.val * 1024 + r.val; omega)]
    · rw [dif_pos (by show 8 - n.val ≤ i.val * 1024 + 0; omega), dif_pos (by show s ≤ i.val * 1024 + r.val; omega)]
      congr 1
      apply Fin.ext
      show i.val * 1024 + 0 - (8 - n.val) = i.val * 1024 + r.val - s
      omega
  · rw [dif_neg hlt, hx]
    unfold In.up
    rw [dif_pos (by show s ≤ i.val * 1024 + r.val; omega)]
    congr 1
    apply Fin.ext
    show i.val * 1024 + (n.val - 8) = i.val * 1024 + r.val - s
    omega

theorem conv_tile (r : Fin 1024) (d : Fin 256) :
    k0_pay11 (k0_pay9 x) (k0_pay10 x h) P.cw P.cb (ix2 r d) = I.conv (rrow i r) (ccol j d) := by
  have e0 : k0_pay9 x (ix2 r d) = I.up 0 (rrow i r) (ccol j d) := by
    pointwise [k0_pay9]
    rw [hx]
    unfold In.up
    rw [dif_pos (Nat.zero_le _)]
    rfl
  pointwise [k0_pay11]
  rw [e0, taps I P i j x h hP hx hh 1 (by omega) r d _ (by show (8 + r.val + 1032 - 1) % 1032 + 1 = r.val + 8; omega),
    taps I P i j x h hP hx hh 2 (by omega) r d _ (by show (8 + r.val + 1032 - 2) % 1032 + 2 = r.val + 8; omega),
    taps I P i j x h hP hx hh 3 (by omega) r d _ (by show (8 + r.val + 1032 - 3) % 1032 + 3 = r.val + 8; omega),
    hP.cb, hP.cw, hP.cw, hP.cw, hP.cw]
  exact rev4 _ _ _ _ _

theorem r_tile (r : Fin 1024) (d : Fin 256) :
    k0_pay14 (k0_pay9 x) (k0_pay10 x h) P.cw P.cb P.wa P.ba (ix2 r d) = I.mix I.wa I.ba (rrow i r) (ccol j d) := by
  pointwise [k0_pay14, k0_pay13]
  unfold In.mix
  simp only [conv_tile I P i j x h hP hx hh, hP.wa, hP.ba, cblk_ccol, coff_ccol]

theorem i_tile (r : Fin 1024) (d : Fin 256) :
    k0_pay16 (k0_pay15 (k0_pay9 x) (k0_pay10 x h) P.cw P.cb P.wx) P.bx (ix2 r d) = I.mix I.wx I.bx (rrow i r) (ccol j d) := by
  pointwise [k0_pay16, k0_pay15, k0_pay13]
  unfold In.mix
  simp only [conv_tile I P i j x h hP hx hh, hP.wx, hP.bx, cblk_ccol, coff_ccol]

end

theorem pay20_at (v : FVec Ideal S1024x256 .f32) (l : Vec Ideal S1x256 .f32) (r : Fin 1024) (d : Fin 256) :
    k0_pay20 v l (ix2 r d) = Ideal.exp (Ideal.ofBits .f32 0xC1000000#32 * v (ix2 r d) * sp (-(l (ix2 0 d)))) := by
  pointwise [k0_pay20]
  rw [zero_sub, zero_sub]
  rfl

theorem out_at (g : Vec Ideal S1x1x1024x256 .f32) (v : FVec Ideal S1024x256 .f32) (r : Fin 1024) (d : Fin 256) :
    k0_pay3 (k0_pay8 g) v (ix2 r d) = v (ix2 r d) * gel (g (ix4 0 0 r d)) := by
  pointwise [k0_pay3, k0_pay8]
  rfl

theorem pT_at (r : Fin 8) (d : Fin 256) : pT x (ix3 0 r d) = x (ix4 0 0 ⟨1016 + r.val, by omega⟩ d) := by
  pointwise [pT, k0_pay12, k0_pay9]

theorem pay21_at (v : FVec Ideal S1024x256 .f32) (l : Vec Ideal S1x256 .f32) (k : Fin 128) (r : Fin 8) (d : Fin 256) :
    k0_pay21 v l (ix3 k r d) = k0_pay20 v l (ix2 ⟨k.val * 8 + r.val, by omega⟩ d) := by
  pointwise [k0_pay21]

/-- The row `r` of group `k` of a tile. -/
abbrev grow (k : Fin 128) (r : Fin 8) : Fin 1024 := ⟨k.val * 8 + r.val, by omega⟩

/-- A row's own input to the recurrence, from the tile's pieces. -/
def own (v90 v104 v112 : FVec Ideal S1024x256 .f32) (l : Vec Ideal S1x256 .f32) (n : Fin 1024) (d : Fin 256) : EReal :=
  v90 (ix2 n d) * v112 (ix2 n d) * Ideal.sqrt (1 - k0_pay20 v104 l (ix2 n d) * k0_pay20 v104 l (ix2 n d))

theorem pay22_at (v90 v104 v112 : FVec Ideal S1024x256 .f32) (l : Vec Ideal S1x256 .f32) (k : Fin 128) (r : Fin 8) (d : Fin 256) :
    k0_pay22 v90 v104 v112 l (ix3 k r d) =
      Scalar.select (IntOp.cmpi .sge (BitVec.ofNat 32 r.val) 1#32)
        (k0_pay20 v104 l (ix2 (grow k r) d) * own v90 v104 v112 l ⟨k.val * 8 + (r.val + 8 - 1) % 8, by omega⟩ d) 0 + own v90 v104 v112 l (grow k r) d := by
  unfold own
  pointwise [k0_pay22, k0_pay21]
  try rfl

section
variable (hP : Fits I P j)
  (hx : ∀ (r : Fin 1024) (d : Fin 256), x (ix4 0 0 r d) = I.br (rrow i r) (ccol j d))
  (hh : ∀ (r : Fin 8) (d : Fin 256), h (ix3 0 r d) = I.up (8 - r.val) (rrow i 0) (ccol j d))
include hP hx hh

theorem a_tile (r : Fin 1024) (d : Fin 256) :
    k0_pay20 (k0_pay14 (k0_pay9 x) (k0_pay10 x h) P.cw P.cb P.wa P.ba) P.lam (ix2 r d) = I.a (rrow i r) (ccol j d) := by
  rw [pay20_at, r_tile I P i j x h hP hx hh, hP.lam]
  rfl

theorem dec_at (k : Fin 128) (r : Fin 8) (d : Fin 256) : dec P x h (ix3 k r d) = I.a (rrow i (grow k r)) (ccol j d) := by
  unfold dec
  rw [pay21_at, a_tile I P i j x h hP hx hh]

theorem own_at (n : Fin 1024) (d : Fin 256) :
    own (k0_pay11 (k0_pay9 x) (k0_pay10 x h) P.cw P.cb) (k0_pay14 (k0_pay9 x) (k0_pay10 x h) P.cw P.cb P.wa P.ba)
      (k0_pay16 (k0_pay15 (k0_pay9 x) (k0_pay10 x h) P.cw P.cb P.wx) P.bx) P.lam n d = I.b (rrow i n) (ccol j d) := by
  unfold own
  rw [conv_tile I P i j x h hP hx hh, a_tile I P i j x h hP hx hh, i_tile I P i j x h hP hx hh]
  rfl

theorem inp_lt (k : Fin 128) (r : Fin 8) (hr : r.val < 1) (d : Fin 256) : inp P x h (ix3 k r d) = I.b (rrow i (grow k r)) (ccol j d) := by
  unfold inp
  rw [pay22_at, sge1, if_neg (by omega), own_at I P i j x h hP hx hh (grow k r)]
  exact zero_add _

theorem inp_ge (k : Fin 128) (r s : Fin 8) (hr : s.val + 1 = r.val) (d : Fin 256) :
    inp P x h (ix3 k r d) = dec P x h (ix3 k r d) * I.b (rrow i (grow k s)) (ccol j d) + I.b (rrow i (grow k r)) (ccol j d) := by
  have e : (⟨k.val * 8 + (r.val + 8 - 1) % 8, by omega⟩ : Fin 1024) = grow k s :=
    Fin.ext (by show k.val * 8 + (r.val + 8 - 1) % 8 = k.val * 8 + s.val; omega)
  rw [dec_at I P i j x h hP hx hh]
  unfold inp
  rw [pay22_at, sge1, if_pos (by omega), own_at I P i j x h hP hx hh (grow k r), e, own_at I P i j x h hP hx hh (grow k s),
    a_tile I P i j x h hP hx hh]
  rfl

variable (hc : ∀ d : Fin 256, c (ix3 0 0 d) = I.st (ccol j d) (i.val * 1024))
include hc

/-- The states at the rows of the tile. -/
theorem groups (d : Fin 256) (k : Fin 128) (r : Fin 8) :
    bScan (dec P x h) (inp P x h) (ix3 k r d) + aProd (dec P x h) (ix3 k r d) * I.st (ccol j d) (i.val * 1024 + 8 * k.val) =
      I.st (ccol j d) (i.val * 1024 + (8 * k.val + r.val + 1)) := by
  have key := group_at (dec P x h) (inp P x h) k d (fun r => by rw [dec_at I P i j x h hP hx hh]; exact I.good _ _)
    (fun r => I.b (rrow i (grow k r)) (ccol j d)) (fun r hr => inp_lt I P i j x h hP hx hh k r hr d)
    (fun r s hr => inp_ge I P i j x h hP hx hh k r s hr d) (fun n => I.st (ccol j d) (i.val * 1024 + 8 * k.val + n)) (fun r => by
      rw [dec_at I P i j x h hP hx hh]
      show I.st (ccol j d) (i.val * 1024 + 8 * k.val + r.val + 1) = _
      rw [In.st, dif_pos (by omega)]
      have e : (⟨i.val * 1024 + 8 * k.val + r.val, by omega⟩ : Fin 8192) = rrow i (grow k r) :=
        Fin.ext (by show i.val * 1024 + 8 * k.val + r.val = i.val * 1024 + (k.val * 8 + r.val); omega)
      rw [e]
      exact add_comm _ _) r
  have e : i.val * 1024 + (8 * k.val + r.val + 1) = i.val * 1024 + 8 * k.val + (r.val + 1) := by omega
  rw [e]
  exact key

theorem scanOut_tile (n : Fin 1024) (d : Fin 256) :
    scanOut (aProd (dec P x h)) (bScan (dec P x h) (inp P x h)) c (ix2 n d) = I.st (ccol j d) ((rrow i n).val + 1) := by
  rw [scanOut_at d _ _ c n ⟨n.val / 8, by omega⟩ ⟨n.val % 8, by omega⟩ (by show n.val = 8 * (n.val / 8) + n.val % 8; omega),
    blk_at (dec P x h) (inp P x h) d c (fun n => I.st (ccol j d) (i.val * 1024 + n)) (hc d).symm
      (fun k r => groups I P i j x h c hP hx hh hc d k r)]
  congr 1
  show i.val * 1024 + (8 * (n.val / 8) + n.val % 8 + 1) = i.val * 1024 + n.val + 1
  omega

/-- The state the tile leaves. -/
theorem cT_at (d : Fin 256) : cT P x h c (ix3 0 0 d) = I.st (ccol j d) (i.val * 1024 + 1024) := by
  have key := car_at (dec P x h) (inp P x h) d c (fun n => I.st (ccol j d) (i.val * 1024 + n)) (hc d).symm
      (fun k r => groups I P i j x h c hP hx hh hc d k r) 128 (le_refl _)
  unfold cT
  pointwise [scanCar]
  exact key

/-- The result tile. -/
theorem yT_at (g : Vec Ideal S1x1x1024x256 .f32)
    (hg : ∀ (r : Fin 1024) (d : Fin 256), g (ix4 0 0 r d) = I.proj (rrow i r) ⟨(ccol j d).val, by omega⟩) (n : Fin 1024) (d : Fin 256) :
    yT P g x h c (ix2 n d) = I.out (rrow i n) (ccol j d) := by
  unfold yT
  rw [out_at, scanOut_tile I P i j x h c hP hx hh hc, hg]
  rfl

end

end Cert.Scan
end
-- ==== Proof.Scan.Reads.lean ====
/- What the recurrence's kernel reads: each window's block is the layer's input at its place, and a tile's projections are
   the layer's. -/
module

public import proofs.«01_k».proof.Proof.Scan.Frame
public import proofs.«01_k».proof.Proof.Scan.TileValue

@[expose] public section

set_option maxRecDepth 16384

noncomputable section

open Idealize.ShloMosaic Idealize.ShloMosaic.Pointwise Idealize.ShloMosaic.TcCoe Idealize.SL.Sem
open Cert.ScanKernelIdeal Cert.ScanKernelIdeal.Gen

namespace Cert.Scan

variable (m : (ℓ : Loc nD τ sig) → Buf (Elt Ideal) ℓ) (c : Dev nD)

/-- The layer's inputs, read from the kernel's memory. -/
def inK : In where
  x t k := (m ((c : Thread nD τ).loc main_arg0) : Vec Ideal S8192x2048 .f32) (ix2 t k)
  g k := (m ((c : Thread nD τ).loc main_arg1) : Vec Ideal S2048 .f32) (ix1 k)
  w k j := (m ((c : Thread nD τ).loc main_arg2) : Vec Ideal S2048x4096 .f32) (ix2 k j)
  cw k d := (m ((c : Thread nD τ).loc main_arg3) : Vec Ideal S4x2048 .f32) (ix2 k d)
  cb d := (m ((c : Thread nD τ).loc main_arg4) : Vec Ideal S2048 .f32) (ix1 d)
  wa n e d := (m ((c : Thread nD τ).loc main_arg5) : Vec Ideal S8x256x256 .f32) (ix3 n e d)
  ba d := (m ((c : Thread nD τ).loc main_arg6) : Vec Ideal S2048 .f32) (ix1 d)
  wx n e d := (m ((c : Thread nD τ).loc main_arg7) : Vec Ideal S8x256x256 .f32) (ix3 n e d)
  bx d := (m ((c : Thread nD τ).loc main_arg8) : Vec Ideal S2048 .f32) (ix1 d)
  lam d := (m ((c : Thread nD τ).loc main_arg9) : Vec Ideal S2048 .f32) (ix1 d)

theorem V_w (k : Fin 2048) (j : Fin 4096) : (V m c main_v0 : Vec Ideal S2048x4096 .bf16) (ix2 k j) = (inK m c).w k j := by
  have h : (V m c main_v0 : Vec Ideal S2048x4096 .bf16)
      = (truncf .bf16 (m ((c : Thread nD τ).loc main_arg2) : FVec Ideal S2048x4096 .f32) bitsLt_bf16_f32 : FVec Ideal S2048x4096 .bf16) := by
    show StableHlo.after hostOps0 _ _ = _; after_results <;> rfl
  rw [h]; rfl

theorem V_wa (n : Fin 8) (e d : Fin 256) : (V m c main_v1 : Vec Ideal S8x256x256 .bf16) (ix3 n e d) = (inK m c).wa n e d := by
  have h : (V m c main_v1 : Vec Ideal S8x256x256 .bf16)
      = (truncf .bf16 (m ((c : Thread nD τ).loc main_arg5) : FVec Ideal S8x256x256 .f32) bitsLt_bf16_f32 : FVec Ideal S8x256x256 .bf16) := by
    show StableHlo.after hostOps0 _ _ = _; after_results <;> rfl
  rw [h]; rfl

theorem V_wx (n : Fin 8) (e d : Fin 256) : (V m c main_v2 : Vec Ideal S8x256x256 .bf16) (ix3 n e d) = (inK m c).wx n e d := by
  have h : (V m c main_v2 : Vec Ideal S8x256x256 .bf16)
      = (truncf .bf16 (m ((c : Thread nD τ).loc main_arg7) : FVec Ideal S8x256x256 .f32) bitsLt_bf16_f32 : FVec Ideal S8x256x256 .bf16) := by
    show StableHlo.after hostOps0 _ _ = _; after_results <;> rfl
  rw [h]; rfl

theorem row_of (v : Vec Ideal S2048 .f32) (d : Fin 2048) : (shapeCast S1x2048 v shapeCasts_S2048_S1x2048) (ix2 0 d) = v (ix1 d) := by
  pointwise []

theorem V_g (d : Fin 2048) : (V m c main_v3 : Vec Ideal S1x2048 .f32) (ix2 0 d) = (inK m c).g d := by
  have h : (V m c main_v3 : Vec Ideal S1x2048 .f32)
      = shapeCast S1x2048 (m ((c : Thread nD τ).loc main_arg1) : Vec Ideal S2048 .f32) shapeCasts_S2048_S1x2048 := by
    show StableHlo.after hostOps0 _ _ = _; after_results <;> rfl
  rw [h]; exact row_of _ _

theorem V_cb (d : Fin 2048) : (V m c main_v4 : Vec Ideal S1x2048 .f32) (ix2 0 d) = (inK m c).cb d := by
  have h : (V m c main_v4 : Vec Ideal S1x2048 .f32)
      = shapeCast S1x2048 (m ((c : Thread nD τ).loc main_arg4) : Vec Ideal S2048 .f32) shapeCasts_S2048_S1x2048 := by
    show StableHlo.after hostOps0 _ _ = _; after_results <;> rfl
  rw [h]; exact row_of _ _

theorem V_ba (d : Fin 2048) : (V m c main_v5 : Vec Ideal S1x2048 .f32) (ix2 0 d) = (inK m c).ba d := by
  have h : (V m c main_v5 : Vec Ideal S1x2048 .f32)
      = shapeCast S1x2048 (m ((c : Thread nD τ).loc main_arg6) : Vec Ideal S2048 .f32) shapeCasts_S2048_S1x2048 := by
    show StableHlo.after hostOps0 _ _ = _; after_results <;> rfl
  rw [h]; exact row_of _ _

theorem V_bx (d : Fin 2048) : (V m c main_v6 : Vec Ideal S1x2048 .f32) (ix2 0 d) = (inK m c).bx d := by
  have h : (V m c main_v6 : Vec Ideal S1x2048 .f32)
      = shapeCast S1x2048 (m ((c : Thread nD τ).loc main_arg8) : Vec Ideal S2048 .f32) shapeCasts_S2048_S1x2048 := by
    show StableHlo.after hostOps0 _ _ = _; after_results <;> rfl
  rw [h]; exact row_of _ _

theorem V_lam (d : Fin 2048) : (V m c main_v7 : Vec Ideal S1x2048 .f32) (ix2 0 d) = (inK m c).lam d := by
  have h : (V m c main_v7 : Vec Ideal S1x2048 .f32)
      = shapeCast S1x2048 (m ((c : Thread nD τ).loc main_arg9) : Vec Ideal S2048 .f32) shapeCasts_S2048_S1x2048 := by
    show StableHlo.after hostOps0 _ _ = _; after_results <;> rfl
  rw [h]; exact row_of _ _

/- The index maps. -/
theorem win_x : ∀ t : Fin grid0.N, win0_0.index t 0 = min t.val 63 / 8 ∧ win0_0.index t 1 = 0 := by decide +kernel
theorem win_g : ∀ t : Fin grid0.N, win0_1.index t 0 = 0 ∧ win0_1.index t 1 = 0 := by decide +kernel
theorem win_wg : ∀ t : Fin grid0.N, win0_2.index t 0 = 0 ∧ (t.val < 64 → win0_2.index t 1 = t.val % 8) := by decide +kernel
theorem win_wb : ∀ t : Fin grid0.N, win0_3.index t 0 = 0 ∧ (t.val < 64 → win0_3.index t 1 = 8 + t.val % 8) := by decide +kernel
theorem win_cw : ∀ t : Fin grid0.N, win0_4.index t 0 = 0 ∧ (t.val ≠ 0 → win0_4.index t 1 = (t.val + 7) % 8) := by decide +kernel
theorem win_cb : ∀ t : Fin grid0.N, win0_5.index t 0 = 0 ∧ (t.val ≠ 0 → win0_5.index t 1 = (t.val + 7) % 8) := by decide +kernel
theorem win_wa : ∀ t : Fin grid0.N, (t.val ≠ 0 → win0_6.index t 0 = (t.val + 7) % 8) ∧ win0_6.index t 1 = 0 ∧ win0_6.index t 2 = 0 := by decide +kernel
theorem win_ba : ∀ t : Fin grid0.N, win0_7.index t 0 = 0 ∧ (t.val ≠ 0 → win0_7.index t 1 = (t.val + 7) % 8) := by decide +kernel
theorem win_wxx : ∀ t : Fin grid0.N, (t.val ≠ 0 → win0_8.index t 0 = (t.val + 7) % 8) ∧ win0_8.index t 1 = 0 ∧ win0_8.index t 2 = 0 := by decide +kernel
theorem win_bx : ∀ t : Fin grid0.N, win0_9.index t 0 = 0 ∧ (t.val ≠ 0 → win0_9.index t 1 = (t.val + 7) % 8) := by decide +kernel
theorem win_lam : ∀ t : Fin grid0.N, win0_10.index t 0 = 0 ∧ (t.val ≠ 0 → win0_10.index t 1 = (t.val + 7) % 8) := by decide +kernel
theorem win_o : ∀ t : Fin grid0.N, t.val ≠ 0 → (win0_11.index t 0 = (t.val - 1) / 8 ∧ win0_11.index t 1 = (t.val - 1) % 8) := by decide +kernel

variable (t : Fin cfg0.N)

theorem iblk_x (r : Fin 1024) (k : Fin 2048) (R : Fin 8192) (hR : R.val = min t.val 63 / 8 * 1024 + r.val) :
    (iblk m c 0 t : Vec Ideal S1024x2048 .f32) (ix2 r k) = (inK m c).x R k := by
  unfold iblk
  rw [View.read_apply]
  show V m c main_arg0 _ = _
  rw [V_main_arg0]
  show _ = m ((c : Thread nD τ).loc main_arg0) (ix2 R k)
  congr 1
  funext a
  apply Fin.ext
  match a with
  | ⟨0, _⟩ => show win0_0.index t 0 * 1024 + 1 * r.val = R.val; rw [(win_x t).1]; omega
  | ⟨1, _⟩ => show win0_0.index t 1 * 2048 + 1 * k.val = k.val; rw [(win_x t).2]; omega

theorem iblk_g (k : Fin 2048) : (iblk m c 1 t : Vec Ideal S1x2048 .f32) (ix2 0 k) = (inK m c).g k := by
  rw [← V_g m c k]
  unfold iblk
  rw [View.read_apply]
  show V m c main_v3 _ = _
  congr 1
  funext a
  apply Fin.ext
  match a with
  | ⟨0, _⟩ => show win0_1.index t 0 * 1 + 1 * 0 = 0; rw [(win_g t).1]
  | ⟨1, _⟩ => show win0_1.index t 1 * 2048 + 1 * k.val = k.val; rw [(win_g t).2]; omega

theorem iblk_wg (ht : t.val < 64) (k : Fin 2048) (d : Fin 256) (D : Fin 4096) (hD : D.val = t.val % 8 * 256 + d.val) :
    (iblk m c 2 t : Vec Ideal S2048x256 .bf16) (ix2 k d) = (inK m c).w k D := by
  rw [← V_w m c k D]
  unfold iblk
  rw [View.read_apply]
  show V m c main_v0 _ = _
  congr 1
  funext a
  apply Fin.ext
  match a with
  | ⟨0, _⟩ => show win0_2.index t 0 * 2048 + 1 * k.val = k.val; rw [(win_wg t).1]; omega
  | ⟨1, _⟩ => show win0_2.index t 1 * 256 + 1 * d.val = D.val; rw [(win_wg t).2 ht]; omega

theorem iblk_wb (ht : t.val < 64) (k : Fin 2048) (d : Fin 256) (D : Fin 4096) (hD : D.val = 2048 + t.val % 8 * 256 + d.val) :
    (iblk m c 3 t : Vec Ideal S2048x256 .bf16) (ix2 k d) = (inK m c).w k D := by
  rw [← V_w m c k D]
  unfold iblk
  rw [View.read_apply]
  show V m c main_v0 _ = _
  congr 1
  funext a
  apply Fin.ext
  match a with
  | ⟨0, _⟩ => show win0_3.index t 0 * 2048 + 1 * k.val = k.val; rw [(win_wb t).1]; omega
  | ⟨1, _⟩ => show win0_3.index t 1 * 256 + 1 * d.val = D.val; rw [(win_wb t).2 ht]; omega

theorem iblk_cw (hz : t.val ≠ 0) (j : Fin 8) (hj : j.val = (t.val + 7) % 8) (k : Fin 4) (d : Fin 256) :
    (iblk m c 4 t : Vec Ideal S4x256 .f32) (ix2 k d) = (inK m c).cw k (ccol j d) := by
  unfold iblk
  rw [View.read_apply]
  show V m c main_arg3 _ = _
  rw [V_main_arg3]
  show _ = m ((c : Thread nD τ).loc main_arg3) (ix2 k (ccol j d))
  congr 1
  funext a
  apply Fin.ext
  match a with
  | ⟨0, _⟩ => show win0_4.index t 0 * 4 + 1 * k.val = k.val; rw [(win_cw t).1]; omega
  | ⟨1, _⟩ => show win0_4.index t 1 * 256 + 1 * d.val = j.val * 256 + d.val; rw [(win_cw t).2 hz]; omega

theorem iblk_cb (hz : t.val ≠ 0) (j : Fin 8) (hj : j.val = (t.val + 7) % 8) (d : Fin 256) :
    (iblk m c 5 t : Vec Ideal S1x256 .f32) (ix2 0 d) = (inK m c).cb (ccol j d) := by
  rw [← V_cb m c (ccol j d)]
  unfold iblk
  rw [View.read_apply]
  show V m c main_v4 _ = _
  congr 1
  funext a
  apply Fin.ext
  match a with
  | ⟨0, _⟩ => show win0_5.index t 0 * 1 + 1 * 0 = 0; rw [(win_cb t).1]
  | ⟨1, _⟩ => show win0_5.index t 1 * 256 + 1 * d.val = j.val * 256 + d.val; rw [(win_cb t).2 hz]; omega

theorem iblk_ba (hz : t.val ≠ 0) (j : Fin 8) (hj : j.val = (t.val + 7) % 8) (d : Fin 256) :
    (iblk m c 7 t : Vec Ideal S1x256 .f32) (ix2 0 d) = (inK m c).ba (ccol j d) := by
  rw [← V_ba m c (ccol j d)]
  unfold iblk
  rw [View.read_apply]
  show V m c main_v5 _ = _
  congr 1
  funext a
  apply Fin.ext
  match a with
  | ⟨0, _⟩ => show win0_7.index t 0 * 1 + 1 * 0 = 0; rw [(win_ba t).1]
  | ⟨1, _⟩ => show win0_7.index t 1 * 256 + 1 * d.val = j.val * 256 + d.val; rw [(win_ba t).2 hz]; omega

theorem iblk_bx (hz : t.val ≠ 0) (j : Fin 8) (hj : j.val = (t.val + 7) % 8) (d : Fin 256) :
    (iblk m c 9 t : Vec Ideal S1x256 .f32) (ix2 0 d) = (inK m c).bx (ccol j d) := by
  rw [← V_bx m c (ccol j d)]
  unfold iblk
  rw [View.read_apply]
  show V m c main_v6 _ = _
  congr 1
  funext a
  apply Fin.ext
  match a with
  | ⟨0, _⟩ => show win0_9.index t 0 * 1 + 1 * 0 = 0; rw [(win_bx t).1]
  | ⟨1, _⟩ => show win0_9.index t 1 * 256 + 1 * d.val = j.val * 256 + d.val; rw [(win_bx t).2 hz]; omega

theorem iblk_lam (hz : t.val ≠ 0) (j : Fin 8) (hj : j.val = (t.val + 7) % 8) (d : Fin 256) :
    (iblk m c 10 t : Vec Ideal S1x256 .f32) (ix2 0 d) = (inK m c).lam (ccol j d) := by
  rw [← V_lam m c (ccol j d)]
  unfold iblk
  rw [View.read_apply]
  show V m c main_v7 _ = _
  congr 1
  funext a
  apply Fin.ext
  match a with
  | ⟨0, _⟩ => show win0_10.index t 0 * 1 + 1 * 0 = 0; rw [(win_lam t).1]
  | ⟨1, _⟩ => show win0_10.index t 1 * 256 + 1 * d.val = j.val * 256 + d.val; rw [(win_lam t).2 hz]; omega

theorem iblk_wa (hz : t.val ≠ 0) (j : Fin 8) (hj : j.val = (t.val + 7) % 8) (e d : Fin 256) :
    (iblk m c 6 t : Vec Ideal S1x256x256 .bf16) (ix3 0 e d) = (inK m c).wa j e d := by
  rw [← V_wa m c j e d]
  unfold iblk
  rw [View.read_apply]
  show V m c main_v1 _ = _
  congr 1
  funext a
  apply Fin.ext
  match a with
  | ⟨0, _⟩ => show win0_6.index t 0 * 1 + 1 * 0 = j.val; rw [(win_wa t).1 hz]; omega
  | ⟨1, _⟩ => show win0_6.index t 1 * 256 + 1 * e.val = e.val; rw [(win_wa t).2.1]; omega
  | ⟨2, _⟩ => show win0_6.index t 2 * 256 + 1 * d.val = d.val; rw [(win_wa t).2.2]; omega

theorem iblk_wx (hz : t.val ≠ 0) (j : Fin 8) (hj : j.val = (t.val + 7) % 8) (e d : Fin 256) :
    (iblk m c 8 t : Vec Ideal S1x256x256 .bf16) (ix3 0 e d) = (inK m c).wx j e d := by
  rw [← V_wx m c j e d]
  unfold iblk
  rw [View.read_apply]
  show V m c main_v2 _ = _
  congr 1
  funext a
  apply Fin.ext
  match a with
  | ⟨0, _⟩ => show win0_8.index t 0 * 1 + 1 * 0 = j.val; rw [(win_wxx t).1 hz]; omega
  | ⟨1, _⟩ => show win0_8.index t 1 * 256 + 1 * e.val = e.val; rw [(win_wxx t).2.1]; omega
  | ⟨2, _⟩ => show win0_8.index t 2 * 256 + 1 * d.val = d.val; rw [(win_wxx t).2.2]; omega

theorem fits (hz : t.val ≠ 0) (j : Fin 8) (hj : j.val = (t.val + 7) % 8) : Fits (inK m c) (par m c t) j where
  cw := iblk_cw m c t hz j hj
  cb := iblk_cb m c t hz j hj
  wa := iblk_wa m c t hz j hj
  ba := iblk_ba m c t hz j hj
  wx := iblk_wx m c t hz j hj
  bx := iblk_bx m c t hz j hj
  lam := iblk_lam m c t hz j hj

theorem hn_at (x : Vec Ideal S1024x2048 .f32) (g : Vec Ideal S1x2048 .f32) (r : Fin 1024) (k : Fin 2048) :
    (k0_pay1 x g : Vec Ideal S1024x2048 .bf16) (ix2 r k) = nrmRow (fun k => x (ix2 r k)) (fun k => g (ix2 0 k)) k := by
  pointwise [k0_pay1]
  try rfl

theorem gp_at (h : Vec Ideal S1024x2048 .bf16) (w : Vec Ideal S2048x256 .bf16) (r : Fin 1024) (d : Fin 256) :
    (k0_pay6 h w : Vec Ideal S1x1x1024x256 .f32) (ix4 0 0 r d) = ∑ k : Fin 2048, h (ix2 r k) * w (ix2 k d) := by
  pointwise [k0_pay6]
  try rfl

theorem gq_at (h : Vec Ideal S1024x2048 .bf16) (w : Vec Ideal S2048x256 .bf16) (r : Fin 1024) (d : Fin 256) :
    (k0_pay17 h w : Vec Ideal S1x1x1024x256 .f32) (ix4 0 0 r d) = ∑ k : Fin 2048, h (ix2 r k) * w (ix2 k d) := by
  pointwise [k0_pay17]
  try rfl

theorem xp_at (h : Vec Ideal S1024x2048 .bf16) (w : Vec Ideal S2048x256 .bf16) (r : Fin 1024) (d : Fin 256) :
    (k0_pay2 (k0_pay7 h w) : Vec Ideal S1x1x1024x256 .f32) (ix4 0 0 r d) = ∑ k : Fin 2048, h (ix2 r k) * w (ix2 k d) := by
  pointwise [k0_pay2, k0_pay7]
  try rfl

theorem xq_at (h : Vec Ideal S1024x2048 .bf16) (w : Vec Ideal S2048x256 .bf16) (r : Fin 1024) (d : Fin 256) :
    (k0_pay19 (k0_pay18 h w) : Vec Ideal S1x1x1024x256 .f32) (ix4 0 0 r d) = ∑ k : Fin 2048, h (ix2 r k) * w (ix2 k d) := by
  pointwise [k0_pay19, k0_pay18]
  try rfl

theorem zero_c (j : Fin 8) (d : Fin 256) : (k0_pay4 (F := Ideal) : Vec Ideal S8x1x256 .f32) (ix3 j 0 d) = 0 := by
  pointwise [k0_pay4]

theorem zero_p (j r : Fin 8) (d : Fin 256) : (k0_pay5 (F := Ideal) : Vec Ideal S8x8x256 .f32) (ix3 j r d) = 0 := by
  pointwise [k0_pay5]

end Cert.Scan
end
-- ==== Proof.Scan.Global.lean ====
/- The whole run of the recurrence's kernel, entry by entry: at every point the carried buffers hold the layer's normalized
   rows, projections, states and last rows, so the result array holds the layer's result. -/
module

public import proofs.«01_k».proof.Proof.Scan.Reads

@[expose] public section

set_option maxRecDepth 16384

noncomputable section

open Idealize.ShloMosaic Idealize.ShloMosaic.Pointwise Idealize.ShloMosaic.TcCoe Idealize.SL.Sem
open Cert.ScanKernelIdeal Cert.ScanKernelIdeal.Gen

namespace Cert.Scan

theorem put_c_same (x : Vec Ideal S8x1x256 .f32) (w : Vec Ideal S1x1x256 .f32) (n : ℕ) (j : Fin 8) (hj : j.val = (n + 7) % 8) (d : Fin 256) :
    VecWindow.put x (col n) S1x1x256.size w (ix3 j 0 d) = w (ix3 0 0 d) := by
  have h : ∀ a, col n a ≤ ((ix3 j 0 d : S8x1x256.Idx) a).val ∧ ((ix3 j 0 d : S8x1x256.Idx) a).val < col n a + S1x1x256.size a := fun a => by
    match a with
    | ⟨0, _⟩ => show (n + 7) % 8 ≤ j.val ∧ j.val < (n + 7) % 8 + 1; omega
    | ⟨1, _⟩ => show 0 ≤ 0 ∧ 0 < 0 + 1; omega
    | ⟨2, _⟩ => show 0 ≤ d.val ∧ d.val < 0 + 256; omega
  unfold VecWindow.put
  rw [dif_pos h]
  refine congrArg w (funext fun a => Fin.ext ?_)
  match a with
  | ⟨0, _⟩ => show j.val - (n + 7) % 8 = 0; omega
  | ⟨1, _⟩ => show 0 - 0 = 0; omega
  | ⟨2, _⟩ => show d.val - 0 = d.val; omega

theorem put_c_other (x : Vec Ideal S8x1x256 .f32) (w : Vec Ideal S1x1x256 .f32) (n : ℕ) (j : Fin 8) (hj : j.val ≠ (n + 7) % 8) (d : Fin 256) :
    VecWindow.put x (col n) S1x1x256.size w (ix3 j 0 d) = x (ix3 j 0 d) := by
  unfold VecWindow.put
  rw [dif_neg]
  intro h
  have h0 : (n + 7) % 8 ≤ j.val ∧ j.val < (n + 7) % 8 + 1 := h 0
  omega

theorem put_p_same (x : Vec Ideal S8x8x256 .f32) (w : Vec Ideal S1x8x256 .f32) (n : ℕ) (j : Fin 8) (hj : j.val = (n + 7) % 8) (r : Fin 8) (d : Fin 256) :
    VecWindow.put x (col n) S1x8x256.size w (ix3 j r d) = w (ix3 0 r d) := by
  have h : ∀ a, col n a ≤ ((ix3 j r d : S8x8x256.Idx) a).val ∧ ((ix3 j r d : S8x8x256.Idx) a).val < col n a + S1x8x256.size a := fun a => by
    match a with
    | ⟨0, _⟩ => show (n + 7) % 8 ≤ j.val ∧ j.val < (n + 7) % 8 + 1; omega
    | ⟨1, _⟩ => show 0 ≤ r.val ∧ r.val < 0 + 8; omega
    | ⟨2, _⟩ => show 0 ≤ d.val ∧ d.val < 0 + 256; omega
  unfold VecWindow.put
  rw [dif_pos h]
  refine congrArg w (funext fun a => Fin.ext ?_)
  match a with
  | ⟨0, _⟩ => show j.val - (n + 7) % 8 = 0; omega
  | ⟨1, _⟩ => show r.val - 0 = r.val; omega
  | ⟨2, _⟩ => show d.val - 0 = d.val; omega

theorem put_p_other (x : Vec Ideal S8x8x256 .f32) (w : Vec Ideal S1x8x256 .f32) (n : ℕ) (j : Fin 8) (hj : j.val ≠ (n + 7) % 8) (r : Fin 8) (d : Fin 256) :
    VecWindow.put x (col n) S1x8x256.size w (ix3 j r d) = x (ix3 j r d) := by
  unfold VecWindow.put
  rw [dif_neg]
  intro h
  have h0 : (n + 7) % 8 ≤ j.val ∧ j.val < (n + 7) % 8 + 1 := h 0
  omega

theorem above_at (n : ℕ) (s : St Ideal) (j : Fin 8) (hj : j.val = (n + 7) % 8) (r : Fin 8) (d : Fin 256) :
    above n s (ix3 0 r d) = s.p (ix3 j r d) := by
  unfold above VecWindow.window
  refine congrArg s.p (funext fun a => Fin.ext ?_)
  match a with
  | ⟨0, _⟩ => show (n + 7) % 8 + 1 * 0 = j.val; omega
  | ⟨1, _⟩ => show 0 + 1 * r.val = r.val; omega
  | ⟨2, _⟩ => show 0 + 1 * d.val = d.val; omega

theorem enter_at (n : ℕ) (s : St Ideal) (j : Fin 8) (hj : j.val = (n + 7) % 8) (d : Fin 256) :
    enter n s (ix3 0 0 d) = s.c (ix3 j 0 d) := by
  unfold enter VecWindow.window
  refine congrArg s.c (funext fun a => Fin.ext ?_)
  match a with
  | ⟨0, _⟩ => show (n + 7) % 8 + 1 * 0 = j.val; omega
  | ⟨1, _⟩ => show 0 + 1 * 0 = 0; omega
  | ⟨2, _⟩ => show 0 + 1 * d.val = d.val; omega

variable (m : (ℓ : Loc nD τ sig) → Buf (Elt Ideal) ℓ) (c : Dev nD)

/-- What the carried buffers hold after point `n`: the projections are of point `n`'s tile, and column block `j` has seen
    `(n + 7 - j) / 8` row blocks. -/
structure Inv (n : ℕ) (s : St Ideal) : Prop where
  hn : n < 64 → ∀ (r : Fin 1024) (k : Fin 2048) (R : Fin 8192), R.val = n / 8 * 1024 + r.val →
    s.hn (ix2 r k) = nrmRow ((inK m c).x R) (inK m c).g k
  g : n < 64 → ∀ (r : Fin 1024) (d : Fin 256) (R : Fin 8192) (D : Fin 4096), R.val = n / 8 * 1024 + r.val → D.val = n % 8 * 256 + d.val →
    s.g (ix4 0 0 r d) = (inK m c).proj R D
  x : n < 64 → ∀ (r : Fin 1024) (d : Fin 256) (R : Fin 8192) (D : Fin 4096), R.val = n / 8 * 1024 + r.val → D.val = 2048 + n % 8 * 256 + d.val →
    s.x (ix4 0 0 r d) = (inK m c).proj R D
  st : ∀ (j : Fin 8) (d : Fin 256), s.c (ix3 j 0 d) = (inK m c).st (ccol j d) ((n + 7 - j.val) / 8 * 1024)
  p0 : ∀ (j r : Fin 8) (d : Fin 256), (n + 7 - j.val) / 8 = 0 → s.p (ix3 j r d) = 0
  p : ∀ (j r : Fin 8) (d : Fin 256) (R : Fin 8192), (n + 7 - j.val) / 8 ≠ 0 → R.val + 8 = (n + 7 - j.val) / 8 * 1024 + r.val →
    s.p (ix3 j r d) = (inK m c).br R (ccol j d)

section
variable (t : Fin cfg0.N)

/-- A projected entry, from the normalized rows and a block of weight columns. -/
theorem proj_of (h : Vec Ideal S1024x2048 .bf16) (w : Vec Ideal S2048x256 .bf16) (r : Fin 1024) (d : Fin 256) (R : Fin 8192) (D : Fin 4096)
    (hh : ∀ k : Fin 2048, h (ix2 r k) = nrmRow ((inK m c).x R) (inK m c).g k)
    (hw : ∀ k : Fin 2048, w (ix2 k d) = (inK m c).w k D) :
    (∑ k : Fin 2048, h (ix2 r k) * w (ix2 k d)) = (inK m c).proj R D := by
  unfold In.proj
  exact Finset.sum_congr rfl fun k _ => by rw [hh, hw]

theorem norm_of (ht : t.val < 64) (r : Fin 1024) (k : Fin 2048) (R : Fin 8192) (hR : R.val = t.val / 8 * 1024 + r.val) :
    (k0_pay1 (iblk m c 0 t) (iblk m c 1 t) : Vec Ideal S1024x2048 .bf16) (ix2 r k) = nrmRow ((inK m c).x R) (inK m c).g k := by
  have hmin : min t.val 63 = t.val := by omega
  refine (hn_at (iblk m c 0 t) (iblk m c 1 t) r k).trans ?_
  have e1 : (fun k : Fin 2048 => (iblk m c 0 t : Vec Ideal S1024x2048 .f32) (ix2 r k)) = (inK m c).x R :=
    funext fun k => iblk_x m c t r k R (by rw [hmin]; exact hR)
  have e2 : (fun k : Fin 2048 => (iblk m c 1 t : Vec Ideal S1x2048 .f32) (ix2 0 k)) = (inK m c).g :=
    funext fun k => iblk_g m c t k
  rw [e1, e2]

theorem inv_first (hz : t.val = 0) : Inv m c t.val (first m c t) where
  hn ht r k R hR := norm_of m c t ht r k R hR
  g ht r d R D hR hD := (gp_at _ _ r d).trans
    (proj_of m c _ _ r d R D (fun k => norm_of m c t ht r k R hR) (fun k => iblk_wg m c t ht k d D hD))
  x ht r d R D hR hD := (xp_at _ _ r d).trans
    (proj_of m c _ _ r d R D (fun k => norm_of m c t ht r k R hR) (fun k => iblk_wb m c t ht k d D hD))
  st j d := by
    have e : (t.val + 7 - j.val) / 8 * 1024 = 0 := by omega
    rw [e]
    exact zero_c j d
  p0 j r d _ := zero_p j r d
  p j r d R h _ := absurd (by omega) h

variable (s : St Ideal) (hz : t.val ≠ 0) (hs : Inv m c (t.val - 1) s)
variable (i j : Fin 8) (hi : i.val = (t.val - 1) / 8) (hj : j.val = (t.val - 1) % 8)
include hz hs hi hj

theorem tile_x (r : Fin 1024) (d : Fin 256) : s.x (ix4 0 0 r d) = (inK m c).br (rrow i r) (ccol j d) :=
  hs.x (by have := i.isLt; omega) r d (rrow i r) _ (by show i.val * 1024 + r.val = _; rw [hi])
    (by show 2048 + (j.val * 256 + d.val) = _; rw [hj]; omega)

theorem tile_g (r : Fin 1024) (d : Fin 256) : s.g (ix4 0 0 r d) = (inK m c).proj (rrow i r) ⟨(ccol j d).val, by omega⟩ :=
  hs.g (by have := i.isLt; omega) r d (rrow i r) _ (by show i.val * 1024 + r.val = _; rw [hi])
    (by show j.val * 256 + d.val = _; rw [hj])

theorem tile_c (d : Fin 256) : enter t.val s (ix3 0 0 d) = (inK m c).st (ccol j d) (i.val * 1024) := by
  rw [enter_at t.val s j (by omega) d, hs.st j d]
  congr 1
  omega

theorem tile_h (r : Fin 8) (d : Fin 256) : above t.val s (ix3 0 r d) = (inK m c).up (8 - r.val) (rrow i 0) (ccol j d) := by
  rw [above_at t.val s j (by omega) r d]
  have hq : (t.val - 1 + 7 - j.val) / 8 = i.val := by omega
  unfold In.up
  by_cases h0 : i.val = 0
  · rw [dif_neg (by show ¬(8 - r.val ≤ i.val * 1024 + 0); omega)]
    exact hs.p0 j r d (hq.trans h0)
  · have hle : 8 - r.val ≤ (rrow i 0).val := by show 8 - r.val ≤ i.val * 1024 + 0; omega
    rw [dif_pos hle]
    have hR : (rrow i 0).val - (8 - r.val) + 8 = (t.val - 1 + 7 - j.val) / 8 * 1024 + r.val := by
      show i.val * 1024 + 0 - (8 - r.val) + 8 = _
      rw [hq]; omega
    exact hs.p j r d ⟨(rrow i 0).val - (8 - r.val), by have := (rrow i 0).isLt; omega⟩ (by rw [hq]; exact h0) hR

theorem tile_fits : Fits (inK m c) (par m c t) j := fits m c t hz j (by omega)

/-- The tile written at a point is the layer's result. -/
theorem tile_out (n : Fin 1024) (d : Fin 256) : tileOf m c t s (ix2 n d) = (inK m c).out (rrow i n) (ccol j d) :=
  yT_at (inK m c) (par m c t) i j s.x (above t.val s) (enter t.val s) (tile_fits m c t s hz hs i j hi hj)
    (tile_x m c t s hz hs i j hi hj) (tile_h m c t s hz hs i j hi hj) (tile_c m c t s hz hs i j hi hj)
    s.g (tile_g m c t s hz hs i j hi hj) n d

theorem hn_step (ht : t.val < 64) (r : Fin 1024) (k : Fin 2048) (R : Fin 8192) (hR : R.val = t.val / 8 * 1024 + r.val) :
    hnOf m c t s (ix2 r k) = nrmRow ((inK m c).x R) (inK m c).g k := by
  unfold hnOf
  by_cases h : t.val % 8 = 0 ∧ t.val < 64
  · rw [if_pos h]
    exact norm_of m c t ht r k R hR
  · rw [if_neg h]
    exact hs.hn (by omega) r k R (by omega)

theorem inv_step : Inv m c t.val (step m c t s) where
  hn ht r k R hR := hn_step m c t s hz hs i j hi hj ht r k R hR
  g ht r d R D hR hD := (gq_at _ _ r d).trans
    (proj_of m c _ _ r d R D (fun k => hn_step m c t s hz hs i j hi hj ht r k R hR) (fun k => iblk_wg m c t ht k d D hD))
  x ht r d R D hR hD := (xq_at _ _ r d).trans
    (proj_of m c _ _ r d R D (fun k => hn_step m c t s hz hs i j hi hj ht r k R hR) (fun k => iblk_wb m c t ht k d D hD))
  st j' d := by
    by_cases h : j' = j
    · subst h
      refine (put_c_same s.c _ t.val j' (by omega) d).trans ?_
      refine (cT_at (inK m c) (par m c t) i j' s.x (above t.val s) (enter t.val s) (tile_fits m c t s hz hs i j' hi hj)
        (tile_x m c t s hz hs i j' hi hj) (tile_h m c t s hz hs i j' hi hj) (tile_c m c t s hz hs i j' hi hj) d).trans ?_
      congr 1
      omega
    · have hne : j'.val ≠ j.val := fun e => h (Fin.ext e)
      refine (put_c_other s.c _ t.val j' (by omega) d).trans ((hs.st j' d).trans ?_)
      congr 1
      omega
  p0 j' r d h0 := by
    have hne : j'.val ≠ j.val := by omega
    exact (put_p_other s.p _ t.val j' (by omega) r d).trans (hs.p0 j' r d (by omega))
  p j' r d R h0 hR := by
    by_cases h : j' = j
    · subst h
      refine (put_p_same s.p _ t.val j' (by omega) r d).trans ((pT_at _ r d).trans ?_)
      refine (tile_x m c t s hz hs i j' hi hj _ d).trans ?_
      congr 1
      apply Fin.ext
      show i.val * 1024 + (1016 + r.val) = R.val
      omega
    · have hne : j'.val ≠ j.val := fun e => h (Fin.ext e)
      exact (put_p_other s.p _ t.val j' (by omega) r d).trans (hs.p j' r d R (by omega) (by omega))

end

theorem inv_at : ∀ (n : ℕ) (h : n < cfg0.N), Inv m c n (stAt m c n h)
  | 0, h => inv_first m c ⟨0, h⟩ rfl
  | n + 1, h => by
    have hN : cfg0.N = 65 := N_0
    exact inv_step m c ⟨n + 1, h⟩ _ (Nat.succ_ne_zero n) (inv_at n (Nat.lt_of_succ_lt h)) ⟨n / 8, by omega⟩ ⟨n % 8, by omega⟩ rfl rfl

theorem tileAt_at (t : Fin cfg0.N) (hz : t.val ≠ 0) (i j : Fin 8) (hi : i.val = (t.val - 1) / 8) (hj : j.val = (t.val - 1) % 8)
    (n : Fin 1024) (d : Fin 256) : tileAt m c t (ix2 n d) = (inK m c).out (rrow i n) (ccol j d) :=
  tile_out m c t _ hz (inv_at m c _ _) i j hi hj n d

theorem flush_iff : ∀ t : Fin grid0.N, (cfg0.win 11).flush t = true ↔ t.val ≠ 0 := by decide +kernel

theorem disjoint11 (t t' : Fin cfg0.N) (h : (cfg0.win 11).flush t = true) (h' : (cfg0.win 11).flush t' = true) (hne : t ≠ t') :
    Disjoint ((cfg0.win 11).blk t).view.set ((cfg0.win 11).blk t').view.set :=
  (cfg0.win 11).disjoint_blk fun e => hne (Fin.ext (by
    have z := (flush_iff t).mp h
    have z' := (flush_iff t').mp h'
    have a := win_o t z
    have a' := win_o t' z'
    have e0 : win0_11.index t 0 = win0_11.index t' 0 := congrFun e 0
    have e1 : win0_11.index t 1 = win0_11.index t' 1 := congrFun e 1
    omega))

/-- The result array after the run, at an index. -/
theorem arr_apply (R : Fin 8192) (D : Fin 2048) : (dats m 0 c).arrAt 11 cfg0.N (ix2 R D) = (inK m c).out R D := by
  have hR := R.isLt
  have hD := D.isLt
  have hN : cfg0.N = 65 := N_0
  let t : Fin cfg0.N := ⟨8 * (R.val / 1024) + D.val / 256 + 1, by omega⟩
  let r : Fin 1024 := ⟨R.val % 1024, by omega⟩
  let d : Fin 256 := ⟨D.val % 256, by omega⟩
  let i : Fin 8 := ⟨R.val / 1024, by omega⟩
  let j : Fin 8 := ⟨D.val / 256, by omega⟩
  have ht : t.val = 8 * (R.val / 1024) + D.val / 256 + 1 := rfl
  have hz : t.val ≠ 0 := by omega
  have hi : i.val = (t.val - 1) / 8 := by show R.val / 1024 = _; omega
  have hj : j.val = (t.val - 1) % 8 := by show D.val / 256 = _; omega
  have hr : R.val = (t.val - 1) / 8 * 1024 + r.val := by show R.val = (t.val - 1) / 8 * 1024 + R.val % 1024; omega
  have hd : D.val = (t.val - 1) % 8 * 256 + d.val := by show D.val = (t.val - 1) % 8 * 256 + D.val % 256; omega
  have h := congrFun ((dats m 0 c).read_blk_arrAt_eq_flushed 11 disjoint11 cfg0.N t t.isLt ((flush_iff t).mpr hz)) (ix2 r d)
  rw [View.read_apply] at h
  refine Eq.trans (congrArg ((dats m 0 c).arrAt 11 cfg0.N) (?_ : _ = _)) (h.trans ?_)
  · funext a
    apply Fin.ext
    match a with
    | ⟨0, _⟩ => show R.val = win0_11.index t 0 * 1024 + 1 * r.val; rw [(win_o t hz).1]; omega
    | ⟨1, _⟩ => show D.val = win0_11.index t 1 * 256 + 1 * d.val; rw [(win_o t hz).2]; omega
  · show tileAt m c t (ix2 r d) = _
    rw [tileAt_at m c t hz i j hi hj r d]
    congr 1
    · apply Fin.ext; show R.val / 1024 * 1024 + R.val % 1024 = R.val; omega
    · apply Fin.ext; show D.val / 256 * 256 + D.val % 256 = D.val; omega

end Cert.Scan
end
-- ==== Proof.Scan.RefInit.lean ====
/- What the reference's scan starts from, entry by entry: its decays, its inputs and its result gate. -/
module

public import proofs.«01_k».proof.Proof.Gen.ScanReferenceIdeal.Step
public import proofs.«01_k».proof.Proof.Scan.Spec

@[expose] public section

set_option maxRecDepth 16384

noncomputable section

open Idealize.ShloMosaic Idealize.ShloMosaic.Pointwise
open Cert.ScanReferenceIdeal Cert.ScanReferenceIdeal.Step

namespace Cert.Scan.Ref

variable (x0 : Vec Ideal S8192x2048 .f32) (x1 : Vec Ideal S2048 .f32) (x2 : Vec Ideal S2048x4096 .f32)
  (x3 : Vec Ideal S4x2048 .f32) (x4 : Vec Ideal S2048 .f32) (x5 : Vec Ideal S8x256x256 .f32) (x6 : Vec Ideal S2048 .f32)
  (x7 : Vec Ideal S8x256x256 .f32) (x8 x9 : Vec Ideal S2048 .f32)

/-- The reference's arguments, entry by entry. -/
def inp : In where
  x t k := x0 (ix2 t k)
  g k := x1 (ix1 k)
  w k j := x2 (ix2 k j)
  cw k d := x3 (ix2 k d)
  cb d := x4 (ix1 d)
  wa n e d := x5 (ix3 n e d)
  ba d := x6 (ix1 d)
  wx n e d := x7 (ix3 n e d)
  bx d := x8 (ix1 d)
  lam d := x9 (ix1 d)

local notation "J" => inp x0 x1 x2 x3 x4 x5 x6 x7 x8 x9

theorem proj_at (t : Fin 8192) (j : Fin 4096) :
    A_main_v13 (F := Ideal) x0 x1 x2 x3 x4 x5 x6 x7 x8 x9 (ix2 t j) = (J).proj t j := by
  pointwise [A_main_v0, A_main_v1, K_main_cst, A_main_v2, K_main_v3, K_main_cst_0, A_main_v4, K_main_v5, K_main_cst_1, A_main_v6, A_main_v7, A_main_v8, A_main_v9, A_main_v10, A_main_v11, A_main_v12, A_main_v13]
  rfl

theorem br_at (t : Fin 8192) (d : Fin 2048) :
    A_main_v15 (F := Ideal) x0 x1 x2 x3 x4 x5 x6 x7 x8 x9 (ix2 t d) = (J).br t d := by
  pointwise [A_main_v15]
  exact proj_at x0 x1 x2 x3 x4 x5 x6 x7 x8 x9 t _

theorem pad_at (n : Fin 8195) (d : Fin 2048) :
    A_main_v16 (F := Ideal) x0 x1 x2 x3 x4 x5 x6 x7 x8 x9 (ix2 n d) = if h : 3 ≤ n.val then (J).br ⟨n.val - 3, by omega⟩ d else 0 := by
  pointwise [A_main_v16, K_main_call0_v0, K_main_c]
  by_cases h : 3 ≤ n.val
  · rw [dif_pos (by omega), dif_pos h]
    exact br_at x0 x1 x2 x3 x4 x5 x6 x7 x8 x9 _ d
  · rw [dif_neg (by omega), dif_neg h]
    show (((0#32 : BitVec 32).toInt : ℝ) : EReal) = 0
    norm_num

/-- The padded branch `j` rows on is the branch `3 - j` rows up. -/
theorem pad_up (j k : ℕ) (hj : j + k = 3) (t : Fin 8192) (d : Fin 2048) (n : Fin 8195) (hn : n.val = j + t.val) :
    A_main_v16 (F := Ideal) x0 x1 x2 x3 x4 x5 x6 x7 x8 x9 (ix2 n d) = (J).up k t d := by
  rw [pad_at]
  unfold In.up
  by_cases h : k ≤ t.val
  · rw [dif_pos (by omega), dif_pos h]
    congr 1
    apply Fin.ext
    show n.val - 3 = t.val - k
    omega
  · rw [dif_neg (by omega), dif_neg h]

theorem conv_at (t : Fin 8192) (d : Fin 2048) :
    A_main_v46 (F := Ideal) x0 x1 x2 x3 x4 x5 x6 x7 x8 x9 (ix2 t d) = (J).conv t d := by
  pointwise [A_main_v46, A_main_v45, A_main_v44, A_main_v43, A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17]
  rw [pad_up x0 x1 x2 x3 x4 x5 x6 x7 x8 x9 0 3 rfl t d _ (Nat.zero_add _).symm, pad_up x0 x1 x2 x3 x4 x5 x6 x7 x8 x9 1 2 rfl t d _ rfl,
    pad_up x0 x1 x2 x3 x4 x5 x6 x7 x8 x9 2 1 rfl t d _ rfl, pad_up x0 x1 x2 x3 x4 x5 x6 x7 x8 x9 3 0 rfl t d _ rfl]
  rfl

theorem r_at (t : Fin 8192) (d : Fin 2048) :
    A_main_v59 (F := Ideal) x0 x1 x2 x3 x4 x5 x6 x7 x8 x9 (ix2 t d) = (J).mix (J).wa (J).ba t d := by
  pointwise [A_main_v59, A_main_v57, K_main_v58, K_main_cst_3, K_main_v56, K_main_cst_2, A_main_v55, A_main_v54, A_main_v53, A_main_v52, A_main_v51, A_main_v50, A_main_v49, A_main_v48, A_main_v47]
  unfold In.mix Ideal.logistic
  simp only [conv_at, mul_comm (x5 _)]
  rfl

theorem i_at (t : Fin 8192) (d : Fin 2048) :
    A_main_v71 (F := Ideal) x0 x1 x2 x3 x4 x5 x6 x7 x8 x9 (ix2 t d) = (J).mix (J).wx (J).bx t d := by
  pointwise [A_main_v71, A_main_v69, K_main_v70, K_main_cst_5, K_main_v68, K_main_cst_4, A_main_v67, A_main_v66, A_main_v65, A_main_v64, A_main_v63, A_main_v62, A_main_v61, A_main_v60, A_main_v47]
  unfold In.mix Ideal.logistic
  simp only [conv_at, mul_comm (x7 _)]
  rfl

theorem sp_at (d : Fin 2048) :
    A_main_v75 (F := Ideal) x0 x1 x2 x3 x4 x5 x6 x7 x8 x9 (ix1 d) = sp (-(J).lam d) := by
  pointwise [A_main_v75, A_main_call1_v11, A_main_call1_v10, A_main_call1_v9, A_main_call1_v8, A_main_call1_v7, A_main_call1_v6, A_main_call1_v4, A_main_call1_v3, A_main_call1_v1, A_main_v74, K_main_call1_cst, K_main_call1_v0, K_main_call1_v2, K_main_call1_v5]
  rw [if_neg (fun h => h rfl)]
  rfl

theorem la_at (t : Fin 8192) (d : Fin 2048) :
    A_main_v78 (F := Ideal) x0 x1 x2 x3 x4 x5 x6 x7 x8 x9 (ix2 t d) = (J).la t d := by
  pointwise [A_main_v78, A_main_v77, A_main_v76, A_main_v73, K_main_v72, K_main_cst_6]
  rw [r_at, sp_at]
  rfl

theorem a_at (t : Fin 8192) (d : Fin 2048) :
    A_main_v79 (F := Ideal) x0 x1 x2 x3 x4 x5 x6 x7 x8 x9 (ix2 t d) = (J).a t d := by
  pointwise [A_main_v79]
  rw [la_at]
  rfl

theorem b_at (t : Fin 8192) (d : Fin 2048) :
    A_main_v86 (F := Ideal) x0 x1 x2 x3 x4 x5 x6 x7 x8 x9 (ix2 t d) = (J).b t d := by
  pointwise [A_main_v86, A_main_v85, A_main_v84, A_main_v83, A_main_v82, A_main_v81, K_main_v80, K_main_cst_7]
  rw [conv_at, i_at, la_at, neg_exp_two]
  rfl

theorem gate_at (t : Fin 8192) (d : Fin 2048) :
    A_main_v100 (F := Ideal) x0 x1 x2 x3 x4 x5 x6 x7 x8 x9 (ix2 t d) = (J).gate t d := by
  pointwise [A_main_v100, A_main_v99, A_main_v97, A_main_v95, A_main_v94, A_main_v92, A_main_v91, A_main_v89, A_main_v88, A_main_v14, K_main_v98, K_main_cst_12, K_main_v96, K_main_cst_11, K_main_v93, K_main_cst_10, K_main_v90, K_main_cst_9]
  rw [proj_at]
  unfold In.gate gel
  rw [mul_assoc ((J).proj t _)]

end Cert.Scan.Ref
end
-- ==== Proof.Scan.RefRun.lean ====
/- The reference's scan, entry by entry: after `k` trips the state row is the layer's state before row `k`, and the rows of
   the result above row `k` are the layer's result. -/
module

public import proofs.«01_k».proof.Proof.Gen.ScanReferenceIdeal.Run
public import proofs.«01_k».proof.Proof.Scan.RefInit
public import Idealize.ShloMosaic.Lib.WordCmp

@[expose] public section

set_option maxRecDepth 16384

noncomputable section

open Idealize.ShloMosaic Idealize.ShloMosaic.Pointwise Idealize.ShloMosaic.TcCoe Idealize.SL.Sem Idealize.ShloMosaic.StableHlo
open Cert.ScanReferenceIdeal Cert.ScanReferenceIdeal.Gen Cert.ScanReferenceIdeal.Value

namespace Cert.Scan.Ref

/-- The two starts of a row's slice. -/
abbrev starts (ctr : (⟨S_, .i32⟩ : BufTy).Contents (Elt Ideal)) : Fin 2 → Int :=
  fun k => (((![ctr, constantI S_ 32 0#32] : Fin 2 → (⟨S_, .i32⟩ : BufTy).Contents (Elt Ideal))) k (Shape.Idx.first h_S_)).toInt

theorem starts_at (ctr : (⟨S_, .i32⟩ : BufTy).Contents (Elt Ideal)) (k : ℕ) (hk : k < 8192) (hc : ctr = fun _ => BitVec.ofNat 32 k) :
    ∀ a : Fin 2, starts ctr a = ((![k, 0] : Fin 2 → ℕ) a : Int) := fun a => by
  match a with
  | ⟨0, _⟩ =>
    show (ctr (Shape.Idx.first h_S_)).toInt = (k : Int)
    rw [hc]
    exact WordCmp.toInt_ofNat_of_lt (by omega)
  | ⟨1, _⟩ => rfl

theorem row_fits (k : ℕ) (hk : k < 8192) : Shape.Slices S8192x2048 (![k, 0] : Fin 2 → ℕ) S1x2048 := ⟨rfl, fun a => by
  match a with
  | ⟨0, _⟩ => show k + 1 ≤ 8192; omega
  | ⟨1, _⟩ => show 0 + 2048 ≤ 2048; omega⟩

theorem row_at (A : Vec Ideal S8192x2048 .f32) (ctr : (⟨S_, .i32⟩ : BufTy).Contents (Elt Ideal)) (k : ℕ) (hk : k < 8192)
    (hc : ctr = fun _ => BitVec.ofNat 32 k) (d : Fin 2048) :
    shapeCast S2048 (Host.dynamicSlice S1x2048 A (starts ctr) sliceFits_S8192x2048_S1x2048) shapeCasts_S1x2048_S2048 (ix1 d)
      = A (ix2 ⟨k, hk⟩ d) := by
  rw [WordCmp.dynamicSlice_eq_extract S1x2048 A (starts ctr) sliceFits_S8192x2048_S1x2048 ![k, 0] (row_fits k hk) (starts_at ctr k hk hc)]
  pointwise []

/-- A row written into the result leaves the others. -/
theorem upd_at (Y : Vec Ideal S8192x2048 .f32) (u : Vec Ideal S1x2048 .f32) (ctr : (⟨S_, .i32⟩ : BufTy).Contents (Elt Ideal)) (k : ℕ) (hk : k < 8192)
    (hc : ctr = fun _ => BitVec.ofNat 32 k) (t : Fin 8192) (d : Fin 2048) :
    Host.dynamicUpdateSlice Y u (starts ctr) updateFits_S8192x2048_S1x2048 (ix2 t d) = if t.val = k then u (ix2 0 d) else Y (ix2 t d) := by
  rw [WordCmp.dynamicUpdateSlice_eq_update Y u (starts ctr) updateFits_S8192x2048_S1x2048 ![k, 0] (row_fits k hk) (starts_at ctr k hk hc)]
  unfold updateSlice
  by_cases h : t.val = k
  · have hin : ∀ a : Fin S8192x2048.rank, (![k, 0] : Fin 2 → ℕ) a ≤ ((ix2 t d : S8192x2048.Idx) a).val
        ∧ ((ix2 t d : S8192x2048.Idx) a).val < (![k, 0] : Fin 2 → ℕ) a + S1x2048.size (a.cast (row_fits k hk).1.symm) := fun a => by
      match a with
      | ⟨0, _⟩ => show k ≤ t.val ∧ t.val < k + 1; omega
      | ⟨1, _⟩ => show 0 ≤ d.val ∧ d.val < 0 + 2048; omega
    rw [dif_pos hin, if_pos h]
    refine congrArg u (funext fun a => Fin.ext ?_)
    match a with
    | ⟨0, _⟩ => show t.val - k = 0; omega
    | ⟨1, _⟩ => show d.val - 0 = d.val; omega
  · rw [dif_neg, if_neg h]
    intro hin
    have h0 : k ≤ t.val ∧ t.val < k + 1 := hin 0
    omega

variable (I : In)

/-- What the loop's buffers hold before trip `k`. -/
structure At (k : ℕ) (V : Valuation τ sig (Elt Ideal)) : Prop where
  a : ∀ (t : Fin 8192) (d : Fin 2048), (V (Proc.devRef .tc main_v102_0) : Vec Ideal S8192x2048 .f32) (ix2 t d) = I.a t d
  b : ∀ (t : Fin 8192) (d : Fin 2048), (V (Proc.devRef .tc main_v102_1) : Vec Ideal S8192x2048 .f32) (ix2 t d) = I.b t d
  g : ∀ (t : Fin 8192) (d : Fin 2048), (V (Proc.devRef .tc main_v102_2) : Vec Ideal S8192x2048 .f32) (ix2 t d) = I.gate t d
  n : V (Proc.devRef .tc main_v102_3) = fun _ => BitVec.ofNat 32 k
  h : ∀ d : Fin 2048, (V (Proc.devRef .tc main_v102_4) : Vec Ideal S2048 .f32) (ix1 d) = I.st d k
  y : ∀ (t : Fin 8192) (d : Fin 2048), t.val < k → (V (Proc.devRef .tc main_v102_5) : Vec Ideal S8192x2048 .f32) (ix2 t d) = I.out t d

variable (k : ℕ) (V : Valuation τ sig (Elt Ideal)) (hV : At I k V) (hk : k < 8192)
include hV hk

theorem res_at (d : Fin 2048) : (res_main_while0b_v108 V : Vec Ideal S2048 .f32) (ix1 d) = I.st d (k + 1) := by
  have e : I.st d (k + 1) = I.a ⟨k, hk⟩ d * I.st d k + I.b ⟨k, hk⟩ d := by
    show (if h : k < 8192 then _ else _) = _
    rw [dif_pos hk]
  rw [e, ← hV.a, ← hV.b, ← hV.h]
  unfold res_main_while0b_v108
  exact congrArg₂ (· + ·) (congrArg (· * _) (row_at _ _ k hk hV.n d)) (row_at _ _ k hk hV.n d)

theorem at_step : At I (k + 1) (STEP V) where
  a t d := by rw [STEP_main_v102_0]; exact hV.a t d
  b t d := by rw [STEP_main_v102_1]; exact hV.b t d
  g t d := by rw [STEP_main_v102_2]; exact hV.g t d
  n := by
    rw [STEP_main_v102_3]
    unfold step_main_v102_3
    rw [hV.n]
    funext i
    show BitVec.ofNat 32 k + 1#32 = BitVec.ofNat 32 (k + 1)
    rw [BitVec.ofNat_add]
  h d := by
    rw [STEP_main_v102_4]
    exact res_at I k V hV hk d
  y t d ht := by
    rw [STEP_main_v102_5]
    unfold step_main_v102_5
    refine (upd_at _ _ _ k hk hV.n t d).trans ?_
    by_cases h : t.val = k
    · rw [if_pos h]
      have e : t = ⟨k, hk⟩ := Fin.ext h
      unfold In.out
      rw [e, ← hV.g, ← res_at I k V hV hk d]
      have key : ∀ z : Vec Ideal S2048 .f32, broadcastInDim S1x2048 ![1] bcast_S2048_S1x2048_1 z (ix2 0 d) = z (ix1 d) := fun z => by
        pointwise []
      refine (key _).trans ?_
      exact congrArg (fun z : EReal => HMul.hMul (α := EReal) (β := EReal) (γ := EReal) ((res_main_while0b_v108 V : Vec Ideal S2048 .f32) (ix1 d)) z) (row_at _ _ k hk hV.n d)
    · rw [if_neg h]
      exact hV.y t d (by omega)

omit hV hk

theorem at_all (h0 : At I 0 V) : ∀ n : ℕ, n ≤ 8192 → At I n (STEP^[n] V)
  | 0, _ => h0
  | n + 1, h => by
    rw [Function.iterate_succ_apply']
    exact at_step I n _ (at_all h0 n (by omega)) (by omega)

/-- The returned array, at an index. -/
theorem ret_at (h0 : At I 0 V) (t : Fin 8192) (d : Fin 2048) :
    (out_main_v103 (STEP^[8192] V) : Vec Ideal S8192x2048 .bf16) (ix2 t d) = I.out t d :=
  (at_all I V h0 8192 (le_refl _)).y t d t.isLt

section
variable (m : (ℓ : Loc nD τ sig) → Buf (Elt Ideal) ℓ) (c : Dev nD)

/-- The layer's inputs, read from the reference's memory. -/
abbrev inR : In := inp (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9))

set_option maxRecDepth 65536 in
set_option maxHeartbeats 4000000 in
theorem entry_a : entryContents preI m c (Proc.devRef .tc main_v102_0) = Step.A_main_v79 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) := by
  simp only [entryContents, afterL_cons, afterL_nil]
  after_reads_simp
  rfl

set_option maxRecDepth 65536 in
set_option maxHeartbeats 4000000 in
theorem entry_b : entryContents preI m c (Proc.devRef .tc main_v102_1) = Step.A_main_v86 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) := by
  simp only [entryContents, afterL_cons, afterL_nil]
  after_reads_simp
  rfl

set_option maxRecDepth 65536 in
set_option maxHeartbeats 4000000 in
theorem entry_g : entryContents preI m c (Proc.devRef .tc main_v102_2) = Step.A_main_v100 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) := by
  simp only [entryContents, afterL_cons, afterL_nil]
  after_reads_simp
  rfl

theorem entry_h : entryContents preI m c (Proc.devRef .tc main_v102_4) = Step.K_main_v87 (F := Ideal) := by
  simp only [entryContents, afterL_cons, afterL_nil]
  after_reads_simp
  rfl

theorem zero_at (d : Fin 2048) : (Step.K_main_v87 (F := Ideal) : Vec Ideal S2048 .f32) (ix1 d) = 0 := by
  pointwise [Step.K_main_v87, Step.K_main_cst_8]

/-- The loop starts with the layer's decays, inputs and gates, and a zero state. -/
theorem at_entry : At (inR m c) 0 (entryContents preI m c) where
  a t d := by rw [entry_a]; exact a_at _ _ _ _ _ _ _ _ _ _ t d
  b t d := by rw [entry_b]; exact b_at _ _ _ _ _ _ _ _ _ _ t d
  g t d := by rw [entry_g]; exact gate_at _ _ _ _ _ _ _ _ _ _ t d
  n := ctr_entry m c
  h d := by rw [entry_h]; exact zero_at d
  y t d h := absurd h (Nat.not_lt_zero _)

theorem value_at (t : Fin 8192) (d : Fin 2048) :
    (out_main_v103 (STEP^[8192] (entryContents preI m c)) : Vec Ideal S8192x2048 .bf16) (ix2 t d) = (inR m c).out t d :=
  ret_at _ _ (at_entry m c) t d

end

end Cert.Scan.Ref
end
-- ==== Proof.Scan.Value.lean ====
/- The recurrence's kernel and its reference: the result arrays are equal when the arguments are. -/
module

public import proofs.«01_k».proof.Proof.Scan.Global
public import proofs.«01_k».proof.Proof.Scan.RefRun

@[expose] public section

set_option maxRecDepth 16384

noncomputable section

open Idealize.ShloMosaic Idealize.ShloMosaic.Pointwise Idealize.ShloMosaic.TcCoe Idealize.SL.Sem Idealize.ShloMosaic.StableHlo

namespace Cert.Scan

open Cert.ScanKernelIdeal in
/-- The kernel's run: the result array is the pipeline's, and the arguments are unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = (dats m 0 c).arrAt 11 Cert.ScanKernelIdeal.cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h.1 c).1 11, h.2.1 c⟩) (θ_run_and (run_main m ρ) (frame m ρ))

/-- The reference's returned array is the kernel's. -/
theorem value_eq (m : (ℓ : Loc Cert.ScanKernelIdeal.nD Cert.ScanKernelIdeal.τ Cert.ScanKernelIdeal.sig) → Buf (Elt Ideal) ℓ)
    (m' : (ℓ : Loc Cert.ScanReferenceIdeal.nD Cert.ScanReferenceIdeal.τ Cert.ScanReferenceIdeal.sig) → Buf (Elt Ideal) ℓ)
    (c : Dev Cert.ScanKernelIdeal.nD)
    (h : m' ((c.tc : Thread Cert.ScanReferenceIdeal.nD Cert.ScanReferenceIdeal.τ).loc Cert.ScanReferenceIdeal.main_arg0) = m ((c.tc : Thread Cert.ScanKernelIdeal.nD Cert.ScanKernelIdeal.τ).loc Cert.ScanKernelIdeal.main_arg0)
      ∧ m' ((c.tc : Thread Cert.ScanReferenceIdeal.nD Cert.ScanReferenceIdeal.τ).loc Cert.ScanReferenceIdeal.main_arg1) = m ((c.tc : Thread Cert.ScanKernelIdeal.nD Cert.ScanKernelIdeal.τ).loc Cert.ScanKernelIdeal.main_arg1)
      ∧ m' ((c.tc : Thread Cert.ScanReferenceIdeal.nD Cert.ScanReferenceIdeal.τ).loc Cert.ScanReferenceIdeal.main_arg2) = m ((c.tc : Thread Cert.ScanKernelIdeal.nD Cert.ScanKernelIdeal.τ).loc Cert.ScanKernelIdeal.main_arg2)
      ∧ m' ((c.tc : Thread Cert.ScanReferenceIdeal.nD Cert.ScanReferenceIdeal.τ).loc Cert.ScanReferenceIdeal.main_arg3) = m ((c.tc : Thread Cert.ScanKernelIdeal.nD Cert.ScanKernelIdeal.τ).loc Cert.ScanKernelIdeal.main_arg3)
      ∧ m' ((c.tc : Thread Cert.ScanReferenceIdeal.nD Cert.ScanReferenceIdeal.τ).loc Cert.ScanReferenceIdeal.main_arg4) = m ((c.tc : Thread Cert.ScanKernelIdeal.nD Cert.ScanKernelIdeal.τ).loc Cert.ScanKernelIdeal.main_arg4)
      ∧ m' ((c.tc : Thread Cert.ScanReferenceIdeal.nD Cert.ScanReferenceIdeal.τ).loc Cert.ScanReferenceIdeal.main_arg5) = m ((c.tc : Thread Cert.ScanKernelIdeal.nD Cert.ScanKernelIdeal.τ).loc Cert.ScanKernelIdeal.main_arg5)
      ∧ m' ((c.tc : Thread Cert.ScanReferenceIdeal.nD Cert.ScanReferenceIdeal.τ).loc Cert.ScanReferenceIdeal.main_arg6) = m ((c.tc : Thread Cert.ScanKernelIdeal.nD Cert.ScanKernelIdeal.τ).loc Cert.ScanKernelIdeal.main_arg6)
      ∧ m' ((c.tc : Thread Cert.ScanReferenceIdeal.nD Cert.ScanReferenceIdeal.τ).loc Cert.ScanReferenceIdeal.main_arg7) = m ((c.tc : Thread Cert.ScanKernelIdeal.nD Cert.ScanKernelIdeal.τ).loc Cert.ScanKernelIdeal.main_arg7)
      ∧ m' ((c.tc : Thread Cert.ScanReferenceIdeal.nD Cert.ScanReferenceIdeal.τ).loc Cert.ScanReferenceIdeal.main_arg8) = m ((c.tc : Thread Cert.ScanKernelIdeal.nD Cert.ScanKernelIdeal.τ).loc Cert.ScanKernelIdeal.main_arg8)
      ∧ m' ((c.tc : Thread Cert.ScanReferenceIdeal.nD Cert.ScanReferenceIdeal.τ).loc Cert.ScanReferenceIdeal.main_arg9) = m ((c.tc : Thread Cert.ScanKernelIdeal.nD Cert.ScanKernelIdeal.τ).loc Cert.ScanKernelIdeal.main_arg9)) :
    (Cert.ScanReferenceIdeal.Value.out_main_v103 (Cert.ScanReferenceIdeal.Value.STEP^[8192] (entryContents Cert.ScanReferenceIdeal.Value.preI m' c)) : Vec Ideal Cert.ScanReferenceIdeal.S8192x2048 .bf16)
      = (dats m 0 c).arrAt 11 Cert.ScanKernelIdeal.cfg0.N := by
  have e : Ref.inR m' c = inK m c := by
    obtain ⟨h0, h1, h2, h3, h4, h5, h6, h7, h8, h9⟩ := h
    unfold Ref.inR
    rw [h0, h1, h2, h3, h4, h5, h6, h7, h8, h9]
    rfl
  funext i
  idx_vars i
  refine (Ref.value_at m' c _ _).trans ?_
  rw [e]
  exact (arr_apply m c _ _).symm

end Cert.Scan
end
-- ==== Proof.Dsa.Cond.lean ====
/- The projection kernel: which branch of the body a grid point takes, and what each branch makes. -/
module

public import proofs.«01_k».proof.Proof.Gen.DsaKernelIdeal.Frame
public import proofs.«01_k».proof.Proof.Gen.DsaKernelIdeal.Skeleton
public import Idealize.ShloMosaic.Lib.VecWindow
public import Idealize.ShloMosaic.Lib.WritesUnit

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch: the first column block of a row block. -/
abbrev cond0 (i : grid0.Coords) : Prop := Scalar.cmpi .ne (Scalar.extui (Scalar.cmpi .eq (BitVec.ofNat 32 (i 1).val) 0#32) : BitVec 32) 0#32 = 1#1

theorem hcond0 : ∀ t : Fin grid0.N, cond0 (grid0.coords t) ↔ t.val % 12 = 0 := by decide +kernel
theorem hcond3 : ∀ t : Fin grid0.N, k0_cond3 (grid0.coords t) = 1#1 ↔ 1 ≤ t.val % 12 ∧ t.val % 12 ≤ 4 := by decide +kernel
theorem hcond4 : ∀ t : Fin grid0.N, k0_cond4 (grid0.coords t) = 1#1 ↔ t.val % 12 = 5 := by decide +kernel
theorem hcond5 : ∀ t : Fin grid0.N, k0_cond5 (grid0.coords t) = 1#1 ↔ t.val % 12 = 6 := by decide +kernel
theorem hcond6 : ∀ t : Fin grid0.N, k0_cond6 (grid0.coords t) = 1#1 ↔ 7 ≤ t.val % 12 ∧ t.val % 12 ≤ 10 := by decide +kernel
theorem hcond7 : ∀ t : Fin grid0.N, k0_cond7 (grid0.coords t) = 1#1 ↔ t.val % 12 = 11 := by decide +kernel

theorem idle10 : ∀ t : Fin grid0.N, cfg0.idle 10 (grid0.coords t) = decide (t.val % 12 = 0) := by decide +kernel
theorem idle11 : ∀ t : Fin grid0.N, cfg0.idle 11 (grid0.coords t) = decide (t.val % 12 ≠ 11) := by decide +kernel
theorem idle12 : ∀ t : Fin grid0.N, cfg0.idle 12 (grid0.coords t) = decide (t.val % 12 ≠ 6) := by decide +kernel
theorem keep10 : ∀ t : Fin grid0.N, t.val % 12 = 0 → (cfg0.win 10).flush t = false := by decide +kernel
theorem keep11 : ∀ t : Fin grid0.N, t.val % 12 ≠ 11 → (cfg0.win 11).flush t = false := by decide +kernel
theorem keep12 : ∀ t : Fin grid0.N, t.val % 12 ≠ 11 → (cfg0.win 12).flush t = false := by decide +kernel

/-- Four query heads: normalised, rotated, scaled. -/
def qHeads (y : Vec F S1024x512 .f32) (q : Vec F S1x128 .f32) (rc rs : Vec F S1024x128 .f32) : FVec F S1024x512 .bf16 :=
  k0_pay3 y (k0_pay12 y q rc rs) (k0_pay14 (k0_pay13 y) q rc rs) (k0_pay16 y q rc) (k0_pay17 y q) rs q rc rs
/-- Four key heads: normalised and rotated. -/
def kHeads (y : Vec F S1024x512 .f32) (q : Vec F S1x128 .f32) (rc rs : Vec F S1024x128 .f32) : FVec F S1024x512 .bf16 :=
  k0_pay4 (k0_pay19 y q rc rs) (k0_pay23 (k0_pay20 y) (k0_pay21 q) (k0_pay22 y) rc rs) (k0_pay24 y q rc rs) (k0_pay25 y) q rc rs
/-- Four index heads: rotated in part. -/
def iHeads (y : Vec F S1024x512 .f32) (ic ia ib : Vec F S1024x128 .f32) : FVec F S1024x512 .bf16 :=
  k0_pay8 (k0_pay30 y (k0_pay27 y ic ia ib) (k0_pay28 y) (k0_pay29 y ic) 96#32 ia ib ic ia ib ic ia ib)

end Cert.Dsa

end
-- ==== Proof.Dsa.RunA.lean ====
/- The projection kernel's body. The first step of a row block: the rows are normalised and the first product taken. -/
module

public import proofs.«01_k».proof.Proof.Dsa.Cond

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The first step of a row block: the rows are normalised and the first product taken. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x512x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x512 .bf16) (harg12 : arg12.IsWhole) (arg13 : Memref sig .tc .vmem S1024x128 .f32) (harg13 : arg13.IsWhole) (arg14 : Memref sig .tc .vmem S512x1024 .bf16) (harg14 : arg14.IsWhole) (arg15 : Memref sig .tc .vmem S1024x2048 .bf16) (harg15 : arg15.IsWhole) (arg16 : Memref sig .tc .vmem S1024x512 .f32) (harg16 : arg16.IsWhole) (hc0 : cond0 i) (hc3 : ¬k0_cond3 i = 1#1) (hc4 : ¬k0_cond4 i = 1#1) (hc5 : ¬k0_cond5 i = 1#1) (hc6 : ¬k0_cond6 i = 1#1) (hc7 : ¬k0_cond7 i = 1#1) (x2 : Vec F S1024x2048 .f32) (x3 : Vec F S1x2048 .f32) (x4 : Vec F S1x512x2048 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ (∃ d, owns (c : Thread nD τ) arg15 fullShare d)
        ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg15 fullShare (k0_pay1 x2 x3) ∗ owns (c : Thread nD τ) arg16 fullShare (k0_pay2 x4 (k0_pay1 x2 x3))) -∗ K ⟨⟩))
      ⊢ wp frame (wpE (defs₀ (F := F)) Variants.none c none) E (cc0_dsa_projection i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dsa_projection_eq_skeleton]; unfold cc0_dsa_projection_skel
  unfold owns
  iintro ⟨⟨%f2, %hf2, H2⟩, ⟨%f3, %hf3, H3⟩, ⟨%f4, %hf4, H4⟩, ⟨%d15, %f15, %hf15, H15⟩, ⟨%d16, %f16, %hf16, H16⟩, Hk⟩
  obtain rfl := harg2.eq_unread hf2; obtain rfl := harg3.eq_unread hf3; obtain rfl := harg4.eq_unread hf4; obtain rfl := harg15.eq_unread hf15; obtain rfl := harg16.eq_unread hf16
  sl_exec (disch := first | sl_exact hc0 | sl_exact hc3 | sl_exact hc4 | sl_exact hc5 | sl_exact hc6 | sl_exact hc7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H15]
  · iexists _; isplitr
    swap; · iexact H15
    ipureintro
    unfold run_A.sl.H15_1; rw [View.read_writes_full]; simp (proj := false) only [View.readAt_full, Memref.IsWhole.read_unread]
  iexists _; isplitr
  swap; · iexact H16
  ipureintro
  rw [View.read_writes_full]; unfold run_A.sl.v32 run_A.sl.H15_1; simp (proj := false) only [View.readAt_full, View.readCov_full, Memref.IsWhole.read_unread]

end Cert.Dsa

end
-- ==== Proof.Dsa.RunB.lean ====
/- The projection kernel's body. A step of query heads. -/
module

public import proofs.«01_k».proof.Proof.Dsa.Cond

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- A step of query heads. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x512x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x512 .bf16) (harg12 : arg12.IsWhole) (arg13 : Memref sig .tc .vmem S1024x128 .f32) (harg13 : arg13.IsWhole) (arg14 : Memref sig .tc .vmem S512x1024 .bf16) (harg14 : arg14.IsWhole) (arg15 : Memref sig .tc .vmem S1024x2048 .bf16) (harg15 : arg15.IsWhole) (arg16 : Memref sig .tc .vmem S1024x512 .f32) (harg16 : arg16.IsWhole) (hc0 : ¬cond0 i) (hc3 : k0_cond3 i = 1#1) (hc4 : ¬k0_cond4 i = 1#1) (hc5 : ¬k0_cond5 i = 1#1) (hc6 : ¬k0_cond6 i = 1#1) (hc7 : ¬k0_cond7 i = 1#1) (x4 : Vec F S1x512x2048 .f32) (x5 : Vec F S1x128 .f32) (x7 : Vec F S1024x128 .f32) (x8 : Vec F S1024x128 .f32) (x15 : Vec F S1024x2048 .bf16) (x16 : Vec F S1024x512 .f32) (E : Set ℕ) (K : PUnit → sProp 𝕄) :
    iprop(owns (c : Thread nD τ) arg4 fullShare x4
        ∗ owns (c : Thread nD τ) arg5 fullShare x5
        ∗ owns (c : Thread nD τ) arg7 fullShare x7
        ∗ owns (c : Thread nD τ) arg8 fullShare x8
        ∗ (∃ d, owns (c : Thread nD τ) arg12 fullShare d)
        ∗ owns (c : Thread nD τ) arg15 fullShare x15
        ∗ owns (c : Thread nD τ) arg16 fullShare x16
        ∗ (iprop(owns (c : Thread nD τ) arg4 fullShare x4 ∗ owns (c : Thread nD τ) arg5 fullShare x5 ∗ owns (c : Thread nD τ) arg7 fullShare x7 ∗ owns (c : Thread nD τ) arg8 fullShare x8 ∗ owns (c : Thread nD τ) arg12 fullShare (qHeads x16 x5 x7 x8) ∗ owns (c : Thread nD τ) arg15 fullShare x15 ∗ owns (c : Thread nD τ) arg16 fullShare (k0_pay11 x4 x15)) -∗ K ⟨⟩))
      ⊢ wp frame (wpE (defs₀ (F := F)) Variants.none c none) E (cc0_dsa_projection i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dsa_projection_eq_skeleton]; unfold cc0_dsa_projection_skel
  unfold owns
  iintro ⟨⟨%f4, %hf4, H4⟩, ⟨%f5, %hf5, H5⟩, ⟨%f7, %hf7, H7⟩, ⟨%f8, %hf8, H8⟩, ⟨%d12, %f12, %hf12, H12⟩, ⟨%f15, %hf15, H15⟩, ⟨%f16, %hf16, H16⟩, Hk⟩
  obtain rfl := harg4.eq_unread hf4; obtain rfl := harg5.eq_unread hf5; obtain rfl := harg7.eq_unread hf7; obtain rfl := harg8.eq_unread hf8; obtain rfl := harg12.eq_unread hf12; obtain rfl := harg15.eq_unread hf15; obtain rfl := harg16.eq_unread hf16
  sl_exec (disch := first | sl_exact hc0 | sl_exact hc3 | sl_exact hc4 | sl_exact hc5 | sl_exact hc6 | sl_exact hc7)
  sl_step
  iapply Hk
  isplitl [H4]
  · iexists _; isplitr; · ipureintro; exact harg4.read_unread _
    iexact H4
  isplitl [H5]
  · iexists _; isplitr; · ipureintro; exact harg5.read_unread _
    iexact H5
  isplitl [H7]
  · iexists _; isplitr; · ipureintro; exact harg7.read_unread _
    iexact H7
  isplitl [H8]
  · iexists _; isplitr; · ipureintro; exact harg8.read_unread _
    iexact H8
  isplitl [H12]
  · iexists _; isplitr
    swap; · iexact H12
    ipureintro
    rw [View.read_writes_full]; (try unfold run_B.sl.r_6); (try unfold run_B.sl.r_5); (try unfold run_B.sl.r_4); (try unfold run_B.sl.r_3); (try unfold run_B.sl.r_2); (try unfold run_B.sl.r_1); (try unfold run_B.sl.r); simp (proj := false) only [View.readAt_full, Memref.IsWhole.read_unread]; rfl
  isplitl [H15]
  · iexists _; isplitr; · ipureintro; exact harg15.read_unread _
    iexact H15
  iexists _; isplitr
  swap; · iexact H16
  ipureintro
  rw [View.read_writes_full]; simp (proj := false) only [View.readAt_full, Memref.IsWhole.read_unread]

end Cert.Dsa

end
-- ==== Proof.Dsa.RunC.lean ====
/- The projection kernel's body. The step of key heads. -/
module

public import proofs.«01_k».proof.Proof.Dsa.Cond

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The step of key heads. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x512x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x512 .bf16) (harg12 : arg12.IsWhole) (arg13 : Memref sig .tc .vmem S1024x128 .f32) (harg13 : arg13.IsWhole) (arg14 : Memref sig .tc .vmem S512x1024 .bf16) (harg14 : arg14.IsWhole) (arg15 : Memref sig .tc .vmem S1024x2048 .bf16) (harg15 : arg15.IsWhole) (arg16 : Memref sig .tc .vmem S1024x512 .f32) (harg16 : arg16.IsWhole) (hc0 : ¬cond0 i) (hc3 : ¬k0_cond3 i = 1#1) (hc4 : k0_cond4 i = 1#1) (hc5 : ¬k0_cond5 i = 1#1) (hc6 : ¬k0_cond6 i = 1#1) (hc7 : ¬k0_cond7 i = 1#1) (x4 : Vec F S1x512x2048 .f32) (x6 : Vec F S1x128 .f32) (x7 : Vec F S1024x128 .f32) (x8 : Vec F S1024x128 .f32) (x15 : Vec F S1024x2048 .bf16) (x16 : Vec F S1024x512 .f32) (E : Set ℕ) (K : PUnit → sProp 𝕄) :
    iprop(owns (c : Thread nD τ) arg4 fullShare x4
        ∗ owns (c : Thread nD τ) arg6 fullShare x6
        ∗ owns (c : Thread nD τ) arg7 fullShare x7
        ∗ owns (c : Thread nD τ) arg8 fullShare x8
        ∗ (∃ d, owns (c : Thread nD τ) arg12 fullShare d)
        ∗ owns (c : Thread nD τ) arg15 fullShare x15
        ∗ owns (c : Thread nD τ) arg16 fullShare x16
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg12 fullShare (kHeads x16 x6 x7 x8) ∗ owns (c : Thread nD τ) arg15 fullShare x15 ∗ owns (c : Thread nD τ) arg16 fullShare (k0_pay18 x4 x15)) -∗ K ⟨⟩))
      ⊢ wp frame (wpE (defs₀ (F := F)) Variants.none c none) E (cc0_dsa_projection i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dsa_projection_eq_skeleton]; unfold cc0_dsa_projection_skel
  unfold owns
  iintro ⟨⟨%f4, %hf4, H4⟩, ⟨%f6, %hf6, H6⟩, ⟨%f7, %hf7, H7⟩, ⟨%f8, %hf8, H8⟩, ⟨%d12, %f12, %hf12, H12⟩, ⟨%f15, %hf15, H15⟩, ⟨%f16, %hf16, H16⟩, Hk⟩
  obtain rfl := harg4.eq_unread hf4; obtain rfl := harg6.eq_unread hf6; obtain rfl := harg7.eq_unread hf7; obtain rfl := harg8.eq_unread hf8; obtain rfl := harg12.eq_unread hf12; obtain rfl := harg15.eq_unread hf15; obtain rfl := harg16.eq_unread hf16
  sl_exec (disch := first | sl_exact hc0 | sl_exact hc3 | sl_exact hc4 | sl_exact hc5 | sl_exact hc6 | sl_exact hc7)
  sl_step
  iapply Hk
  isplitl [H4]
  · iexists _; isplitr; · ipureintro; exact harg4.read_unread _
    iexact H4
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H12]
  · iexists _; isplitr
    swap; · iexact H12
    ipureintro
    rw [View.read_writes_full]; (try unfold run_C.sl.r_7); (try unfold run_C.sl.r_6); (try unfold run_C.sl.r_5); (try unfold run_C.sl.r_4); (try unfold run_C.sl.r_3); (try unfold run_C.sl.r_2); (try unfold run_C.sl.r_1); (try unfold run_C.sl.r); simp (proj := false) only [View.readAt_full, Memref.IsWhole.read_unread]; rfl
  isplitl [H15]
  · iexists _; isplitr; · ipureintro; exact harg15.read_unread _
    iexact H15
  iexists _; isplitr
  swap; · iexact H16
  ipureintro
  rw [View.read_writes_full]; simp (proj := false) only [View.readAt_full, Memref.IsWhole.read_unread]

end Cert.Dsa

end
-- ==== Proof.Dsa.RunD.lean ====
/- The projection kernel's body. The step of values, and of the values transposed. -/
module

public import proofs.«01_k».proof.Proof.Dsa.Cond

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The step of values, and of the values transposed. -/
theorem run_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x512x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x512 .bf16) (harg12 : arg12.IsWhole) (arg13 : Memref sig .tc .vmem S1024x128 .f32) (harg13 : arg13.IsWhole) (arg14 : Memref sig .tc .vmem S512x1024 .bf16) (harg14 : arg14.IsWhole) (arg15 : Memref sig .tc .vmem S1024x2048 .bf16) (harg15 : arg15.IsWhole) (arg16 : Memref sig .tc .vmem S1024x512 .f32) (harg16 : arg16.IsWhole) (hc0 : ¬cond0 i) (hc3 : ¬k0_cond3 i = 1#1) (hc4 : ¬k0_cond4 i = 1#1) (hc5 : k0_cond5 i = 1#1) (hc6 : ¬k0_cond6 i = 1#1) (hc7 : ¬k0_cond7 i = 1#1) (x4 : Vec F S1x512x2048 .f32) (x15 : Vec F S1024x2048 .bf16) (x16 : Vec F S1024x512 .f32) (E : Set ℕ) (K : PUnit → sProp 𝕄) :
    iprop(owns (c : Thread nD τ) arg4 fullShare x4
        ∗ (∃ d, owns (c : Thread nD τ) arg12 fullShare d)
        ∗ (∃ d, owns (c : Thread nD τ) arg14 fullShare d)
        ∗ owns (c : Thread nD τ) arg15 fullShare x15
        ∗ owns (c : Thread nD τ) arg16 fullShare x16
        ∗ (iprop(owns (c : Thread nD τ) arg4 fullShare x4 ∗ owns (c : Thread nD τ) arg12 fullShare (k0_pay6 x16) ∗ owns (c : Thread nD τ) arg14 fullShare (k0_pay7 x16) ∗ owns (c : Thread nD τ) arg15 fullShare x15 ∗ owns (c : Thread nD τ) arg16 fullShare (k0_pay5 x4 x15)) -∗ K ⟨⟩))
      ⊢ wp frame (wpE (defs₀ (F := F)) Variants.none c none) E (cc0_dsa_projection i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dsa_projection_eq_skeleton]; unfold cc0_dsa_projection_skel
  unfold owns
  iintro ⟨⟨%f4, %hf4, H4⟩, ⟨%d12, %f12, %hf12, H12⟩, ⟨%d14, %f14, %hf14, H14⟩, ⟨%f15, %hf15, H15⟩, ⟨%f16, %hf16, H16⟩, Hk⟩
  obtain rfl := harg4.eq_unread hf4; obtain rfl := harg12.eq_unread hf12; obtain rfl := harg14.eq_unread hf14; obtain rfl := harg15.eq_unread hf15; obtain rfl := harg16.eq_unread hf16
  sl_exec (disch := first | sl_exact hc0 | sl_exact hc3 | sl_exact hc4 | sl_exact hc5 | sl_exact hc6 | sl_exact hc7)
  sl_step
  iapply Hk
  isplitl [H4]
  · iexists _; isplitr; · ipureintro; exact harg4.read_unread _
    iexact H4
  isplitl [H12]
  · iexists _; isplitr
    swap; · iexact H12
    ipureintro
    rw [View.read_writes_full]; simp (proj := false) only [View.readAt_full, Memref.IsWhole.read_unread]
  isplitl [H14]
  · iexists _; isplitr
    swap; · iexact H14
    ipureintro
    rw [View.read_writes_full]; simp (proj := false) only [View.readAt_full, Memref.IsWhole.read_unread]
  isplitl [H15]
  · iexists _; isplitr; · ipureintro; exact harg15.read_unread _
    iexact H15
  iexists _; isplitr
  swap; · iexact H16
  ipureintro
  rw [View.read_writes_full]; simp (proj := false) only [View.readAt_full, Memref.IsWhole.read_unread]

end Cert.Dsa

end
-- ==== Proof.Dsa.RunE.lean ====
/- The projection kernel's body. A step of index query heads. -/
module

public import proofs.«01_k».proof.Proof.Dsa.Cond

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- A step of index query heads. -/
theorem run_E (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x512x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x512 .bf16) (harg12 : arg12.IsWhole) (arg13 : Memref sig .tc .vmem S1024x128 .f32) (harg13 : arg13.IsWhole) (arg14 : Memref sig .tc .vmem S512x1024 .bf16) (harg14 : arg14.IsWhole) (arg15 : Memref sig .tc .vmem S1024x2048 .bf16) (harg15 : arg15.IsWhole) (arg16 : Memref sig .tc .vmem S1024x512 .f32) (harg16 : arg16.IsWhole) (hc0 : ¬cond0 i) (hc3 : ¬k0_cond3 i = 1#1) (hc4 : ¬k0_cond4 i = 1#1) (hc5 : ¬k0_cond5 i = 1#1) (hc6 : k0_cond6 i = 1#1) (hc7 : ¬k0_cond7 i = 1#1) (x4 : Vec F S1x512x2048 .f32) (x9 : Vec F S1024x128 .f32) (x10 : Vec F S1024x128 .f32) (x11 : Vec F S1024x128 .f32) (x15 : Vec F S1024x2048 .bf16) (x16 : Vec F S1024x512 .f32) (E : Set ℕ) (K : PUnit → sProp 𝕄) :
    iprop(owns (c : Thread nD τ) arg4 fullShare x4
        ∗ owns (c : Thread nD τ) arg9 fullShare x9
        ∗ owns (c : Thread nD τ) arg10 fullShare x10
        ∗ owns (c : Thread nD τ) arg11 fullShare x11
        ∗ (∃ d, owns (c : Thread nD τ) arg12 fullShare d)
        ∗ owns (c : Thread nD τ) arg15 fullShare x15
        ∗ owns (c : Thread nD τ) arg16 fullShare x16
        ∗ (iprop(owns (c : Thread nD τ) arg4 fullShare x4 ∗ owns (c : Thread nD τ) arg9 fullShare x9 ∗ owns (c : Thread nD τ) arg10 fullShare x10 ∗ owns (c : Thread nD τ) arg11 fullShare x11 ∗ owns (c : Thread nD τ) arg12 fullShare (iHeads x16 x9 x10 x11) ∗ owns (c : Thread nD τ) arg15 fullShare x15 ∗ owns (c : Thread nD τ) arg16 fullShare (k0_pay26 (BitVec.ofNat 32 (i 1).val) x4 x15)) -∗ K ⟨⟩))
      ⊢ wp frame (wpE (defs₀ (F := F)) Variants.none c none) E (cc0_dsa_projection i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dsa_projection_eq_skeleton]; unfold cc0_dsa_projection_skel
  unfold owns
  iintro ⟨⟨%f4, %hf4, H4⟩, ⟨%f9, %hf9, H9⟩, ⟨%f10, %hf10, H10⟩, ⟨%f11, %hf11, H11⟩, ⟨%d12, %f12, %hf12, H12⟩, ⟨%f15, %hf15, H15⟩, ⟨%f16, %hf16, H16⟩, Hk⟩
  obtain rfl := harg4.eq_unread hf4; obtain rfl := harg9.eq_unread hf9; obtain rfl := harg10.eq_unread hf10; obtain rfl := harg11.eq_unread hf11; obtain rfl := harg12.eq_unread hf12; obtain rfl := harg15.eq_unread hf15; obtain rfl := harg16.eq_unread hf16
  sl_exec (disch := first | sl_exact hc0 | sl_exact hc3 | sl_exact hc4 | sl_exact hc5 | sl_exact hc6 | sl_exact hc7)
  sl_step
  iapply Hk
  isplitl [H4]
  · iexists _; isplitr; · ipureintro; exact harg4.read_unread _
    iexact H4
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    rw [View.read_writes_full]; (try unfold run_E.sl.r_4); (try unfold run_E.sl.r_3); (try unfold run_E.sl.r_2); (try unfold run_E.sl.r_1); (try unfold run_E.sl.r); simp (proj := false) only [View.readAt_full, Memref.IsWhole.read_unread]; rfl
  isplitl [H15]
  · iexists _; isplitr; · ipureintro; exact harg15.read_unread _
    iexact H15
  iexists _; isplitr
  swap; · iexact H16
  ipureintro
  rw [View.read_writes_full]; simp (proj := false) only [View.readAt_full, Memref.IsWhole.read_unread]

end Cert.Dsa

end
-- ==== Proof.Dsa.RunG.lean ====
/- The projection kernel's body. The last step: the index key and the index weights. -/
module

public import proofs.«01_k».proof.Proof.Dsa.Cond

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The last step: the index key and the index weights. -/
theorem run_G (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x512x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x512 .bf16) (harg12 : arg12.IsWhole) (arg13 : Memref sig .tc .vmem S1024x128 .f32) (harg13 : arg13.IsWhole) (arg14 : Memref sig .tc .vmem S512x1024 .bf16) (harg14 : arg14.IsWhole) (arg15 : Memref sig .tc .vmem S1024x2048 .bf16) (harg15 : arg15.IsWhole) (arg16 : Memref sig .tc .vmem S1024x512 .f32) (harg16 : arg16.IsWhole) (hc0 : ¬cond0 i) (hc3 : ¬k0_cond3 i = 1#1) (hc4 : ¬k0_cond4 i = 1#1) (hc5 : ¬k0_cond5 i = 1#1) (hc6 : ¬k0_cond6 i = 1#1) (hc7 : k0_cond7 i = 1#1) (x9 : Vec F S1024x128 .f32) (x10 : Vec F S1024x128 .f32) (x11 : Vec F S1024x128 .f32) (x16 : Vec F S1024x512 .f32) (E : Set ℕ) (K : PUnit → sProp 𝕄) :
    iprop(owns (c : Thread nD τ) arg9 fullShare x9
        ∗ owns (c : Thread nD τ) arg10 fullShare x10
        ∗ owns (c : Thread nD τ) arg11 fullShare x11
        ∗ (∃ d, owns (c : Thread nD τ) arg12 fullShare d)
        ∗ (∃ d, owns (c : Thread nD τ) arg13 fullShare d)
        ∗ owns (c : Thread nD τ) arg16 fullShare x16
        ∗ (iprop(owns (c : Thread nD τ) arg9 fullShare x9 ∗ owns (c : Thread nD τ) arg10 fullShare x10 ∗ owns (c : Thread nD τ) arg11 fullShare x11 ∗ owns (c : Thread nD τ) arg12 fullShare (k0_pay9 x16 x9 x10 x11) ∗ owns (c : Thread nD τ) arg13 fullShare (k0_pay10 x16) ∗ owns (c : Thread nD τ) arg16 fullShare x16) -∗ K ⟨⟩))
      ⊢ wp frame (wpE (defs₀ (F := F)) Variants.none c none) E (cc0_dsa_projection i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dsa_projection_eq_skeleton]; unfold cc0_dsa_projection_skel
  unfold owns
  iintro ⟨⟨%f9, %hf9, H9⟩, ⟨%f10, %hf10, H10⟩, ⟨%f11, %hf11, H11⟩, ⟨%d12, %f12, %hf12, H12⟩, ⟨%d13, %f13, %hf13, H13⟩, ⟨%f16, %hf16, H16⟩, Hk⟩
  obtain rfl := harg9.eq_unread hf9; obtain rfl := harg10.eq_unread hf10; obtain rfl := harg11.eq_unread hf11; obtain rfl := harg12.eq_unread hf12; obtain rfl := harg13.eq_unread hf13; obtain rfl := harg16.eq_unread hf16
  sl_exec (disch := first | sl_exact hc0 | sl_exact hc3 | sl_exact hc4 | sl_exact hc5 | sl_exact hc6 | sl_exact hc7)
  sl_step
  iapply Hk
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    rw [View.read_writes_full]; simp (proj := false) only [View.readAt_full, Memref.IsWhole.read_unread]
  isplitl [H13]
  · iexists _; isplitr
    swap; · iexact H13
    ipureintro
    rw [View.read_writes_full]; simp (proj := false) only [View.readAt_full, Memref.IsWhole.read_unread]
  iexists _; isplitr; · ipureintro; exact harg16.read_unread _
  iexact H16

end Cert.Dsa

end
-- ==== Proof.Dsa.Data.lean ====
/- The projection kernel: what its scratch and its results hold point by point. -/
module

public import proofs.«01_k».proof.Proof.Dsa.RunA
public import proofs.«01_k».proof.Proof.Dsa.RunB
public import proofs.«01_k».proof.Proof.Dsa.RunC
public import proofs.«01_k».proof.Proof.Dsa.RunD
public import proofs.«01_k».proof.Proof.Dsa.RunE
public import proofs.«01_k».proof.Proof.Dsa.RunG
public import Idealize.ShloMosaic.Lib.Claim
public import Idealize.ShloMosaic.Lib.Pointwise

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch holds after a point: the normalised rows and the last product. -/
structure St (F : FTy → Type) where
  h : Vec F S1024x2048 .bf16
  y : Vec F S1024x512 .f32

/-- The weight block as a fetch leaves it, zero past the array's end. -/
def wblk (c : Dev nD) (t : Fin cfg0.N) : Vec F S1x512x2048 .f32 :=
  win0_2.fill (grid0.coords t) (fun _ => Scalar.ofBits .f32 0#32) (iblk m c 2 t)

def first (c : Dev nD) (t : Fin cfg0.N) : St F :=
  ⟨k0_pay1 (iblk m c 0 t) (iblk m c 1 t), k0_pay2 (wblk m c t) (k0_pay1 (iblk m c 0 t) (iblk m c 1 t))⟩

/-- The product a point takes. -/
def prod (c : Dev nD) (t : Fin cfg0.N) (h : Vec F S1024x2048 .bf16) : Vec F S1024x512 .f32 :=
  if 7 ≤ t.val % 12 then k0_pay26 (BitVec.ofNat 32 (grid0.coords t 1).val) (wblk m c t) h else k0_pay2 (wblk m c t) h

def step (c : Dev nD) (t : Fin cfg0.N) (s : St F) : St F :=
  if t.val % 12 = 0 then first m c t else if t.val % 12 = 11 then s else ⟨s.h, prod m c t s.h⟩

def stAt (c : Dev nD) : (n : ℕ) → n < cfg0.N → St F
  | 0, h => first m c ⟨0, h⟩
  | n + 1, h => step m c ⟨n + 1, h⟩ (stAt c n (Nat.lt_of_succ_lt h))

theorem stAt_first (c : Dev nD) (t : Fin cfg0.N) (hz : t.val % 12 = 0) : stAt m c t.val t.isLt = first m c t := by
  obtain ⟨n, h⟩ := t
  cases n with
  | zero => rfl
  | succ n => exact if_pos hz

theorem stAt_step (c : Dev nD) (t : Fin cfg0.N) (hz : t.val % 12 ≠ 0) :
    stAt m c t.val t.isLt = step m c t (stAt m c (t.val - 1) (by omega)) := by
  obtain ⟨n, h⟩ := t
  cases n with
  | zero => exact absurd rfl hz
  | succ n => rfl

theorem stAt_mul (c : Dev nD) (t : Fin cfg0.N) (hz : t.val % 12 ≠ 0) (hl : t.val % 12 ≠ 11) :
    stAt m c t.val t.isLt = ⟨(stAt m c (t.val - 1) (by omega)).h, prod m c t (stAt m c (t.val - 1) (by omega)).h⟩ := by
  rw [stAt_step m c t hz]; unfold step; rw [if_neg hz, if_neg hl]

theorem stAt_last (c : Dev nD) (t : Fin cfg0.N) (hl : t.val % 12 = 11) :
    stAt m c t.val t.isLt = stAt m c (t.val - 1) (by omega) := by
  rw [stAt_step m c t (by omega)]; unfold step; rw [if_neg (by omega), if_pos hl]

/-- The tile of the packed result a point writes, from the product the point before took. -/
def oOf (c : Dev nD) (t : Fin cfg0.N) (y : Vec F S1024x512 .f32) : FVec F S1024x512 .bf16 :=
  if t.val % 12 ≤ 4 then qHeads y (iblk m c 3 t) (iblk m c 5 t) (iblk m c 6 t)
  else if t.val % 12 = 5 then kHeads y (iblk m c 4 t) (iblk m c 5 t) (iblk m c 6 t)
  else if t.val % 12 = 6 then k0_pay6 y
  else if t.val % 12 ≤ 10 then iHeads y (iblk m c 7 t) (iblk m c 8 t) (iblk m c 9 t)
  else k0_pay9 y (iblk m c 7 t) (iblk m c 8 t) (iblk m c 9 t)
def oAt (c : Dev nD) (t : Fin cfg0.N) : FVec F S1024x512 .bf16 := oOf m c t (stAt m c (t.val - 1) (by omega)).y
/-- The index weights of a row block, written at its last point. -/
def iwAt (c : Dev nD) (t : Fin cfg0.N) : FVec F S1024x128 .f32 := k0_pay10 (stAt m c (t.val - 1) (by omega)).y
/-- The values of a row block transposed, written at its seventh point and kept until its last. -/
def vtAt (c : Dev nD) (t : Fin cfg0.N) : FVec F S512x1024 .bf16 :=
  k0_pay7 (stAt m c (12 * (t.val / 12) + 5) (by have : t.val < 96 := t.isLt; show _ < 96; omega)).y

abbrev scM0_0 : Memref sig .tc .vmem S1024x2048 .bf16 := Memref.whole cc0_scratch0
abbrev scM0_1 : Memref sig .tc .vmem S1024x512 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def Held (c : Dev nD) (s : St F) : sProp 𝕄 :=
  iprop(owns (c : Thread nD τ) scM0_0 fullShare s.h ∗ owns (c : Thread nD τ) scM0_1 fullShare s.y ∗ (∃ r, prngReg c r))

def PhiS (c : Dev nD) : (n : ℕ) → n ≤ cfg0.N → sProp 𝕄
  | 0, _ => Pipeline.ΦA spec0 c
  | n + 1, hn => Held c (stAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = Held c (stAt m c n hn) := rfl
theorem PhiS_pos (c : Dev nD) (n : ℕ) (h : n ≤ cfg0.N) (hz : n ≠ 0) :
    PhiS m c n h = Held c (stAt m c (n - 1) (by omega)) := by
  cases n with
  | zero => exact absurd rfl hz
  | succ n => rfl

/-- What the scratch holds can be forgotten. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    unfold Held
    iintro ⟨HS0, HS1, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oAt m c t
    | ⟨11, _⟩ => iwAt m c t
    | ⟨12, _⟩ => vtAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x512x2048 .f32 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1024x128 .f32 := win0_5.stage (cfg0.slots t 5)
abbrev ms0_6 (t : Fin cfg0.N) : Memref sig .tc .vmem S1024x128 .f32 := win0_6.stage (cfg0.slots t 6)
abbrev ms0_7 (t : Fin cfg0.N) : Memref sig .tc .vmem S1024x128 .f32 := win0_7.stage (cfg0.slots t 7)
abbrev ms0_8 (t : Fin cfg0.N) : Memref sig .tc .vmem S1024x128 .f32 := win0_8.stage (cfg0.slots t 8)
abbrev ms0_9 (t : Fin cfg0.N) : Memref sig .tc .vmem S1024x128 .f32 := win0_9.stage (cfg0.slots t 9)
abbrev ms0_10 (t : Fin cfg0.N) : Memref sig .tc .vmem S1024x512 .bf16 := win0_10.stage (cfg0.slots t 10)
abbrev ms0_11 (t : Fin cfg0.N) : Memref sig .tc .vmem S1024x128 .f32 := win0_11.stage (cfg0.slots t 11)
abbrev ms0_12 (t : Fin cfg0.N) : Memref sig .tc .vmem S512x1024 .bf16 := win0_12.stage (cfg0.slots t 12)
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wblk m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = oAt m c t := by dsimp only [dats]
theorem after0_11 (c : Dev nD) (t : Fin cfg0.N) : (dats m 0 c).after 11 t = iwAt m c t := by dsimp only [dats]
theorem after0_12 (c : Dev nD) (t : Fin cfg0.N) : (dats m 0 c).after 12 t = vtAt m c t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leaves 0 t = owns (c : Thread nD τ) (ms0_0 t) fullShare (iblk m c 0 t) := by
  unfold Dat.leaves; rw [show cfg0.idle 0 (grid0.coords t) = false from rfl, show cfg0.loose 0 = false from rfl, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leaves 1 t = owns (c : Thread nD τ) (ms0_1 t) fullShare (iblk m c 1 t) := by
  unfold Dat.leaves; rw [show cfg0.idle 1 (grid0.coords t) = false from rfl, show cfg0.loose 1 = false from rfl, after0_1]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leaves 3 t = owns (c : Thread nD τ) (ms0_3 t) fullShare (iblk m c 3 t) := by
  unfold Dat.leaves; rw [show cfg0.idle 3 (grid0.coords t) = false from rfl, show cfg0.loose 3 = false from rfl, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leaves 4 t = owns (c : Thread nD τ) (ms0_4 t) fullShare (iblk m c 4 t) := by
  unfold Dat.leaves; rw [show cfg0.idle 4 (grid0.coords t) = false from rfl, show cfg0.loose 4 = false from rfl, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leaves 5 t = owns (c : Thread nD τ) (ms0_5 t) fullShare (iblk m c 5 t) := by
  unfold Dat.leaves; rw [show cfg0.idle 5 (grid0.coords t) = false from rfl, show cfg0.loose 5 = false from rfl, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leaves 6 t = owns (c : Thread nD τ) (ms0_6 t) fullShare (iblk m c 6 t) := by
  unfold Dat.leaves; rw [show cfg0.idle 6 (grid0.coords t) = false from rfl, show cfg0.loose 6 = false from rfl, after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leaves 7 t = owns (c : Thread nD τ) (ms0_7 t) fullShare (iblk m c 7 t) := by
  unfold Dat.leaves; rw [show cfg0.idle 7 (grid0.coords t) = false from rfl, show cfg0.loose 7 = false from rfl, after0_7]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leaves 8 t = owns (c : Thread nD τ) (ms0_8 t) fullShare (iblk m c 8 t) := by
  unfold Dat.leaves; rw [show cfg0.idle 8 (grid0.coords t) = false from rfl, show cfg0.loose 8 = false from rfl, after0_8]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leaves 9 t = owns (c : Thread nD τ) (ms0_9 t) fullShare (iblk m c 9 t) := by
  unfold Dat.leaves; rw [show cfg0.idle 9 (grid0.coords t) = false from rfl, show cfg0.loose 9 = false from rfl, after0_9]

/-- The weight's cuts are a function of its block. -/
theorem clip2 : ∀ t t' : Fin cfg0.N, (cfg0.win 2).index t = (cfg0.win 2).index t' →
    (cfg0.win 2).clip (cfg0.grid.coords t) = (cfg0.win 2).clip (cfg0.grid.coords t') := fun t t' h => by
  funext a
  have := congrFun h a
  show Pipeline.Clip.of _ _ _ = Pipeline.Clip.of _ _ _
  exact congrArg (fun x => Pipeline.Clip.of x _ _) this

theorem blockOf2 (c : Dev nD) (t : Fin cfg0.N) : (dats m 0 c).blockOf 2 t = iblk m c 2 t := by
  unfold Dat.blockOf iblk; rw [A_eq]; try rfl

/-- The weight's buffer holds its block, whatever past the array's end. -/
theorem before0_2 (c : Dev nD) (t : Fin cfg0.N) (d) : (dats m 0 c).before 2 t d = win0_2.fill (grid0.coords t) d (iblk m c 2 t) := by
  refine ((dats m 0 c).before_in_eq_fetched 2 rfl (fun _ => rfl) clip2 (fun t => ?_) t d).trans ?_
  · rw [after0_2, blockOf2]; exact win0_2.cut_fill _ _ _
  · unfold Dat.fetched; rw [blockOf2]; try rfl

theorem leaves0_2 (c : Dev nD) (t : Fin cfg0.N) : (dats m 0 c).leaves 2 t
    = iprop(∃ d, owns (c : Thread nD τ) (ms0_2 t) fullShare (win0_2.fill (grid0.coords t) d (iblk m c 2 t))) := by
  unfold Dat.leaves; rw [show cfg0.idle 2 (grid0.coords t) = false from rfl, show cfg0.loose 2 = true from rfl, after0_2]
  show iprop(∃ d, owns (c : Thread nD τ) (ms0_2 t) fullShare (win0_2.fill (grid0.coords t) d (win0_2.cut (grid0.coords t) (wblk m c t)))) = _
  rw [show win0_2.cut (grid0.coords t) (wblk m c t) = iblk m c 2 t from win0_2.cut_fill _ _ _]

theorem clip_none : ∀ t : Fin grid0.N, t.val % 12 < 10 → ∀ a, win0_2.clip (grid0.coords t) a = none := by decide +kernel
theorem rows_last : ∀ t : Fin grid0.N, t.val % 12 = 10 → (win0_2.xsize (grid0.coords t) 0 = 1 ∧ win0_2.xsize (grid0.coords t) 1 = 144 ∧ win0_2.xsize (grid0.coords t) 2 = 2048) := by decide +kernel
theorem col_val : ∀ t : Fin grid0.N, (grid0.coords t 1).val = t.val % 12 := by decide +kernel

/-- A block inside the array fills the whole buffer. -/
theorem fill_whole (c : Dev nD) (t : Fin cfg0.N) (h : t.val % 12 < 10) (d : Vec F S1x512x2048 .f32) :
    win0_2.fill (grid0.coords t) d (iblk m c 2 t) = wblk m c t :=
  Pipeline.fill_of_clip_none (cfg := cfg0) 2 (grid0.coords t) (clip_none t h) d (fun _ => Scalar.ofBits .f32 0#32) (iblk m c 2 t)

/-- The last block's masked product does not read past the array's end. -/
theorem prod_last (c : Dev nD) (t : Fin cfg0.N) (h : t.val % 12 = 10) (d : Vec F S1x512x2048 .f32) (x : Vec F S1024x2048 .bf16) :
    k0_pay26 (BitVec.ofNat 32 (grid0.coords t 1).val) (win0_2.fill (grid0.coords t) d (iblk m c 2 t)) x
      = k0_pay26 (BitVec.ofNat 32 (grid0.coords t 1).val) (wblk m c t) x := by
  rw [col_val t, h]
  obtain ⟨h0, h1, h2⟩ := rows_last t h
  unfold k0_pay26
  refine congrArg (fun w => shapeCast S1024x512 (matmul dot_S1024x2048_S512x2048_S1024x512_1_1_0_0_n_n none x (truncf .bf16 w bitsLt_bf16_f32) (constant S1024x512 .f32 0x00000000#32)) shapeCasts_S1024x512_S1024x512) ?_
  funext i
  idx_vars i
  pointwise []
  by_cases hr : i0.val < 144
  · have hm : win0_2.moved (grid0.coords t) (ix3 (0 : Fin 1) i0 i1) = true :=
      (win0_2.moved_iff _ _).mpr fun a => by
        match a with
        | ⟨0, _⟩ => exact lt_of_lt_of_eq (by decide : 0 < 1) h0.symm
        | ⟨1, _⟩ => exact lt_of_lt_of_eq hr h1.symm
        | ⟨2, _⟩ => exact lt_of_lt_of_eq i1.isLt h2.symm
    refine congrArg _ ?_
    unfold wblk Window.fill
    rw [dif_pos hm, dif_pos hm]
  · have hc : (IntOp.andi (1#1) (IntOp.cmpi CmpIPredicate.sge (BitVec.ofNat 32 i0.val) 144#32)) = 1#1 := by
      have := i0.isLt
      exact (by decide +kernel : ∀ i : Fin 512, 144 ≤ i.val → (IntOp.andi (1#1) (IntOp.cmpi CmpIPredicate.sge (BitVec.ofNat 32 i.val) 144#32)) = 1#1) i0 (by omega)
    rw [hc]
    rfl

theorem leaves0_10 (c : Dev nD) (t : Fin cfg0.N) (h : t.val % 12 ≠ 0) : (dats m 0 c).leaves 10 t = owns (c : Thread nD τ) (ms0_10 t) fullShare (oAt m c t) := by
  unfold Dat.leaves
  rw [show cfg0.idle 10 (cfg0.grid.coords t) = false from (idle10 t).trans (decide_eq_false h), show cfg0.loose 10 = false from rfl, after0_10]
theorem leaves0_11 (c : Dev nD) (t : Fin cfg0.N) (h : t.val % 12 = 11) : (dats m 0 c).leaves 11 t = owns (c : Thread nD τ) (ms0_11 t) fullShare (iwAt m c t) := by
  unfold Dat.leaves
  rw [show cfg0.idle 11 (cfg0.grid.coords t) = false from (idle11 t).trans (decide_eq_false (not_not_intro h)), show cfg0.loose 11 = false from rfl, after0_11]
theorem leaves0_12 (c : Dev nD) (t : Fin cfg0.N) (h : t.val % 12 = 6) : (dats m 0 c).leaves 12 t = owns (c : Thread nD τ) (ms0_12 t) fullShare (vtAt m c t) := by
  unfold Dat.leaves
  rw [show cfg0.idle 12 (cfg0.grid.coords t) = false from (idle12 t).trans (decide_eq_false (not_not_intro h)), show cfg0.loose 12 = false from rfl, after0_12]
theorem leaves0_12' (c : Dev nD) (t : Fin cfg0.N) (h : t.val % 12 = 11) : (dats m 0 c).leaves 12 t = owns (c : Thread nD τ) (ms0_12 t) fullShare (vtAt m c t) := by
  unfold Dat.leaves
  rw [show cfg0.idle 12 (cfg0.grid.coords t) = true from (idle12 t).trans (decide_eq_true (by omega)), (flush0_12 t).mpr h, show cfg0.loose 12 = false from rfl, after0_12]

/-- The point before. -/
abbrev prv (t : Fin cfg0.N) : Fin cfg0.N := ⟨t.val - 1, by omega⟩

/-- The transposed values stay in their buffer until the row block's last point. -/
theorem before0_12 (c : Dev nD) (k : ℕ) : ∀ (t : Fin cfg0.N), t.val % 12 = 7 + k → ∀ d, (dats m 0 c).before 12 t d = vtAt m c t := by
  induction k with
  | zero =>
    intro t h d
    rw [(dats m 0 c).before_of_pos 12 t (by omega) ((cfg0.win 12).fetch_out rfl t), keep12 (prv t) (by show (t.val - 1) % 12 ≠ 11; omega), if_neg Bool.false_ne_true]
    unfold Dat.left
    rw [show cfg0.idle 12 (cfg0.grid.coords (prv t)) = false from (idle12 (prv t)).trans (decide_eq_false (by show ¬((t.val - 1) % 12 ≠ 6); omega))]
    show (dats m 0 c).kept 12 (prv t) d = _
    unfold Dat.kept; rw [after0_12]
    show vtAt m c (prv t) = vtAt m c t
    unfold vtAt
    congr 3
    show 12 * ((t.val - 1) / 12) + 5 = _
    omega
  | succ k ih =>
    intro t h d
    rw [(dats m 0 c).before_of_pos 12 t (by omega) ((cfg0.win 12).fetch_out rfl t), keep12 (prv t) (by show (t.val - 1) % 12 ≠ 11; omega), if_neg Bool.false_ne_true]
    unfold Dat.left
    rw [show cfg0.idle 12 (cfg0.grid.coords (prv t)) = true from (idle12 (prv t)).trans (decide_eq_true (by show (t.val - 1) % 12 ≠ 6; omega))]
    show (dats m 0 c).before 12 (prv t) d = _
    rw [ih (prv t) (by show (t.val - 1) % 12 = 7 + k; omega) d]
    unfold vtAt
    congr 3
    show 12 * ((t.val - 1) / 12) + 5 = _
    omega

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

end Cert.Dsa

end
-- ==== Proof.Dsa.Frame.lean ====
/- The projection kernel's run: the body at every point, and the frame. -/
module

public import proofs.«01_k».proof.Proof.Dsa.Data
public import Idealize.ShloMosaic.Lib.Quiescent

@[expose] public section

set_option maxRecDepth 16384

noncomputable section

namespace Cert.Dsa

open Cert.DsaKernelIdeal Cert.DsaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (hz : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  rw [(dats m 0 c).leaves_idle 10 t ((idle10 t).trans (decide_eq_true (by omega))) (keep10 t (by omega))]
  rw [(dats m 0 c).leaves_idle 11 t ((idle11 t).trans (decide_eq_true (by omega))) (keep11 t (by omega))]
  rw [(dats m 0 c).leaves_idle 12 t ((idle12 t).trans (decide_eq_true (by omega))) (keep12 t (by omega))]
  rw [PhiS_castSucc m c t, stAt_first m c t hz]
  refine (sep_mono (PhiS_any m c t.val (Nat.le_of_lt t.isLt)) .rfl).trans ?_
  rw [PhiA0_eq]
  unfold Held first
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hw := fill_whole m c t (by omega) d2
  iapply (run_A c (grid0.coords t) _ _ _ _ _ _ _ _ _ _ _ _ _ _ _ _ _ _ _ _ _ _ _ _ _ _ _ _ _ _  ((hcond0 t).mpr (by omega)) (fun h => absurd ((hcond3 t).mp h) (by omega)) (fun h => absurd ((hcond4 t).mp h) (by omega)) (fun h => absurd ((hcond5 t).mp h) (by omega)) (fun h => absurd ((hcond6 t).mp h) (by omega)) (fun h => absurd ((hcond7 t).mp h) (by omega)) (iblk m c 0 t) (iblk m c 1 t) (win0_2.fill (grid0.coords t) d2 (iblk m c 2 t)) Set.univ _)
  isplitl [H0]
  · iexact H0
  isplitl [H1]
  · iexact H1
  isplitl [H2]
  · iexact H2
  isplitl [HS0]
  · iexact HS0
  isplitl [HS1]
  · iexact HS1
  iintro ⟨H0, H1, H2, HS0, HS1⟩
  try rw [hw]
  isplitl [HS0 HS1 Hg]
  · isplitl [HS0]
    · iexact HS0
    isplitl [HS1]
    · iexact HS1
    iexact Hg
  isplitl [Ho]; · iexact Ho
  isplitl [H0]; · iexact H0
  isplitl [H1]; · iexact H1
  isplitl [H2]; · iexists d2; rw [hw]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 4000000 in
theorem sound_B (c : Dev nD) (t : Fin cfg0.N) (hb : 1 ≤ t.val % 12 ∧ t.val % 12 ≤ 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  rw [(dats m 0 c).leaves_idle 11 t ((idle11 t).trans (decide_eq_true (by omega))) (keep11 t (by omega))]
  rw [(dats m 0 c).leaves_idle 12 t ((idle12 t).trans (decide_eq_true (by omega))) (keep12 t (by omega))]
  rw [leaves0_10 m c t (by omega)]
  rw [PhiS_castSucc m c t, PhiS_pos m c t.val _ (by omega)]
  rw [stAt_mul m c t (by omega) (by omega)]
  unfold oAt
  generalize stAt m c (t.val - 1) (by omega) = s
  unfold Held
  rw [show oOf m c t s.y = qHeads s.y (iblk m c 3 t) (iblk m c 5 t) (iblk m c 6 t) from if_pos (by omega)]
  rw [show prod m c t s.h = k0_pay2 (wblk m c t) s.h from if_neg (by omega)]
  iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hw := fill_whole m c t (by omega) d2
  iapply (run_B c (grid0.coords t) _ _ _ _ _ _ _ _ _ _ _ _ _ _ _ _ _ _ _ _ _ _ _ _ _ _ _ _ _ _  (fun h => absurd ((hcond0 t).mp h) (by omega)) ((hcond3 t).mpr (by omega)) (fun h => absurd ((hcond4 t).mp h) (by omega)) (fun h => absurd ((hcond5 t).mp h) (by omega)) (fun h => absurd ((hcond6 t).mp h) (by omega)) (fun h => absurd ((hcond7 t).mp h) (by omega)) (win0_2.fill (grid0.coords t) d2 (iblk m c 2 t)) (iblk m c 3 t) (iblk m c 5 t) (iblk m c 6 t) s.h s.y Set.univ _)
  isplitl [H2]
  · iexact H2
  isplitl [H3]
  · iexact H3
  isplitl [H5]
  · iexact H5
  isplitl [H6]
  · iexact H6
  isplitl [H10]
  · iexists _; iexact H10
  isplitl [HS0]
  · iexact HS0
  isplitl [HS1]
  · iexact HS1
  iintro ⟨H2, H3, H5, H6, H10, HS0, HS1⟩
  try rw [hw]
  isplitl [HS0 HS1 Hg]
  · isplitl [HS0]
    · iexact HS0
    isplitl [HS1]
    · iexact HS1
    iexact Hg
  isplitl [Ho]; · iexact Ho
  isplitl [H0]; · iexact H0
  isplitl [H1]; · iexact H1
  isplitl [H2]; · iexists d2; rw [hw]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

set_option maxHeartbeats 4000000 in
theorem sound_C (c : Dev nD) (t : Fin cfg0.N) (hb : t.val % 12 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  rw [(dats m 0 c).leaves_idle 11 t ((idle11 t).trans (decide_eq_true (by omega))) (keep11 t (by omega))]
  rw [(dats m 0 c).leaves_idle 12 t ((idle12 t).trans (decide_eq_true (by omega))) (keep12 t (by omega))]
  rw [leaves0_10 m c t (by omega)]
  rw [PhiS_castSucc m c t, PhiS_pos m c t.val _ (by omega)]
  rw [stAt_mul m c t (by omega) (by omega)]
  unfold oAt
  generalize stAt m c (t.val - 1) (by omega) = s
  unfold Held
  rw [show oOf m c t s.y = kHeads s.y (iblk m c 4 t) (iblk m c 5 t) (iblk m c 6 t) from (if_neg (by omega)).trans (if_pos hb)]
  rw [show prod m c t s.h = k0_pay2 (wblk m c t) s.h from if_neg (by omega)]
  iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hw := fill_whole m c t (by omega) d2
  iapply (run_C c (grid0.coords t) _ _ _ _ _ _ _ _ _ _ _ _ _ _ _ _ _ _ _ _ _ _ _ _ _ _ _ _ _ _  (fun h => absurd ((hcond0 t).mp h) (by omega)) (fun h => absurd ((hcond3 t).mp h) (by omega)) ((hcond4 t).mpr (by omega)) (fun h => absurd ((hcond5 t).mp h) (by omega)) (fun h => absurd ((hcond6 t).mp h) (by omega)) (fun h => absurd ((hcond7 t).mp h) (by omega)) (win0_2.fill (grid0.coords t) d2 (iblk m c 2 t)) (iblk m c 4 t) (iblk m c 5 t) (iblk m c 6 t) s.h s.y Set.univ _)
  isplitl [H2]
  · iexact H2
  isplitl [H4]
  · iexact H4
  isplitl [H5]
  · iexact H5
  isplitl [H6]
  · iexact H6
  isplitl [H10]
  · iexists _; iexact H10
  isplitl [HS0]
  · iexact HS0
  isplitl [HS1]
  · iexact HS1
  iintro ⟨H2, H4, H5, H6, H10, HS0, HS1⟩
  try rw [hw]
  isplitl [HS0 HS1 Hg]
  · isplitl [HS0]
    · iexact HS0
    isplitl [HS1]
    · iexact HS1
    iexact Hg
  isplitl [Ho]; · iexact Ho
  isplitl [H0]; · iexact H0
  isplitl [H1]; · iexact H1
  isplitl [H2]; · iexists d2; rw [hw]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

set_option maxHeartbeats 4000000 in
theorem sound_D (c : Dev nD) (t : Fin cfg0.N) (hb : t.val % 12 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  rw [(dats m 0 c).leaves_idle 11 t ((idle11 t).trans (decide_eq_true (by omega))) (keep11 t (by omega))]
  rw [leaves0_10 m c t (by omega)]
  rw [leaves0_12 m c t (by omega)]
  rw [PhiS_castSucc m c t, PhiS_pos m c t.val _ (by omega)]
  rw [stAt_mul m c t (by omega) (by omega)]
  unfold oAt
  rw [show vtAt m c t = k0_pay7 (stAt m c (t.val - 1) (by omega)).y from by unfold vtAt; congr 3; omega]
  generalize stAt m c (t.val - 1) (by omega) = s
  unfold Held
  rw [show oOf m c t s.y = k0_pay6 s.y from (if_neg (by omega)).trans ((if_neg (by omega)).trans (if_pos hb))]
  rw [show prod m c t s.h = k0_pay2 (wblk m c t) s.h from if_neg (by omega)]
  iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hw := fill_whole m c t (by omega) d2
  iapply (run_D c (grid0.coords t) _ _ _ _ _ _ _ _ _ _ _ _ _ _ _ _ _ _ _ _ _ _ _ _ _ _ _ _ _ _  (fun h => absurd ((hcond0 t).mp h) (by omega)) (fun h => absurd ((hcond3 t).mp h) (by omega)) (fun h => absurd ((hcond4 t).mp h) (by omega)) ((hcond5 t).mpr (by omega)) (fun h => absurd ((hcond6 t).mp h) (by omega)) (fun h => absurd ((hcond7 t).mp h) (by omega)) (win0_2.fill (grid0.coords t) d2 (iblk m c 2 t)) s.h s.y Set.univ _)
  isplitl [H2]
  · iexact H2
  isplitl [H10]
  · iexists _; iexact H10
  isplitl [H12]
  · iexists _; iexact H12
  isplitl [HS0]
  · iexact HS0
  isplitl [HS1]
  · iexact HS1
  iintro ⟨H2, H10, H12, HS0, HS1⟩
  try rw [hw]
  isplitl [HS0 HS1 Hg]
  · isplitl [HS0]
    · iexact HS0
    isplitl [HS1]
    · iexact HS1
    iexact Hg
  isplitl [Ho]; · iexact Ho
  isplitl [H0]; · iexact H0
  isplitl [H1]; · iexact H1
  isplitl [H2]; · iexists d2; rw [hw]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexact H12

set_option maxHeartbeats 4000000 in
theorem sound_E (c : Dev nD) (t : Fin cfg0.N) (hb : 7 ≤ t.val % 12 ∧ t.val % 12 ≤ 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  rw [(dats m 0 c).leaves_idle 11 t ((idle11 t).trans (decide_eq_true (by omega))) (keep11 t (by omega))]
  rw [(dats m 0 c).leaves_idle 12 t ((idle12 t).trans (decide_eq_true (by omega))) (keep12 t (by omega))]
  rw [leaves0_10 m c t (by omega)]
  rw [PhiS_castSucc m c t, PhiS_pos m c t.val _ (by omega)]
  rw [stAt_mul m c t (by omega) (by omega)]
  unfold oAt
  generalize stAt m c (t.val - 1) (by omega) = s
  unfold Held
  rw [show oOf m c t s.y = iHeads s.y (iblk m c 7 t) (iblk m c 8 t) (iblk m c 9 t) from (if_neg (by omega)).trans ((if_neg (by omega)).trans ((if_neg (by omega)).trans (if_pos (by omega))))]
  rw [show prod m c t s.h = k0_pay26 (BitVec.ofNat 32 (grid0.coords t 1).val) (wblk m c t) s.h from if_pos (by omega)]
  iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hw : k0_pay26 (BitVec.ofNat 32 (grid0.coords t 1).val) (win0_2.fill (grid0.coords t) d2 (iblk m c 2 t)) s.h
      = k0_pay26 (BitVec.ofNat 32 (grid0.coords t 1).val) (wblk m c t) s.h := by
    by_cases h : t.val % 12 = 10
    · exact prod_last m c t h d2 s.h
    · rw [fill_whole m c t (by omega) d2]
  iapply (run_E c (grid0.coords t) _ _ _ _ _ _ _ _ _ _ _ _ _ _ _ _ _ _ _ _ _ _ _ _ _ _ _ _ _ _  (fun h => absurd ((hcond0 t).mp h) (by omega)) (fun h => absurd ((hcond3 t).mp h) (by omega)) (fun h => absurd ((hcond4 t).mp h) (by omega)) (fun h => absurd ((hcond5 t).mp h) (by omega)) ((hcond6 t).mpr (by omega)) (fun h => absurd ((hcond7 t).mp h) (by omega)) (win0_2.fill (grid0.coords t) d2 (iblk m c 2 t)) (iblk m c 7 t) (iblk m c 8 t) (iblk m c 9 t) s.h s.y Set.univ _)
  isplitl [H2]
  · iexact H2
  isplitl [H7]
  · iexact H7
  isplitl [H8]
  · iexact H8
  isplitl [H9]
  · iexact H9
  isplitl [H10]
  · iexists _; iexact H10
  isplitl [HS0]
  · iexact HS0
  isplitl [HS1]
  · iexact HS1
  iintro ⟨H2, H7, H8, H9, H10, HS0, HS1⟩
  isplitl [HS0 HS1 Hg]
  · isplitl [HS0]
    · iexact HS0
    isplitl [HS1]
    · rw [← hw]; iexact HS1
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

set_option maxHeartbeats 4000000 in
theorem sound_G (c : Dev nD) (t : Fin cfg0.N) (hb : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  rw [leaves0_10 m c t (by omega)]
  rw [leaves0_11 m c t (by omega)]
  rw [leaves0_12' m c t (by omega)]
  rw [PhiS_castSucc m c t, PhiS_pos m c t.val _ (by omega)]
  rw [stAt_last m c t hb]
  unfold oAt iwAt
  simp only [before0_12 m c 4 t (by omega)]
  generalize stAt m c (t.val - 1) (by omega) = s
  unfold Held
  rw [show oOf m c t s.y = k0_pay9 s.y (iblk m c 7 t) (iblk m c 8 t) (iblk m c 9 t) from (if_neg (by omega)).trans ((if_neg (by omega)).trans ((if_neg (by omega)).trans (if_neg (by omega))))]
  iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_G c (grid0.coords t) _ _ _ _ _ _ _ _ _ _ _ _ _ _ _ _ _ _ _ _ _ _ _ _ _ _ _ _ _ _  (fun h => absurd ((hcond0 t).mp h) (by omega)) (fun h => absurd ((hcond3 t).mp h) (by omega)) (fun h => absurd ((hcond4 t).mp h) (by omega)) (fun h => absurd ((hcond5 t).mp h) (by omega)) (fun h => absurd ((hcond6 t).mp h) (by omega)) ((hcond7 t).mpr (by omega)) (iblk m c 7 t) (iblk m c 8 t) (iblk m c 9 t) s.y Set.univ _)
  isplitl [H7]
  · iexact H7
  isplitl [H8]
  · iexact H8
  isplitl [H9]
  · iexact H9
  isplitl [H10]
  · iexists _; iexact H10
  isplitl [H11]
  · iexists _; iexact H11
  isplitl [HS1]
  · iexact HS1
  iintro ⟨H7, H8, H9, H10, H11, HS1⟩
  isplitl [HS0 HS1 Hg]
  · isplitl [HS0]
    · iexact HS0
    isplitl [HS1]
    · iexact HS1
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_A m c t h0
  by_cases h1 : t.val % 12 ≤ 4
  · exact sound_B m c t ⟨by omega, h1⟩
  by_cases h5 : t.val % 12 = 5
  · exact sound_C m c t h5
  by_cases h6 : t.val % 12 = 6
  · exact sound_D m c t h6
  by_cases h7 : t.val % 12 ≤ 10
  · exact sound_E m c t ⟨by omega, h7⟩
  exact sound_G m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  show PhiS m c cfg0.N _ ⊢ _
  exact
  PhiS_any m c cfg0.N (Nat.le_refl _)

set_option backward.isDefEq.respectTransparency.types false in
/-- Every run of the kernel ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Dsa

end
-- ==== Proof.Dsa.Bits.lean ====
/- The projection kernel's frame at the machine's bits, taken from the run proved once over any
   floats: the module read at the bits and the module read at the ideal have the same text, so
   their bodies, call tables and launches are the same. -/
module

public import proofs.«01_k».proof.Defs
public import proofs.«01_k».proof.Proof.Gen.DsaKernel.Frame
public import proofs.«01_k».proof.Proof.Dsa.Frame
public import Idealize.ShloMosaic.Lib.Quiescent

@[expose] public section

set_option maxHeartbeats 1000000

noncomputable section

namespace Cert.Dsa
open Idealize.ShloMosaic Idealize.SL.Sem

/-- The two texts of a part of the body are the same. -/
theorem same_part1 : Cert.DsaKernel.k0_part1 (F := Bits) = Cert.DsaKernelIdeal.k0_part1 (F := Bits) := by rfl

/-- The two texts of a part of the body are the same. -/
theorem same_part2 : Cert.DsaKernel.k0_part2 (F := Bits) = Cert.DsaKernelIdeal.k0_part2 (F := Bits) := by rfl

/-- The two texts of a part of the body are the same. -/
theorem same_part3 : Cert.DsaKernel.k0_part3 (F := Bits) = Cert.DsaKernelIdeal.k0_part3 (F := Bits) := by rfl

/-- The two texts of a part of the body are the same. -/
theorem same_part4 : Cert.DsaKernel.k0_part4 (F := Bits) = Cert.DsaKernelIdeal.k0_part4 (F := Bits) := by rfl

/-- The two texts of a part of the body are the same. -/
theorem same_part5 : Cert.DsaKernel.k0_part5 (F := Bits) = Cert.DsaKernelIdeal.k0_part5 (F := Bits) := by rfl

/-- The two texts of a part of the body are the same. -/
theorem same_part6 : Cert.DsaKernel.k0_part6 (F := Bits) = Cert.DsaKernelIdeal.k0_part6 (F := Bits) := by rfl

/-- The two bodies have the same text. -/
theorem same_body : Cert.DsaKernel.cc0_dsa_projection (F := Bits) = Cert.DsaKernelIdeal.cc0_dsa_projection (F := Bits) := by
  unfold Cert.DsaKernel.cc0_dsa_projection Cert.DsaKernelIdeal.cc0_dsa_projection
  rw [same_part1, same_part2, same_part3, same_part4, same_part5, same_part6]
  rfl

/-- The two bodies at a grid point and its staging buffers are the same program. -/

theorem same_at (t : Fin Cert.DsaKernel.grid0.N) (s : (w : Fin 13) → Fin (Cert.DsaKernel.win0 w).nbuf) : Cert.DsaKernel.defs₀ (F := Bits) .tc 0 (t, s) = Cert.DsaKernelIdeal.defs₀ (F := Bits) .tc 0 (t, s) := by
  show Cert.DsaKernel.cc0_dsa_projection (F := Bits) _ _ _ _ _ _ _ _ _ _ _ _ _ _ _ _ _ _ _ _ _ _ _ _ _ _ _ _ _ _ _ = _
  rw [same_body]
  rfl

/-- The same at a pair. -/
theorem same_pair (a : Fin Cert.DsaKernel.grid0.N × ((w : Fin 13) → Fin (Cert.DsaKernel.win0 w).nbuf)) : Cert.DsaKernel.defs₀ (F := Bits) .tc (0 : Fin 1) a = Cert.DsaKernelIdeal.defs₀ (F := Bits) .tc (0 : Fin 1) a := by
  cases a with
  | mk t s => exact same_at t s

/-- The same as functions. -/
theorem same_label : Cert.DsaKernel.defs₀ (F := Bits) .tc (0 : Fin 1) = Cert.DsaKernelIdeal.defs₀ (F := Bits) .tc (0 : Fin 1) :=
  funext same_pair

/-- Two functions of the one label agree when they agree at it. -/
theorem eq_of_label {β : Fin 1 → Type 1} (f g : ∀ l, β l) (h : f 0 = g 0) : f = g :=
  funext fun l => by
    obtain rfl : l = 0 := Subsingleton.elim l 0
    exact h

/-- The TensorCore rows agree. -/
theorem same_tc : Cert.DsaKernel.defs₀ (F := Bits) .tc = Cert.DsaKernelIdeal.defs₀ (F := Bits) .tc :=
  eq_of_label (β := fun l => Cert.DsaKernelIdeal.Λ₀.Args l → Prog (TpuEff Cert.DsaKernelIdeal.nD Cert.DsaKernelIdeal.τ Cert.DsaKernelIdeal.sig (Elt Bits) Cert.DsaKernelIdeal.Λ₀ .tc) (Cert.DsaKernelIdeal.Λ₀.Result l)) _ _ same_label

/-- The body tables agree. -/
theorem same_bodies : Cert.DsaKernel.defs₀ (F := Bits) = Cert.DsaKernelIdeal.defs₀ (F := Bits) :=
  congrArg Defs.onTc same_tc

/-- The call tables agree. -/
theorem same_calls : Cert.DsaKernel.defs (F := Bits) = Cert.DsaKernelIdeal.defs (F := Bits) :=
  congrArg (Pipeline.defs Cert.DsaKernelIdeal.pcfgs) same_bodies

/-- The kernel read at the bits keeps its arguments and its flags. -/
theorem quiescent_bits : Cert.quiescent_DsaKernel := fun m ρ _ => by
  show θ_run (Cert.DsaKernel.defs (F := Bits)) _ _ _
  rw [same_calls]
  exact Cert.Dsa.frame (F := Bits) m ρ

end Cert.Dsa
end
-- ==== Proof.Dsa.Pay.lean ====
/- The projection in plain terms: the normalised head, the two rotations, and the kernel's payloads and the reference read at an entry. -/
module

public import proofs.«01_k».proof.Proof.Dsa.Cond
public import proofs.«01_k».proof.Proof.Gen.DsaReferenceIdeal.Read
public import Idealize.ShloMosaic.Lib.Pointwise

@[expose] public section

set_option maxRecDepth 16384
set_option maxHeartbeats 1000000

noncomputable section

open Idealize.ShloMosaic Idealize.ShloMosaic.Pointwise
open Cert.DsaKernelIdeal Cert.DsaKernelIdeal.Gen

namespace Cert.Dsa

/-- The column `l` of the `s`-th group of 128 columns of a tile. -/
def ln : Fin 4 → Fin 128 → Fin 512
  | 0, l => ⟨l.val, by omega⟩
  | 1, l => ⟨128 + l.val, by omega⟩
  | 2, l => ⟨256 + l.val, by omega⟩
  | 3, l => ⟨384 + l.val, by omega⟩

theorem ln_val (s : Fin 4) (l : Fin 128) : (ln s l).val = s.val * 128 + l.val := by
  match s with
  | 0 => show l.val = 0 * 128 + l.val; omega
  | 1 => show 128 + l.val = 1 * 128 + l.val; omega
  | 2 => show 256 + l.val = 2 * 128 + l.val; omega
  | 3 => show 384 + l.val = 3 * 128 + l.val; omega

/-- The lane 64 after `l`, around the 128. -/
def l64 (l : Fin 128) : Fin 128 := ⟨(l.val + 128 - 64) % 128, by omega⟩
/-- The lane 32 after `l`, around the 128. -/
def l96 (l : Fin 128) : Fin 128 := ⟨(l.val + 128 - 96) % 128, by omega⟩
/-- The lane 32 before `l`, around the 128. -/
def l32 (l : Fin 128) : Fin 128 := ⟨(l.val + 128 - 32) % 128, by omega⟩

/-- An entry of a head of 128 after the normalisation with weights `g`. -/
def nrmH (z g : Fin 128 → EReal) (l : Fin 128) : EReal :=
  z l * Ideal.rsqrt (Ideal.div (∑ k, z k * z k) (Ideal.ofBits .f32 0x43000000#32) + Ideal.ofBits .f32 0x358637BD#32) * g l

/-- A row of 2048 after the normalisation with weights `g`. -/
def nrmX (x g : Fin 2048 → EReal) (k : Fin 2048) : EReal :=
  x k * Ideal.rsqrt (Ideal.div (∑ k, x k * x k) (Ideal.ofBits .f32 0x45000000#32) + Ideal.ofBits .f32 0x358637BD#32) * g k

/-- The kernel's rotation: tables of 128 lanes, the other half by a roll. -/
def rotK (z C S : Fin 128 → EReal) (l : Fin 128) : EReal := z l * C l + z (l64 l) * S l
/-- The kernel's rotation in part: three tables of 128 lanes and two rolls. -/
def idxK (z C A B : Fin 128 → EReal) (l : Fin 128) : EReal := z l * C l + z (l96 l) * A l + z (l32 l) * B l

/-- The layer's rotation, half by half. -/
def rotR (z : Fin 128 → EReal) (c s : Fin 64 → EReal) (l : Fin 128) : EReal :=
  if h : l.val < 64 then z l * c ⟨l.val, h⟩ - z ⟨64 + l.val, by omega⟩ * s ⟨l.val, h⟩
  else z ⟨64 + (l.val - 64), by omega⟩ * c ⟨l.val - 64, by omega⟩ + z ⟨l.val - 64, by omega⟩ * s ⟨l.val - 64, by omega⟩

/-- The layer's rotation of the first 64 lanes, the others kept. -/
def idxR (z : Fin 128 → EReal) (c s : Fin 32 → EReal) (l : Fin 128) : EReal :=
  if h : l.val < 64 then
    if h' : l.val < 32 then z l * c ⟨l.val, h'⟩ - z ⟨32 + l.val, by omega⟩ * s ⟨l.val, h'⟩
    else z ⟨32 + (l.val - 32), by omega⟩ * c ⟨l.val - 32, by omega⟩ + z ⟨l.val - 32, by omega⟩ * s ⟨l.val - 32, by omega⟩
  else z ⟨64 + (l.val - 64), by omega⟩

theorem rotK_eq (z C S : Fin 128 → EReal) (c s : Fin 64 → EReal)
    (hC : ∀ l, C l = if h : l.val < 64 then c ⟨l.val, h⟩ else c ⟨l.val - 64, by omega⟩)
    (hS : ∀ l, S l = if h : l.val < 64 then -s ⟨l.val, h⟩ else s ⟨l.val - 64, by omega⟩) (l : Fin 128) :
    rotK z C S l = rotR z c s l := by
  unfold rotK rotR
  rw [hC, hS]
  by_cases h : l.val < 64
  · rw [dif_pos h, dif_pos h, dif_pos h]
    rw [show l64 l = ⟨64 + l.val, by omega⟩ from Fin.ext (by show (l.val + 128 - 64) % 128 = 64 + l.val; omega)]
    rw [mul_neg, sub_eq_add_neg]
  · rw [dif_neg h, dif_neg h, dif_neg h]
    rw [show l64 l = ⟨l.val - 64, by omega⟩ from Fin.ext (by show (l.val + 128 - 64) % 128 = l.val - 64; omega)]
    rw [show (⟨64 + (l.val - 64), by omega⟩ : Fin 128) = l from Fin.ext (by show 64 + (l.val - 64) = _; omega)]

theorem idxK_eq (z C A B : Fin 128 → EReal) (c s : Fin 32 → EReal)
    (hC : ∀ l : Fin 128, C l = if h : l.val < 32 then c ⟨l.val, h⟩ else if h' : l.val < 64 then c ⟨l.val - 32, by omega⟩ else 1)
    (hA : ∀ l : Fin 128, A l = if h : l.val < 32 then -s ⟨l.val, h⟩ else 0)
    (hB : ∀ l : Fin 128, B l = if h : l.val < 32 then 0 else if h' : l.val < 64 then s ⟨l.val - 32, by omega⟩ else 0) (l : Fin 128) :
    idxK z C A B l = idxR z c s l := by
  unfold idxK idxR
  rw [hC, hA, hB]
  by_cases h : l.val < 32
  · have h' : l.val < 64 := by omega
    rw [dif_pos h, dif_pos h, dif_pos h, dif_pos h', dif_pos h]
    rw [show l96 l = ⟨32 + l.val, by omega⟩ from Fin.ext (by show (l.val + 128 - 96) % 128 = 32 + l.val; omega)]
    rw [mul_neg, sub_eq_add_neg, mul_zero, add_zero]
  · by_cases h' : l.val < 64
    · rw [dif_neg h, dif_neg h, dif_neg h, dif_pos h', dif_pos h', dif_pos h', dif_neg h]
      rw [show l32 l = ⟨l.val - 32, by omega⟩ from Fin.ext (by show (l.val + 128 - 32) % 128 = l.val - 32; omega)]
      rw [show (⟨32 + (l.val - 32), by omega⟩ : Fin 128) = l from Fin.ext (by show 32 + (l.val - 32) = _; omega)]
      rw [mul_zero, add_zero]
    · rw [dif_neg h, dif_neg h, dif_neg h, dif_neg h', dif_neg h', dif_neg h']
      rw [show (⟨64 + (l.val - 64), by omega⟩ : Fin 128) = l from Fin.ext (by show 64 + (l.val - 64) = _; omega)]
      rw [mul_zero, mul_zero, mul_one, add_zero, add_zero]

/-- The factor of the queries. -/
abbrev qc : EReal := Ideal.ofBits .f32 1040356334#32
/-- The factor of the index weights. -/
abbrev wc : EReal := Ideal.ofBits .f32 1018496243#32

section kernel
variable (y : Vec Ideal S1024x512 .f32) (q : Vec Ideal S1x128 .f32) (rc rs ic ia ib : Vec Ideal S1024x128 .f32) (r : Fin 1024) (l : Fin 128)

theorem q0 : k0_pay12 y q rc rs (ix2 r l) = rotK (nrmH (fun k => y (ix2 r (ln 0 k))) (fun k => q (ix2 0 k))) (fun k => rc (ix2 r k)) (fun k => rs (ix2 r k)) l * qc := by
  pointwise [k0_pay12]
  rfl
theorem q1 : k0_pay14 (k0_pay13 y) q rc rs (ix2 r l) = rotK (nrmH (fun k => y (ix2 r (ln 1 k))) (fun k => q (ix2 0 k))) (fun k => rc (ix2 r k)) (fun k => rs (ix2 r k)) l * qc := by
  pointwise [k0_pay13, k0_pay14]
  rfl
theorem q2 : (k0_pay16 y q rc (ix2 r l) + k0_pay17 y q (ix2 r l) * rs (ix2 r l)) * qc = rotK (nrmH (fun k => y (ix2 r (ln 2 k))) (fun k => q (ix2 0 k))) (fun k => rc (ix2 r k)) (fun k => rs (ix2 r k)) l * qc := by
  pointwise [k0_pay15, k0_pay16, k0_pay17]
  rfl

theorem qHeads_apply (s : Fin 4) : qHeads y q rc rs (ix2 r (ln s l)) = rotK (nrmH (fun k => y (ix2 r (ln s k))) (fun k => q (ix2 0 k))) (fun k => rc (ix2 r k)) (fun k => rs (ix2 r k)) l * qc := by
  have hl := l.isLt
  match s with
  | 0 =>
    refine Eq.trans ?_ (q0 y q rc rs r l)
    pointwise [qHeads, k0_pay3]
    rw [dif_pos (by show l.val < 128; omega)]
    rfl
  | 1 =>
    refine Eq.trans ?_ (q1 y q rc rs r l)
    pointwise [qHeads, k0_pay3]
    rw [dif_neg (by show ¬(128 + l.val < 128); omega), dif_pos (by show 128 + l.val - 128 < 128; omega)]
    simp only [show (ln 1 l).val - 128 = l.val from by show 128 + l.val - 128 = l.val; omega]
  | 2 =>
    refine Eq.trans ?_ (q2 y q rc rs r l)
    pointwise [qHeads, k0_pay3]
    rw [dif_neg (by show ¬(256 + l.val < 128); omega), dif_neg (by show ¬(256 + l.val - 128 < 128); omega), dif_pos (by show 256 + l.val - 128 - 128 < 128; omega)]
    simp only [show (ln 2 l).val - 128 - 128 = l.val from by show 256 + l.val - 128 - 128 = l.val; omega]
  | 3 =>
    pointwise [qHeads, k0_pay3]
    rw [dif_neg (by show ¬(384 + l.val < 128); omega), dif_neg (by show ¬(384 + l.val - 128 < 128); omega), dif_neg (by show ¬(384 + l.val - 128 - 128 < 128); omega)]
    simp only [show (ln 3 l).val - 128 - 128 - 128 = l.val from by show 384 + l.val - 128 - 128 - 128 = l.val; omega]
    rfl

theorem k0 : k0_pay19 y q rc rs (ix2 r l) = rotK (nrmH (fun k => y (ix2 r (ln 0 k))) (fun k => q (ix2 0 k))) (fun k => rc (ix2 r k)) (fun k => rs (ix2 r k)) l := by
  pointwise [k0_pay19]
  rfl
theorem k1 : k0_pay23 (k0_pay20 y) (k0_pay21 q) (k0_pay22 y) rc rs (ix2 r l) = rotK (nrmH (fun k => y (ix2 r (ln 1 k))) (fun k => q (ix2 0 k))) (fun k => rc (ix2 r k)) (fun k => rs (ix2 r k)) l := by
  pointwise [k0_pay20, k0_pay21, k0_pay22, k0_pay23]
  rfl
theorem k2 : k0_pay24 y q rc rs (ix2 r l) = rotK (nrmH (fun k => y (ix2 r (ln 2 k))) (fun k => q (ix2 0 k))) (fun k => rc (ix2 r k)) (fun k => rs (ix2 r k)) l := by
  pointwise [k0_pay24]
  rfl

theorem kHeads_apply (s : Fin 4) : kHeads y q rc rs (ix2 r (ln s l)) = rotK (nrmH (fun k => y (ix2 r (ln s k))) (fun k => q (ix2 0 k))) (fun k => rc (ix2 r k)) (fun k => rs (ix2 r k)) l := by
  have hl := l.isLt
  match s with
  | 0 =>
    refine Eq.trans ?_ (k0 y q rc rs r l)
    pointwise [kHeads, k0_pay4]
    rw [dif_pos (by show l.val < 128; omega)]
    rfl
  | 1 =>
    refine Eq.trans ?_ (k1 y q rc rs r l)
    pointwise [kHeads, k0_pay4]
    rw [dif_neg (by show ¬(128 + l.val < 128); omega), dif_pos (by show 128 + l.val - 128 < 128; omega)]
    simp only [show (ln 1 l).val - 128 = l.val from by show 128 + l.val - 128 = l.val; omega]
  | 2 =>
    refine Eq.trans ?_ (k2 y q rc rs r l)
    pointwise [kHeads, k0_pay4]
    rw [dif_neg (by show ¬(256 + l.val < 128); omega), dif_neg (by show ¬(256 + l.val - 128 < 128); omega), dif_pos (by show 256 + l.val - 128 - 128 < 128; omega)]
    simp only [show (ln 2 l).val - 128 - 128 = l.val from by show 256 + l.val - 128 - 128 = l.val; omega]
  | 3 =>
    pointwise [kHeads, k0_pay4, k0_pay25]
    rw [dif_neg (by show ¬(384 + l.val < 128); omega), dif_neg (by show ¬(384 + l.val - 128 < 128); omega), dif_neg (by show ¬(384 + l.val - 128 - 128 < 128); omega)]
    simp only [show (ln 3 l).val - 128 - 128 - 128 = l.val from by show 384 + l.val - 128 - 128 - 128 = l.val; omega]
    rfl

theorem iHeads_apply (s : Fin 4) : iHeads y ic ia ib (ix2 r (ln s l)) = idxK (fun k => y (ix2 r (ln s k))) (fun k => ic (ix2 r k)) (fun k => ia (ix2 r k)) (fun k => ib (ix2 r k)) l := by
  have hl := l.isLt
  match s with
  | 0 =>
    pointwise [iHeads, k0_pay8, k0_pay30, k0_pay27, k0_pay28, k0_pay29]
    rw [dif_pos (by show l.val < 128; omega)]
    rfl
  | 1 =>
    pointwise [iHeads, k0_pay8, k0_pay30, k0_pay27, k0_pay28, k0_pay29]
    rw [dif_neg (by show ¬(128 + l.val < 128); omega), dif_pos (by show 128 + l.val - 128 < 128; omega)]
    simp only [show (ln 1 l).val - 128 = l.val from by show 128 + l.val - 128 = l.val; omega]
    rfl
  | 2 =>
    pointwise [iHeads, k0_pay8, k0_pay30, k0_pay27, k0_pay28, k0_pay29]
    rw [dif_neg (by show ¬(256 + l.val < 128); omega), dif_neg (by show ¬(256 + l.val - 128 < 128); omega), dif_pos (by show 256 + l.val - 128 - 128 < 128; omega)]
    simp only [show (ln 2 l).val - 128 - 128 = l.val from by show 256 + l.val - 128 - 128 = l.val; omega]
    rfl
  | 3 =>
    pointwise [iHeads, k0_pay8, k0_pay30, k0_pay27, k0_pay28, k0_pay29]
    rw [dif_neg (by show ¬(384 + l.val < 128); omega), dif_neg (by show ¬(384 + l.val - 128 < 128); omega), dif_neg (by show ¬(384 + l.val - 128 - 128 < 128); omega)]
    simp only [show (ln 3 l).val - 128 - 128 - 128 = l.val from by show 384 + l.val - 128 - 128 - 128 = l.val; omega]
    rfl

/-- The last tile of the packed result: the rotated index key, then zeros. -/
theorem last_apply0 : k0_pay9 y ic ia ib (ix2 r (ln 0 l)) = idxK (fun k => y (ix2 r (ln 0 k))) (fun k => ic (ix2 r k)) (fun k => ia (ix2 r k)) (fun k => ib (ix2 r k)) l := by
  pointwise [k0_pay9]
  rw [dif_pos (by show l.val < 128; exact l.isLt)]
  rfl
theorem last_apply (d : Fin 512) (hd : 128 ≤ d.val) : k0_pay9 y ic ia ib (ix2 r d) = (0 : EReal) := by
  pointwise [k0_pay9]
  rw [dif_neg (by omega)]

theorem pay10_apply : k0_pay10 y (ix2 r l) = (y (ix2 r (ln 1 l)) * wc : EReal) := by
  pointwise [k0_pay10]
  rfl
theorem pay6_apply (d : Fin 512) : k0_pay6 y (ix2 r d) = y (ix2 r d) := by
  pointwise [k0_pay6]
theorem pay7_apply (d : Fin 512) : k0_pay7 y (ix2 d r) = y (ix2 r d) := by
  pointwise [k0_pay7]

theorem pay1_apply (x : Vec Ideal S1024x2048 .f32) (g : Vec Ideal S1x2048 .f32) (k : Fin 2048) :
    k0_pay1 x g (ix2 r k) = nrmX (fun k => x (ix2 r k)) (fun k => g (ix2 0 k)) k := by
  pointwise [k0_pay1]
  rfl
theorem pay2_apply (w : Vec Ideal S1x512x2048 .f32) (h : Vec Ideal S1024x2048 .bf16) (d : Fin 512) :
    k0_pay2 w h (ix2 r d) = ∑ k : Fin 2048, h (ix2 r k) * w (ix3 0 d k) := by
  pointwise [k0_pay2]
  try rfl
theorem mask_rows : ∀ (j : Fin 12) (d : Fin 512), (j.val = 10 ∧ 144 ≤ d.val) ∨
    IntOp.andi (Scalar.cmpi CmpIPredicate.eq (BitVec.ofNat 32 j.val) 10#32) (IntOp.cmpi CmpIPredicate.sge (BitVec.ofNat 32 d.val) 144#32) = 0#1 := by
  decide +kernel

/-- The masked product is the product when the weights are zero where the mask is. -/
theorem pay26_apply (j : Fin 12) (w : Vec Ideal S1x512x2048 .f32) (h : Vec Ideal S1024x2048 .bf16) (d : Fin 512)
    (hw : j.val = 10 → 144 ≤ d.val → ∀ k : Fin 2048, w (ix3 0 d k) = (0 : EReal)) :
    k0_pay26 (BitVec.ofNat 32 j.val) w h (ix2 r d) = ∑ k : Fin 2048, h (ix2 r k) * w (ix3 0 d k) := by
  pointwise [k0_pay26]
  refine Finset.sum_congr rfl fun k _ => ?_
  rcases mask_rows j d with hm | hm
  · rw [hw hm.1 hm.2 k, mul_zero]
    unfold Scalar.select
    split <;> rfl
  · rw [hm]
    rfl
end kernel

end Cert.Dsa
end
-- ==== Proof.Dsa.Ref.lean ====
/- The reference of the projection, read at an entry. -/
module

public import proofs.«01_k».proof.Proof.Dsa.Pay
public import proofs.«01_k».proof.Proof.Gen.DsaReferenceIdeal.Read
public import Idealize.ShloMosaic.Lib.Pointwise

@[expose] public section

set_option maxRecDepth 16384
set_option maxHeartbeats 1000000

noncomputable section

open Idealize.ShloMosaic Idealize.ShloMosaic.Pointwise
open Cert.DsaKernelIdeal Cert.DsaKernelIdeal.Gen

namespace Cert.Dsa
open Cert.DsaReferenceIdeal.Read

variable (x0 : Vec Ideal S8192x2048 .f32) (x1 : Vec Ideal S1x8192 .i32) (x2 : Vec Ideal S2x2048 .f32) (x3 : Vec Ideal S2x2048x5264 .f32) (x4 x5 : Vec Ideal S2x128 .f32)
variable (r : Fin 8192)

/-- The cosine and the sine of a row's angle at a pair of a head's lanes, the table of `n` lanes. -/
def ang64 (d : Fin 64) : EReal := (FloatOps.sitofp (F := Ideal) .f32 (x1 (ix2 0 r)) : EReal) *
  Ideal.div 1 (Ideal.pow (Ideal.ofBits .f32 1176256512#32) (Ideal.div (Ideal.ofBits .f32 1073741824#32 * (FloatOps.sitofp (F := Ideal) .f32 (BitVec.ofNat 32 d.val) : EReal)) (Ideal.ofBits .f32 1124073472#32)))
def ang32 (d : Fin 32) : EReal := (FloatOps.sitofp (F := Ideal) .f32 (x1 (ix2 0 r)) : EReal) *
  Ideal.div 1 (Ideal.pow (Ideal.ofBits .f32 1176256512#32) (Ideal.div (Ideal.ofBits .f32 1073741824#32 * (FloatOps.sitofp (F := Ideal) .f32 (BitVec.ofNat 32 d.val) : EReal)) (Ideal.ofBits .f32 1115684864#32)))
def cos64 (d : Fin 64) : EReal := Ideal.cos (ang64 x1 r d)
def sin64 (d : Fin 64) : EReal := Ideal.sin (ang64 x1 r d)
def cos32 (d : Fin 32) : EReal := Ideal.cos (ang32 x1 r d)
def sin32 (d : Fin 32) : EReal := Ideal.sin (ang32 x1 r d)

/-- The projection of a row at a column, zero past the last one. -/
def pr (J : ℕ) : EReal := if h : J < 5264 then
    ∑ k : Fin 2048, nrmX (fun k => x0 (ix2 r k)) (fun k => x2 (ix2 1 k)) k * x3 (ix3 1 k ⟨J, h⟩) else 0

theorem v17 (J : Fin 5264) : val_main_v17 (F := Ideal) x0 x2 x3 (ix2 r J) = pr x0 x2 x3 r J.val := by
  unfold pr
  rw [dif_pos J.isLt]
  pointwise [val_main_v17, val_main_v14, val_main_v11, val_main_v13, val_main_v16, val_main_v10, val_main_v9, val_main_v8, val_main_v7, val_main_v6, val_main_v5, val_main_v4, val_main_v3, val_main_v2, val_main_v1, val_main_v0, val_main_v12, val_main_v15, val_main_cst, val_main_cst_0, val_main_cst_1]
  rfl

theorem v74 (d : Fin 64) : val_main_v74 (F := Ideal) x1 (ix2 r d) = cos64 x1 r d := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_cst_8, val_main_cst_9, val_main_cst_10, val_main_cst_11, val_main_cst_12]
  rfl
theorem v76 (d : Fin 64) : val_main_v76 (F := Ideal) x1 (ix2 r d) = sin64 x1 r d := by
  pointwise [val_main_v76, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_cst_8, val_main_cst_9, val_main_cst_10, val_main_cst_11, val_main_cst_12]
  rfl
theorem v124 (d : Fin 32) : val_main_v124 (F := Ideal) x1 (ix2 r d) = cos32 x1 r d := by
  pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_cst_14, val_main_cst_15, val_main_cst_16, val_main_cst_17, val_main_cst_18]
  rfl
theorem v126 (d : Fin 32) : val_main_v126 (F := Ideal) x1 (ix2 r d) = sin32 x1 r d := by
  pointwise [val_main_v126, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_cst_14, val_main_cst_15, val_main_cst_16, val_main_cst_17, val_main_cst_18]
  rfl

/-- A head of 128 columns of a row's projection. -/
def hd (J : ℕ) (k : Fin 128) : EReal := pr x0 x2 x3 r (J + k.val)

theorem v39 (n : Fin 16) (d : Fin 128) : val_main_v39 (F := Ideal) x0 x2 x3 x4 (ix3 r n d)
    = nrmH (hd x0 x2 x3 r (n.val * 128)) (fun k => x4 (ix2 1 k)) d := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v18, val_main_cst_2, val_main_cst_3, val_main_cst_4]
  simp only [v17]
  rfl
theorem v92 (n : Fin 16) (d : Fin 128) : val_main_v92 (F := Ideal) x0 x1 x2 x3 x4 (ix3 r n d)
    = rotR (nrmH (hd x0 x2 x3 r (n.val * 128)) (fun k => x4 (ix2 1 k))) (cos64 x1 r) (sin64 x1 r) d * qc := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v75, val_main_cst_13]
  simp only [v39, v74, v76]
  rfl

theorem v55 (n : Fin 4) (d : Fin 128) : val_main_v55 (F := Ideal) x0 x2 x3 x5 (ix3 r n d)
    = nrmH (hd x0 x2 x3 r (2048 + n.val * 128)) (fun k => x5 (ix2 1 k)) d := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v19, val_main_cst_5, val_main_cst_6, val_main_cst_7]
  simp only [v17, ← Nat.add_assoc]
  rfl
theorem v105 (n : Fin 4) (d : Fin 128) : val_main_v105 (F := Ideal) x0 x1 x2 x3 x5 (ix3 r n d)
    = rotR (nrmH (hd x0 x2 x3 r (2048 + n.val * 128)) (fun k => x5 (ix2 1 k))) (cos64 x1 r) (sin64 x1 r) d := by
  pointwise [val_main_v105, val_main_v104, val_main_v103, val_main_v102, val_main_v101, val_main_v100, val_main_v99, val_main_v98, val_main_v97, val_main_v96, val_main_v95, val_main_v94, val_main_v93, val_main_v75, val_main_v77]
  simp only [v55, v74, v76]
  rfl

theorem v128 (n : Fin 16) (d : Fin 128) : val_main_v128 (F := Ideal) x0 x2 x3 (ix3 r n d) = hd x0 x2 x3 r (3072 + n.val * 128) d := by
  pointwise [val_main_v128, val_main_v21]
  simp only [v17, ← Nat.add_assoc]
  rfl
theorem v144 (n : Fin 16) (d : Fin 128) : val_main_v144 (F := Ideal) x0 x1 x2 x3 (ix3 r n d)
    = idxR (hd x0 x2 x3 r (3072 + n.val * 128)) (cos32 x1 r) (sin32 x1 r) d := by
  pointwise [val_main_v144, val_main_v143, val_main_v142, val_main_v141, val_main_v140, val_main_v139, val_main_v138, val_main_v137, val_main_v136, val_main_v135, val_main_v134, val_main_v133, val_main_v132, val_main_v131, val_main_v130, val_main_v129, val_main_v125, val_main_v127]
  simp only [v128, v124, v126]
  rfl

theorem v145 (d : Fin 128) : val_main_v145 (F := Ideal) x0 x2 x3 (ix3 r 0 d) = hd x0 x2 x3 r 5120 d := by
  pointwise [val_main_v145, val_main_v22]
  simp only [v17, ← Nat.add_assoc]
  rfl
theorem v157 (d : Fin 128) : val_main_v157 (F := Ideal) x0 x1 x2 x3 (ix3 r 0 d)
    = idxR (hd x0 x2 x3 r 5120) (cos32 x1 r) (sin32 x1 r) d := by
  pointwise [val_main_v157, val_main_v156, val_main_v155, val_main_v154, val_main_v153, val_main_v152, val_main_v151, val_main_v150, val_main_v149, val_main_v148, val_main_v147, val_main_v146, val_main_v125, val_main_v127]
  simp only [v145, v124, v126]
  rfl

/-- The packed result: queries, index queries, keys, values, index key, zeros. -/
def packed (D : ℕ) (l : Fin 128) : EReal :=
  if D < 16 then rotR (nrmH (hd x0 x2 x3 r (D * 128)) (fun k => x4 (ix2 1 k))) (cos64 x1 r) (sin64 x1 r) l * qc
  else if D < 32 then idxR (hd x0 x2 x3 r (3072 + (D - 16) * 128)) (cos32 x1 r) (sin32 x1 r) l
  else if D < 36 then rotR (nrmH (hd x0 x2 x3 r (2048 + (D - 32) * 128)) (fun k => x5 (ix2 1 k))) (cos64 x1 r) (sin64 x1 r) l
  else if D < 40 then hd x0 x2 x3 r (2560 + (D - 36) * 128) l
  else if D < 41 then idxR (hd x0 x2 x3 r 5120) (cos32 x1 r) (sin32 x1 r) l
  else 0

theorem v166 (D : Fin 44) (l : Fin 128) : val_main_v166 (F := Ideal) x0 x1 x2 x3 x4 x5 (ix2 r ⟨D.val * 128 + l.val, by omega⟩)
    = packed x0 x1 x2 x3 x4 x5 r D.val l := by
  have hl := l.isLt
  unfold packed
  pointwise [val_main_v166, val_main_v165, val_main_v164, val_main_v163, val_main_v162, val_main_v161, val_main_v160, val_main_cst_20, val_main_v20]
  simp only [v92, v144, v105, v17, v157]
  by_cases h0 : D.val < 16
  · rw [dif_pos (by omega), if_pos h0]
    simp only [show (D.val * 128 + l.val) / 128 = D.val from by omega, show (D.val * 128 + l.val) % 128 = l.val from by omega]
  rw [dif_neg (by omega), if_neg h0]
  by_cases h1 : D.val < 32
  · rw [dif_pos (by omega), if_pos h1]
    simp only [show (D.val * 128 + l.val - 2048) / 128 = D.val - 16 from by omega, show (D.val * 128 + l.val - 2048) % 128 = l.val from by omega]
  rw [dif_neg (by omega), if_neg h1]
  by_cases h2 : D.val < 36
  · rw [dif_pos (by omega), if_pos h2]
    simp only [show (D.val * 128 + l.val - 2048 - 2048) / 128 = D.val - 32 from by omega, show (D.val * 128 + l.val - 2048 - 2048) % 128 = l.val from by omega]
  rw [dif_neg (by omega), if_neg h2]
  by_cases h3 : D.val < 40
  · rw [dif_pos (by omega), if_pos h3]
    exact congrArg (pr x0 x2 x3 r) (by omega)
  rw [dif_neg (by omega), if_neg h3]
  by_cases h4 : D.val < 41
  · rw [dif_pos (by omega), if_pos h4]
    simp only [show (D.val * 128 + l.val - 2048 - 2048 - 512 - 512) = l.val from by omega]
  rw [dif_neg (by omega), if_neg h4]

/-- The index weights, zero past the sixteenth. -/
theorem v167 (d : Fin 128) : val_main_v167 (F := Ideal) x0 x2 x3 (ix2 r d) = pr x0 x2 x3 r (5248 + d.val) * wc := by
  pointwise [val_main_v167, val_main_v159, val_main_v158, val_main_v23, val_main_cst_19, val_main_call0_v0, val_main_c]
  simp only [v17]
  by_cases h : d.val < 16
  · rw [dif_pos h]
  · rw [dif_neg h]
    unfold pr
    rw [dif_neg (by omega), zero_mul]
    show (((0#32 : BitVec 32).toInt : ℝ) : EReal) = 0
    simp

/-- The values, transposed. -/
theorem v169 (d : Fin 512) : val_main_v169 (F := Ideal) x0 x2 x3 (ix2 d r) = pr x0 x2 x3 r (2560 + d.val) := by
  pointwise [val_main_v169, val_main_v168, val_main_v20]
  simp only [v17]

end Cert.Dsa
end
-- ==== Proof.Dsa.Reads.lean ====
/- What the projection kernel's operands hold: the arguments, the transposed weights and the tables. -/
module

public import proofs.«01_k».proof.Proof.Dsa.Ref
public import proofs.«01_k».proof.Proof.Dsa.Frame

@[expose] public section

set_option maxRecDepth 16384
set_option maxHeartbeats 1000000

noncomputable section

open Idealize.ShloMosaic Idealize.ShloMosaic.Pointwise Idealize.ShloMosaic.TcCoe Idealize.SL.Sem
open Cert.DsaKernelIdeal Cert.DsaKernelIdeal.Gen
open Cert.DsaReferenceIdeal.Read (val_main_v74 val_main_v76 val_main_v124 val_main_v126)

namespace Cert.Dsa

variable (m : (ℓ : Loc nD τ sig) → Buf (Elt Ideal) ℓ) (c : Dev nD)

abbrev X0 : Vec Ideal S8192x2048 .f32 := m ((c : Thread nD τ).loc main_arg0)
abbrev X1 : Vec Ideal S1x8192 .i32 := m ((c : Thread nD τ).loc main_arg1)
abbrev X2 : Vec Ideal S2x2048 .f32 := m ((c : Thread nD τ).loc main_arg2)
abbrev X3 : Vec Ideal S2x2048x5264 .f32 := m ((c : Thread nD τ).loc main_arg3)
abbrev X4 : Vec Ideal S2x128 .f32 := m ((c : Thread nD τ).loc main_arg4)
abbrev X5 : Vec Ideal S2x128 .f32 := m ((c : Thread nD τ).loc main_arg5)

theorem V_w (J : Fin 5264) (k : Fin 2048) : (V m c main_v2 : Vec Ideal S2x5264x2048 .f32) (ix3 1 J k) = X3 m c (ix3 1 k J) := by
  have h : (V m c main_v2 : Vec Ideal S2x5264x2048 .f32) = transpose S2x5264x2048 [0, 2, 1] (X3 m c) transposes_S2x2048x5264_S2x5264x2048_0_2_1 := by
    show StableHlo.after hostOps0 _ _ = _; after_results <;> rfl
  rw [h]
  pointwise []

theorem V_g (k : Fin 2048) : (V m c main_v57 : Vec Ideal S1x2048 .f32) (ix2 0 k) = X2 m c (ix2 1 k) := by
  have h : (V m c main_v57 : Vec Ideal S1x2048 .f32) = shapeCast S1x2048 (shapeCast S2048 (extractStridedSlice S1x2048 ![1, 0] (X2 m c) slices_S2x2048_S1x2048_1_0) shapeCasts_S1x2048_S2048) shapeCasts_S2048_S1x2048 := by
    show StableHlo.after hostOps0 _ _ = _; after_results <;> rfl
  rw [h]
  pointwise []

theorem V_qn (k : Fin 128) : (V m c main_v58 : Vec Ideal S1x128 .f32) (ix2 0 k) = X4 m c (ix2 1 k) := by
  have h : (V m c main_v58 : Vec Ideal S1x128 .f32) = shapeCast S1x128 (shapeCast S128 (extractStridedSlice S1x128 ![1, 0] (X4 m c) slices_S2x128_S1x128_1_0) shapeCasts_S1x128_S128) shapeCasts_S128_S1x128 := by
    show StableHlo.after hostOps0 _ _ = _; after_results <;> rfl
  rw [h]
  pointwise []

theorem V_kn (k : Fin 128) : (V m c main_v59 : Vec Ideal S1x128 .f32) (ix2 0 k) = X5 m c (ix2 1 k) := by
  have h : (V m c main_v59 : Vec Ideal S1x128 .f32) = shapeCast S1x128 (shapeCast S128 (extractStridedSlice S1x128 ![1, 0] (X5 m c) slices_S2x128_S1x128_1_0) shapeCasts_S1x128_S128) shapeCasts_S128_S1x128 := by
    show StableHlo.after hostOps0 _ _ = _; after_results <;> rfl
  rw [h]
  pointwise []

theorem V_rc (R : Fin 8192) (l : Fin 128) : (V m c main_v27 : Vec Ideal S8192x128 .f32) (ix2 R l)
    = if h : l.val < 64 then cos64 (X1 m c) R ⟨l.val, h⟩ else cos64 (X1 m c) R ⟨l.val - 64, by omega⟩ := by
  have h : (V m c main_v27 : Vec Ideal S8192x128 .f32)
      = concatenate S8192x128 1 [⟨S8192x64, val_main_v74 (F := Ideal) (X1 m c)⟩, ⟨S8192x64, val_main_v74 (F := Ideal) (X1 m c)⟩] concatenates_S8192x64_S8192x64_S8192x128_d1 := by
    show StableHlo.after hostOps0 _ _ = _; after_results <;> rfl
  rw [h]
  pointwise []
  simp only [v74]

theorem V_rs (R : Fin 8192) (l : Fin 128) : (V m c main_v29 : Vec Ideal S8192x128 .f32) (ix2 R l)
    = if h : l.val < 64 then -sin64 (X1 m c) R ⟨l.val, h⟩ else sin64 (X1 m c) R ⟨l.val - 64, by omega⟩ := by
  have h : (V m c main_v29 : Vec Ideal S8192x128 .f32)
      = concatenate S8192x128 1 [⟨S8192x64, (Host.negf (val_main_v76 (F := Ideal) (X1 m c)) : FVec Ideal S8192x64 .f32)⟩, ⟨S8192x64, val_main_v76 (F := Ideal) (X1 m c)⟩] concatenates_S8192x64_S8192x64_S8192x128_d1 := by
    show StableHlo.after hostOps0 _ _ = _; after_results <;> rfl
  rw [h]
  pointwise []
  simp only [v76]

theorem V_ic (R : Fin 8192) (l : Fin 128) : (V m c main_v51 : Vec Ideal S8192x128 .f32) (ix2 R l)
    = if h : l.val < 32 then cos32 (X1 m c) R ⟨l.val, h⟩ else if h' : l.val < 64 then cos32 (X1 m c) R ⟨l.val - 32, by omega⟩ else 1 := by
  have h : (V m c main_v51 : Vec Ideal S8192x128 .f32)
      = concatenate S8192x128 1 [⟨S8192x32, val_main_v124 (F := Ideal) (X1 m c)⟩, ⟨S8192x32, val_main_v124 (F := Ideal) (X1 m c)⟩,
          ⟨S8192x64, broadcastInDim S8192x64 ![] bcast_S_S8192x64 (constant (F := Ideal) S_ .f32 0x3F800000#32)⟩] concatenates_S8192x32_S8192x32_S8192x64_S8192x128_d1 := by
    show StableHlo.after hostOps0 _ _ = _; after_results <;> rfl
  rw [h]
  pointwise []
  simp only [v124]
  by_cases h1 : l.val < 32
  · rw [dif_pos h1, dif_pos h1]
  · rw [dif_neg h1, dif_neg h1]
    by_cases h2 : l.val < 64
    · rw [dif_pos h2, dif_pos (by omega)]
    · rw [dif_neg h2, dif_neg (by omega)]

theorem V_ia (R : Fin 8192) (l : Fin 128) : (V m c main_v54 : Vec Ideal S8192x128 .f32) (ix2 R l)
    = if h : l.val < 32 then -sin32 (X1 m c) R ⟨l.val, h⟩ else 0 := by
  have h : (V m c main_v54 : Vec Ideal S8192x128 .f32)
      = concatenate S8192x128 1 [⟨S8192x32, Host.negf (val_main_v126 (F := Ideal) (X1 m c))⟩, ⟨S8192x32, broadcastInDim S8192x32 ![] bcast_S_S8192x32 (constant (F := Ideal) S_ .f32 0x00000000#32)⟩,
          ⟨S8192x64, broadcastInDim S8192x64 ![] bcast_S_S8192x64 (constant (F := Ideal) S_ .f32 0x00000000#32)⟩] concatenates_S8192x32_S8192x32_S8192x64_S8192x128_d1 := by
    show StableHlo.after hostOps0 _ _ = _; after_results <;> rfl
  rw [h]
  pointwise []
  simp only [v126, ite_self, dite_eq_ite]

theorem V_ib (R : Fin 8192) (l : Fin 128) : (V m c main_v56 : Vec Ideal S8192x128 .f32) (ix2 R l)
    = if h : l.val < 32 then 0 else if h' : l.val < 64 then sin32 (X1 m c) R ⟨l.val - 32, by omega⟩ else 0 := by
  have h : (V m c main_v56 : Vec Ideal S8192x128 .f32)
      = concatenate S8192x128 1 [⟨S8192x32, broadcastInDim S8192x32 ![] bcast_S_S8192x32 (constant (F := Ideal) S_ .f32 0x00000000#32)⟩, ⟨S8192x32, val_main_v126 (F := Ideal) (X1 m c)⟩,
          ⟨S8192x64, broadcastInDim S8192x64 ![] bcast_S_S8192x64 (constant (F := Ideal) S_ .f32 0x00000000#32)⟩] concatenates_S8192x32_S8192x32_S8192x64_S8192x128_d1 := by
    show StableHlo.after hostOps0 _ _ = _; after_results <;> rfl
  rw [h]
  pointwise []
  simp only [v126]
  by_cases h1 : l.val < 32
  · rw [dif_pos h1, dif_pos h1]
  · rw [dif_neg h1, dif_neg h1]
    by_cases h2 : l.val < 64
    · rw [dif_pos h2, dif_pos (by omega)]
    · rw [dif_neg h2, dif_neg (by omega)]

theorem win_0 : ∀ t : Fin grid0.N, win0_0.index t 0 = t.val / 12 ∧ win0_0.index t 1 = 0 := by decide +kernel
theorem win_1 : ∀ t : Fin grid0.N, win0_1.index t 0 = 0 ∧ win0_1.index t 1 = 0 := by decide +kernel
theorem win_2 : ∀ t : Fin grid0.N, t.val % 12 ≤ 10 → (win0_2.index t 0 = 1 ∧ win0_2.index t 1 = t.val % 12 ∧ win0_2.index t 2 = 0) := by decide +kernel
theorem rows_2 : ∀ t : Fin grid0.N, t.val % 12 ≤ 10 → (win0_2.xsize (grid0.coords t) 0 = 1 ∧ win0_2.xsize (grid0.coords t) 1 = min 512 (5264 - 512 * (t.val % 12)) ∧ win0_2.xsize (grid0.coords t) 2 = 2048) := by decide +kernel
theorem win_3 : ∀ t : Fin grid0.N, win0_3.index t 0 = 0 ∧ win0_3.index t 1 = 0 := by decide +kernel
theorem win_4 : ∀ t : Fin grid0.N, win0_4.index t 0 = 0 ∧ win0_4.index t 1 = 0 := by decide +kernel
theorem win_5 : ∀ t : Fin grid0.N, win0_5.index t 0 = t.val / 12 ∧ win0_5.index t 1 = 0 := by decide +kernel
theorem win_6 : ∀ t : Fin grid0.N, win0_6.index t 0 = t.val / 12 ∧ win0_6.index t 1 = 0 := by decide +kernel
theorem win_7 : ∀ t : Fin grid0.N, win0_7.index t 0 = t.val / 12 ∧ win0_7.index t 1 = 0 := by decide +kernel
theorem win_8 : ∀ t : Fin grid0.N, win0_8.index t 0 = t.val / 12 ∧ win0_8.index t 1 = 0 := by decide +kernel
theorem win_9 : ∀ t : Fin grid0.N, win0_9.index t 0 = t.val / 12 ∧ win0_9.index t 1 = 0 := by decide +kernel

variable (t : Fin cfg0.N)

theorem iblk_0 (r : Fin 1024) (k : Fin 2048) (R : Fin 8192) (hR : R.val = t.val / 12 * 1024 + r.val) :
    (iblk m c 0 t : Vec Ideal S1024x2048 .f32) (ix2 r k) = X0 m c (ix2 R k) := by
  unfold iblk
  rw [View.read_apply]
  show V m c main_arg0 _ = _
  rw [V_main_arg0]
  congr 1
  funext a
  apply Fin.ext
  match a with
  | ⟨0, _⟩ => show win0_0.index t 0 * 1024 + 1 * r.val = R.val; rw [(win_0 t).1]; omega
  | ⟨1, _⟩ => show win0_0.index t 1 * 2048 + 1 * k.val = k.val; rw [(win_0 t).2]; omega

theorem iblk_1 (k : Fin 2048) : (iblk m c 1 t : Vec Ideal S1x2048 .f32) (ix2 0 k) = X2 m c (ix2 1 k) := by
  rw [← V_g m c k]
  unfold iblk
  rw [View.read_apply]
  show V m c main_v57 _ = _
  congr 1
  funext a
  apply Fin.ext
  match a with
  | ⟨0, _⟩ => show win0_1.index t 0 * 1 + 1 * 0 = 0; rw [(win_1 t).1]
  | ⟨1, _⟩ => show win0_1.index t 1 * 2048 + 1 * k.val = k.val; rw [(win_1 t).2]; omega

theorem iblk_3 (k : Fin 128) : (iblk m c 3 t : Vec Ideal S1x128 .f32) (ix2 0 k) = X4 m c (ix2 1 k) := by
  rw [← V_qn m c k]
  unfold iblk
  rw [View.read_apply]
  show V m c main_v58 _ = _
  congr 1
  funext a
  apply Fin.ext
  match a with
  | ⟨0, _⟩ => show win0_3.index t 0 * 1 + 1 * 0 = 0; rw [(win_3 t).1]
  | ⟨1, _⟩ => show win0_3.index t 1 * 128 + 1 * k.val = k.val; rw [(win_3 t).2]; omega

theorem iblk_4 (k : Fin 128) : (iblk m c 4 t : Vec Ideal S1x128 .f32) (ix2 0 k) = X5 m c (ix2 1 k) := by
  rw [← V_kn m c k]
  unfold iblk
  rw [View.read_apply]
  show V m c main_v59 _ = _
  congr 1
  funext a
  apply Fin.ext
  match a with
  | ⟨0, _⟩ => show win0_4.index t 0 * 1 + 1 * 0 = 0; rw [(win_4 t).1]
  | ⟨1, _⟩ => show win0_4.index t 1 * 128 + 1 * k.val = k.val; rw [(win_4 t).2]; omega

theorem iblk_5 (r : Fin 1024) (l : Fin 128) (R : Fin 8192) (hR : R.val = t.val / 12 * 1024 + r.val) :
    (iblk m c 5 t : Vec Ideal S1024x128 .f32) (ix2 r l) = (V m c main_v27 : Vec Ideal S8192x128 .f32) (ix2 R l) := by
  unfold iblk
  rw [View.read_apply]
  show V m c main_v27 _ = _
  congr 1
  funext a
  apply Fin.ext
  match a with
  | ⟨0, _⟩ => show win0_5.index t 0 * 1024 + 1 * r.val = R.val; rw [(win_5 t).1]; omega
  | ⟨1, _⟩ => show win0_5.index t 1 * 128 + 1 * l.val = l.val; rw [(win_5 t).2]; omega

theorem iblk_6 (r : Fin 1024) (l : Fin 128) (R : Fin 8192) (hR : R.val = t.val / 12 * 1024 + r.val) :
    (iblk m c 6 t : Vec Ideal S1024x128 .f32) (ix2 r l) = (V m c main_v29 : Vec Ideal S8192x128 .f32) (ix2 R l) := by
  unfold iblk
  rw [View.read_apply]
  show V m c main_v29 _ = _
  congr 1
  funext a
  apply Fin.ext
  match a with
  | ⟨0, _⟩ => show win0_6.index t 0 * 1024 + 1 * r.val = R.val; rw [(win_6 t).1]; omega
  | ⟨1, _⟩ => show win0_6.index t 1 * 128 + 1 * l.val = l.val; rw [(win_6 t).2]; omega

theorem iblk_7 (r : Fin 1024) (l : Fin 128) (R : Fin 8192) (hR : R.val = t.val / 12 * 1024 + r.val) :
    (iblk m c 7 t : Vec Ideal S1024x128 .f32) (ix2 r l) = (V m c main_v51 : Vec Ideal S8192x128 .f32) (ix2 R l) := by
  unfold iblk
  rw [View.read_apply]
  show V m c main_v51 _ = _
  congr 1
  funext a
  apply Fin.ext
  match a with
  | ⟨0, _⟩ => show win0_7.index t 0 * 1024 + 1 * r.val = R.val; rw [(win_7 t).1]; omega
  | ⟨1, _⟩ => show win0_7.index t 1 * 128 + 1 * l.val = l.val; rw [(win_7 t).2]; omega

theorem iblk_8 (r : Fin 1024) (l : Fin 128) (R : Fin 8192) (hR : R.val = t.val / 12 * 1024 + r.val) :
    (iblk m c 8 t : Vec Ideal S1024x128 .f32) (ix2 r l) = (V m c main_v54 : Vec Ideal S8192x128 .f32) (ix2 R l) := by
  unfold iblk
  rw [View.read_apply]
  show V m c main_v54 _ = _
  congr 1
  funext a
  apply Fin.ext
  match a with
  | ⟨0, _⟩ => show win0_8.index t 0 * 1024 + 1 * r.val = R.val; rw [(win_8 t).1]; omega
  | ⟨1, _⟩ => show win0_8.index t 1 * 128 + 1 * l.val = l.val; rw [(win_8 t).2]; omega

theorem iblk_9 (r : Fin 1024) (l : Fin 128) (R : Fin 8192) (hR : R.val = t.val / 12 * 1024 + r.val) :
    (iblk m c 9 t : Vec Ideal S1024x128 .f32) (ix2 r l) = (V m c main_v56 : Vec Ideal S8192x128 .f32) (ix2 R l) := by
  unfold iblk
  rw [View.read_apply]
  show V m c main_v56 _ = _
  congr 1
  funext a
  apply Fin.ext
  match a with
  | ⟨0, _⟩ => show win0_9.index t 0 * 1024 + 1 * r.val = R.val; rw [(win_9 t).1]; omega
  | ⟨1, _⟩ => show win0_9.index t 1 * 128 + 1 * l.val = l.val; rw [(win_9 t).2]; omega

/-- The weight's buffer: a row of the transposed weights, zero past the last one. -/
theorem wblk_at (ht : t.val % 12 ≤ 10) (d : Fin 512) (k : Fin 2048) : (wblk m c t : Vec Ideal S1x512x2048 .f32) (ix3 0 d k)
    = if h : 512 * (t.val % 12) + d.val < 5264 then X3 m c (ix3 1 k ⟨512 * (t.val % 12) + d.val, h⟩) else 0 := by
  obtain ⟨h0, h1, h2⟩ := rows_2 t ht
  have hd := d.isLt
  unfold wblk
  by_cases h : 512 * (t.val % 12) + d.val < 5264
  · have hm : win0_2.moved (grid0.coords t) (ix3 (0 : Fin 1) d k) = true :=
      (win0_2.moved_iff _ _).mpr fun a => by
        match a with
        | ⟨0, _⟩ => exact lt_of_lt_of_eq (by decide : 0 < 1) h0.symm
        | ⟨1, _⟩ => exact lt_of_lt_of_eq (by show d.val < min 512 (5264 - 512 * (t.val % 12)); omega) h1.symm
        | ⟨2, _⟩ => exact lt_of_lt_of_eq k.isLt h2.symm
    refine (dif_pos hm).trans ?_
    rw [dif_pos h, ← V_w m c]
    unfold iblk
    rw [View.read_apply]
    show V m c main_v2 _ = _
    congr 1
    funext a
    apply Fin.ext
    match a with
    | ⟨0, _⟩ => show win0_2.index t 0 * 1 + 1 * 0 = 1; rw [(win_2 t ht).1]
    | ⟨1, _⟩ => show win0_2.index t 1 * 512 + 1 * d.val = 512 * (t.val % 12) + d.val; rw [(win_2 t ht).2.1]; omega
    | ⟨2, _⟩ => show win0_2.index t 2 * 2048 + 1 * k.val = k.val; rw [(win_2 t ht).2.2]; omega
  · have hm : ¬ win0_2.moved (grid0.coords t) (ix3 (0 : Fin 1) d k) = true := fun e => by
      have h3 := (win0_2.moved_iff _ _).mp e 1
      rw [h1] at h3
      have h4 : d.val < min 512 (5264 - 512 * (t.val % 12)) := h3
      omega
    refine (dif_neg hm).trans ?_
    rw [dif_neg h]
    exact Ideal.ofBits_zero_f32

end Cert.Dsa
end
-- ==== Proof.Dsa.Global.lean ====
/- The projection's result arrays, entry by entry. -/
module

public import proofs.«01_k».proof.Proof.Dsa.Reads

@[expose] public section

set_option maxRecDepth 16384
set_option maxHeartbeats 1000000

noncomputable section

open Idealize.ShloMosaic Idealize.ShloMosaic.Pointwise Idealize.ShloMosaic.TcCoe Idealize.SL.Sem
open Cert.DsaKernelIdeal Cert.DsaKernelIdeal.Gen

namespace Cert.Dsa

variable (m : (ℓ : Loc nD τ sig) → Buf (Elt Ideal) ℓ) (c : Dev nD)

/-- A row's product with the weight block a point fetched is the projection at the block's columns. -/
theorem sum_wblk (t : Fin cfg0.N) (ht : t.val % 12 ≤ 10) (h : Vec Ideal S1024x2048 .bf16) (r : Fin 1024) (d : Fin 512) (R : Fin 8192)
    (hh : ∀ k : Fin 2048, h (ix2 r k) = nrmX (fun k => X0 m c (ix2 R k)) (fun k => X2 m c (ix2 1 k)) k) :
    (∑ k : Fin 2048, (h (ix2 r k) * (wblk m c t : Vec Ideal S1x512x2048 .f32) (ix3 0 d k) : EReal))
      = pr (X0 m c) (X2 m c) (X3 m c) R (512 * (t.val % 12) + d.val) := by
  unfold pr
  by_cases hJ : 512 * (t.val % 12) + d.val < 5264
  · rw [dif_pos hJ]
    refine Finset.sum_congr rfl fun k _ => ?_
    exact congrArg₂ (fun a b : EReal => a * b) (hh k) ((wblk_at m c t ht d k).trans (dif_pos hJ))
  · rw [dif_neg hJ]
    refine Finset.sum_eq_zero fun k _ => ?_
    exact (congrArg (fun b : EReal => (h (ix2 r k) : EReal) * b) ((wblk_at m c t ht d k).trans (dif_neg hJ))).trans (mul_zero _)

/-- The product of a point past the first is the projection, masked or not. -/
theorem prod_at (t : Fin cfg0.N) (ht : t.val % 12 ≤ 10) (h : Vec Ideal S1024x2048 .bf16) (r : Fin 1024) (d : Fin 512) (R : Fin 8192)
    (hh : ∀ k : Fin 2048, h (ix2 r k) = nrmX (fun k => X0 m c (ix2 R k)) (fun k => X2 m c (ix2 1 k)) k) :
    (prod m c t h : Vec Ideal S1024x512 .f32) (ix2 r d) = pr (X0 m c) (X2 m c) (X3 m c) R (512 * (t.val % 12) + d.val) := by
  unfold prod
  by_cases h7 : 7 ≤ t.val % 12
  · rw [if_pos h7, col_val]
    refine (pay26_apply r ⟨t.val % 12, by omega⟩ (wblk m c t) h d (fun h10 hd k => ?_)).trans (sum_wblk m c t ht h r d R hh)
    have h10' : t.val % 12 = 10 := h10
    exact (wblk_at m c t ht d k).trans (dif_neg (by omega))
  · rw [if_neg h7]
    exact (pay2_apply r (wblk m c t) h d).trans (sum_wblk m c t ht h r d R hh)

/-- The normalised rows stay in the scratch through a row block. -/
theorem h_at : ∀ (n : ℕ) (t : Fin cfg0.N), t.val % 12 = n → ∀ (r : Fin 1024) (k : Fin 2048) (R : Fin 8192),
    R.val = t.val / 12 * 1024 + r.val →
    (stAt m c t.val t.isLt).h (ix2 r k) = nrmX (fun k => X0 m c (ix2 R k)) (fun k => X2 m c (ix2 1 k)) k
  | 0, t, hn, r, k, R, hR => by
    rw [stAt_first m c t hn]
    refine (pay1_apply r (iblk m c 0 t) (iblk m c 1 t) k).trans ?_
    rw [show (fun k => (iblk m c 0 t : Vec Ideal S1024x2048 .f32) (ix2 r k)) = fun k => X0 m c (ix2 R k) from funext fun k => iblk_0 m c t r k R hR,
      show (fun k => (iblk m c 1 t : Vec Ideal S1x2048 .f32) (ix2 0 k)) = fun k => X2 m c (ix2 1 k) from funext fun k => iblk_1 m c t k]
  | n + 1, t, hn, r, k, R, hR => by
    have ht := t.isLt
    have ih := h_at n ⟨t.val - 1, by omega⟩ (by show (t.val - 1) % 12 = n; omega) r k R (by show R.val = (t.val - 1) / 12 * 1024 + r.val; omega)
    by_cases h11 : t.val % 12 = 11
    · rw [stAt_last m c t h11]; exact ih
    · rw [stAt_mul m c t (by omega) h11]; exact ih

/-- The last product held after a point. -/
theorem y_at (t : Fin cfg0.N) (ht : t.val % 12 ≤ 10) (r : Fin 1024) (d : Fin 512) (R : Fin 8192) (hR : R.val = t.val / 12 * 1024 + r.val) :
    (stAt m c t.val t.isLt).y (ix2 r d) = pr (X0 m c) (X2 m c) (X3 m c) R (512 * (t.val % 12) + d.val) := by
  have hlt := t.isLt
  by_cases hz : t.val % 12 = 0
  · have hh := h_at m c 0 t hz r
    rw [stAt_first m c t hz] at hh ⊢
    exact (pay2_apply r (wblk m c t) _ d).trans (sum_wblk m c t ht _ r d R fun k => hh k R hR)
  · rw [stAt_mul m c t hz (by omega)]
    exact prod_at m c t ht _ r d R fun k => h_at m c ((t.val - 1) % 12) ⟨t.val - 1, by omega⟩ rfl r k R (by show R.val = (t.val - 1) / 12 * 1024 + r.val; omega)

/-- The block of 512 columns of the packed result that a point writes. -/
def ob (j : ℕ) : ℕ := if j ≤ 4 then j - 1 else if j = 5 then 8 else if j = 6 then 9 else if j ≤ 10 then j - 3 else 10
/-- The point that writes a block. -/
def pt (b : ℕ) : ℕ := if b < 4 then b + 1 else if b < 8 then b + 3 else b - 3 + (if b = 10 then 4 else 0)

theorem pt_ok : ∀ b : Fin 11, pt b.val < 12 ∧ pt b.val ≠ 0 ∧ ob (pt b.val) = b.val := by decide
theorem ob_inj : ∀ i j : Fin 12, i.val ≠ 0 → j.val ≠ 0 → ob i.val = ob j.val → i.val = j.val := by decide

section tile
variable (t : Fin cfg0.N) (r : Fin 1024) (R : Fin 8192) (hR : R.val = t.val / 12 * 1024 + r.val)
include hR

/-- A head of the product the point before took. -/
theorem y_head (hz : t.val % 12 ≠ 0) (s : Fin 4) (J : ℕ) (hJ : J = 512 * (t.val % 12 - 1) + s.val * 128) :
    (fun k : Fin 128 => (stAt m c (t.val - 1) (by omega)).y (ix2 r (ln s k))) = hd (X0 m c) (X2 m c) (X3 m c) R J := by
  have hlt := t.isLt
  funext k
  refine (y_at m c ⟨t.val - 1, by omega⟩ (by show (t.val - 1) % 12 ≤ 10; omega) r (ln s k) R (by show R.val = (t.val - 1) / 12 * 1024 + r.val; omega)).trans ?_
  unfold hd
  refine congrArg (pr (X0 m c) (X2 m c) (X3 m c) R) ?_
  rw [ln_val]
  show 512 * ((t.val - 1) % 12) + (s.val * 128 + k.val) = J + k.val
  omega

/-- The tile a point writes holds the packed result's heads of its block. -/
theorem oAt_at (hz : t.val % 12 ≠ 0) (s : Fin 4) (l : Fin 128) (D : ℕ) (hD : D = 4 * ob (t.val % 12) + s.val) :
    (oAt m c t : Vec Ideal S1024x512 .bf16) (ix2 r (ln s l)) = packed (X0 m c) (X1 m c) (X2 m c) (X3 m c) (X4 m c) (X5 m c) R D l := by
  have hs := s.isLt
  have hlt := t.isLt
  have hC : ∀ l, (iblk m c 5 t : Vec Ideal S1024x128 .f32) (ix2 r l) = _ := fun l => (iblk_5 m c t r l R hR).trans (V_rc m c R l)
  have hS : ∀ l, (iblk m c 6 t : Vec Ideal S1024x128 .f32) (ix2 r l) = _ := fun l => (iblk_6 m c t r l R hR).trans (V_rs m c R l)
  have hIC : ∀ l, (iblk m c 7 t : Vec Ideal S1024x128 .f32) (ix2 r l) = _ := fun l => (iblk_7 m c t r l R hR).trans (V_ic m c R l)
  have hIA : ∀ l, (iblk m c 8 t : Vec Ideal S1024x128 .f32) (ix2 r l) = _ := fun l => (iblk_8 m c t r l R hR).trans (V_ia m c R l)
  have hIB : ∀ l, (iblk m c 9 t : Vec Ideal S1024x128 .f32) (ix2 r l) = _ := fun l => (iblk_9 m c t r l R hR).trans (V_ib m c R l)
  have hq : (fun k : Fin 128 => (iblk m c 3 t : Vec Ideal S1x128 .f32) (ix2 0 k)) = fun k => X4 m c (ix2 1 k) := funext fun k => iblk_3 m c t k
  have hk : (fun k : Fin 128 => (iblk m c 4 t : Vec Ideal S1x128 .f32) (ix2 0 k)) = fun k => X5 m c (ix2 1 k) := funext fun k => iblk_4 m c t k
  unfold oAt oOf packed
  by_cases h4 : t.val % 12 ≤ 4
  · have hob : ob (t.val % 12) = t.val % 12 - 1 := if_pos h4
    rw [if_pos h4, if_pos (by omega)]
    refine (qHeads_apply _ _ _ _ r l s).trans (congrArg (fun a : EReal => a * qc) ((rotK_eq _ _ _ _ _ hC hS l).trans ?_))
    rw [y_head m c t r R hR hz s (D * 128) (by omega), hq]
  by_cases h5 : t.val % 12 = 5
  · have hob : ob (t.val % 12) = 8 := by rw [h5]; rfl
    rw [if_neg h4, if_pos h5, if_neg (by omega), if_neg (by omega), if_pos (by omega)]
    refine (kHeads_apply _ _ _ _ r l s).trans ((rotK_eq _ _ _ _ _ hC hS l).trans ?_)
    rw [y_head m c t r R hR hz s (2048 + (D - 32) * 128) (by omega), hk]
  by_cases h6 : t.val % 12 = 6
  · have hob : ob (t.val % 12) = 9 := by rw [h6]; rfl
    rw [if_neg h4, if_neg h5, if_pos h6, if_neg (by omega), if_neg (by omega), if_neg (by omega), if_pos (by omega)]
    refine (pay6_apply _ r (ln s l)).trans ?_
    exact congrFun (y_head m c t r R hR hz s (2560 + (D - 36) * 128) (by omega)) l
  by_cases h10 : t.val % 12 ≤ 10
  · have hob : ob (t.val % 12) = t.val % 12 - 3 := by unfold ob; rw [if_neg h4, if_neg h5, if_neg h6, if_pos h10]
    rw [if_neg h4, if_neg h5, if_neg h6, if_pos h10, if_neg (by omega), if_pos (by omega)]
    refine (iHeads_apply _ _ _ _ r l s).trans ((idxK_eq _ _ _ _ _ _ hIC hIA hIB l).trans ?_)
    rw [y_head m c t r R hR hz s (3072 + (D - 16) * 128) (by omega)]
  · have h11 : t.val % 12 = 11 := by omega
    have hob : ob (t.val % 12) = 10 := by rw [h11]; rfl
    rw [if_neg h4, if_neg h5, if_neg h6, if_neg h10, if_neg (by omega), if_neg (by omega), if_neg (by omega), if_neg (by omega)]
    by_cases h0 : s.val = 0
    · have hs0 : s = 0 := Fin.ext h0
      subst hs0
      rw [if_pos (by omega)]
      refine (last_apply0 _ _ _ _ r l).trans ((idxK_eq _ _ _ _ _ _ hIC hIA hIB l).trans ?_)
      rw [y_head m c t r R hR hz 0 5120 (by omega)]
    · rw [if_neg (by omega)]
      exact last_apply _ _ _ _ r (ln s l) (by rw [ln_val]; omega)

/-- The index weights a row block's last point writes. -/
theorem iwAt_at (h11 : t.val % 12 = 11) (l : Fin 128) :
    (iwAt m c t : Vec Ideal S1024x128 .f32) (ix2 r l) = pr (X0 m c) (X2 m c) (X3 m c) R (5248 + l.val) * wc := by
  unfold iwAt
  refine (pay10_apply _ r l).trans (congrArg (fun a : EReal => a * wc) ?_)
  exact congrFun (y_head m c t r R hR (by omega) 1 5248 (by show 5248 = 512 * (t.val % 12 - 1) + 1 * 128; omega)) l

/-- The transposed values a row block's last point writes. -/
theorem vtAt_at (d : Fin 512) : (vtAt m c t : Vec Ideal S512x1024 .bf16) (ix2 d r) = pr (X0 m c) (X2 m c) (X3 m c) R (2560 + d.val) := by
  have hlt : t.val < 96 := t.isLt
  unfold vtAt
  refine (pay7_apply _ r d).trans ?_
  refine (y_at m c ⟨12 * (t.val / 12) + 5, by show _ < 96; omega⟩ (by show (12 * (t.val / 12) + 5) % 12 ≤ 10; omega) r d R
    (by show R.val = (12 * (t.val / 12) + 5) / 12 * 1024 + r.val; omega)).trans ?_
  refine congrArg (pr (X0 m c) (X2 m c) (X3 m c) R) ?_
  show 512 * ((12 * (t.val / 12) + 5) % 12) + d.val = 2560 + d.val
  omega
end tile

end Cert.Dsa
end
-- ==== Proof.Dsa.Value.lean ====
/- The projection kernel's run: its three result arrays hold the reference's results. -/
module

public import proofs.«01_k».proof.Proof.Dsa.Global

@[expose] public section

set_option maxRecDepth 16384
set_option maxHeartbeats 1000000

noncomputable section

open Idealize.ShloMosaic Idealize.ShloMosaic.Pointwise Idealize.ShloMosaic.TcCoe Idealize.SL.Sem
open Cert.DsaKernelIdeal Cert.DsaKernelIdeal.Gen

open Cert.DsaReferenceIdeal.Read (val_main_v166 val_main_v167 val_main_v169)

namespace Cert.Dsa

variable (m : (ℓ : Loc nD τ sig) → Buf (Elt Ideal) ℓ) (c : Dev nD)

theorem win_10 : ∀ t : Fin grid0.N, t.val % 12 ≠ 0 → (win0_10.index t 0 = t.val / 12 ∧ win0_10.index t 1 = ob (t.val % 12)) := by decide +kernel
theorem win_11 : ∀ t : Fin grid0.N, win0_11.index t 0 = t.val / 12 ∧ win0_11.index t 1 = 0 := by decide +kernel
theorem win_12 : ∀ t : Fin grid0.N, win0_12.index t 0 = 0 ∧ win0_12.index t 1 = t.val / 12 := by decide +kernel
theorem fl_10 : ∀ t : Fin grid0.N, (cfg0.win 10).flush t = true ↔ t.val % 12 ≠ 0 := by decide +kernel
theorem fl_11 : ∀ t : Fin grid0.N, (cfg0.win 11).flush t = true ↔ t.val % 12 = 11 := by decide +kernel
theorem fl_12 : ∀ t : Fin grid0.N, (cfg0.win 12).flush t = true ↔ t.val % 12 = 11 := by decide +kernel

theorem disjoint10 (t t' : Fin cfg0.N) (h : (cfg0.win 10).flush t = true) (h' : (cfg0.win 10).flush t' = true) (hne : t ≠ t') :
    Disjoint ((cfg0.win 10).blk t).view.set ((cfg0.win 10).blk t').view.set :=
  (cfg0.win 10).disjoint_blk fun e => hne (Fin.ext (by
    have z := (fl_10 t).mp h
    have z' := (fl_10 t').mp h'
    have a := win_10 t z
    have a' := win_10 t' z'
    have e0 : win0_10.index t 0 = win0_10.index t' 0 := congrFun e 0
    have e1 : win0_10.index t 1 = win0_10.index t' 1 := congrFun e 1
    have e2 : t.val % 12 = t'.val % 12 := ob_inj ⟨t.val % 12, by omega⟩ ⟨t'.val % 12, by omega⟩ z z' (by
      show ob (t.val % 12) = ob (t'.val % 12); omega)
    omega))

theorem disjoint11 (t t' : Fin cfg0.N) (h : (cfg0.win 11).flush t = true) (h' : (cfg0.win 11).flush t' = true) (hne : t ≠ t') :
    Disjoint ((cfg0.win 11).blk t).view.set ((cfg0.win 11).blk t').view.set :=
  (cfg0.win 11).disjoint_blk fun e => hne (Fin.ext (by
    have z := (fl_11 t).mp h
    have z' := (fl_11 t').mp h'
    have a := win_11 t
    have a' := win_11 t'
    have e0 : win0_11.index t 0 = win0_11.index t' 0 := congrFun e 0
    omega))

theorem disjoint12 (t t' : Fin cfg0.N) (h : (cfg0.win 12).flush t = true) (h' : (cfg0.win 12).flush t' = true) (hne : t ≠ t') :
    Disjoint ((cfg0.win 12).blk t).view.set ((cfg0.win 12).blk t').view.set :=
  (cfg0.win 12).disjoint_blk fun e => hne (Fin.ext (by
    have z := (fl_12 t).mp h
    have z' := (fl_12 t').mp h'
    have a := win_12 t
    have a' := win_12 t'
    have e0 : win0_12.index t 1 = win0_12.index t' 1 := congrFun e 1
    omega))

/-- The packed result after the run, at an index. -/
theorem arr10 (R : Fin 8192) (C : Fin 5632) (D : Fin 44) (l : Fin 128) (hC : C.val = D.val * 128 + l.val) : (dats m 0 c).arrAt 10 cfg0.N (ix2 R C)
    = packed (X0 m c) (X1 m c) (X2 m c) (X3 m c) (X4 m c) (X5 m c) R D.val l := by
  have hR := R.isLt
  have hD := D.isLt
  have hl := l.isLt
  have hN : cfg0.N = 96 := N_0
  obtain ⟨p1, p2, p3⟩ := pt_ok ⟨D.val / 4, by omega⟩
  replace p1 : pt (D.val / 4) < 12 := p1
  replace p2 : pt (D.val / 4) ≠ 0 := p2
  replace p3 : ob (pt (D.val / 4)) = D.val / 4 := p3
  let t : Fin cfg0.N := ⟨12 * (R.val / 1024) + pt (D.val / 4), by omega⟩
  let r : Fin 1024 := ⟨R.val % 1024, by omega⟩
  let s : Fin 4 := ⟨D.val % 4, by omega⟩
  have ht : t.val = 12 * (R.val / 1024) + pt (D.val / 4) := rfl
  have htm : t.val % 12 = pt (D.val / 4) := by omega
  have htd : t.val / 12 = R.val / 1024 := by omega
  have hz : t.val % 12 ≠ 0 := by omega
  have hob : ob (t.val % 12) = D.val / 4 := by rw [htm]; exact p3
  have hr : R.val = t.val / 12 * 1024 + r.val := by show R.val = t.val / 12 * 1024 + R.val % 1024; omega
  have hs : D.val = 4 * ob (t.val % 12) + s.val := by show D.val = 4 * ob (t.val % 12) + D.val % 4; omega
  have h := congrFun ((dats m 0 c).read_blk_arrAt_eq_flushed 10 disjoint10 cfg0.N t t.isLt ((fl_10 t).mpr hz)) (ix2 r (ln s l))
  rw [View.read_apply] at h
  refine Eq.trans (congrArg ((dats m 0 c).arrAt 10 cfg0.N) (?_ : _ = _)) (h.trans ?_)
  · funext a
    apply Fin.ext
    match a with
    | ⟨0, _⟩ => show R.val = win0_10.index t 0 * 1024 + 1 * r.val; rw [(win_10 t hz).1]; omega
    | ⟨1, _⟩ => show C.val = win0_10.index t 1 * 512 + 1 * (ln s l).val; rw [(win_10 t hz).2, ln_val]; omega
  · show oAt m c t (ix2 r (ln s l)) = _
    exact oAt_at m c t r R hr hz s l D.val hs

/-- The index weights after the run, at an index. -/
theorem arr11 (R : Fin 8192) (l : Fin 128) : (dats m 0 c).arrAt 11 cfg0.N (ix2 R l) = pr (X0 m c) (X2 m c) (X3 m c) R (5248 + l.val) * wc := by
  have hR := R.isLt
  have hN : cfg0.N = 96 := N_0
  let t : Fin cfg0.N := ⟨12 * (R.val / 1024) + 11, by omega⟩
  let r : Fin 1024 := ⟨R.val % 1024, by omega⟩
  have ht : t.val = 12 * (R.val / 1024) + 11 := rfl
  have hz : t.val % 12 = 11 := by omega
  have hr : R.val = t.val / 12 * 1024 + r.val := by show R.val = t.val / 12 * 1024 + R.val % 1024; omega
  have h := congrFun ((dats m 0 c).read_blk_arrAt_eq_flushed 11 disjoint11 cfg0.N t t.isLt ((fl_11 t).mpr hz)) (ix2 r l)
  rw [View.read_apply] at h
  refine Eq.trans (congrArg ((dats m 0 c).arrAt 11 cfg0.N) (?_ : _ = _)) (h.trans ?_)
  · funext a
    apply Fin.ext
    match a with
    | ⟨0, _⟩ => show R.val = win0_11.index t 0 * 1024 + 1 * r.val; rw [(win_11 t).1]; omega
    | ⟨1, _⟩ => show l.val = win0_11.index t 1 * 128 + 1 * l.val; rw [(win_11 t).2]; omega
  · show iwAt m c t (ix2 r l) = _
    exact iwAt_at m c t r R hr hz l

/-- The transposed values after the run, at an index. -/
theorem arr12 (R : Fin 8192) (d : Fin 512) : (dats m 0 c).arrAt 12 cfg0.N (ix2 d R) = pr (X0 m c) (X2 m c) (X3 m c) R (2560 + d.val) := by
  have hR := R.isLt
  have hN : cfg0.N = 96 := N_0
  let t : Fin cfg0.N := ⟨12 * (R.val / 1024) + 11, by omega⟩
  let r : Fin 1024 := ⟨R.val % 1024, by omega⟩
  have ht : t.val = 12 * (R.val / 1024) + 11 := rfl
  have hz : t.val % 12 = 11 := by omega
  have hr : R.val = t.val / 12 * 1024 + r.val := by show R.val = t.val / 12 * 1024 + R.val % 1024; omega
  have h := congrFun ((dats m 0 c).read_blk_arrAt_eq_flushed 12 disjoint12 cfg0.N t t.isLt ((fl_12 t).mpr hz)) (ix2 d r)
  rw [View.read_apply] at h
  refine Eq.trans (congrArg ((dats m 0 c).arrAt 12 cfg0.N) (?_ : _ = _)) (h.trans ?_)
  · funext a
    apply Fin.ext
    match a with
    | ⟨0, _⟩ => show d.val = win0_12.index t 0 * 512 + 1 * d.val; rw [(win_12 t).1]; omega
    | ⟨1, _⟩ => show R.val = win0_12.index t 1 * 1024 + 1 * r.val; rw [(win_12 t).2]; omega
  · show vtAt m c t (ix2 d r) = _
    exact vtAt_at m c t r R hr d

theorem packed_entry (R : Fin 8192) (C : Fin 5632) : (dats m 0 c).arrAt 10 cfg0.N (ix2 R C)
    = val_main_v166 (F := Ideal) (X0 m c) (X1 m c) (X2 m c) (X3 m c) (X4 m c) (X5 m c) (ix2 R C) := by
  have hC := C.isLt
  refine (arr10 m c R C ⟨C.val / 128, by omega⟩ ⟨C.val % 128, by omega⟩ (by show C.val = C.val / 128 * 128 + C.val % 128; omega)).trans ?_
  refine (v166 (X0 m c) (X1 m c) (X2 m c) (X3 m c) (X4 m c) (X5 m c) R ⟨C.val / 128, by omega⟩ ⟨C.val % 128, by omega⟩).symm.trans ?_
  refine congrArg (fun C => val_main_v166 (F := Ideal) (X0 m c) (X1 m c) (X2 m c) (X3 m c) (X4 m c) (X5 m c) (ix2 R C)) (Fin.ext ?_)
  show C.val / 128 * 128 + C.val % 128 = C.val
  omega

/-- The packed result is the reference's. -/
theorem value_eq0 : (dats m 0 c).arrAt 10 cfg0.N = val_main_v166 (F := Ideal) (X0 m c) (X1 m c) (X2 m c) (X3 m c) (X4 m c) (X5 m c) := by
  funext i
  idx_vars i
  exact packed_entry m c _ _

/-- The index weights are the reference's. -/
theorem value_eq1 : (dats m 0 c).arrAt 11 cfg0.N = val_main_v167 (F := Ideal) (X0 m c) (X2 m c) (X3 m c) := by
  funext i
  idx_vars i
  exact (arr11 m c _ _).trans (v167 (X0 m c) (X2 m c) (X3 m c) _ _).symm

/-- The transposed values are the reference's. -/
theorem value_eq2 : (dats m 0 c).arrAt 12 cfg0.N = val_main_v169 (F := Ideal) (X0 m c) (X2 m c) (X3 m c) := by
  funext i
  idx_vars i
  exact (arr12 m c _ _).trans (v169 (X0 m c) (X2 m c) (X3 m c) _ _).symm

/-- The kernel's run: the result arrays are the pipeline's, and the arguments are unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60_0) = (dats m 0 c).arrAt 10 cfg0.N
      ∧ r.2.mem ((c.tc : Thread nD τ).loc main_v60_1) = (dats m 0 c).arrAt 11 cfg0.N
      ∧ r.2.mem ((c.tc : Thread nD τ).loc main_v60_2) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 10, (h.1 c).1 11, (h.1 c).1 12, h.2.1 c⟩) (θ_run_and (run_main m ρ) (frame m ρ))

end Cert.Dsa
end
-- ==== Proof.Pool.Reads.lean ====
/- The pool mixer's blocks, read at an index: the rows, the gain, the group matrices, the offsets and the scale. -/
module

public import proofs.«01_k».proof.Proof.Gen.PoolKernelIdeal.Frame
public import Idealize.ShloMosaic.Lib.Pointwise

@[expose] public section
set_option maxRecDepth 16384
set_option maxHeartbeats 1000000
noncomputable section
open Idealize.ShloMosaic Idealize.ShloMosaic.Pointwise Idealize.ShloMosaic.TcCoe Idealize.SL.Sem
open Cert.PoolKernelIdeal Cert.PoolKernelIdeal.Gen
namespace Cert.Pool
variable (m : (ℓ : Loc nD τ sig) → Buf (Elt Ideal) ℓ) (c : Dev nD)

abbrev X0 : Vec Ideal S8192x2048 .f32 := m ((c : Thread nD τ).loc main_arg0)
abbrev X1 : Vec Ideal S1x2048 .f32 := m ((c : Thread nD τ).loc main_arg1)
abbrev X2 : Vec Ideal S1x4x512x512 .f32 := m ((c : Thread nD τ).loc main_arg2)
abbrev X3 : Vec Ideal S1x4x512 .f32 := m ((c : Thread nD τ).loc main_arg3)
abbrev X4 : Vec Ideal S1x2048 .f32 := m ((c : Thread nD τ).loc main_arg4)

theorem V_g (k : Fin 2048) : (V m c main_v4 : Vec Ideal S1x2048 .f32) (ix2 0 k) = X1 m c (ix2 0 k) := by
  have h : (V m c main_v4 : Vec Ideal S1x2048 .f32) = shapeCast S1x2048 (shapeCast S2048 (X1 m c) shapeCasts_S1x2048_S2048) shapeCasts_S2048_S1x2048 := by
    show StableHlo.after hostOps0 _ _ = _; after_results <;> rfl
  rw [h]
  pointwise []

theorem V_s (k : Fin 2048) : (V m c main_v6 : Vec Ideal S1x2048 .f32) (ix2 0 k) = X4 m c (ix2 0 k) := by
  have h : (V m c main_v6 : Vec Ideal S1x2048 .f32) = shapeCast S1x2048 (shapeCast S2048 (X4 m c) shapeCasts_S1x2048_S2048) shapeCasts_S2048_S1x2048 := by
    show StableHlo.after hostOps0 _ _ = _; after_results <;> rfl
  rw [h]
  pointwise []

theorem V_w (G : Fin 4) (x k : Fin 512) : (V m c main_v5 : Vec Ideal S4x512x512 .bf16) (ix3 G x k) = X2 m c (ix4 0 G x k) := by
  have h : (V m c main_v5 : Vec Ideal S4x512x512 .bf16) = truncf .bf16 (shapeCast S4x512x512 (X2 m c) shapeCasts_S1x4x512x512_S4x512x512 : FVec Ideal S4x512x512 .f32) bitsLt_bf16_f32 := by
    show StableHlo.after hostOps0 _ _ = _; after_results <;> rfl
  rw [h]
  pointwise []

theorem V_b (G : Fin 4) (k : Fin 512) : (V m c main_v2 : Vec Ideal S4x512 .f32) (ix2 G k) = X3 m c (ix3 0 G k) := by
  have h : (V m c main_v2 : Vec Ideal S4x512 .f32) = shapeCast S4x512 (X3 m c) shapeCasts_S1x4x512_S4x512 := by
    show StableHlo.after hostOps0 _ _ = _; after_results <;> rfl
  rw [h]
  pointwise []

theorem win_0 : ∀ t : Fin grid0.N, win0_0.index t 0 = t.val ∧ win0_0.index t 1 = 0 := by decide +kernel
theorem win_1 : ∀ t : Fin grid0.N, win0_1.index t 0 = 0 ∧ win0_1.index t 1 = 0 := by decide +kernel
theorem win_2 : ∀ t : Fin grid0.N, win0_2.index t 0 = 0 ∧ win0_2.index t 1 = 0 ∧ win0_2.index t 2 = 0 := by decide +kernel
theorem win_3 : ∀ t : Fin grid0.N, win0_3.index t 0 = 0 ∧ win0_3.index t 1 = 0 := by decide +kernel
theorem win_4 : ∀ t : Fin grid0.N, win0_4.index t 0 = 0 ∧ win0_4.index t 1 = 0 := by decide +kernel
theorem win_5 : ∀ t : Fin grid0.N, win0_5.index t 0 = t.val ∧ win0_5.index t 1 = 0 := by decide +kernel
theorem fl_5 : ∀ t : Fin grid0.N, (cfg0.win 5).flush t = true := by decide +kernel

theorem ib_x (t : Fin cfg0.N) (r : Fin 256) (k : Fin 2048) (R : Fin 8192) (hR : R.val = 256 * t.val + r.val) :
    (iblk m c 0 t : Vec Ideal S256x2048 .f32) (ix2 r k) = X0 m c (ix2 R k) := by
  unfold iblk; rw [View.read_apply]; show V m c main_arg0 _ = _; rw [V_main_arg0]; congr 1; funext a; apply Fin.ext
  match a with
  | ⟨0, _⟩ => show win0_0.index t 0 * 256 + 1 * r.val = R.val; rw [(win_0 t).1]; omega
  | ⟨1, _⟩ => show win0_0.index t 1 * 2048 + 1 * k.val = k.val; rw [(win_0 t).2]; omega

theorem ib_g (t : Fin cfg0.N) (k : Fin 2048) : (iblk m c 1 t : Vec Ideal S1x2048 .f32) (ix2 0 k) = X1 m c (ix2 0 k) := by
  rw [← V_g]
  unfold iblk; rw [View.read_apply]; show V m c main_v4 _ = _; congr 1; funext a; apply Fin.ext
  match a with
  | ⟨0, _⟩ => show win0_1.index t 0 * 1 + 1 * 0 = 0; rw [(win_1 t).1]
  | ⟨1, _⟩ => show win0_1.index t 1 * 2048 + 1 * k.val = k.val; rw [(win_1 t).2]; omega

theorem ib_w (t : Fin cfg0.N) (G : Fin 4) (x k : Fin 512) : (iblk m c 2 t : Vec Ideal S4x512x512 .bf16) (ix3 G x k) = X2 m c (ix4 0 G x k) := by
  rw [← V_w]
  unfold iblk; rw [View.read_apply]; show V m c main_v5 _ = _; congr 1; funext a; apply Fin.ext
  match a with
  | ⟨0, _⟩ => show win0_2.index t 0 * 4 + 1 * G.val = G.val; rw [(win_2 t).1]; omega
  | ⟨1, _⟩ => show win0_2.index t 1 * 512 + 1 * x.val = x.val; rw [(win_2 t).2.1]; omega
  | ⟨2, _⟩ => show win0_2.index t 2 * 512 + 1 * k.val = k.val; rw [(win_2 t).2.2]; omega

theorem ib_b (t : Fin cfg0.N) (G : Fin 4) (k : Fin 512) : (iblk m c 3 t : Vec Ideal S4x512 .f32) (ix2 G k) = X3 m c (ix3 0 G k) := by
  rw [← V_b]
  unfold iblk; rw [View.read_apply]; show V m c main_v2 _ = _; congr 1; funext a; apply Fin.ext
  match a with
  | ⟨0, _⟩ => show win0_3.index t 0 * 4 + 1 * G.val = G.val; rw [(win_3 t).1]; omega
  | ⟨1, _⟩ => show win0_3.index t 1 * 512 + 1 * k.val = k.val; rw [(win_3 t).2]; omega

theorem ib_s (t : Fin cfg0.N) (k : Fin 2048) : (iblk m c 4 t : Vec Ideal S1x2048 .f32) (ix2 0 k) = X4 m c (ix2 0 k) := by
  rw [← V_s]
  unfold iblk; rw [View.read_apply]; show V m c main_v6 _ = _; congr 1; funext a; apply Fin.ext
  match a with
  | ⟨0, _⟩ => show win0_4.index t 0 * 1 + 1 * 0 = 0; rw [(win_4 t).1]
  | ⟨1, _⟩ => show win0_4.index t 1 * 2048 + 1 * k.val = k.val; rw [(win_4 t).2]; omega

end Cert.Pool
end
-- ==== Proof.Pool.Cases.lean ====
/- The pool mixer's body, case by case: what a grid point leaves in the carried rows and in each column group of its
   output block, as the payloads of its stores. -/
module

public import proofs.«01_k».proof.Proof.Gen.PoolKernelIdeal.Frame
public import proofs.«01_k».proof.Proof.Gen.PoolKernelIdeal.Skeleton
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

open Idealize.ShloMosaic Idealize.ShloMosaic.Pointwise Idealize.ShloMosaic.TcCoe Idealize.SL.Sem

namespace Cert.PoolKernelIdeal.Cases

open Cert.PoolKernelIdeal Cert.PoolKernelIdeal.Gen

theorem z2 : (![0, 0] : Fin 2 → Nat) = fun _ => 0 := funext fun a => by fin_cases a <;> rfl

variable {F : FTy → Type} [FloatOps F]
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S4x512x512 .bf16) (h3 : a3.IsWhole)
  (a4 : Memref sig .tc .vmem S4x512 .f32) (h4 : a4.IsWhole) (a5 : Memref sig .tc .vmem S1x2048 .f32) (h5 : a5.IsWhole)
  (a6 : Memref sig .tc .vmem S256x2048 .f32) (h6 : a6.IsWhole) (a7 : Memref sig .tc .vmem S16x2048 .f32) (h7 : a7.IsWhole)
  (x0 : Vec F S256x2048 .f32) (x1 : Vec F S1x2048 .f32) (x2 : Vec F S4x512x512 .bf16) (x3 : Vec F S4x512 .f32)
  (x4 : Vec F S1x2048 .f32) (xs0 : Vec F S16x2048 .f32)

/-- The block's last rows are what the next block carries: first block. -/
theorem rows_A (hc0 : cond0_0 i) :
    sout0_A_0 c i a1 h1 a2 h2 a3 h3 a4 h4 a5 h5 a6 h6 a7 h7 hc0 x0 x1 x2 x3 x4 = k0_pay5 x0 x1 := by
  unfold sout0_A_0
  rw [View.read_writes_eq_canon _ _ _ (scover0_A_0 c i a1 h1 a2 h2 a3 h3 a4 h4 a5 h5 a6 h6 a7 h7 hc0 x0 x1 x2 x3 x4)]
  unfold kernelRun0_A
  dsimp only
  sl_unfold_words
  rw [View.canon_cons_unit_zero (S := S16x2048) z2]
  simp only [View.readAt_eq_ld, h1.read_unread, h2.read_unread, View.ld_unit_zero (S := S256x2048) z2, View.ld_unit_zero (S := S1x2048) z2]

/-- The block's last rows are what the next block carries: a later block. -/
theorem rows_B (hc0 : ¬cond0_0 i) :
    sout0_B_0 c i a1 h1 a2 h2 a3 h3 a4 h4 a5 h5 a6 h6 a7 h7 hc0 x0 x1 x2 x3 x4 xs0 = k0_pay5 x0 x1 := by
  unfold sout0_B_0
  rw [View.read_writes_eq_canon _ _ _ (scover0_B_0 c i a1 h1 a2 h2 a3 h3 a4 h4 a5 h5 a6 h6 a7 h7 hc0 x0 x1 x2 x3 x4 xs0)]
  unfold kernelRun0_B
  dsimp only
  sl_unfold_words
  rw [View.canon_unit_zero z2]
  simp only [View.readAt_eq_ld, h1.read_unread, h2.read_unread, View.ld_unit_zero (S := S256x2048) z2, View.ld_unit_zero (S := S1x2048) z2]

/-- The block's result at row `r` and column `C` of group `g`'s columns, as the read of the four stores. -/
def pieces (i : grid0.Coords) (x0 : Vec F S256x2048 .f32) (x1 : Vec F S1x2048 .f32) (x2 : Vec F S4x512x512 .bf16) (x3 : Vec F S4x512 .f32)
    (x4 : Vec F S1x2048 .f32) (xs0 : Vec F S16x2048 .f32) : List (View.Piece (Elt F) S256x2048 .f32) :=
        [⟨Rect.unit ![0, 1536] ![256, 512] inb_S256x2048_S256x512_0_1536,
            k0_pay1 x0 (k0_pay3 x0 x1) (k0_pay6 i) (k0_pay13 (k0_pay4 x0 x1 xs0)) (k0_pay14 (k0_pay4 x0 x1 xs0))
              (View.ld x2 (Rect.unit ![3, 0, 0] ![1, 512, 512] inb_S4x512x512_S1x512x512_3_0_0))
              (View.ld x3 (Rect.unit ![3, 0] ![1, 512] inb_S4x512_S1x512_3_0))
              (View.ld x4 (Rect.unit ![0, 1536] ![1, 512] inb_S1x2048_S1x512_0_1536))⟩,
          ⟨Rect.unit ![0, 1024] ![256, 512] inb_S256x2048_S256x512_0_1024,
            k0_pay12 x0 (k0_pay3 x0 x1) (k0_pay4 x0 x1 xs0) (k0_pay6 i)
              (View.ld x2 (Rect.unit ![2, 0, 0] ![1, 512, 512] inb_S4x512x512_S1x512x512_2_0_0))
              (View.ld x3 (Rect.unit ![2, 0] ![1, 512] inb_S4x512_S1x512_2_0))
              (View.ld x4 (Rect.unit ![0, 1024] ![1, 512] inb_S1x2048_S1x512_0_1024))⟩,
          ⟨Rect.unit ![0, 512] ![256, 512] inb_S256x2048_S256x512_0_512,
            k0_pay11 (k0_pay9 x0)
              (k0_pay10 (k0_pay3 x0 x1) (k0_pay4 x0 x1 xs0) (k0_pay6 i)
                (View.ld x2 (Rect.unit ![1, 0, 0] ![1, 512, 512] inb_S4x512x512_S1x512x512_1_0_0))
                (View.ld x3 (Rect.unit ![1, 0] ![1, 512] inb_S4x512_S1x512_1_0))
                (View.ld x4 (Rect.unit ![0, 512] ![1, 512] inb_S1x2048_S1x512_0_512)))⟩,
          ⟨Rect.unit ![0, 0] ![256, 512] inb_S256x2048_S256x512_0_0,
            k0_pay8 x0 (k0_pay7 i x0 x1 xs0)
              (View.ld x2 (Rect.unit ![0, 0, 0] ![1, 512, 512] inb_S4x512x512_S1x512x512_0_0_0))
              (View.ld x3 (Rect.unit ![0, 0] ![1, 512] inb_S4x512_S1x512_0_0))
              (View.ld x4 (Rect.unit ![0, 0] ![1, 512] inb_S1x2048_S1x512_0_0))⟩]

theorem out_B (hc0 : ¬cond0_0 i) :
    out0_B_5 c i a1 h1 a2 h2 a3 h3 a4 h4 a5 h5 a6 h6 a7 h7 hc0 x0 x1 x2 x3 x4 xs0
      = VO0_5.read (Elt F) (VO0_5.writes (Elt F) VO0_5.junk (pieces i x0 x1 x2 x3 x4 xs0)) := by
  unfold out0_B_5
  unfold kernelRun0_B
  dsimp only
  sl_unfold_words
  simp only [View.readAt_eq_ld, h1.read_unread, h2.read_unread, h3.read_unread, h4.read_unread, h5.read_unread, h7.read_unread, View.ld_unit_zero (S := S256x2048) z2, View.ld_unit_zero (S := S1x2048) z2, View.ld_unit_zero (S := S16x2048) z2]
  rfl

theorem out_A (hc0 : cond0_0 i) :
    out0_A_5 c i a1 h1 a2 h2 a3 h3 a4 h4 a5 h5 a6 h6 a7 h7 hc0 x0 x1 x2 x3 x4
      = VO0_5.read (Elt F) (VO0_5.writes (Elt F) VO0_5.junk (pieces i x0 x1 x2 x3 x4 k0_pay2)) := by
  unfold out0_A_5
  unfold kernelRun0_A
  dsimp only
  sl_unfold_words
  simp only [View.readCov_unit_zero (S := S16x2048) _ z2, View.readAt_eq_ld, h1.read_unread, h2.read_unread, h3.read_unread, h4.read_unread, h5.read_unread, h7.read_unread, View.ld_unit_zero (S := S256x2048) z2, View.ld_unit_zero (S := S1x2048) z2, View.ld_unit_zero (S := S16x2048) z2]
  rfl

theorem off (o : ℕ) (r : Fin 256) (k : Fin 512) (C : Fin 2048) (h : C.val = o + k.val) :
    ∀ a : Fin 2, ((ix2 r C : S256x2048.Idx) a).val = (![0, o] : Fin 2 → Nat) a + ((ix2 r k : S256x512.Idx) a).val := by
  intro a
  match a with
  | ⟨0, _⟩ => exact (Nat.zero_add _).symm
  | ⟨1, _⟩ => exact h

theorem grp3 (r : Fin 256) (k : Fin 512) (C : Fin 2048) (h : C.val = 1536 + k.val) :
    VO0_5.read (Elt F) (VO0_5.writes (Elt F) VO0_5.junk (pieces i x0 x1 x2 x3 x4 xs0)) (ix2 r C)
      = k0_pay1 x0 (k0_pay3 x0 x1) (k0_pay6 i) (k0_pay13 (k0_pay4 x0 x1 xs0)) (k0_pay14 (k0_pay4 x0 x1 xs0))
          (View.ld x2 (Rect.unit ![3, 0, 0] ![1, 512, 512] inb_S4x512x512_S1x512x512_3_0_0))
          (View.ld x3 (Rect.unit ![3, 0] ![1, 512] inb_S4x512_S1x512_3_0))
          (View.ld x4 (Rect.unit ![0, 1536] ![1, 512] inb_S1x2048_S1x512_0_1536)) (ix2 r k) :=
  View.read_writes_cons_unit_of_mem VO0_5 _ _ _ _ (ix2 r C) (ix2 r k) rfl (off 1536 r k C h)

theorem grp2 (r : Fin 256) (k : Fin 512) (C : Fin 2048) (h : C.val = 1024 + k.val) :
    VO0_5.read (Elt F) (VO0_5.writes (Elt F) VO0_5.junk (pieces i x0 x1 x2 x3 x4 xs0)) (ix2 r C)
      = k0_pay12 x0 (k0_pay3 x0 x1) (k0_pay4 x0 x1 xs0) (k0_pay6 i)
              (View.ld x2 (Rect.unit ![2, 0, 0] ![1, 512, 512] inb_S4x512x512_S1x512x512_2_0_0))
              (View.ld x3 (Rect.unit ![2, 0] ![1, 512] inb_S4x512_S1x512_2_0))
              (View.ld x4 (Rect.unit ![0, 1024] ![1, 512] inb_S1x2048_S1x512_0_1024)) (ix2 r k) :=
  (View.read_writes_cons_unit_of_not_mem VO0_5 _ _ _ _ (ix2 r C) (off' := (![0, 1536] : Fin 2 → ℕ)) rfl 1 (.inl (by show C.val < 1536; omega))).trans
  (View.read_writes_cons_unit_of_mem VO0_5 _ _ _ _ (ix2 r C) (ix2 r k) rfl (off 1024 r k C h))

theorem grp1 (r : Fin 256) (k : Fin 512) (C : Fin 2048) (h : C.val = 512 + k.val) :
    VO0_5.read (Elt F) (VO0_5.writes (Elt F) VO0_5.junk (pieces i x0 x1 x2 x3 x4 xs0)) (ix2 r C)
      = k0_pay11 (k0_pay9 x0)
              (k0_pay10 (k0_pay3 x0 x1) (k0_pay4 x0 x1 xs0) (k0_pay6 i)
                (View.ld x2 (Rect.unit ![1, 0, 0] ![1, 512, 512] inb_S4x512x512_S1x512x512_1_0_0))
                (View.ld x3 (Rect.unit ![1, 0] ![1, 512] inb_S4x512_S1x512_1_0))
                (View.ld x4 (Rect.unit ![0, 512] ![1, 512] inb_S1x2048_S1x512_0_512))) (ix2 r k) :=
  (View.read_writes_cons_unit_of_not_mem VO0_5 _ _ _ _ (ix2 r C) (off' := (![0, 1536] : Fin 2 → ℕ)) rfl 1 (.inl (by show C.val < 1536; omega))).trans
  ((View.read_writes_cons_unit_of_not_mem VO0_5 _ _ _ _ (ix2 r C) (off' := (![0, 1024] : Fin 2 → ℕ)) rfl 1 (.inl (by show C.val < 1024; omega))).trans
  (View.read_writes_cons_unit_of_mem VO0_5 _ _ _ _ (ix2 r C) (ix2 r k) rfl (off 512 r k C h)))

theorem grp0 (r : Fin 256) (k : Fin 512) (C : Fin 2048) (h : C.val = 0 + k.val) :
    VO0_5.read (Elt F) (VO0_5.writes (Elt F) VO0_5.junk (pieces i x0 x1 x2 x3 x4 xs0)) (ix2 r C)
      = k0_pay8 x0 (k0_pay7 i x0 x1 xs0)
              (View.ld x2 (Rect.unit ![0, 0, 0] ![1, 512, 512] inb_S4x512x512_S1x512x512_0_0_0))
              (View.ld x3 (Rect.unit ![0, 0] ![1, 512] inb_S4x512_S1x512_0_0))
              (View.ld x4 (Rect.unit ![0, 0] ![1, 512] inb_S1x2048_S1x512_0_0)) (ix2 r k) :=
  (View.read_writes_cons_unit_of_not_mem VO0_5 _ _ _ _ (ix2 r C) (off' := (![0, 1536] : Fin 2 → ℕ)) rfl 1 (.inl (by show C.val < 1536; omega))).trans
  ((View.read_writes_cons_unit_of_not_mem VO0_5 _ _ _ _ (ix2 r C) (off' := (![0, 1024] : Fin 2 → ℕ)) rfl 1 (.inl (by show C.val < 1024; omega))).trans
  ((View.read_writes_cons_unit_of_not_mem VO0_5 _ _ _ _ (ix2 r C) (off' := (![0, 512] : Fin 2 → ℕ)) rfl 1 (.inl (by show C.val < 512; omega))).trans
  (View.read_writes_cons_unit_of_mem VO0_5 _ _ _ _ (ix2 r C) (ix2 r k) rfl (off 0 r k C h))))

end Cert.PoolKernelIdeal.Cases
-- ==== Proof.Pool.Spec.lean ====
/- The pool mixer's mathematics: normalised rows, sums of a row with the rows before it, and the result. -/
module

public import Idealize.ShloMosaic.Lib.Pointwise
public import Idealize.ShloMosaic.PureOps.Ideal
public import proofs.«01_k».proof.PoolReferenceIdeal

@[expose] public section
set_option maxRecDepth 16384
set_option maxHeartbeats 1000000
noncomputable section
open Idealize.ShloMosaic Idealize.ShloMosaic.Pointwise Idealize.ShloMosaic.TcCoe Idealize.SL.Sem

open Cert.PoolReferenceIdeal
namespace Cert.Pool

variable (X : Vec Ideal S8192x2048 .f32) (g : Vec Ideal S1x2048 .f32) (W : Vec Ideal S1x4x512x512 .f32)
  (B : Vec Ideal S1x4x512 .f32) (S : Vec Ideal S1x2048 .f32)

/-- Row `R` normalised, at column `C`. -/
def h (R : Fin 8192) (C : Fin 2048) : EReal :=
  X (ix2 R C) * Ideal.rsqrt (Ideal.div (∑ x, X (ix2 R x) * X (ix2 R x)) (Ideal.ofBits FTy.f32 0x45000000#32) + Ideal.ofBits FTy.f32 0x358637BD#32) * g (ix2 0 C)

/-- The normalised rows with sixteen zero rows in front, counted from the first zero row. -/
def hN (n : ℕ) (C : Fin 2048) : EReal := if hn : 16 ≤ n ∧ n - 16 < 8192 then h X g ⟨n - 16, hn.2⟩ C else 0

/-- The sum of `f` at `N` and at the `w - 1` places before it. -/
def lagSum (f : ℕ → EReal) (w N : ℕ) : EReal := ∑ j ∈ Finset.range w, f (N - j)

/-- A row's number, counted from one, as the programs make it. -/
def t1 (R : Fin 8192) : EReal := FloatOps.sitofp (F := Ideal) FTy.f32 (IntOp.addi 1#32 (BitVec.ofNat 32 R.val))

/-- Group `G`'s columns. -/
def col (G : Fin 4) (x : Fin 512) : Fin 2048 := ⟨512 * G.val + x.val, by omega⟩

/-- The trailing mean over `w` rows less the row, at row `R` and column `x` of group `G`. -/
def dev (w : ℕ) (wb : BitVec 32) (G : Fin 4) (R : Fin 8192) (x : Fin 512) : EReal :=
  Ideal.div (lagSum (fun n => hN X g n (col G x)) w (R.val + 16)) (min (t1 R) (Ideal.ofBits FTy.f32 wb)) - h X g R (col G x)

/-- Group `G`'s part of the result, at row `R` and its column `k`. -/
def out (w : ℕ) (wb : BitVec 32) (G : Fin 4) (R : Fin 8192) (k : Fin 512) : EReal :=
  X (ix2 R (col G k)) + (∑ x, dev X g w wb G R x * W (ix4 0 G x k) + B (ix3 0 G k)) * S (ix2 0 (col G k))

theorem hN_row (R : Fin 8192) (C : Fin 2048) (n : ℕ) (hn : n = R.val + 16) : hN X g n C = h X g R C := by
  subst hn
  unfold hN
  rw [dif_pos ⟨by omega, by omega⟩]
  exact congrArg (fun R => h X g R C) (Fin.ext (by show R.val + 16 - 16 = R.val; omega))

theorem hN_zero (C : Fin 2048) (n : ℕ) (hn : n < 16) : hN X g n C = 0 := dif_neg fun hh => absurd hh.1 (by omega)

theorem lag2 (f : ℕ → EReal) (N : ℕ) : f N + f (N - 1) = lagSum f 2 N := by
  unfold lagSum
  simp only [Finset.sum_range_succ, Finset.sum_range_zero, zero_add, Nat.sub_zero]

theorem lag4 (f : ℕ → EReal) (N : ℕ) : f N + f (N - 1) + (f (N - 2) + f (N - 3)) = lagSum f 4 N := by
  unfold lagSum
  simp only [Finset.sum_range_succ, Finset.sum_range_zero, zero_add, Nat.sub_zero, add_assoc]

theorem lag8 (f : ℕ → EReal) (N : ℕ) :
    f N + f (N - 1) + (f (N - 2) + f (N - 3)) + (f (N - 4) + f (N - 5) + (f (N - 6) + f (N - 7))) = lagSum f 8 N := by
  unfold lagSum
  simp only [Finset.sum_range_succ, Finset.sum_range_zero, zero_add, Nat.sub_zero, add_assoc]

theorem lag16 (f : ℕ → EReal) (N : ℕ) : lagSum f 8 N + lagSum f 8 (N - 8) = lagSum f 16 N := by
  unfold lagSum
  rw [show (16 : ℕ) = 8 + 8 from rfl, Finset.sum_range_add]
  exact congrArg (_ + ·) (Finset.sum_congr rfl fun j _ => congrArg f (Nat.sub_sub N 8 j))

end Cert.Pool
end
-- ==== Proof.Pool.Pay.lean ====
/- The pool mixer's payloads, read at an index. -/
module

public import proofs.«01_k».proof.Proof.Pool.Cases
public import proofs.«01_k».proof.Proof.Pool.Spec

@[expose] public section
set_option maxRecDepth 16384
set_option maxHeartbeats 8000000
noncomputable section
open Idealize.ShloMosaic Idealize.ShloMosaic.Pointwise Idealize.ShloMosaic.TcCoe Idealize.SL.Sem

open Cert.PoolKernelIdeal Cert.PoolKernelIdeal.Gen
namespace Cert.Pool

theorem pay3_apply (v3 : Vec Ideal S256x2048 .f32) (v4 : Vec Ideal S1x2048 .f32) (r : Fin 256) (k : Fin 2048) :
    k0_pay3 v3 v4 (ix2 r k) = v3 (ix2 r k) * Ideal.rsqrt (Ideal.div (∑ x, v3 (ix2 r x) * v3 (ix2 r x)) (Ideal.ofBits FTy.f32 0x45000000#32) + Ideal.ofBits FTy.f32 0x358637BD#32) * v4 (ix2 0 k) := by
  pointwise [k0_pay3]

theorem pay4_apply (v3 : Vec Ideal S256x2048 .f32) (v4 : Vec Ideal S1x2048 .f32) (v18 : Vec Ideal S16x2048 .f32) (r : Fin 272) (k : Fin 2048) :
    k0_pay4 v3 v4 v18 (ix2 r k) = if h : r.val < 16 then v18 (ix2 ⟨r.val, h⟩ k) else k0_pay3 v3 v4 (ix2 ⟨r.val - 16, by omega⟩ k) := by
  pointwise [k0_pay4]

theorem pay5_apply (v3 : Vec Ideal S256x2048 .f32) (v4 : Vec Ideal S1x2048 .f32) (r : Fin 16) (k : Fin 2048) :
    k0_pay5 v3 v4 (ix2 r k) = k0_pay3 v3 v4 (ix2 ⟨240 + r.val, by omega⟩ k) := by
  pointwise [k0_pay5]

theorem pay2_apply (r : Fin 16) (k : Fin 2048) : k0_pay2 (F := Ideal) (ix2 r k) = 0 := by
  pointwise [k0_pay2]

theorem col0 (x : Fin 512) : col 0 x = ⟨x.val, by omega⟩ := Fin.ext (by show 512 * 0 + x.val = x.val; omega)
theorem col1 (x : Fin 512) : col 1 x = ⟨512 + x.val, by omega⟩ := rfl
theorem col2 (x : Fin 512) : col 2 x = ⟨1024 + x.val, by omega⟩ := rfl
theorem col3 (x : Fin 512) : col 3 x = ⟨1536 + x.val, by omega⟩ := rfl

theorem co : ∀ t : Fin grid0.N, (grid0.coords t 0).val = t.val := by decide +kernel

theorem pay6_apply (t : Fin grid0.N) (r : Fin 256) (k : Fin 512) (R : Fin 8192) (hR : R.val = 256 * t.val + r.val) :
    k0_pay6 (F := Ideal) (grid0.coords t) (ix2 r k) = t1 R := by
  pointwise [k0_pay6]
  unfold t1
  refine congrArg (FloatOps.sitofp (F := Ideal) FTy.f32) (BitVec.eq_of_toNat_eq ?_)
  rw [co t, hR]
  have hr := r.isLt
  have hb := R.isLt
  simp only [IntOp.addi, Scalar.addi, Scalar.muli, IntOp.muli, BitVec.toNat_add, BitVec.toNat_mul, BitVec.toNat_ofNat]
  omega

theorem grp0_apply (v3 : Vec Ideal S256x2048 .f32) (v4 : Vec Ideal S1x2048 .f32) (v18 : Vec Ideal S16x2048 .f32) (i : grid0.Coords)
    (w : Vec Ideal S1x512x512 .bf16) (b s : Vec Ideal S1x512 .f32) (r : Fin 256) (k : Fin 512) (f : ℕ → Fin 2048 → EReal) (M : ℕ)
    (hf : ∀ (e : Fin 272) (C : Fin 2048), k0_pay4 v3 v4 v18 (ix2 e C) = f (M + e.val) C) :
    (k0_pay8 v3 (k0_pay7 i v3 v4 v18) w b s) (ix2 r k)
      = v3 (ix2 r (col 0 k)) + (∑ x, (Ideal.div (lagSum (fun n => f n (col 0 x)) 2 (M + (16 + r.val))) (min (k0_pay6 (F := Ideal) i (ix2 r x)) (Ideal.ofBits FTy.f32 0x40000000#32))
          - k0_pay3 v3 v4 (ix2 r (col 0 x))) * w (ix3 0 x k) + b (ix2 0 k)) * s (ix2 0 k) := by
  have hr := r.isLt
  have key : ∀ x : Fin 512, lagSum (fun n => f n (col 0 x)) 2 (M + (16 + r.val)) = (f (M + (16 + r.val)) (col 0 x) + f (M + (16 + r.val) - 1) (col 0 x)) := fun x => (lag2 _ _).symm
  pointwise [k0_pay8, k0_pay7]
  have a16_1 : (16 + r.val + 272 - 1) % 272 = 15 + r.val := by omega
  have b1 : M + (16 + r.val) - 1 = M + (15 + r.val) := by omega
  simp only [key]
  simp only [hf, col0, a16_1, b1]

theorem grp1_apply (v3 : Vec Ideal S256x2048 .f32) (v4 : Vec Ideal S1x2048 .f32) (v18 : Vec Ideal S16x2048 .f32) (i : grid0.Coords)
    (w : Vec Ideal S1x512x512 .bf16) (b s : Vec Ideal S1x512 .f32) (r : Fin 256) (k : Fin 512) (f : ℕ → Fin 2048 → EReal) (M : ℕ)
    (hf : ∀ (e : Fin 272) (C : Fin 2048), k0_pay4 v3 v4 v18 (ix2 e C) = f (M + e.val) C) :
    (k0_pay11 (k0_pay9 v3) (k0_pay10 (k0_pay3 v3 v4) (k0_pay4 v3 v4 v18) (k0_pay6 i) w b s)) (ix2 r k)
      = v3 (ix2 r (col 1 k)) + (∑ x, (Ideal.div (lagSum (fun n => f n (col 1 x)) 4 (M + (16 + r.val))) (min (k0_pay6 (F := Ideal) i (ix2 r x)) (Ideal.ofBits FTy.f32 0x40800000#32))
          - k0_pay3 v3 v4 (ix2 r (col 1 x))) * w (ix3 0 x k) + b (ix2 0 k)) * s (ix2 0 k) := by
  have hr := r.isLt
  have key : ∀ x : Fin 512, lagSum (fun n => f n (col 1 x)) 4 (M + (16 + r.val)) = ((f (M + (16 + r.val)) (col 1 x) + f (M + (16 + r.val) - 1) (col 1 x)) + (f (M + (16 + r.val) - 2) (col 1 x) + f (M + (16 + r.val) - 3) (col 1 x))) := fun x => (lag4 _ _).symm
  pointwise [k0_pay11, k0_pay9, k0_pay10]
  have a16_1 : (16 + r.val + 272 - 1) % 272 = 15 + r.val := by omega
  have a16_2 : (16 + r.val + 272 - 2) % 272 = 14 + r.val := by omega
  have a14_1 : (14 + r.val + 272 - 1) % 272 = 13 + r.val := by omega
  have b1 : M + (16 + r.val) - 1 = M + (15 + r.val) := by omega
  have b2 : M + (16 + r.val) - 2 = M + (14 + r.val) := by omega
  have b3 : M + (16 + r.val) - 3 = M + (13 + r.val) := by omega
  simp only [key]
  simp only [hf, col1, a16_1, a16_2, a14_1, b1, b2, b3]

theorem grp2_apply (v3 : Vec Ideal S256x2048 .f32) (v4 : Vec Ideal S1x2048 .f32) (v18 : Vec Ideal S16x2048 .f32) (i : grid0.Coords)
    (w : Vec Ideal S1x512x512 .bf16) (b s : Vec Ideal S1x512 .f32) (r : Fin 256) (k : Fin 512) (f : ℕ → Fin 2048 → EReal) (M : ℕ)
    (hf : ∀ (e : Fin 272) (C : Fin 2048), k0_pay4 v3 v4 v18 (ix2 e C) = f (M + e.val) C) :
    (k0_pay12 v3 (k0_pay3 v3 v4) (k0_pay4 v3 v4 v18) (k0_pay6 i) w b s) (ix2 r k)
      = v3 (ix2 r (col 2 k)) + (∑ x, (Ideal.div (lagSum (fun n => f n (col 2 x)) 8 (M + (16 + r.val))) (min (k0_pay6 (F := Ideal) i (ix2 r x)) (Ideal.ofBits FTy.f32 0x41000000#32))
          - k0_pay3 v3 v4 (ix2 r (col 2 x))) * w (ix3 0 x k) + b (ix2 0 k)) * s (ix2 0 k) := by
  have hr := r.isLt
  have key : ∀ x : Fin 512, lagSum (fun n => f n (col 2 x)) 8 (M + (16 + r.val)) = (((f (M + (16 + r.val)) (col 2 x) + f (M + (16 + r.val) - 1) (col 2 x)) + (f (M + (16 + r.val) - 2) (col 2 x) + f (M + (16 + r.val) - 3) (col 2 x))) + ((f (M + (16 + r.val) - 4) (col 2 x) + f (M + (16 + r.val) - 5) (col 2 x)) + (f (M + (16 + r.val) - 6) (col 2 x) + f (M + (16 + r.val) - 7) (col 2 x)))) := fun x => (lag8 _ _).symm
  pointwise [k0_pay12]
  have a16_1 : (16 + r.val + 272 - 1) % 272 = 15 + r.val := by omega
  have a16_2 : (16 + r.val + 272 - 2) % 272 = 14 + r.val := by omega
  have a16_4 : (16 + r.val + 272 - 4) % 272 = 12 + r.val := by omega
  have a14_1 : (14 + r.val + 272 - 1) % 272 = 13 + r.val := by omega
  have a12_1 : (12 + r.val + 272 - 1) % 272 = 11 + r.val := by omega
  have a12_2 : (12 + r.val + 272 - 2) % 272 = 10 + r.val := by omega
  have a10_1 : (10 + r.val + 272 - 1) % 272 = 9 + r.val := by omega
  have b1 : M + (16 + r.val) - 1 = M + (15 + r.val) := by omega
  have b2 : M + (16 + r.val) - 2 = M + (14 + r.val) := by omega
  have b3 : M + (16 + r.val) - 3 = M + (13 + r.val) := by omega
  have b4 : M + (16 + r.val) - 4 = M + (12 + r.val) := by omega
  have b5 : M + (16 + r.val) - 5 = M + (11 + r.val) := by omega
  have b6 : M + (16 + r.val) - 6 = M + (10 + r.val) := by omega
  have b7 : M + (16 + r.val) - 7 = M + (9 + r.val) := by omega
  simp only [key]
  simp only [hf, col2, a16_1, a16_2, a16_4, a14_1, a12_1, a12_2, a10_1, b1, b2, b3, b4, b5, b6, b7]

theorem pay13_apply (v19 : FVec Ideal S272x2048 .f32) (f : ℕ → Fin 2048 → EReal) (M : ℕ)
    (hf : ∀ (e : Fin 272) (C : Fin 2048), v19 (ix2 e C) = f (M + e.val) C) (e : Fin 272) (he : 8 ≤ e.val) (x : Fin 512) :
    k0_pay13 v19 (ix2 e x) = lagSum (fun n => f n (col 3 x)) 8 (M + e.val) := by
  have hr := e.isLt
  pointwise [k0_pay13]
  have a1 : (e.val + 272 - 1) % 272 = e.val - 1 := by omega
  have a2 : (e.val + 272 - 2) % 272 = e.val - 2 := by omega
  have a3 : (e.val - 2 + 272 - 1) % 272 = e.val - 3 := by omega
  have a4 : (e.val + 272 - 4) % 272 = e.val - 4 := by omega
  have a5 : (e.val - 4 + 272 - 1) % 272 = e.val - 5 := by omega
  have a6 : (e.val - 4 + 272 - 2) % 272 = e.val - 6 := by omega
  have a7 : (e.val - 6 + 272 - 1) % 272 = e.val - 7 := by omega
  have b1 : M + e.val - 1 = M + (e.val - 1) := by omega
  have b2 : M + e.val - 2 = M + (e.val - 2) := by omega
  have b3 : M + e.val - 3 = M + (e.val - 3) := by omega
  have b4 : M + e.val - 4 = M + (e.val - 4) := by omega
  have b5 : M + e.val - 5 = M + (e.val - 5) := by omega
  have b6 : M + e.val - 6 = M + (e.val - 6) := by omega
  have b7 : M + e.val - 7 = M + (e.val - 7) := by omega
  rw [← lag8]
  simp only [hf, col3, a1, a2, a3, a4, a5, a6, a7, b1, b2, b3, b4, b5, b6, b7]

theorem pay14_apply (v19 : FVec Ideal S272x2048 .f32) (e e' : Fin 272) (he : e.val = e'.val + 8) (x : Fin 512) :
    k0_pay14 v19 (ix2 e x) = k0_pay13 v19 (ix2 e' x) := by
  have hr := e.isLt
  pointwise [k0_pay14]
  exact congrArg (fun e => k0_pay13 v19 (ix2 e x)) (Fin.ext (by show (e.val + 272 - 8) % 272 = e'.val; omega))

theorem grp3_apply (v3 : Vec Ideal S256x2048 .f32) (v4 : Vec Ideal S1x2048 .f32) (v18 : Vec Ideal S16x2048 .f32) (i : grid0.Coords)
    (w : Vec Ideal S1x512x512 .bf16) (b s : Vec Ideal S1x512 .f32) (r : Fin 256) (k : Fin 512) (f : ℕ → Fin 2048 → EReal) (M : ℕ)
    (hf : ∀ (e : Fin 272) (C : Fin 2048), k0_pay4 v3 v4 v18 (ix2 e C) = f (M + e.val) C) :
    (k0_pay1 v3 (k0_pay3 v3 v4) (k0_pay6 i) (k0_pay13 (k0_pay4 v3 v4 v18)) (k0_pay14 (k0_pay4 v3 v4 v18)) w b s) (ix2 r k)
      = v3 (ix2 r (col 3 k)) + (∑ x, (Ideal.div (lagSum (fun n => f n (col 3 x)) 16 (M + (16 + r.val))) (min (k0_pay6 (F := Ideal) i (ix2 r x)) (Ideal.ofBits FTy.f32 0x41800000#32))
          - k0_pay3 v3 v4 (ix2 r (col 3 x))) * w (ix3 0 x k) + b (ix2 0 k)) * s (ix2 0 k) := by
  have hr := r.isLt
  have hr := r.isLt
  have key : ∀ x : Fin 512, k0_pay13 (k0_pay4 v3 v4 v18) (ix2 ⟨16 + r.val, by omega⟩ x) + k0_pay14 (k0_pay4 v3 v4 v18) (ix2 ⟨16 + r.val, by omega⟩ x)
      = lagSum (fun n => f n (col 3 x)) 16 (M + (16 + r.val)) := fun x => by
    rw [pay14_apply _ ⟨16 + r.val, by omega⟩ ⟨8 + r.val, by omega⟩ (by show 16 + r.val = 8 + r.val + 8; omega), pay13_apply _ f M hf _ (by show 8 ≤ 16 + r.val; omega), pay13_apply _ f M hf _ (by show 8 ≤ 8 + r.val; omega), ← lag16]
    exact congrArg (fun n => _ + lagSum (fun n => f n (col 3 x)) 8 n) (by show M + (8 + r.val) = M + (16 + r.val) - 8; omega)
  simp only [← key]
  generalize k0_pay13 (k0_pay4 v3 v4 v18) = p
  generalize k0_pay14 (k0_pay4 v3 v4 v18) = q
  pointwise [k0_pay1]
  simp only [col3]

end Cert.Pool
end
-- ==== Proof.Pool.Ref.lean ====
/- The pool mixer's reference, read at an index. -/
module

public import proofs.«01_k».proof.Proof.Gen.PoolReferenceIdeal.Read
public import proofs.«01_k».proof.Proof.Pool.Spec
public import Idealize.ShloMosaic.Lib.Routing.OpsOne

@[expose] public section
set_option maxRecDepth 16384
set_option maxHeartbeats 1000000
noncomputable section
open Idealize.ShloMosaic Idealize.ShloMosaic.Pointwise Idealize.ShloMosaic.TcCoe Idealize.SL.Sem

open Cert.PoolReferenceIdeal Cert.PoolReferenceIdeal.Gen Cert.PoolReferenceIdeal.Read
namespace Cert.Pool

theorem foldl_sum {ι : Type} (f : ι → EReal) (l : List ι) (a : EReal) : l.foldl (fun r n => r + f n) a = a + (l.map f).sum := by
  induction l generalizing a with
  | nil => exact (add_zero a).symm
  | cons x l ih => rw [List.foldl_cons, ih, List.map_cons, List.sum_cons, add_assoc]

/-- A window of `w` rows that ends at the row: the sum over the rows inside. -/
theorem window_sum (w m : ℕ) (hm : m + 1 = w) (x : S8192x512.Idx → EReal) (hw : S8192x512.ReduceWindows (![w, 1] : Fin 2 → Nat) ![1, 1] ![m, 0] ![0, 0] S8192x512)
    (j : Fin 8192) (c : Fin 512) :
    Ideal.hostReduceWindowAdd (s := S8192x512) ![w, 1] ![1, 1] ![m, 0] ![0, 0] hw x 0 (ix2 j c)
      = ∑ n ∈ Finset.range w, if hn : m ≤ j.val + n ∧ j.val + n - m < 8192 then x (ix2 ⟨j.val + n - m, hn.2⟩ c) else 0 := by
  unfold Ideal.hostReduceWindowAdd Host.reduceWindow
  refine (foldl_sum _ _ _).trans ?_
  rw [zero_add, ← Fin.sum_univ_def]
  have hj := j.isLt
  have hc := c.isLt
  let G : ℕ → EReal := fun n => if hn : m ≤ j.val + n ∧ j.val + n - m < 8192 then x (ix2 ⟨j.val + n - m, hn.2⟩ c) else 0
  show _ = ∑ n ∈ Finset.range w, G n
  have hnum : (⟨2, ![w, 1]⟩ : Shape).numel = w := Idealize.ShloMosaic.Routing.numel_col w
  refine Eq.trans ?_ ((Fin.sum_univ_eq_sum_range G _).trans (congrArg (fun q => ∑ n ∈ Finset.range q, G n) hnum))
  refine Finset.sum_congr rfl fun n _ => ?_
  have hn : n.val < w := (n.cast hnum).isLt
  have hw0 : ((⟨2, ![w, 1]⟩ : Shape).rowMajor.symm n 0).val = n.val := by
    rw [show (⟨2, ![w, 1]⟩ : Shape).rowMajor.symm n = _ from Idealize.ShloMosaic.Routing.symm_col n]; rfl
  have hw1 : ((⟨2, ![w, 1]⟩ : Shape).rowMajor.symm n 1).val = 0 := by
    rw [show (⟨2, ![w, 1]⟩ : Shape).rowMajor.symm n = _ from Idealize.ShloMosaic.Routing.symm_col n]; rfl
  change _ = if hn : m ≤ j.val + n.val ∧ j.val + n.val - m < 8192 then x (ix2 ⟨j.val + n.val - m, hn.2⟩ c) else 0
  by_cases hg : m ≤ j.val + n.val ∧ j.val + n.val - m < 8192
  · rw [dif_pos hg]
    refine (dif_pos fun a => ?_).trans (congrArg x (funext fun a => Fin.ext ?_))
    · match a with
      | ⟨0, _⟩ =>
        show m ≤ j.val * 1 + ((⟨2, ![w, 1]⟩ : Shape).rowMajor.symm n 0).val ∧ j.val * 1 + ((⟨2, ![w, 1]⟩ : Shape).rowMajor.symm n 0).val - m < 8192
        rw [hw0]; omega
      | ⟨1, _⟩ =>
        show 0 ≤ c.val * 1 + ((⟨2, ![w, 1]⟩ : Shape).rowMajor.symm n 1).val ∧ c.val * 1 + ((⟨2, ![w, 1]⟩ : Shape).rowMajor.symm n 1).val - 0 < 512
        rw [hw1]; omega
    · match a with
      | ⟨0, _⟩ =>
        show j.val * 1 + ((⟨2, ![w, 1]⟩ : Shape).rowMajor.symm n 0).val - m = j.val + n.val - m
        rw [hw0]; omega
      | ⟨1, _⟩ =>
        show c.val * 1 + ((⟨2, ![w, 1]⟩ : Shape).rowMajor.symm n 1).val - 0 = c.val
        rw [hw1]; omega
  · rw [dif_neg hg]
    refine dif_neg fun hin => hg ?_
    have h0 := hin 0
    change m ≤ j.val * 1 + ((⟨2, ![w, 1]⟩ : Shape).rowMajor.symm n 0).val ∧ j.val * 1 + ((⟨2, ![w, 1]⟩ : Shape).rowMajor.symm n 0).val - m < 8192 at h0
    rw [hw0] at h0
    omega

theorem v13 (X : Vec Ideal S8192x2048 .f32) (g : Vec Ideal S1x2048 .f32) (R : Fin 8192) (C : Fin 2048) : val_main_v13 (F := Ideal) X g (ix2 R C) = h X g R C := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The window sum over a group of the normalised rows is the sum of the row and the rows before it. -/
theorem window_lag (X : Vec Ideal S8192x2048 .f32) (g : Vec Ideal S1x2048 .f32) (G : Fin 4) (w m : ℕ) (hm : m + 1 = w) (hm' : m < 16)
    (y : S8192x512.Idx → EReal) (hy : ∀ R x, y (ix2 R x) = h X g R (col G x))
    (hw : S8192x512.ReduceWindows (![w, 1] : Fin 2 → Nat) ![1, 1] ![m, 0] ![0, 0] S8192x512) (R : Fin 8192) (x : Fin 512) :
    Ideal.hostReduceWindowAdd (s := S8192x512) ![w, 1] ![1, 1] ![m, 0] ![0, 0] hw y 0 (ix2 R x)
      = lagSum (fun n => hN X g n (col G x)) w (R.val + 16) := by
  rw [window_sum w m hm y hw R x]
  unfold lagSum
  rw [← Finset.sum_range_reflect (fun j => hN X g (R.val + 16 - j) (col G x)) w]
  refine Finset.sum_congr rfl fun n hn => ?_
  have hn' : n < w := Finset.mem_range.mp hn
  have hR := R.isLt
  by_cases hg : m ≤ R.val + n ∧ R.val + n - m < 8192
  · rw [dif_pos hg, hy]
    exact (hN_row X g ⟨R.val + n - m, hg.2⟩ (col G x) _ (by show R.val + 16 - (w - 1 - n) = R.val + n - m + 16; omega)).symm
  · rw [dif_neg hg]
    exact (hN_zero X g (col G x) _ (by omega)).symm

theorem v19 (X : Vec Ideal S8192x2048 .f32) (g : Vec Ideal S1x2048 .f32) (R : Fin 8192) (x : Fin 512) : val_main_v19 (F := Ideal) X g (ix2 R x) = h X g R (col 0 x) := by
  pointwise [val_main_v19]
  exact (v13 X g R _).trans (congrArg (h X g R) (Fin.ext (by show x.val = 512 * 0 + x.val; omega)))

theorem v21 (X : Vec Ideal S8192x2048 .f32) (g : Vec Ideal S1x2048 .f32) (R : Fin 8192) (x : Fin 512) :
    val_main_v21 (F := Ideal) X g (ix2 R x) = lagSum (fun n => hN X g n (col 0 x)) 2 (R.val + 16) := by
  refine Eq.trans ?_ (window_lag X g 0 2 1 rfl (by decide) (val_main_v19 (F := Ideal) X g) (v19 X g) reduceWindows_S8192x512_S8192x512_w2s1p1_0_w1s1p0_0 R x)
  have hz : val_main_v20 (F := Ideal) (Shape.Idx.first h_S_) = 0 := by
    show Ideal.ofBits FTy.f32 0x00000000#32 = 0
    exact Ideal.ofBits_zero _
  show Ideal.hostReduceWindowAdd (s := S8192x512) ![2, 1] ![1, 1] ![1, 0] ![0, 0] reduceWindows_S8192x512_S8192x512_w2s1p1_0_w1s1p0_0 (val_main_v19 (F := Ideal) X g) (val_main_v20 (F := Ideal) (Shape.Idx.first h_S_)) (ix2 R x) = _
  rw [hz]

theorem v34 (X : Vec Ideal S8192x2048 .f32) (g : Vec Ideal S1x2048 .f32) (W : Vec Ideal S1x4x512x512 .f32) (B : Vec Ideal S1x4x512 .f32) (R : Fin 8192) (k : Fin 512) :
    val_main_v34 (F := Ideal) X g W B (ix2 R k) = ∑ x, dev X g 2 0x40000000#32 0 R x * W (ix4 0 0 x k) + B (ix3 0 0 k) := by
  pointwise [val_main_v34, val_main_v33, val_main_v32, val_main_v31, val_main_v30, val_main_v29, val_main_v28, val_main_v27, val_main_v26, val_main_v25, val_main_v24, val_main_v23, val_main_v22, val_main_cst_3, val_main_v18, val_main_v17, val_main_v16, val_main_v15, val_main_v14, val_main_c]
  simp only [v21, v19]
  rfl

theorem v35 (X : Vec Ideal S8192x2048 .f32) (g : Vec Ideal S1x2048 .f32) (R : Fin 8192) (x : Fin 512) : val_main_v35 (F := Ideal) X g (ix2 R x) = h X g R (col 1 x) := by
  pointwise [val_main_v35]
  exact v13 X g R _

theorem v37 (X : Vec Ideal S8192x2048 .f32) (g : Vec Ideal S1x2048 .f32) (R : Fin 8192) (x : Fin 512) :
    val_main_v37 (F := Ideal) X g (ix2 R x) = lagSum (fun n => hN X g n (col 1 x)) 4 (R.val + 16) := by
  refine Eq.trans ?_ (window_lag X g 1 4 3 rfl (by decide) (val_main_v35 (F := Ideal) X g) (v35 X g) reduceWindows_S8192x512_S8192x512_w4s1p3_0_w1s1p0_0 R x)
  have hz : val_main_v36 (F := Ideal) (Shape.Idx.first h_S_) = 0 := by
    show Ideal.ofBits FTy.f32 0x00000000#32 = 0
    exact Ideal.ofBits_zero _
  show Ideal.hostReduceWindowAdd (s := S8192x512) ![4, 1] ![1, 1] ![3, 0] ![0, 0] reduceWindows_S8192x512_S8192x512_w4s1p3_0_w1s1p0_0 (val_main_v35 (F := Ideal) X g) (val_main_v36 (F := Ideal) (Shape.Idx.first h_S_)) (ix2 R x) = _
  rw [hz]

theorem v50 (X : Vec Ideal S8192x2048 .f32) (g : Vec Ideal S1x2048 .f32) (W : Vec Ideal S1x4x512x512 .f32) (B : Vec Ideal S1x4x512 .f32) (R : Fin 8192) (k : Fin 512) :
    val_main_v50 (F := Ideal) X g W B (ix2 R k) = ∑ x, dev X g 4 0x40800000#32 1 R x * W (ix4 0 1 x k) + B (ix3 0 1 k) := by
  pointwise [val_main_v50, val_main_v49, val_main_v48, val_main_v47, val_main_v46, val_main_v45, val_main_v44, val_main_v43, val_main_v42, val_main_v41, val_main_v40, val_main_v39, val_main_v38, val_main_cst_5, val_main_v18, val_main_v17, val_main_v16, val_main_v15, val_main_v14, val_main_c]
  simp only [v37, v35]
  rfl

theorem v51 (X : Vec Ideal S8192x2048 .f32) (g : Vec Ideal S1x2048 .f32) (R : Fin 8192) (x : Fin 512) : val_main_v51 (F := Ideal) X g (ix2 R x) = h X g R (col 2 x) := by
  pointwise [val_main_v51]
  exact v13 X g R _

theorem v53 (X : Vec Ideal S8192x2048 .f32) (g : Vec Ideal S1x2048 .f32) (R : Fin 8192) (x : Fin 512) :
    val_main_v53 (F := Ideal) X g (ix2 R x) = lagSum (fun n => hN X g n (col 2 x)) 8 (R.val + 16) := by
  refine Eq.trans ?_ (window_lag X g 2 8 7 rfl (by decide) (val_main_v51 (F := Ideal) X g) (v51 X g) reduceWindows_S8192x512_S8192x512_w8s1p7_0_w1s1p0_0 R x)
  have hz : val_main_v52 (F := Ideal) (Shape.Idx.first h_S_) = 0 := by
    show Ideal.ofBits FTy.f32 0x00000000#32 = 0
    exact Ideal.ofBits_zero _
  show Ideal.hostReduceWindowAdd (s := S8192x512) ![8, 1] ![1, 1] ![7, 0] ![0, 0] reduceWindows_S8192x512_S8192x512_w8s1p7_0_w1s1p0_0 (val_main_v51 (F := Ideal) X g) (val_main_v52 (F := Ideal) (Shape.Idx.first h_S_)) (ix2 R x) = _
  rw [hz]

theorem v66 (X : Vec Ideal S8192x2048 .f32) (g : Vec Ideal S1x2048 .f32) (W : Vec Ideal S1x4x512x512 .f32) (B : Vec Ideal S1x4x512 .f32) (R : Fin 8192) (k : Fin 512) :
    val_main_v66 (F := Ideal) X g W B (ix2 R k) = ∑ x, dev X g 8 0x41000000#32 2 R x * W (ix4 0 2 x k) + B (ix3 0 2 k) := by
  pointwise [val_main_v66, val_main_v65, val_main_v64, val_main_v63, val_main_v62, val_main_v61, val_main_v60, val_main_v59, val_main_v58, val_main_v57, val_main_v56, val_main_v55, val_main_v54, val_main_cst_7, val_main_v18, val_main_v17, val_main_v16, val_main_v15, val_main_v14, val_main_c]
  simp only [v53, v51]
  rfl

theorem v67 (X : Vec Ideal S8192x2048 .f32) (g : Vec Ideal S1x2048 .f32) (R : Fin 8192) (x : Fin 512) : val_main_v67 (F := Ideal) X g (ix2 R x) = h X g R (col 3 x) := by
  pointwise [val_main_v67]
  exact v13 X g R _

theorem v69 (X : Vec Ideal S8192x2048 .f32) (g : Vec Ideal S1x2048 .f32) (R : Fin 8192) (x : Fin 512) :
    val_main_v69 (F := Ideal) X g (ix2 R x) = lagSum (fun n => hN X g n (col 3 x)) 16 (R.val + 16) := by
  refine Eq.trans ?_ (window_lag X g 3 16 15 rfl (by decide) (val_main_v67 (F := Ideal) X g) (v67 X g) reduceWindows_S8192x512_S8192x512_w16s1p15_0_w1s1p0_0 R x)
  have hz : val_main_v68 (F := Ideal) (Shape.Idx.first h_S_) = 0 := by
    show Ideal.ofBits FTy.f32 0x00000000#32 = 0
    exact Ideal.ofBits_zero _
  show Ideal.hostReduceWindowAdd (s := S8192x512) ![16, 1] ![1, 1] ![15, 0] ![0, 0] reduceWindows_S8192x512_S8192x512_w16s1p15_0_w1s1p0_0 (val_main_v67 (F := Ideal) X g) (val_main_v68 (F := Ideal) (Shape.Idx.first h_S_)) (ix2 R x) = _
  rw [hz]

theorem v82 (X : Vec Ideal S8192x2048 .f32) (g : Vec Ideal S1x2048 .f32) (W : Vec Ideal S1x4x512x512 .f32) (B : Vec Ideal S1x4x512 .f32) (R : Fin 8192) (k : Fin 512) :
    val_main_v82 (F := Ideal) X g W B (ix2 R k) = ∑ x, dev X g 16 0x41800000#32 3 R x * W (ix4 0 3 x k) + B (ix3 0 3 k) := by
  pointwise [val_main_v82, val_main_v81, val_main_v80, val_main_v79, val_main_v78, val_main_v77, val_main_v76, val_main_v75, val_main_v74, val_main_v73, val_main_v72, val_main_v71, val_main_v70, val_main_cst_9, val_main_v18, val_main_v17, val_main_v16, val_main_v15, val_main_v14, val_main_c]
  simp only [v69, v67]
  rfl

theorem v88 (X : Vec Ideal S8192x2048 .f32) (g : Vec Ideal S1x2048 .f32) (W : Vec Ideal S1x4x512x512 .f32) (B : Vec Ideal S1x4x512 .f32) (S : Vec Ideal S1x2048 .f32) (R : Fin 8192) (C : Fin 2048) :
    val_main_v88 (F := Ideal) X g W B S (ix2 R C)
      = X (ix2 R C) + (if h : C.val < 512 then val_main_v34 (F := Ideal) X g W B (ix2 R ⟨C.val, h⟩)
        else if h : C.val - 512 < 512 then val_main_v50 (F := Ideal) X g W B (ix2 R ⟨C.val - 512, h⟩)
        else if h : C.val - 512 - 512 < 512 then val_main_v66 (F := Ideal) X g W B (ix2 R ⟨C.val - 512 - 512, h⟩)
        else val_main_v82 (F := Ideal) X g W B (ix2 R ⟨C.val - 512 - 512 - 512, by omega⟩)) * S (ix2 0 C) := by
  pointwise [val_main_v88, val_main_v87, val_main_v86, val_main_v85, val_main_v84, val_main_v83]

variable (X : Vec Ideal S8192x2048 .f32) (g : Vec Ideal S1x2048 .f32) (W : Vec Ideal S1x4x512x512 .f32) (B : Vec Ideal S1x4x512 .f32) (S : Vec Ideal S1x2048 .f32) (R : Fin 8192) (C : Fin 2048) (k : Fin 512)

theorem ref0 (hC : C.val = 0 + k.val) : val_main_v88 (F := Ideal) X g W B S (ix2 R C) = out X g W B S 2 0x40000000#32 0 R k := by
  have hk := k.isLt
  rw [v88, dif_pos (by omega : C.val < 512)]
  obtain rfl : C = col 0 k := Fin.ext (by show C.val = 512 * 0 + k.val; omega)
  unfold out
  refine congrArg (fun q => X (ix2 R (col 0 k)) + q * S (ix2 0 (col 0 k))) (Eq.trans ?_ (v34 X g W B R k))
  exact congrArg (fun k => val_main_v34 (F := Ideal) X g W B (ix2 R k)) (Fin.ext (by show (512 * 0 + k.val) = k.val; omega))

theorem ref1 (hC : C.val = 512 + k.val) : val_main_v88 (F := Ideal) X g W B S (ix2 R C) = out X g W B S 4 0x40800000#32 1 R k := by
  have hk := k.isLt
  rw [v88, dif_neg (by omega : ¬C.val < 512), dif_pos (by omega : C.val - 512 < 512)]
  obtain rfl : C = col 1 k := Fin.ext (by show C.val = 512 * 1 + k.val; omega)
  unfold out
  refine congrArg (fun q => X (ix2 R (col 1 k)) + q * S (ix2 0 (col 1 k))) (Eq.trans ?_ (v50 X g W B R k))
  exact congrArg (fun k => val_main_v50 (F := Ideal) X g W B (ix2 R k)) (Fin.ext (by show (512 * 1 + k.val) - 512 = k.val; omega))

theorem ref2 (hC : C.val = 1024 + k.val) : val_main_v88 (F := Ideal) X g W B S (ix2 R C) = out X g W B S 8 0x41000000#32 2 R k := by
  have hk := k.isLt
  rw [v88, dif_neg (by omega : ¬C.val < 512), dif_neg (by omega : ¬C.val - 512 < 512), dif_pos (by omega : C.val - 512 - 512 < 512)]
  obtain rfl : C = col 2 k := Fin.ext (by show C.val = 512 * 2 + k.val; omega)
  unfold out
  refine congrArg (fun q => X (ix2 R (col 2 k)) + q * S (ix2 0 (col 2 k))) (Eq.trans ?_ (v66 X g W B R k))
  exact congrArg (fun k => val_main_v66 (F := Ideal) X g W B (ix2 R k)) (Fin.ext (by show (512 * 2 + k.val) - 512 - 512 = k.val; omega))

theorem ref3 (hC : C.val = 1536 + k.val) : val_main_v88 (F := Ideal) X g W B S (ix2 R C) = out X g W B S 16 0x41800000#32 3 R k := by
  have hk := k.isLt
  rw [v88, dif_neg (by omega : ¬C.val < 512), dif_neg (by omega : ¬C.val - 512 < 512), dif_neg (by omega : ¬C.val - 512 - 512 < 512)]
  obtain rfl : C = col 3 k := Fin.ext (by show C.val = 512 * 3 + k.val; omega)
  unfold out
  refine congrArg (fun q => X (ix2 R (col 3 k)) + q * S (ix2 0 (col 3 k))) (Eq.trans ?_ (v82 X g W B R k))
  exact congrArg (fun k => val_main_v82 (F := Ideal) X g W B (ix2 R k)) (Fin.ext (by show (512 * 3 + k.val) - 512 - 512 - 512 = k.val; omega))

end Cert.Pool
end
-- ==== Proof.Pool.Value.lean ====
/- The pool mixer's value: every grid point leaves its rows' result in the output block and its last sixteen normalised
   rows for the next point, so the result array is the reference's. -/
module

public import proofs.«01_k».proof.Proof.Pool.Reads
public import proofs.«01_k».proof.Proof.Pool.Pay
public import proofs.«01_k».proof.Proof.Pool.Ref
public import Idealize.ShloMosaic.Lib.Tactic

@[expose] public section
set_option maxRecDepth 16384
set_option maxHeartbeats 2000000
noncomputable section
open Idealize.ShloMosaic Idealize.ShloMosaic.Pointwise Idealize.ShloMosaic.TcCoe Idealize.SL.Sem
open Cert.PoolKernelIdeal Cert.PoolKernelIdeal.Gen Cert.PoolKernelIdeal.Cases
open Cert.PoolReferenceIdeal.Read (val_main_v88)
namespace Cert.Pool
variable (m : (ℓ : Loc nD τ sig) → Buf (Elt Ideal) ℓ) (c : Dev nD)

/-- A block's normalised row is the array's. -/
theorem row_h (t : Fin cfg0.N) (r : Fin 256) (k : Fin 2048) (R : Fin 8192) (hR : R.val = 256 * t.val + r.val) :
    k0_pay3 (iblk m c 0 t) (iblk m c 1 t) (ix2 r k) = h (X0 m c) (X1 m c) R k := by
  refine (pay3_apply _ _ r k).trans ?_
  unfold h
  rw [ib_x m c t r k R hR, ib_g m c t k]
  simp only [ib_x m c t r _ R hR]

theorem fst_of {A B : Type} {p : A × B} {a z : A} {b : B} (h : p = (a, b)) (e : a = z) : p.1 = z := by
  rw [h]
  exact e

theorem snd_of {A B : Type} {p : A × B} {a : A} {b z : B} (h : p = (a, b)) (e : b = z) : p.2 = z := by
  rw [h]
  exact e

/-- What a point carries on: its last sixteen normalised rows. -/
theorem carried (t : Fin cfg0.N) : (outsAt0 m c t.val t.isLt).2 = k0_pay5 (iblk m c 0 t) (iblk m c 1 t) := by
  by_cases h0 : t.val % 32 = 0
  · have e := rows_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0)
    exact snd_of (outsAt0_A m c t h0) e
  · have e := rows_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h))
    exact snd_of (outsAt0_B m c t h0) e

theorem carried_apply (t : Fin cfg0.N) (q : Fin 16) (k : Fin 2048) (n : ℕ) (hn : n = 256 * (t.val + 1) + q.val) :
    (outsAt0 m c t.val t.isLt).2 (ix2 q k) = hN (X0 m c) (X1 m c) n k := by
  have hN' : cfg0.N = 32 := N_0
  have ht := t.isLt
  have hq := q.isLt
  rw [carried, pay5_apply, row_h m c t _ k ⟨256 * t.val + (240 + q.val), by omega⟩ rfl]
  exact (hN_row _ _ _ _ n (by show n = 256 * t.val + (240 + q.val) + 16; omega)).symm

/-- What the body at a point leaves in the output block, over the rows carried to it. -/
theorem out_at (t : Fin cfg0.N) : ∃ xs : Vec Ideal S16x2048 .f32,
    (∀ (e : Fin 16) (k : Fin 2048), xs (ix2 e k) = hN (X0 m c) (X1 m c) (256 * t.val + e.val) k)
    ∧ (outsAt0 m c t.val t.isLt).1 = VO0_5.read (Elt Ideal) (VO0_5.writes (Elt Ideal) VO0_5.junk
        (pieces (grid0.coords t) (iblk m c 0 t) (iblk m c 1 t) (iblk m c 2 t) (iblk m c 3 t) (iblk m c 4 t) xs)) := by
  have hN' : cfg0.N = 32 := N_0
  have ht := t.isLt
  by_cases h0 : t.val % 32 = 0
  · refine ⟨k0_pay2 (F := Ideal), fun e k => ?_, ?_⟩
    · rw [pay2_apply]
      exact (hN_zero _ _ k _ (by have := e.isLt; omega)).symm
    · have e := out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0)
      exact fst_of (outsAt0_A m c t h0) e
  · refine ⟨(outsAt0 m c (t.val - 1) (Nat.lt_of_le_of_lt (Nat.sub_le _ _) t.isLt)).2, fun e k => ?_, ?_⟩
    · exact carried_apply m c ⟨t.val - 1, Nat.lt_of_le_of_lt (Nat.sub_le _ _) t.isLt⟩ e k _ (by show 256 * t.val + e.val = 256 * (t.val - 1 + 1) + e.val; omega)
    · have e := out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h))
      exact fst_of (outsAt0_B m c t h0) e

/-- The carried rows and the block's rows, one after the other, are rows of the array. -/
theorem ext_at (t : Fin cfg0.N) (xs : Vec Ideal S16x2048 .f32)
    (hxs : ∀ (e : Fin 16) (k : Fin 2048), xs (ix2 e k) = hN (X0 m c) (X1 m c) (256 * t.val + e.val) k) (e : Fin 272) (C : Fin 2048) :
    k0_pay4 (iblk m c 0 t) (iblk m c 1 t) xs (ix2 e C) = hN (X0 m c) (X1 m c) (256 * t.val + e.val) C := by
  have hN' : cfg0.N = 32 := N_0
  have ht := t.isLt
  have he := e.isLt
  rw [pay4_apply]
  by_cases hlt : e.val < 16
  · rw [dif_pos hlt]
    exact hxs ⟨e.val, hlt⟩ C
  · rw [dif_neg hlt, row_h m c t _ C ⟨256 * t.val + (e.val - 16), by omega⟩ rfl]
    exact (hN_row _ _ _ _ _ (by show 256 * t.val + e.val = 256 * t.val + (e.val - 16) + 16; omega)).symm

theorem point0 (t : Fin cfg0.N) (r : Fin 256) (R : Fin 8192) (hR : R.val = 256 * t.val + r.val) (C : Fin 2048) (k : Fin 512) (hC : C.val = 0 + k.val) :
    (outsAt0 m c t.val t.isLt).1 (ix2 r C) = out (X0 m c) (X1 m c) (X2 m c) (X3 m c) (X4 m c) 2 0x40000000#32 0 R k := by
  obtain ⟨xs, hxs, ho⟩ := out_at m c t
  rw [ho]
  refine (Cases.grp0 (grid0.coords t) (iblk m c 0 t) (iblk m c 1 t) (iblk m c 2 t) (iblk m c 3 t) (iblk m c 4 t) xs r k C hC).trans ?_
  refine (grp0_apply (iblk m c 0 t) (iblk m c 1 t) xs (grid0.coords t) _ _ _ r k (fun n C => hN (X0 m c) (X1 m c) n C) (256 * t.val) (ext_at m c t xs hxs)).trans ?_
  have lw : ∀ x : Fin 512, View.ld (iblk m c 2 t : Vec Ideal S4x512x512 .bf16) (Rect.unit ![0, 0, 0] ![1, 512, 512] inb_S4x512x512_S1x512x512_0_0_0) (ix3 0 x k) = X2 m c (ix4 0 0 x k) := fun x => by
    refine Eq.trans ?_ (ib_w m c t 0 x k)
    refine congrArg (iblk m c 2 t : Vec Ideal S4x512x512 .bf16) (funext fun a => Fin.ext ?_)
    match a with
    | ⟨0, _⟩ => rfl
    | ⟨1, _⟩ => show 0 + 1 * x.val = x.val; omega
    | ⟨2, _⟩ => show 0 + 1 * k.val = k.val; omega
  have lb : View.ld (iblk m c 3 t : Vec Ideal S4x512 .f32) (Rect.unit ![0, 0] ![1, 512] inb_S4x512_S1x512_0_0) (ix2 0 k) = X3 m c (ix3 0 0 k) := by
    refine Eq.trans ?_ (ib_b m c t 0 k)
    refine congrArg (iblk m c 3 t : Vec Ideal S4x512 .f32) (funext fun a => Fin.ext ?_)
    match a with
    | ⟨0, _⟩ => rfl
    | ⟨1, _⟩ => show 0 + 1 * k.val = k.val; omega
  have ls : View.ld (iblk m c 4 t : Vec Ideal S1x2048 .f32) (Rect.unit ![0, 0] ![1, 512] inb_S1x2048_S1x512_0_0) (ix2 0 k) = X4 m c (ix2 0 (col 0 k)) := by
    refine Eq.trans ?_ (ib_s m c t (col 0 k))
    refine congrArg (iblk m c 4 t : Vec Ideal S1x2048 .f32) (funext fun a => Fin.ext ?_)
    match a with
    | ⟨0, _⟩ => rfl
    | ⟨1, _⟩ => show 0 + 1 * k.val = 512 * 0 + k.val; omega
  have e16 : 256 * t.val + (16 + r.val) = R.val + 16 := by omega
  unfold out dev
  rw [ib_x m c t r _ R hR]
  simp only [lw, lb, ls, e16, row_h m c t r _ R hR, pay6_apply t r _ R hR]

theorem point1 (t : Fin cfg0.N) (r : Fin 256) (R : Fin 8192) (hR : R.val = 256 * t.val + r.val) (C : Fin 2048) (k : Fin 512) (hC : C.val = 512 + k.val) :
    (outsAt0 m c t.val t.isLt).1 (ix2 r C) = out (X0 m c) (X1 m c) (X2 m c) (X3 m c) (X4 m c) 4 0x40800000#32 1 R k := by
  obtain ⟨xs, hxs, ho⟩ := out_at m c t
  rw [ho]
  refine (Cases.grp1 (grid0.coords t) (iblk m c 0 t) (iblk m c 1 t) (iblk m c 2 t) (iblk m c 3 t) (iblk m c 4 t) xs r k C hC).trans ?_
  refine (grp1_apply (iblk m c 0 t) (iblk m c 1 t) xs (grid0.coords t) _ _ _ r k (fun n C => hN (X0 m c) (X1 m c) n C) (256 * t.val) (ext_at m c t xs hxs)).trans ?_
  have lw : ∀ x : Fin 512, View.ld (iblk m c 2 t : Vec Ideal S4x512x512 .bf16) (Rect.unit ![1, 0, 0] ![1, 512, 512] inb_S4x512x512_S1x512x512_1_0_0) (ix3 0 x k) = X2 m c (ix4 0 1 x k) := fun x => by
    refine Eq.trans ?_ (ib_w m c t 1 x k)
    refine congrArg (iblk m c 2 t : Vec Ideal S4x512x512 .bf16) (funext fun a => Fin.ext ?_)
    match a with
    | ⟨0, _⟩ => rfl
    | ⟨1, _⟩ => show 0 + 1 * x.val = x.val; omega
    | ⟨2, _⟩ => show 0 + 1 * k.val = k.val; omega
  have lb : View.ld (iblk m c 3 t : Vec Ideal S4x512 .f32) (Rect.unit ![1, 0] ![1, 512] inb_S4x512_S1x512_1_0) (ix2 0 k) = X3 m c (ix3 0 1 k) := by
    refine Eq.trans ?_ (ib_b m c t 1 k)
    refine congrArg (iblk m c 3 t : Vec Ideal S4x512 .f32) (funext fun a => Fin.ext ?_)
    match a with
    | ⟨0, _⟩ => rfl
    | ⟨1, _⟩ => show 0 + 1 * k.val = k.val; omega
  have ls : View.ld (iblk m c 4 t : Vec Ideal S1x2048 .f32) (Rect.unit ![0, 512] ![1, 512] inb_S1x2048_S1x512_0_512) (ix2 0 k) = X4 m c (ix2 0 (col 1 k)) := by
    refine Eq.trans ?_ (ib_s m c t (col 1 k))
    refine congrArg (iblk m c 4 t : Vec Ideal S1x2048 .f32) (funext fun a => Fin.ext ?_)
    match a with
    | ⟨0, _⟩ => rfl
    | ⟨1, _⟩ => show 512 + 1 * k.val = 512 * 1 + k.val; omega
  have e16 : 256 * t.val + (16 + r.val) = R.val + 16 := by omega
  unfold out dev
  rw [ib_x m c t r _ R hR]
  simp only [lw, lb, ls, e16, row_h m c t r _ R hR, pay6_apply t r _ R hR]

theorem point2 (t : Fin cfg0.N) (r : Fin 256) (R : Fin 8192) (hR : R.val = 256 * t.val + r.val) (C : Fin 2048) (k : Fin 512) (hC : C.val = 1024 + k.val) :
    (outsAt0 m c t.val t.isLt).1 (ix2 r C) = out (X0 m c) (X1 m c) (X2 m c) (X3 m c) (X4 m c) 8 0x41000000#32 2 R k := by
  obtain ⟨xs, hxs, ho⟩ := out_at m c t
  rw [ho]
  refine (Cases.grp2 (grid0.coords t) (iblk m c 0 t) (iblk m c 1 t) (iblk m c 2 t) (iblk m c 3 t) (iblk m c 4 t) xs r k C hC).trans ?_
  refine (grp2_apply (iblk m c 0 t) (iblk m c 1 t) xs (grid0.coords t) _ _ _ r k (fun n C => hN (X0 m c) (X1 m c) n C) (256 * t.val) (ext_at m c t xs hxs)).trans ?_
  have lw : ∀ x : Fin 512, View.ld (iblk m c 2 t : Vec Ideal S4x512x512 .bf16) (Rect.unit ![2, 0, 0] ![1, 512, 512] inb_S4x512x512_S1x512x512_2_0_0) (ix3 0 x k) = X2 m c (ix4 0 2 x k) := fun x => by
    refine Eq.trans ?_ (ib_w m c t 2 x k)
    refine congrArg (iblk m c 2 t : Vec Ideal S4x512x512 .bf16) (funext fun a => Fin.ext ?_)
    match a with
    | ⟨0, _⟩ => rfl
    | ⟨1, _⟩ => show 0 + 1 * x.val = x.val; omega
    | ⟨2, _⟩ => show 0 + 1 * k.val = k.val; omega
  have lb : View.ld (iblk m c 3 t : Vec Ideal S4x512 .f32) (Rect.unit ![2, 0] ![1, 512] inb_S4x512_S1x512_2_0) (ix2 0 k) = X3 m c (ix3 0 2 k) := by
    refine Eq.trans ?_ (ib_b m c t 2 k)
    refine congrArg (iblk m c 3 t : Vec Ideal S4x512 .f32) (funext fun a => Fin.ext ?_)
    match a with
    | ⟨0, _⟩ => rfl
    | ⟨1, _⟩ => show 0 + 1 * k.val = k.val; omega
  have ls : View.ld (iblk m c 4 t : Vec Ideal S1x2048 .f32) (Rect.unit ![0, 1024] ![1, 512] inb_S1x2048_S1x512_0_1024) (ix2 0 k) = X4 m c (ix2 0 (col 2 k)) := by
    refine Eq.trans ?_ (ib_s m c t (col 2 k))
    refine congrArg (iblk m c 4 t : Vec Ideal S1x2048 .f32) (funext fun a => Fin.ext ?_)
    match a with
    | ⟨0, _⟩ => rfl
    | ⟨1, _⟩ => show 1024 + 1 * k.val = 512 * 2 + k.val; omega
  have e16 : 256 * t.val + (16 + r.val) = R.val + 16 := by omega
  unfold out dev
  rw [ib_x m c t r _ R hR]
  simp only [lw, lb, ls, e16, row_h m c t r _ R hR, pay6_apply t r _ R hR]

theorem point3 (t : Fin cfg0.N) (r : Fin 256) (R : Fin 8192) (hR : R.val = 256 * t.val + r.val) (C : Fin 2048) (k : Fin 512) (hC : C.val = 1536 + k.val) :
    (outsAt0 m c t.val t.isLt).1 (ix2 r C) = out (X0 m c) (X1 m c) (X2 m c) (X3 m c) (X4 m c) 16 0x41800000#32 3 R k := by
  obtain ⟨xs, hxs, ho⟩ := out_at m c t
  rw [ho]
  refine (Cases.grp3 (grid0.coords t) (iblk m c 0 t) (iblk m c 1 t) (iblk m c 2 t) (iblk m c 3 t) (iblk m c 4 t) xs r k C hC).trans ?_
  refine (grp3_apply (iblk m c 0 t) (iblk m c 1 t) xs (grid0.coords t) _ _ _ r k (fun n C => hN (X0 m c) (X1 m c) n C) (256 * t.val) (ext_at m c t xs hxs)).trans ?_
  have lw : ∀ x : Fin 512, View.ld (iblk m c 2 t : Vec Ideal S4x512x512 .bf16) (Rect.unit ![3, 0, 0] ![1, 512, 512] inb_S4x512x512_S1x512x512_3_0_0) (ix3 0 x k) = X2 m c (ix4 0 3 x k) := fun x => by
    refine Eq.trans ?_ (ib_w m c t 3 x k)
    refine congrArg (iblk m c 2 t : Vec Ideal S4x512x512 .bf16) (funext fun a => Fin.ext ?_)
    match a with
    | ⟨0, _⟩ => rfl
    | ⟨1, _⟩ => show 0 + 1 * x.val = x.val; omega
    | ⟨2, _⟩ => show 0 + 1 * k.val = k.val; omega
  have lb : View.ld (iblk m c 3 t : Vec Ideal S4x512 .f32) (Rect.unit ![3, 0] ![1, 512] inb_S4x512_S1x512_3_0) (ix2 0 k) = X3 m c (ix3 0 3 k) := by
    refine Eq.trans ?_ (ib_b m c t 3 k)
    refine congrArg (iblk m c 3 t : Vec Ideal S4x512 .f32) (funext fun a => Fin.ext ?_)
    match a with
    | ⟨0, _⟩ => rfl
    | ⟨1, _⟩ => show 0 + 1 * k.val = k.val; omega
  have ls : View.ld (iblk m c 4 t : Vec Ideal S1x2048 .f32) (Rect.unit ![0, 1536] ![1, 512] inb_S1x2048_S1x512_0_1536) (ix2 0 k) = X4 m c (ix2 0 (col 3 k)) := by
    refine Eq.trans ?_ (ib_s m c t (col 3 k))
    refine congrArg (iblk m c 4 t : Vec Ideal S1x2048 .f32) (funext fun a => Fin.ext ?_)
    match a with
    | ⟨0, _⟩ => rfl
    | ⟨1, _⟩ => show 1536 + 1 * k.val = 512 * 3 + k.val; omega
  have e16 : 256 * t.val + (16 + r.val) = R.val + 16 := by omega
  unfold out dev
  rw [ib_x m c t r _ R hR]
  simp only [lw, lb, ls, e16, row_h m c t r _ R hR, pay6_apply t r _ R hR]

/-- A point's output block at an index. -/
theorem point (t : Fin cfg0.N) (r : Fin 256) (R : Fin 8192) (hR : R.val = 256 * t.val + r.val) (C : Fin 2048) :
    (outsAt0 m c t.val t.isLt).1 (ix2 r C) = val_main_v88 (F := Ideal) (X0 m c) (X1 m c) (X2 m c) (X3 m c) (X4 m c) (ix2 R C) := by
  have hC := C.isLt
  by_cases h1 : C.val < 512
  · exact (point0 m c t r R hR C ⟨C.val, h1⟩ (Nat.zero_add _).symm).trans (ref0 _ _ _ _ _ R C ⟨C.val, h1⟩ (Nat.zero_add _).symm).symm
  by_cases h2 : C.val < 1024
  · have e : C.val = 512 + (C.val - 512) := by omega
    exact (point1 m c t r R hR C ⟨C.val - 512, by omega⟩ e).trans (ref1 _ _ _ _ _ R C ⟨C.val - 512, by omega⟩ e).symm
  by_cases h3 : C.val < 1536
  · have e : C.val = 1024 + (C.val - 1024) := by omega
    exact (point2 m c t r R hR C ⟨C.val - 1024, by omega⟩ e).trans (ref2 _ _ _ _ _ R C ⟨C.val - 1024, by omega⟩ e).symm
  · have e : C.val = 1536 + (C.val - 1536) := by omega
    exact (point3 m c t r R hR C ⟨C.val - 1536, by omega⟩ e).trans (ref3 _ _ _ _ _ R C ⟨C.val - 1536, by omega⟩ e).symm

theorem disjoint5 (t t' : Fin cfg0.N) (h : (cfg0.win 5).flush t = true) (h' : (cfg0.win 5).flush t' = true) (hne : t ≠ t') :
    Disjoint ((cfg0.win 5).blk t).view.set ((cfg0.win 5).blk t').view.set :=
  (cfg0.win 5).disjoint_blk fun e => hne (Fin.ext (by
    have a := win_5 t
    have a' := win_5 t'
    have e0 : win0_5.index t 0 = win0_5.index t' 0 := congrFun e 0
    omega))

/-- The result array after the run, at an index. -/
theorem arr5 (R : Fin 8192) (C : Fin 2048) : (dats m 0 c).arrAt 5 cfg0.N (ix2 R C)
    = val_main_v88 (F := Ideal) (X0 m c) (X1 m c) (X2 m c) (X3 m c) (X4 m c) (ix2 R C) := by
  have hR := R.isLt
  have hN' : cfg0.N = 32 := N_0
  let t : Fin cfg0.N := ⟨R.val / 256, by omega⟩
  let r : Fin 256 := ⟨R.val % 256, by omega⟩
  have hr : R.val = 256 * t.val + r.val := by show R.val = 256 * (R.val / 256) + R.val % 256; omega
  have h := congrFun ((dats m 0 c).read_blk_arrAt_eq_flushed 5 disjoint5 cfg0.N t t.isLt (fl_5 t)) (ix2 r C)
  rw [View.read_apply] at h
  refine Eq.trans (congrArg ((dats m 0 c).arrAt 5 cfg0.N) (?_ : _ = _)) (h.trans ?_)
  · funext a
    apply Fin.ext
    match a with
    | ⟨0, _⟩ => show R.val = win0_5.index t 0 * 256 + 1 * r.val; rw [(win_5 t).1]; omega
    | ⟨1, _⟩ => show C.val = win0_5.index t 1 * 2048 + 1 * C.val; rw [(win_5 t).2]; omega
  · show (outsAt0 m c t.val t.isLt).1 (ix2 r C) = _
    exact point m c t r R hr C

/-- The kernel's result array is the reference's function of the arguments. -/
theorem value_eq : (dats m 0 c).arrAt 5 cfg0.N = val_main_v88 (F := Ideal) (X0 m c) (X1 m c) (X2 m c) (X3 m c) (X4 m c) := by
  funext i
  idx_vars i
  exact arr5 m c _ _

/-- The kernel's run: the result array is the pipeline's, and the arguments are unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, h.2.1 c⟩) (θ_run_and (run_main m ρ) (frame m ρ))

end Cert.Pool
end
-- ==== Proof.lean ====
/- The certificate's claims, each from its program's run. -/
module

public import proofs.«01_k».proof.Defs
public import proofs.«01_k».proof.Proof.Gen.MlpKernel.Frame
public import proofs.«01_k».proof.Proof.Gen.MlpKernelIdeal.Value
public import proofs.«01_k».proof.Proof.Gen.MlpReferenceIdeal.Run
public import proofs.«01_k».proof.Proof.Mlp.Fold
public import proofs.«01_k».proof.Proof.Gen.ScanKernel.Frame
public import proofs.«01_k».proof.Proof.Gen.ScanKernelIdeal.Frame
public import proofs.«01_k».proof.Proof.Gen.ScanKernelIdeal.Skeleton
public import proofs.«01_k».proof.Proof.Gen.ScanReferenceIdeal.Run
public import proofs.«01_k».proof.Proof.Gen.ScanReferenceIdeal.Step
public import proofs.«01_k».proof.Proof.Scan.Frame
public import proofs.«01_k».proof.Proof.Scan.Bits
public import proofs.«01_k».proof.Proof.Gen.ResKernel.Frame
public import proofs.«01_k».proof.Proof.Gen.ResKernelIdeal.Value
public import proofs.«01_k».proof.Proof.Gen.ResReferenceIdeal.Run
public import proofs.«01_k».proof.Proof.Gen.ResReferenceIdeal.Read
public import proofs.«01_k».proof.Proof.Res.Value
public import proofs.«01_k».proof.Proof.Scan.Value
public import proofs.«01_k».proof.Proof.Gen.DsaKernel.Frame
public import proofs.«01_k».proof.Proof.Gen.DsaKernelIdeal.Frame
public import proofs.«01_k».proof.Proof.Gen.DsaKernelIdeal.Skeleton
public import proofs.«01_k».proof.Proof.Gen.DsaReferenceIdeal.Run
public import proofs.«01_k».proof.Proof.Gen.DsaReferenceIdeal.Read
public import proofs.«01_k».proof.Proof.Dsa.Frame
public import proofs.«01_k».proof.Proof.Dsa.Bits
public import proofs.«01_k».proof.Proof.Dsa.Value
public import proofs.«01_k».proof.Proof.Gen.PoolKernel.Frame
public import proofs.«01_k».proof.Proof.Gen.PoolKernelIdeal.Frame
public import proofs.«01_k».proof.Proof.Gen.PoolKernelIdeal.Skeleton
public import proofs.«01_k».proof.Proof.Gen.PoolReferenceIdeal.Run
public import proofs.«01_k».proof.Proof.Gen.PoolReferenceIdeal.Read
public import proofs.«01_k».proof.Proof.Pool.Value
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_MlpReferenceIdeal : quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

theorem algebraic_MlpKernelIdeal_MlpReferenceIdeal : algebraic_MlpKernelIdeal_MlpReferenceIdeal := by
  intro m ρ m' ρ' _ hagree
  refine ⟨_, Cert.MlpKernelIdeal.Value.run (F := Ideal) m ρ, ?_⟩
  refine (θ_run Cert.MlpReferenceIdeal.defs _ _).mono (fun _ h c => ⟨?_, (h c).2⟩) (Cert.MlpReferenceIdeal.Value.run (F := Ideal) m' ρ')
  rw [(h c).1, (hagree c).1, (hagree c).2.1, (hagree c).2.2.1, (hagree c).2.2.2]
  exact (Cert.MlpReferenceIdeal.Read.val_main_v24_eq (F := Ideal) _ _ _ _).trans (Cert.Mlp.value_eq m c).symm

theorem quiescent_ScanReferenceIdeal : quiescent_ScanReferenceIdeal := fun m ρ _ =>
  (θ_run Cert.ScanReferenceIdeal.defs _ _).mono (fun r h => ⟨fun c => (h c).2, sem_eq_zero_of_no_sems (by decide) r.2⟩)
    (Cert.ScanReferenceIdeal.Value.run (F := Ideal) m ρ)

theorem quiescent_ResReferenceIdeal : quiescent_ResReferenceIdeal := fun m ρ _ =>
  (θ_run Cert.ResReferenceIdeal.defs _ _).mono (fun r h => ⟨fun c => (h c).2, sem_eq_zero_of_no_sems (by decide) r.2⟩)
    (Cert.ResReferenceIdeal.Value.run (F := Ideal) m ρ)

theorem algebraic_ResKernelIdeal_ResReferenceIdeal : algebraic_ResKernelIdeal_ResReferenceIdeal := by
  intro m ρ m' ρ' _ hagree
  refine ⟨_, Cert.ResKernelIdeal.Value.run_blocks (F := Ideal) m ρ, ?_⟩
  refine (θ_run Cert.ResReferenceIdeal.defs _ _).mono (fun _ h c => ⟨?_, (h c).2⟩) (Cert.ResReferenceIdeal.Value.run (F := Ideal) m' ρ')
  rw [(h c).1, (hagree c).1, (hagree c).2.1, (hagree c).2.2]
  exact (Cert.ResReferenceIdeal.Read.val_main_v2_eq (F := Ideal) _ _ _).trans (Cert.Res.value_eq m c).symm

/-- The recurrence's kernel and reference leave the same result: both arrays hold the layer's formulas. -/
theorem algebraic_ScanKernelIdeal_ScanReferenceIdeal : algebraic_ScanKernelIdeal_ScanReferenceIdeal := by
  intro m ρ m' ρ' _ hagree
  refine ⟨_, Cert.Scan.run_value m ρ, ?_⟩
  refine (θ_run Cert.ScanReferenceIdeal.defs _ _).mono (fun _ h c => ⟨?_, (h c).2⟩) (Cert.ScanReferenceIdeal.Value.run (F := Ideal) m' ρ')
  rw [(h c).1]
  exact Cert.Scan.value_eq m m' c (hagree c)

/-- The two texts of the recurrence kernel are the same, so one run serves both. -/
theorem quiescent_ScanKernel : quiescent_ScanKernel := Cert.Scan.quiescent_bits

theorem quiescent_DsaReferenceIdeal : quiescent_DsaReferenceIdeal := fun m ρ _ =>
  (θ_run Cert.DsaReferenceIdeal.defs _ _).mono (fun r h => ⟨fun c => (h c).2.2.2, sem_eq_zero_of_no_sems (by decide) r.2⟩)
    (Cert.DsaReferenceIdeal.Value.run (F := Ideal) m ρ)

/-- The two texts of the projection kernel are the same, so one run serves both. -/
theorem quiescent_DsaKernel : quiescent_DsaKernel := Cert.Dsa.quiescent_bits

/-- The projection's three results are the reference's. -/
theorem algebraic_DsaKernelIdeal_DsaReferenceIdeal : algebraic_DsaKernelIdeal_DsaReferenceIdeal := by
  intro m ρ m' ρ' _ hagree
  refine ⟨_, _, _, Cert.Dsa.run_value m ρ, ?_⟩
  refine (θ_run Cert.DsaReferenceIdeal.defs _ _).mono (fun _ h c => ⟨?_, ?_, ?_, (h c).2.2.2⟩) (Cert.DsaReferenceIdeal.Value.run (F := Ideal) m' ρ')
  · refine ((h c).1.trans (Cert.DsaReferenceIdeal.Read.val_main_v166_eq (F := Ideal) _)).trans (Eq.trans ?_ (Cert.Dsa.value_eq0 m c).symm)
    show Cert.DsaReferenceIdeal.Read.val_main_v166 (F := Ideal) (m' ((c.tc : Thread Cert.DsaReferenceIdeal.nD Cert.DsaReferenceIdeal.τ).loc Cert.DsaReferenceIdeal.main_arg0)) (m' ((c.tc : Thread Cert.DsaReferenceIdeal.nD Cert.DsaReferenceIdeal.τ).loc Cert.DsaReferenceIdeal.main_arg1)) (m' ((c.tc : Thread Cert.DsaReferenceIdeal.nD Cert.DsaReferenceIdeal.τ).loc Cert.DsaReferenceIdeal.main_arg2)) (m' ((c.tc : Thread Cert.DsaReferenceIdeal.nD Cert.DsaReferenceIdeal.τ).loc Cert.DsaReferenceIdeal.main_arg3)) (m' ((c.tc : Thread Cert.DsaReferenceIdeal.nD Cert.DsaReferenceIdeal.τ).loc Cert.DsaReferenceIdeal.main_arg4)) (m' ((c.tc : Thread Cert.DsaReferenceIdeal.nD Cert.DsaReferenceIdeal.τ).loc Cert.DsaReferenceIdeal.main_arg5)) = _
    rw [(hagree c).1, (hagree c).2.1, (hagree c).2.2.1, (hagree c).2.2.2.1, (hagree c).2.2.2.2.1, (hagree c).2.2.2.2.2]
  · refine ((h c).2.1.trans (Cert.DsaReferenceIdeal.Read.val_main_v167_eq (F := Ideal) _)).trans (Eq.trans ?_ (Cert.Dsa.value_eq1 m c).symm)
    show Cert.DsaReferenceIdeal.Read.val_main_v167 (F := Ideal) (m' ((c.tc : Thread Cert.DsaReferenceIdeal.nD Cert.DsaReferenceIdeal.τ).loc Cert.DsaReferenceIdeal.main_arg0)) (m' ((c.tc : Thread Cert.DsaReferenceIdeal.nD Cert.DsaReferenceIdeal.τ).loc Cert.DsaReferenceIdeal.main_arg2)) (m' ((c.tc : Thread Cert.DsaReferenceIdeal.nD Cert.DsaReferenceIdeal.τ).loc Cert.DsaReferenceIdeal.main_arg3)) = _
    rw [(hagree c).1, (hagree c).2.2.1, (hagree c).2.2.2.1]
  · refine ((h c).2.2.1.trans (Cert.DsaReferenceIdeal.Read.val_main_v169_eq (F := Ideal) _)).trans (Eq.trans ?_ (Cert.Dsa.value_eq2 m c).symm)
    show Cert.DsaReferenceIdeal.Read.val_main_v169 (F := Ideal) (m' ((c.tc : Thread Cert.DsaReferenceIdeal.nD Cert.DsaReferenceIdeal.τ).loc Cert.DsaReferenceIdeal.main_arg0)) (m' ((c.tc : Thread Cert.DsaReferenceIdeal.nD Cert.DsaReferenceIdeal.τ).loc Cert.DsaReferenceIdeal.main_arg2)) (m' ((c.tc : Thread Cert.DsaReferenceIdeal.nD Cert.DsaReferenceIdeal.τ).loc Cert.DsaReferenceIdeal.main_arg3)) = _
    rw [(hagree c).1, (hagree c).2.2.1, (hagree c).2.2.2.1]

theorem quiescent_PoolReferenceIdeal : quiescent_PoolReferenceIdeal := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

/-- The pool mixer's result is the reference's. -/
theorem algebraic_PoolKernelIdeal_PoolReferenceIdeal : algebraic_PoolKernelIdeal_PoolReferenceIdeal := by
  intro m ρ m' ρ' _ hagree
  refine ⟨_, Cert.Pool.run_value m ρ, ?_⟩
  refine (θ_run Cert.PoolReferenceIdeal.defs _ _).mono (fun _ h c => ⟨?_, (h c).2⟩) (Cert.PoolReferenceIdeal.Value.run (F := Ideal) m' ρ')
  refine ((h c).1.trans (Cert.PoolReferenceIdeal.Read.val_main_v88_eq (F := Ideal) _ _)).trans (Eq.trans ?_ (Cert.Pool.value_eq m c).symm)
  show Cert.PoolReferenceIdeal.Read.val_main_v88 (F := Ideal) (m' ((c.tc : Thread Cert.PoolReferenceIdeal.nD Cert.PoolReferenceIdeal.τ).loc Cert.PoolReferenceIdeal.main_arg0)) (m' ((c.tc : Thread Cert.PoolReferenceIdeal.nD Cert.PoolReferenceIdeal.τ).loc Cert.PoolReferenceIdeal.main_arg1)) (m' ((c.tc : Thread Cert.PoolReferenceIdeal.nD Cert.PoolReferenceIdeal.τ).loc Cert.PoolReferenceIdeal.main_arg2)) (m' ((c.tc : Thread Cert.PoolReferenceIdeal.nD Cert.PoolReferenceIdeal.τ).loc Cert.PoolReferenceIdeal.main_arg3)) (m' ((c.tc : Thread Cert.PoolReferenceIdeal.nD Cert.PoolReferenceIdeal.τ).loc Cert.PoolReferenceIdeal.main_arg4)) = _
  rw [(hagree c).1, (hagree c).2.1, (hagree c).2.2.1, (hagree c).2.2.2.1, (hagree c).2.2.2.2]

theorem claim : Cert.Claim := ⟨Cert.MlpKernel.Gen.facts, Cert.MlpKernelIdeal.Gen.facts, Cert.MlpReferenceIdeal.Gen.facts,
  Cert.ScanKernel.Gen.facts, Cert.ScanKernelIdeal.Gen.facts, Cert.ScanReferenceIdeal.Gen.facts,
  Cert.ResKernel.Gen.facts, Cert.ResKernelIdeal.Gen.facts, Cert.ResReferenceIdeal.Gen.facts,
  Cert.DsaKernel.Gen.facts, Cert.DsaKernelIdeal.Gen.facts, Cert.DsaReferenceIdeal.Gen.facts,
  Cert.PoolKernel.Gen.facts, Cert.PoolKernelIdeal.Gen.facts, Cert.PoolReferenceIdeal.Gen.facts,
  fun m ρ _ => Cert.MlpKernel.Gen.frame m ρ, fun m ρ _ => Cert.MlpKernelIdeal.Gen.frame m ρ, quiescent_MlpReferenceIdeal,
  quiescent_ScanKernel, fun m ρ _ => Cert.Scan.frame m ρ, quiescent_ScanReferenceIdeal,
  fun m ρ _ => Cert.ResKernel.Gen.frame m ρ, fun m ρ _ => Cert.ResKernelIdeal.Gen.frame m ρ, quiescent_ResReferenceIdeal,
  quiescent_DsaKernel, fun m ρ _ => Cert.Dsa.frame m ρ, quiescent_DsaReferenceIdeal,
  fun m ρ _ => Cert.PoolKernel.Gen.frame m ρ, fun m ρ _ => Cert.PoolKernelIdeal.Gen.frame m ρ, quiescent_PoolReferenceIdeal,
  (trivial : preserves_MlpKernel_MlpKernelIdeal), algebraic_MlpKernelIdeal_MlpReferenceIdeal,
  (trivial : preserves_ScanKernel_ScanKernelIdeal), algebraic_ScanKernelIdeal_ScanReferenceIdeal,
  (trivial : preserves_ResKernel_ResKernelIdeal), algebraic_ResKernelIdeal_ResReferenceIdeal,
  (trivial : preserves_DsaKernel_DsaKernelIdeal), algebraic_DsaKernelIdeal_DsaReferenceIdeal,
  (trivial : preserves_PoolKernel_PoolKernelIdeal), algebraic_PoolKernelIdeal_PoolReferenceIdeal⟩

end Cert.Proof

end
